-- ==== Defs.lean ====
def Pre_Kernel [hPre_rows_in_range_and_apart : Cert.Pre_rows_in_range_and_apart.Facts] (m : (ℓ : Loc Cert.Kernel.nD Cert.Kernel.τ Cert.Kernel.sig) → Buf (Elt Bits) ℓ) : Prop :=
  ∀ c : Dev Cert.Kernel.nD,
    (Cert.Pre_rows_in_range_and_apart.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_rows_in_range_and_apart : Cert.Pre_rows_in_range_and_apart.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range_and_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range_and_apart [hPre_rows_in_range_and_apart : Cert.Pre_rows_in_range_and_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range_and_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_rows_in_range_and_apart : Cert.Pre_rows_in_range_and_apart.Facts] (m : (ℓ : Loc Cert.Reference.nD Cert.Reference.τ Cert.Reference.sig) → Buf (Elt Bits) ℓ) : Prop :=
  ∀ c : Dev Cert.Reference.nD,
    (Cert.Pre_rows_in_range_and_apart.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_Kernel2 [hPre_two_experts : Cert.Pre_two_experts.Facts] (m : (ℓ : Loc Cert.Kernel2.nD Cert.Kernel2.τ Cert.Kernel2.sig) → Buf (Elt Bits) ℓ) : Prop :=
  ∀ c : Dev Cert.Kernel2.nD,
    (Cert.Pre_two_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_two_experts : Cert.Pre_two_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_two_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_two_experts [hPre_two_experts : Cert.Pre_two_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_two_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 [hPre_rows_in_range : Cert.Pre_rows_in_range.Facts] (m : (ℓ : Loc Cert.Kernel3.nD Cert.Kernel3.τ Cert.Kernel3.sig) → Buf (Elt Bits) ℓ) : Prop :=
  ∀ c : Dev Cert.Kernel3.nD,
    (Cert.Pre_rows_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_rows_in_range : Cert.Pre_rows_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_rows_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_rows_in_range [hPre_rows_in_range : Cert.Pre_rows_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_rows_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_rows_in_range_and_apart : Cert.Pre_rows_in_range_and_apart.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_rows_in_range_and_apart : Cert.Pre_rows_in_range_and_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_rows_in_range_and_apart [hReferenceIdeal : Cert.ReferenceIdeal.Facts] [hPre_rows_in_range_and_apart : Cert.Pre_rows_in_range_and_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range_and_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_rows_in_range_and_apart : Cert.Pre_rows_in_range_and_apart.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Kernel2 [hKernel2 : Cert.Kernel2.Facts] [hPre_two_experts : Cert.Pre_two_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_two_experts : Cert.Pre_two_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_two_experts [hReference2Ideal : Cert.Reference2Ideal.Facts] [hPre_two_experts : Cert.Pre_two_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_two_experts m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] [hPre_rows_in_range : Cert.Pre_rows_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_rows_in_range : Cert.Pre_rows_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_rows_in_range [hReference3Ideal : Cert.Reference3Ideal.Facts] [hPre_rows_in_range : Cert.Pre_rows_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_rows_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def bitexact_Kernel_Reference [hKernel : Cert.Kernel.Facts] [hReference : Cert.Reference.Facts] [hPre_rows_in_range_and_apart : Cert.Pre_rows_in_range_and_apart.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def algebraic_KernelIdeal_ReferenceIdeal [hKernelIdeal : Cert.KernelIdeal.Facts] [hReferenceIdeal : Cert.ReferenceIdeal.Facts] [hPre_rows_in_range_and_apart : Cert.Pre_rows_in_range_and_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_two_experts : Cert.Pre_two_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v258) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] [hPre_rows_in_range : Cert.Pre_rows_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v14_0)) (v1 : (c : Dev Cert.Kernel5Ideal.nD) → Buf (Elt Ideal) ((c.tc : Thread Cert.Kernel5Ideal.nD Cert.Kernel5Ideal.τ).loc Cert.Kernel5Ideal.main_v15)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14_0) = v0 c
          ∧ r.2.mem ((c.tc : Thread Cert.Kernel5Ideal.nD Cert.Kernel5Ideal.τ).loc Cert.Kernel5Ideal.main_v15) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_v34) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v142_0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v142_0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_rows_in_range_and_apart : Cert.Pre_rows_in_range_and_apart.Facts) (hPre_two_experts : Cert.Pre_two_experts.Facts) (hPre_rows_in_range : Cert.Pre_rows_in_range.Facts),
    quiescent_Kernel (hKernel := hKernel) (hPre_rows_in_range_and_apart := hPre_rows_in_range_and_apart)
    ∧ quiescent_KernelIdeal (hKernelIdeal := hKernelIdeal) (hPre_rows_in_range_and_apart := hPre_rows_in_range_and_apart)
    ∧ quiescent_ReferenceIdeal (hReferenceIdeal := hReferenceIdeal)
    ∧ quiescent_ReferenceIdeal_pre_rows_in_range_and_apart (hReferenceIdeal := hReferenceIdeal) (hPre_rows_in_range_and_apart := hPre_rows_in_range_and_apart)
    ∧ quiescent_Reference (hReference := hReference) (hPre_rows_in_range_and_apart := hPre_rows_in_range_and_apart)
    ∧ quiescent_Kernel2 (hKernel2 := hKernel2) (hPre_two_experts := hPre_two_experts)
    ∧ quiescent_Kernel2Ideal (hKernel2Ideal := hKernel2Ideal) (hPre_two_experts := hPre_two_experts)
    ∧ quiescent_Reference2Ideal (hReference2Ideal := hReference2Ideal)
    ∧ quiescent_Reference2Ideal_pre_two_experts (hReference2Ideal := hReference2Ideal) (hPre_two_experts := hPre_two_experts)
    ∧ quiescent_Kernel3 (hKernel3 := hKernel3) (hPre_rows_in_range := hPre_rows_in_range)
    ∧ quiescent_Kernel3Ideal (hKernel3Ideal := hKernel3Ideal) (hPre_rows_in_range := hPre_rows_in_range)
    ∧ quiescent_Reference3Ideal (hReference3Ideal := hReference3Ideal)
    ∧ quiescent_Reference3Ideal_pre_rows_in_range (hReference3Ideal := hReference3Ideal) (hPre_rows_in_range := hPre_rows_in_range)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ bitexact_Kernel_Reference (hKernel := hKernel) (hReference := hReference) (hPre_rows_in_range_and_apart := hPre_rows_in_range_and_apart)
    ∧ algebraic_KernelIdeal_ReferenceIdeal (hKernelIdeal := hKernelIdeal) (hReferenceIdeal := hReferenceIdeal) (hPre_rows_in_range_and_apart := hPre_rows_in_range_and_apart)
    ∧ preserves_Kernel2_Kernel2Ideal
    ∧ algebraic_Kernel2Ideal_Reference2Ideal (hKernel2Ideal := hKernel2Ideal) (hReference2Ideal := hReference2Ideal) (hPre_two_experts := hPre_two_experts)
    ∧ preserves_Kernel3_Kernel3Ideal
    ∧ algebraic_Kernel3Ideal_Reference3Ideal (hKernel3Ideal := hKernel3Ideal) (hReference3Ideal := hReference3Ideal) (hPre_rows_in_range := hPre_rows_in_range)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_rows_in_range.lean ====
abbrev S64x1x1024 : Shape := ⟨3, ![64, 1, 1024]⟩
abbrev S77824x1024 : Shape := ⟨2, ![77824, 1024]⟩
abbrev S32x2048x1024 : Shape := ⟨3, ![32, 2048, 1024]⟩
abbrev S32x6144 : Shape := ⟨2, ![32, 6144]⟩
abbrev S1024 : Shape := ⟨1, ![1024]⟩
abbrev S_ : Shape := ⟨0, ![]⟩

class Facts : Prop where
  bcast_S_S64x1x1024 : S_.BroadcastsInDim S64x1x1024 (![] : Fin 0 → Fin S64x1x1024.rank)

variable [Facts]

def fn {F : FTy → Type} [FloatOps F] (main_arg0 : IVec S64x1x1024 32) (main_arg1 : FVec F S77824x1024 .f32) (main_arg2 : FVec F S32x2048x1024 .f32) (main_arg3 : FVec F S32x6144 .f32) (main_arg4 : FVec F S1024 .f32) : IVec S64x1x1024 1 :=
  let main_c : IVec S_ 32 := constantI S_ 32 0#32
  let main_v0 : IVec S64x1x1024 32 := broadcastInDim S64x1x1024 ![] bcast_S_S64x1x1024 main_c
  let main_v1 : IVec S64x1x1024 1 := cmpi .sge main_arg0 main_v0
  let main_c_0 : IVec S_ 32 := constantI S_ 32 77824#32
  let main_v2 : IVec S64x1x1024 32 := broadcastInDim S64x1x1024 ![] bcast_S_S64x1x1024 main_c_0
  let main_v3 : IVec S64x1x1024 1 := cmpi .slt main_arg0 main_v2
  let main_v4 : IVec S64x1x1024 1 := andi main_v1 main_v3
  main_v4
-- ==== Pre_rows_in_range_and_apart.lean ====
abbrev S64x1x1024 : Shape := ⟨3, ![64, 1, 1024]⟩
abbrev S65536x1152 : Shape := ⟨2, ![65536, 1152]⟩
abbrev S77824x1152 : Shape := ⟨2, ![77824, 1152]⟩
abbrev S64x1024 : Shape := ⟨2, ![64, 1024]⟩
abbrev S64x1024x1 : Shape := ⟨3, ![64, 1024, 1]⟩
abbrev S64x1024x1024 : Shape := ⟨3, ![64, 1024, 1024]⟩
abbrev S_ : Shape := ⟨0, ![]⟩

class Facts : Prop where
  shapeCasts_S64x1x1024_S64x1024 : S64x1x1024.ShapeCasts S64x1024
  bcast_S64x1024_S64x1024x1_0_1 : S64x1024.BroadcastsInDim S64x1024x1 (![0, 1] : Fin 2 → Fin S64x1024x1.rank)
  bcast_S64x1024_S64x1x1024_0_2 : S64x1024.BroadcastsInDim S64x1x1024 (![0, 2] : Fin 2 → Fin S64x1x1024.rank)
  bcast_S_S64x1024x1 : S_.BroadcastsInDim S64x1024x1 (![] : Fin 0 → Fin S64x1024x1.rank)
  bcast_S64x1024x1_S64x1024x1024_0_1_2 : S64x1024x1.BroadcastsInDim S64x1024x1024 (![0, 1, 2] : Fin 3 → Fin S64x1024x1024.rank)
  bcast_S64x1x1024_S64x1024x1024_0_1_2 : S64x1x1024.BroadcastsInDim S64x1024x1024 (![0, 1, 2] : Fin 3 → Fin S64x1024x1024.rank)

variable [Facts]

def fn {F : FTy → Type} [FloatOps F] (main_arg0 : IVec S64x1x1024 32) (main_arg1 : FVec F S65536x1152 .f32) (main_arg2 : FVec F S77824x1152 .f32) : IVec S64x1024x1024 1 :=
  let main_v0 : IVec S64x1024 32 := shapeCast S64x1024 main_arg0 shapeCasts_S64x1x1024_S64x1024
  let main_v1 : IVec S64x1024x1 32 := broadcastInDim S64x1024x1 ![0, 1] bcast_S64x1024_S64x1024x1_0_1 main_v0
  let main_v2 : IVec S64x1x1024 32 := broadcastInDim S64x1x1024 ![0, 2] bcast_S64x1024_S64x1x1024_0_2 main_v0
  let main_v3 : IVec S64x1024x1024 32 := iotaInDim S64x1024x1024 32 1
  let main_v4 : IVec S64x1024x1024 32 := iotaInDim S64x1024x1024 32 2
  let main_c : IVec S_ 32 := constantI S_ 32 0#32
  let main_v5 : IVec S64x1024x1 32 := broadcastInDim S64x1024x1 ![] bcast_S_S64x1024x1 main_c
  let main_v6 : IVec S64x1024x1 1 := cmpi .sge main_v1 main_v5
  let main_c_0 : IVec S_ 32 := constantI S_ 32 77824#32
  let main_v7 : IVec S64x1024x1 32 := broadcastInDim S64x1024x1 ![] bcast_S_S64x1024x1 main_c_0
  let main_v8 : IVec S64x1024x1 1 := cmpi .slt main_v1 main_v7
  let main_v9 : IVec S64x1024x1 1 := andi main_v6 main_v8
  let main_v10 : IVec S64x1024x1024 32 := broadcastInDim S64x1024x1024 ![0, 1, 2] bcast_S64x1024x1_S64x1024x1024_0_1_2 main_v1
  let main_v11 : IVec S64x1024x1024 32 := broadcastInDim S64x1024x1024 ![0, 1, 2] bcast_S64x1x1024_S64x1024x1024_0_1_2 main_v2
  let main_v12 : IVec S64x1024x1024 1 := cmpi .ne main_v10 main_v11
  let main_v13 : IVec S64x1024x1024 1 := cmpi .eq main_v3 main_v4
  let main_v14 : IVec S64x1024x1024 1 := ori main_v12 main_v13
  let main_v15 : IVec S64x1024x1024 1 := broadcastInDim S64x1024x1024 ![0, 1, 2] bcast_S64x1024x1_S64x1024x1024_0_1_2 main_v9
  let main_v16 : IVec S64x1024x1024 1 := andi main_v15 main_v14
  main_v16
-- ==== Pre_two_experts.lean ====
abbrev S77824x1024 : Shape := ⟨2, ![77824, 1024]⟩
abbrev S77824x2 : Shape := ⟨2, ![77824, 2]⟩
abbrev S152 : Shape := ⟨1, ![152]⟩
abbrev S16x1024x256 : Shape := ⟨3, ![16, 1024, 256]⟩
abbrev S16x256x1024 : Shape := ⟨3, ![16, 256, 1024]⟩
abbrev S_ : Shape := ⟨0, ![]⟩

class Facts : Prop where
  bcast_S_S152 : S_.BroadcastsInDim S152 (![] : Fin 0 → Fin S152.rank)

variable [Facts]

def fn {F : FTy → Type} [FloatOps F] (main_arg0 : FVec F S77824x1024 .f32) (main_arg1 : FVec F S77824x2 .f32) (main_arg2 : IVec S152 32) (main_arg3 : IVec S152 32) (main_arg4 : IVec S152 32) (main_arg5 : FVec F S16x1024x256 .f32) (main_arg6 : FVec F S16x1024x256 .f32) (main_arg7 : FVec F S16x256x1024 .f32) : IVec S152 1 :=
  let main_c : IVec S_ 32 := constantI S_ 32 0#32
  let main_v0 : IVec S152 32 := broadcastInDim S152 ![] bcast_S_S152 main_c
  let main_v1 : IVec S152 1 := cmpi .sge main_arg2 main_v0
  let main_c_0 : IVec S_ 32 := constantI S_ 32 16#32
  let main_v2 : IVec S152 32 := broadcastInDim S152 ![] bcast_S_S152 main_c_0
  let main_v3 : IVec S152 1 := cmpi .slt main_arg2 main_v2
  let main_v4 : IVec S152 1 := andi main_v1 main_v3
  let main_c_1 : IVec S_ 32 := constantI S_ 32 0#32
  let main_v5 : IVec S152 32 := broadcastInDim S152 ![] bcast_S_S152 main_c_1
  let main_v6 : IVec S152 1 := cmpi .sge main_arg3 main_v5
  let main_v7 : IVec S152 1 := andi main_v4 main_v6
  let main_c_2 : IVec S_ 32 := constantI S_ 32 16#32
  let main_v8 : IVec S152 32 := broadcastInDim S152 ![] bcast_S_S152 main_c_2
  let main_v9 : IVec S152 1 := cmpi .slt main_arg3 main_v8
  let main_v10 : IVec S152 1 := andi main_v7 main_v9
  let main_v11 : IVec S152 1 := cmpi .ne main_arg2 main_arg3
  let main_c_3 : IVec S_ 32 := constantI S_ 32 0#32
  let main_v12 : IVec S152 32 := broadcastInDim S152 ![] bcast_S_S152 main_c_3
  let main_v13 : IVec S152 1 := cmpi .eq main_arg4 main_v12
  let main_v14 : IVec S152 1 := ori main_v11 main_v13
  let main_v15 : IVec S152 1 := andi main_v10 main_v14
  main_v15
-- ==== Kernel.lean ====
abbrev S64x1x1024 : Shape := ⟨3, ![64, 1, 1024]⟩
abbrev S65536x1152 : Shape := ⟨2, ![65536, 1152]⟩
abbrev S77824x1152 : Shape := ⟨2, ![77824, 1152]⟩
abbrev S1x1x1024 : Shape := ⟨3, ![1, 1, 1024]⟩
abbrev S1024x1152 : Shape := ⟨2, ![1024, 1152]⟩
abbrev S_ : Shape := ⟨0, ![]⟩
abbrev S1x1x1 : Shape := ⟨3, ![1, 1, 1]⟩
abbrev S1x1152 : Shape := ⟨2, ![1, 1152]⟩

abbrev nBuf : Space → Nat
  | .hbm => 4
  | .vmem => 2
  | .smem => 2
  | _ => 0

abbrev bufTy : (tb : Table) → Fin (tcTables nBuf tb) → BufTy
  | .hbm, ⟨0, _⟩ => ⟨S64x1x1024, .i32⟩
  | .hbm, ⟨1, _⟩ => ⟨S65536x1152, .f32⟩
  | .hbm, ⟨2, _⟩ => ⟨S77824x1152, .f32⟩
  | .hbm, ⟨3, _⟩ => ⟨S77824x1152, .f32⟩
  | .local _ .vmem, ⟨0, _⟩ => ⟨S1024x1152, .f32⟩
  | .local _ .vmem, ⟨1, _⟩ => ⟨S1024x1152, .f32⟩
  | .local _ .smem, ⟨0, _⟩ => ⟨S1x1x1024, .i32⟩
  | .local _ .smem, ⟨1, _⟩ => ⟨S1x1x1024, .i32⟩
  | _, _ => ⟨S64x1x1024, .i32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c128_i32 : BitVec 32 := 128#32
  let v0 : BitVec 32 := Scalar.addi c0_i32 c128_i32
  let c1_i32 : BitVec 32 := 1#32
  ⟨c0_i32, v0, c1_i32⟩
def k0_off1 (k0_t1 : Fin k0_t1_loop.trips) : Fin 3 → Nat :=
  let c0 : Index := 0#32
  let c0_4 : Index := 0#32
  let c0_i32 : BitVec 32 := 0#32
  let c1_i32 : BitVec 32 := 1#32
  let arg6 : BitVec 32 := Scf.iv c0_i32 c1_i32 k0_t1
  let c8_i32 : BitVec 32 := 8#32
  let v2 : BitVec 32 := Scalar.muli arg6 c8_i32
  let c0_i32_3 : BitVec 32 := 0#32
  let v3 : BitVec 32 := Scalar.addi v2 c0_i32_3
  let v4 : Index := Scalar.indexCast v3
  ![0, 0, v4.toNat]
def k0_off2 (v5 : BitVec 32) : Fin 2 → Nat :=
  let c0_i32_5 : BitVec 32 := 0#32
  ![v5.toNat, 0]

def k0_chk1 (v5 : BitVec 32) : Prop :=
  (∀ a, (k0_off2 v5) a + S1x1152.size a ≤ S77824x1152.size a)
theorem k0_off2_inb : ∀ (v5 : BitVec 32) (k0_hw1 : k0_chk1 v5), ∀ a, (k0_off2 v5) a + S1x1152.size a ≤ S77824x1152.size a := fun v5 k0_hw1 => k0_hw1

def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32 : BitVec 32 := 8#32
  let v2 : BitVec 32 := Scalar.muli arg6 c8_i32
  let c0_i32_3 : BitVec 32 := 0#32
  let v3 : BitVec 32 := Scalar.addi v2 c0_i32_3
  let c0_i32_6 : BitVec 32 := 0#32
  ![v3.toNat, 0]
def k0_off4 (k0_t1 : Fin k0_t1_loop.trips) : Fin 3 → Nat :=
  let c0_9 : Index := 0#32
  let c0_10 : Index := 0#32
  let c0_i32 : BitVec 32 := 0#32
  let c1_i32 : BitVec 32 := 1#32
  let arg6 : BitVec 32 := Scf.iv c0_i32 c1_i32 k0_t1
  let c8_i32_7 : BitVec 32 := 8#32
  let v8 : BitVec 32 := Scalar.muli arg6 c8_i32_7
  let c1_i32_8 : BitVec 32 := 1#32
  let v9 : BitVec 32 := Scalar.addi v8 c1_i32_8
  let v10 : Index := Scalar.indexCast v9
  ![0, 0, v10.toNat]
def k0_off5 (v11 : BitVec 32) : Fin 2 → Nat :=
  let c0_i32_11 : BitVec 32 := 0#32
  ![v11.toNat, 0]

def k0_chk2 (v11 : BitVec 32) : Prop :=
  (∀ a, (k0_off5 v11) a + S1x1152.size a ≤ S77824x1152.size a)
theorem k0_off5_inb : ∀ (v11 : BitVec 32) (k0_hw2 : k0_chk2 v11), ∀ a, (k0_off5 v11) a + S1x1152.size a ≤ S77824x1152.size a := fun v11 k0_hw2 => k0_hw2

def k0_off6 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_7 : BitVec 32 := 8#32
  let v8 : BitVec 32 := Scalar.muli arg6 c8_i32_7
  let c1_i32_8 : BitVec 32 := 1#32
  let v9 : BitVec 32 := Scalar.addi v8 c1_i32_8
  let c0_i32_12 : BitVec 32 := 0#32
  ![v9.toNat, 0]
def k0_off7 (k0_t1 : Fin k0_t1_loop.trips) : Fin 3 → Nat :=
  let c0_14 : Index := 0#32
  let c0_15 : Index := 0#32
  let c0_i32 : BitVec 32 := 0#32
  let c1_i32 : BitVec 32 := 1#32
  let arg6 : BitVec 32 := Scf.iv c0_i32 c1_i32 k0_t1
  let c8_i32_13 : BitVec 32 := 8#32
  let v14 : BitVec 32 := Scalar.muli arg6 c8_i32_13
  let c2_i32 : BitVec 32 := 2#32
  let v15 : BitVec 32 := Scalar.addi v14 c2_i32
  let v16 : Index := Scalar.indexCast v15
  ![0, 0, v16.toNat]
def k0_off8 (v17 : BitVec 32) : Fin 2 → Nat :=
  let c0_i32_16 : BitVec 32 := 0#32
  ![v17.toNat, 0]

def k0_chk3 (v17 : BitVec 32) : Prop :=
  (∀ a, (k0_off8 v17) a + S1x1152.size a ≤ S77824x1152.size a)
theorem k0_off8_inb : ∀ (v17 : BitVec 32) (k0_hw3 : k0_chk3 v17), ∀ a, (k0_off8 v17) a + S1x1152.size a ≤ S77824x1152.size a := fun v17 k0_hw3 => k0_hw3

def k0_off9 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_13 : BitVec 32 := 8#32
  let v14 : BitVec 32 := Scalar.muli arg6 c8_i32_13
  let c2_i32 : BitVec 32 := 2#32
  let v15 : BitVec 32 := Scalar.addi v14 c2_i32
  let c0_i32_17 : BitVec 32 := 0#32
  ![v15.toNat, 0]
def k0_off10 (k0_t1 : Fin k0_t1_loop.trips) : Fin 3 → Nat :=
  let c0_19 : Index := 0#32
  let c0_20 : Index := 0#32
  let c0_i32 : BitVec 32 := 0#32
  let c1_i32 : BitVec 32 := 1#32
  let arg6 : BitVec 32 := Scf.iv c0_i32 c1_i32 k0_t1
  let c8_i32_18 : BitVec 32 := 8#32
  let v20 : BitVec 32 := Scalar.muli arg6 c8_i32_18
  let c3_i32 : BitVec 32 := 3#32
  let v21 : BitVec 32 := Scalar.addi v20 c3_i32
  let v22 : Index := Scalar.indexCast v21
  ![0, 0, v22.toNat]
def k0_off11 (v23 : BitVec 32) : Fin 2 → Nat :=
  let c0_i32_21 : BitVec 32 := 0#32
  ![v23.toNat, 0]

def k0_chk4 (v23 : BitVec 32) : Prop :=
  (∀ a, (k0_off11 v23) a + S1x1152.size a ≤ S77824x1152.size a)
theorem k0_off11_inb : ∀ (v23 : BitVec 32) (k0_hw4 : k0_chk4 v23), ∀ a, (k0_off11 v23) a + S1x1152.size a ≤ S77824x1152.size a := fun v23 k0_hw4 => k0_hw4

def k0_off12 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_18 : BitVec 32 := 8#32
  let v20 : BitVec 32 := Scalar.muli arg6 c8_i32_18
  let c3_i32 : BitVec 32 := 3#32
  let v21 : BitVec 32 := Scalar.addi v20 c3_i32
  let c0_i32_22 : BitVec 32 := 0#32
  ![v21.toNat, 0]
def k0_off13 (k0_t1 : Fin k0_t1_loop.trips) : Fin 3 → Nat :=
  let c0_24 : Index := 0#32
  let c0_25 : Index := 0#32
  let c0_i32 : BitVec 32 := 0#32
  let c1_i32 : BitVec 32 := 1#32
  let arg6 : BitVec 32 := Scf.iv c0_i32 c1_i32 k0_t1
  let c8_i32_23 : BitVec 32 := 8#32
  let v26 : BitVec 32 := Scalar.muli arg6 c8_i32_23
  let c4_i32 : BitVec 32 := 4#32
  let v27 : BitVec 32 := Scalar.addi v26 c4_i32
  let v28 : Index := Scalar.indexCast v27
  ![0, 0, v28.toNat]
def k0_off14 (v29 : BitVec 32) : Fin 2 → Nat :=
  let c0_i32_26 : BitVec 32 := 0#32
  ![v29.toNat, 0]

def k0_chk5 (v29 : BitVec 32) : Prop :=
  (∀ a, (k0_off14 v29) a + S1x1152.size a ≤ S77824x1152.size a)
theorem k0_off14_inb : ∀ (v29 : BitVec 32) (k0_hw5 : k0_chk5 v29), ∀ a, (k0_off14 v29) a + S1x1152.size a ≤ S77824x1152.size a := fun v29 k0_hw5 => k0_hw5

def k0_off15 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_23 : BitVec 32 := 8#32
  let v26 : BitVec 32 := Scalar.muli arg6 c8_i32_23
  let c4_i32 : BitVec 32 := 4#32
  let v27 : BitVec 32 := Scalar.addi v26 c4_i32
  let c0_i32_27 : BitVec 32 := 0#32
  ![v27.toNat, 0]
def k0_off16 (k0_t1 : Fin k0_t1_loop.trips) : Fin 3 → Nat :=
  let c0_29 : Index := 0#32
  let c0_30 : Index := 0#32
  let c0_i32 : BitVec 32 := 0#32
  let c1_i32 : BitVec 32 := 1#32
  let arg6 : BitVec 32 := Scf.iv c0_i32 c1_i32 k0_t1
  let c8_i32_28 : BitVec 32 := 8#32
  let v32 : BitVec 32 := Scalar.muli arg6 c8_i32_28
  let c5_i32 : BitVec 32 := 5#32
  let v33 : BitVec 32 := Scalar.addi v32 c5_i32
  let v34 : Index := Scalar.indexCast v33
  ![0, 0, v34.toNat]
def k0_off17 (v35 : BitVec 32) : Fin 2 → Nat :=
  let c0_i32_31 : BitVec 32 := 0#32
  ![v35.toNat, 0]

def k0_chk6 (v35 : BitVec 32) : Prop :=
  (∀ a, (k0_off17 v35) a + S1x1152.size a ≤ S77824x1152.size a)
theorem k0_off17_inb : ∀ (v35 : BitVec 32) (k0_hw6 : k0_chk6 v35), ∀ a, (k0_off17 v35) a + S1x1152.size a ≤ S77824x1152.size a := fun v35 k0_hw6 => k0_hw6

def k0_off18 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_28 : BitVec 32 := 8#32
  let v32 : BitVec 32 := Scalar.muli arg6 c8_i32_28
  let c5_i32 : BitVec 32 := 5#32
  let v33 : BitVec 32 := Scalar.addi v32 c5_i32
  let c0_i32_32 : BitVec 32 := 0#32
  ![v33.toNat, 0]
def k0_off19 (k0_t1 : Fin k0_t1_loop.trips) : Fin 3 → Nat :=
  let c0_34 : Index := 0#32
  let c0_35 : Index := 0#32
  let c0_i32 : BitVec 32 := 0#32
  let c1_i32 : BitVec 32 := 1#32
  let arg6 : BitVec 32 := Scf.iv c0_i32 c1_i32 k0_t1
  let c8_i32_33 : BitVec 32 := 8#32
  let v38 : BitVec 32 := Scalar.muli arg6 c8_i32_33
  let c6_i32 : BitVec 32 := 6#32
  let v39 : BitVec 32 := Scalar.addi v38 c6_i32
  let v40 : Index := Scalar.indexCast v39
  ![0, 0, v40.toNat]
def k0_off20 (v41 : BitVec 32) : Fin 2 → Nat :=
  let c0_i32_36 : BitVec 32 := 0#32
  ![v41.toNat, 0]

def k0_chk7 (v41 : BitVec 32) : Prop :=
  (∀ a, (k0_off20 v41) a + S1x1152.size a ≤ S77824x1152.size a)
theorem k0_off20_inb : ∀ (v41 : BitVec 32) (k0_hw7 : k0_chk7 v41), ∀ a, (k0_off20 v41) a + S1x1152.size a ≤ S77824x1152.size a := fun v41 k0_hw7 => k0_hw7

def k0_off21 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_33 : BitVec 32 := 8#32
  let v38 : BitVec 32 := Scalar.muli arg6 c8_i32_33
  let c6_i32 : BitVec 32 := 6#32
  let v39 : BitVec 32 := Scalar.addi v38 c6_i32
  let c0_i32_37 : BitVec 32 := 0#32
  ![v39.toNat, 0]
def k0_off22 (k0_t1 : Fin k0_t1_loop.trips) : Fin 3 → Nat :=
  let c0_39 : Index := 0#32
  let c0_40 : Index := 0#32
  let c0_i32 : BitVec 32 := 0#32
  let c1_i32 : BitVec 32 := 1#32
  let arg6 : BitVec 32 := Scf.iv c0_i32 c1_i32 k0_t1
  let c8_i32_38 : BitVec 32 := 8#32
  let v44 : BitVec 32 := Scalar.muli arg6 c8_i32_38
  let c7_i32 : BitVec 32 := 7#32
  let v45 : BitVec 32 := Scalar.addi v44 c7_i32
  let v46 : Index := Scalar.indexCast v45
  ![0, 0, v46.toNat]
def k0_off23 (v47 : BitVec 32) : Fin 2 → Nat :=
  let c0_i32_41 : BitVec 32 := 0#32
  ![v47.toNat, 0]

def k0_chk8 (v47 : BitVec 32) : Prop :=
  (∀ a, (k0_off23 v47) a + S1x1152.size a ≤ S77824x1152.size a)
theorem k0_off23_inb : ∀ (v47 : BitVec 32) (k0_hw8 : k0_chk8 v47), ∀ a, (k0_off23 v47) a + S1x1152.size a ≤ S77824x1152.size a := fun v47 k0_hw8 => k0_hw8

def k0_off24 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_38 : BitVec 32 := 8#32
  let v44 : BitVec 32 := Scalar.muli arg6 c8_i32_38
  let c7_i32 : BitVec 32 := 7#32
  let v45 : BitVec 32 := Scalar.addi v44 c7_i32
  let c0_i32_42 : BitVec 32 := 0#32
  ![v45.toNat, 0]
@[reducible] def k0_t2_loop : Scf.Loop 32 :=
  let c0_i32_1 : BitVec 32 := 0#32
  let c1024_i32 : BitVec 32 := 1024#32
  let v1 : BitVec 32 := Scalar.addi c0_i32_1 c1024_i32
  let c1_i32_2 : BitVec 32 := 1#32
  ⟨c0_i32_1, v1, c1_i32_2⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S64x1x1024 : Shape := ⟨3, ![64, 1, 1024]⟩
abbrev S65536x1152 : Shape := ⟨2, ![65536, 1152]⟩
abbrev S77824x1152 : Shape := ⟨2, ![77824, 1152]⟩
abbrev S65536 : Shape := ⟨1, ![65536]⟩
abbrev S_ : Shape := ⟨0, ![]⟩
abbrev S65536x1 : Shape := ⟨2, ![65536, 1]⟩

abbrev nBuf : Space → Nat
  | .hbm => 13
  | .vmem => 0
  | .smem => 0
  | _ => 0

abbrev bufTy : (tb : Table) → Fin (tcTables nBuf tb) → BufTy
  | .hbm, ⟨0, _⟩ => ⟨S64x1x1024, .i32⟩
  | .hbm, ⟨1, _⟩ => ⟨S65536x1152, .f32⟩
  | .hbm, ⟨2, _⟩ => ⟨S77824x1152, .f32⟩
  | .hbm, ⟨3, _⟩ => ⟨S65536, .i32⟩
  | .hbm, ⟨4, _⟩ => ⟨S_, .i32⟩
  | .hbm, ⟨5, _⟩ => ⟨S65536, .i32⟩
  | .hbm, ⟨6, _⟩ => ⟨S65536, .i1⟩
  | .hbm, ⟨7, _⟩ => ⟨S_, .i32⟩
  | .hbm, ⟨8, _⟩ => ⟨S65536, .i32⟩
  | .hbm, ⟨9, _⟩ => ⟨S65536, .i32⟩
  | .hbm, ⟨10, _⟩ => ⟨S65536, .i32⟩
  | .hbm, ⟨11, _⟩ => ⟨S65536x1, .i32⟩
  | .hbm, ⟨12, _⟩ => ⟨S77824x1152, .f32⟩
  | _, _ => ⟨S64x1x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel2.lean ====
abbrev S77824x1024 : Shape := ⟨2, ![77824, 1024]⟩
abbrev S77824x2 : Shape := ⟨2, ![77824, 2]⟩
abbrev S152 : Shape := ⟨1, ![152]⟩
abbrev S16x1024x256 : Shape := ⟨3, ![16, 1024, 256]⟩
abbrev S16x256x1024 : Shape := ⟨3, ![16, 256, 1024]⟩
abbrev S_ : Shape := ⟨0, ![]⟩
abbrev S77824x1 : Shape := ⟨2, ![77824, 1]⟩
abbrev S77824x125 : Shape := ⟨2, ![77824, 125]⟩
abbrev S77824x1152 : Shape := ⟨2, ![77824, 1152]⟩
abbrev S16x1024x512 : Shape := ⟨3, ![16, 1024, 512]⟩
abbrev S512x1152 : Shape := ⟨2, ![512, 1152]⟩
abbrev S1x1024x512 : Shape := ⟨3, ![1, 1024, 512]⟩
abbrev S1 : Shape := ⟨1, ![1]⟩
abbrev S1x256x1024 : Shape := ⟨3, ![1, 256, 1024]⟩
abbrev S512x1024 : Shape := ⟨2, ![512, 1024]⟩
abbrev S512x1 : Shape := ⟨2, ![512, 1]⟩
abbrev S1024x512 : Shape := ⟨2, ![1024, 512]⟩
abbrev S512x512 : Shape := ⟨2, ![512, 512]⟩
abbrev S512x256 : Shape := ⟨2, ![512, 256]⟩
abbrev S256x1024 : Shape := ⟨2, ![256, 1024]⟩

abbrev nBuf : Space → Nat
  | .hbm => 14
  | .vmem => 12
  | .smem => 3
  | _ => 0

abbrev bufTy : (tb : Table) → Fin (tcTables nBuf tb) → BufTy
  | .hbm, ⟨0, _⟩ => ⟨S77824x1024, .f32⟩
  | .hbm, ⟨1, _⟩ => ⟨S77824x2, .f32⟩
  | .hbm, ⟨2, _⟩ => ⟨S16x1024x256, .f32⟩
  | .hbm, ⟨3, _⟩ => ⟨S16x1024x256, .f32⟩
  | .hbm, ⟨4, _⟩ => ⟨S16x256x1024, .f32⟩
  | .hbm, ⟨5, _⟩ => ⟨S_, .f32⟩
  | .hbm, ⟨6, _⟩ => ⟨S77824x1, .f32⟩
  | .hbm, ⟨7, _⟩ => ⟨S_, .f32⟩
  | .hbm, ⟨8, _⟩ => ⟨S77824x125, .f32⟩
  | .hbm, ⟨9, _⟩ => ⟨S77824x1152, .f32⟩
  | .hbm, ⟨10, _⟩ => ⟨S16x1024x512, .f32⟩
  | .hbm, ⟨11, _⟩ => ⟨S16x1024x512, .bf16⟩
  | .hbm, ⟨12, _⟩ => ⟨S16x256x1024, .bf16⟩
  | .hbm, ⟨13, _⟩ => ⟨S77824x1024, .f32⟩
  | .local _ .vmem, ⟨0, _⟩ => ⟨S512x1152, .f32⟩
  | .local _ .vmem, ⟨1, _⟩ => ⟨S512x1152, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S512x1024, .f32⟩
  | .local _ .vmem, ⟨11, _⟩ => ⟨S512x1024, .f32⟩
  | .local _ .smem, ⟨0, _⟩ => ⟨S152, .i32⟩
  | .local _ .smem, ⟨1, _⟩ => ⟨S152, .i32⟩
  | .local _ .smem, ⟨2, _⟩ => ⟨S152, .i32⟩
  | _, _ => ⟨S77824x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![152], ![false]⟩

abbrev pre0 : Pipeline.Prefetch sig := ⟨3, ![main_arg2.idx, main_arg3.idx, main_arg4.idx], fun | 0 => main_arg2.names | 1 => main_arg3.names | 2 => main_arg4.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .ne v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S77824x1024 : Shape := ⟨2, ![77824, 1024]⟩
abbrev S77824x2 : Shape := ⟨2, ![77824, 2]⟩
abbrev S152 : Shape := ⟨1, ![152]⟩
abbrev S16x1024x256 : Shape := ⟨3, ![16, 1024, 256]⟩
abbrev S16x256x1024 : Shape := ⟨3, ![16, 256, 1024]⟩
abbrev S152x512 : Shape := ⟨2, ![152, 512]⟩
abbrev S77824 : Shape := ⟨1, ![77824]⟩
abbrev S77824x1 : Shape := ⟨2, ![77824, 1]⟩
abbrev S_ : Shape := ⟨0, ![]⟩
abbrev S77824x2x1 : Shape := ⟨3, ![77824, 2, 1]⟩
abbrev S1x1x16 : Shape := ⟨3, ![1, 1, 16]⟩
abbrev S77824x2x16 : Shape := ⟨3, ![77824, 2, 16]⟩
abbrev S77824x16 : Shape := ⟨2, ![77824, 16]⟩
abbrev S1x1024x256 : Shape := ⟨3, ![1, 1024, 256]⟩
abbrev S1024x256 : Shape := ⟨2, ![1024, 256]⟩
abbrev S77824x256 : Shape := ⟨2, ![77824, 256]⟩
abbrev S1x256x1024 : Shape := ⟨3, ![1, 256, 1024]⟩
abbrev S256x1024 : Shape := ⟨2, ![256, 1024]⟩

abbrev nBuf : Space → Nat
  | .hbm => 407
  | .vmem => 0
  | .smem => 0
  | _ => 0

abbrev hbmTy0_0 (i : Nat) : BufTy := match i % 128 with
  | 0 => ⟨S77824x1024, .f32⟩
  | 1 => ⟨S77824x2, .f32⟩
  | 2 => ⟨S152, .i32⟩
  | 3 => ⟨S152, .i32⟩
  | 4 => ⟨S152, .i32⟩
  | 5 => ⟨S16x1024x256, .f32⟩
  | 6 => ⟨S16x1024x256, .f32⟩
  | 7 => ⟨S16x256x1024, .f32⟩
  | 8 => ⟨S152x512, .i32⟩
  | 9 => ⟨S77824, .i32⟩
  | 10 => ⟨S152x512, .i32⟩
  | 11 => ⟨S77824, .i32⟩
  | 12 => ⟨S77824x1, .i32⟩
  | 13 => ⟨S77824x1, .i32⟩
  | 14 => ⟨S77824x2, .i32⟩
  | 15 => ⟨S152x512, .i32⟩
  | 16 => ⟨S77824, .i32⟩
  | 17 => ⟨S77824x1, .i32⟩
  | 18 => ⟨S_, .i32⟩
  | 19 => ⟨S77824x1, .i32⟩
  | 20 => ⟨S77824x1, .i1⟩
  | 21 => ⟨S_, .f32⟩
  | 22 => ⟨S_, .f32⟩
  | 23 => ⟨S77824x2, .i1⟩
  | 24 => ⟨S77824x2, .f32⟩
  | 25 => ⟨S77824x2, .f32⟩
  | 26 => ⟨S77824x2x1, .i32⟩
  | 27 => ⟨S1x1x16, .i32⟩
  | 28 => ⟨S77824x2x16, .i32⟩
  | 29 => ⟨S77824x2x16, .i32⟩
  | 30 => ⟨S77824x2x16, .i1⟩
  | 31 => ⟨S77824x2x16, .f32⟩
  | 32 => ⟨S77824x2x1, .f32⟩
  | 33 => ⟨S77824x2x16, .f32⟩
  | 34 => ⟨S77824x2x16, .f32⟩
  | 35 => ⟨S_, .f32⟩
  | 36 => ⟨S77824x16, .f32⟩
  | 37 => ⟨S_, .f32⟩
  | 38 => ⟨S77824x1024, .f32⟩
  | 39 => ⟨S1x1024x256, .f32⟩
  | 40 => ⟨S1024x256, .f32⟩
  | 41 => ⟨S77824x256, .f32⟩
  | 42 => ⟨S77824x256, .f32⟩
  | 43 => ⟨S77824x256, .f32⟩
  | 44 => ⟨S_, .f32⟩
  | 45 => ⟨S77824x256, .f32⟩
  | 46 => ⟨S77824x256, .f32⟩
  | 47 => ⟨S_, .f32⟩
  | 48 => ⟨S77824x256, .f32⟩
  | 49 => ⟨S77824x256, .f32⟩
  | 50 => ⟨S77824x256, .f32⟩
  | 51 => ⟨S1x1024x256, .f32⟩
  | 52 => ⟨S1024x256, .f32⟩
  | 53 => ⟨S77824x256, .f32⟩
  | 54 => ⟨S77824x256, .f32⟩
  | 55 => ⟨S77824x1, .f32⟩
  | 56 => ⟨S1x256x1024, .f32⟩
  | 57 => ⟨S256x1024, .f32⟩
  | 58 => ⟨S77824x1024, .f32⟩
  | 59 => ⟨S77824x1024, .f32⟩
  | 60 => ⟨S77824x1024, .f32⟩
  | 61 => ⟨S77824x1024, .f32⟩
  | 62 => ⟨S1x1024x256, .f32⟩
  | 63 => ⟨S1024x256, .f32⟩
  | 64 => ⟨S77824x256, .f32⟩
  | 65 => ⟨S77824x256, .f32⟩
  | 66 => ⟨S77824x256, .f32⟩
  | 67 => ⟨S_, .f32⟩
  | 68 => ⟨S77824x256, .f32⟩
  | 69 => ⟨S77824x256, .f32⟩
  | 70 => ⟨S_, .f32⟩
  | 71 => ⟨S77824x256, .f32⟩
  | 72 => ⟨S77824x256, .f32⟩
  | 73 => ⟨S77824x256, .f32⟩
  | 74 => ⟨S1x1024x256, .f32⟩
  | 75 => ⟨S1024x256, .f32⟩
  | 76 => ⟨S77824x256, .f32⟩
  | 77 => ⟨S77824x256, .f32⟩
  | 78 => ⟨S77824x1, .f32⟩
  | 79 => ⟨S1x256x1024, .f32⟩
  | 80 => ⟨S256x1024, .f32⟩
  | 81 => ⟨S77824x1024, .f32⟩
  | 82 => ⟨S77824x1024, .f32⟩
  | 83 => ⟨S77824x1024, .f32⟩
  | 84 => ⟨S77824x1024, .f32⟩
  | 85 => ⟨S1x1024x256, .f32⟩
  | 86 => ⟨S1024x256, .f32⟩
  | 87 => ⟨S77824x256, .f32⟩
  | 88 => ⟨S77824x256, .f32⟩
  | 89 => ⟨S77824x256, .f32⟩
  | 90 => ⟨S_, .f32⟩
  | 91 => ⟨S77824x256, .f32⟩
  | 92 => ⟨S77824x256, .f32⟩
  | 93 => ⟨S_, .f32⟩
  | 94 => ⟨S77824x256, .f32⟩
  | 95 => ⟨S77824x256, .f32⟩
  | 96 => ⟨S77824x256, .f32⟩
  | 97 => ⟨S1x1024x256, .f32⟩
  | 98 => ⟨S1024x256, .f32⟩
  | 99 => ⟨S77824x256, .f32⟩
  | 100 => ⟨S77824x256, .f32⟩
  | 101 => ⟨S77824x1, .f32⟩
  | 102 => ⟨S1x256x1024, .f32⟩
  | 103 => ⟨S256x1024, .f32⟩
  | 104 => ⟨S77824x1024, .f32⟩
  | 105 => ⟨S77824x1024, .f32⟩
  | 106 => ⟨S77824x1024, .f32⟩
  | 107 => ⟨S77824x1024, .f32⟩
  | 108 => ⟨S1x1024x256, .f32⟩
  | 109 => ⟨S1024x256, .f32⟩
  | 110 => ⟨S77824x256, .f32⟩
  | 111 => ⟨S77824x256, .f32⟩
  | 112 => ⟨S77824x256, .f32⟩
  | 113 => ⟨S_, .f32⟩
  | 114 => ⟨S77824x256, .f32⟩
  | 115 => ⟨S77824x256, .f32⟩
  | 116 => ⟨S_, .f32⟩
  | 117 => ⟨S77824x256, .f32⟩
  | 118 => ⟨S77824x256, .f32⟩
  | 119 => ⟨S77824x256, .f32⟩
  | 120 => ⟨S1x1024x256, .f32⟩
  | 121 => ⟨S1024x256, .f32⟩
  | 122 => ⟨S77824x256, .f32⟩
  | 123 => ⟨S77824x256, .f32⟩
  | 124 => ⟨S77824x1, .f32⟩
  | 125 => ⟨S1x256x1024, .f32⟩
  | 126 => ⟨S256x1024, .f32⟩
  | 127 => ⟨S77824x1024, .f32⟩
  | _ => ⟨S77824x1024, .f32⟩

abbrev hbmTy0_1 (i : Nat) : BufTy := match i % 128 with
  | 0 => ⟨S77824x1024, .f32⟩
  | 1 => ⟨S77824x1024, .f32⟩
  | 2 => ⟨S77824x1024, .f32⟩
  | 3 => ⟨S1x1024x256, .f32⟩
  | 4 => ⟨S1024x256, .f32⟩
  | 5 => ⟨S77824x256, .f32⟩
  | 6 => ⟨S77824x256, .f32⟩
  | 7 => ⟨S77824x256, .f32⟩
  | 8 => ⟨S_, .f32⟩
  | 9 => ⟨S77824x256, .f32⟩
  | 10 => ⟨S77824x256, .f32⟩
  | 11 => ⟨S_, .f32⟩
  | 12 => ⟨S77824x256, .f32⟩
  | 13 => ⟨S77824x256, .f32⟩
  | 14 => ⟨S77824x256, .f32⟩
  | 15 => ⟨S1x1024x256, .f32⟩
  | 16 => ⟨S1024x256, .f32⟩
  | 17 => ⟨S77824x256, .f32⟩
  | 18 => ⟨S77824x256, .f32⟩
  | 19 => ⟨S77824x1, .f32⟩
  | 20 => ⟨S1x256x1024, .f32⟩
  | 21 => ⟨S256x1024, .f32⟩
  | 22 => ⟨S77824x1024, .f32⟩
  | 23 => ⟨S77824x1024, .f32⟩
  | 24 => ⟨S77824x1024, .f32⟩
  | 25 => ⟨S77824x1024, .f32⟩
  | 26 => ⟨S1x1024x256, .f32⟩
  | 27 => ⟨S1024x256, .f32⟩
  | 28 => ⟨S77824x256, .f32⟩
  | 29 => ⟨S77824x256, .f32⟩
  | 30 => ⟨S77824x256, .f32⟩
  | 31 => ⟨S_, .f32⟩
  | 32 => ⟨S77824x256, .f32⟩
  | 33 => ⟨S77824x256, .f32⟩
  | 34 => ⟨S_, .f32⟩
  | 35 => ⟨S77824x256, .f32⟩
  | 36 => ⟨S77824x256, .f32⟩
  | 37 => ⟨S77824x256, .f32⟩
  | 38 => ⟨S1x1024x256, .f32⟩
  | 39 => ⟨S1024x256, .f32⟩
  | 40 => ⟨S77824x256, .f32⟩
  | 41 => ⟨S77824x256, .f32⟩
  | 42 => ⟨S77824x1, .f32⟩
  | 43 => ⟨S1x256x1024, .f32⟩
  | 44 => ⟨S256x1024, .f32⟩
  | 45 => ⟨S77824x1024, .f32⟩
  | 46 => ⟨S77824x1024, .f32⟩
  | 47 => ⟨S77824x1024, .f32⟩
  | 48 => ⟨S77824x1024, .f32⟩
  | 49 => ⟨S1x1024x256, .f32⟩
  | 50 => ⟨S1024x256, .f32⟩
  | 51 => ⟨S77824x256, .f32⟩
  | 52 => ⟨S77824x256, .f32⟩
  | 53 => ⟨S77824x256, .f32⟩
  | 54 => ⟨S_, .f32⟩
  | 55 => ⟨S77824x256, .f32⟩
  | 56 => ⟨S77824x256, .f32⟩
  | 57 => ⟨S_, .f32⟩
  | 58 => ⟨S77824x256, .f32⟩
  | 59 => ⟨S77824x256, .f32⟩
  | 60 => ⟨S77824x256, .f32⟩
  | 61 => ⟨S1x1024x256, .f32⟩
  | 62 => ⟨S1024x256, .f32⟩
  | 63 => ⟨S77824x256, .f32⟩
  | 64 => ⟨S77824x256, .f32⟩
  | 65 => ⟨S77824x1, .f32⟩
  | 66 => ⟨S1x256x1024, .f32⟩
  | 67 => ⟨S256x1024, .f32⟩
  | 68 => ⟨S77824x1024, .f32⟩
  | 69 => ⟨S77824x1024, .f32⟩
  | 70 => ⟨S77824x1024, .f32⟩
  | 71 => ⟨S77824x1024, .f32⟩
  | 72 => ⟨S1x1024x256, .f32⟩
  | 73 => ⟨S1024x256, .f32⟩
  | 74 => ⟨S77824x256, .f32⟩
  | 75 => ⟨S77824x256, .f32⟩
  | 76 => ⟨S77824x256, .f32⟩
  | 77 => ⟨S_, .f32⟩
  | 78 => ⟨S77824x256, .f32⟩
  | 79 => ⟨S77824x256, .f32⟩
  | 80 => ⟨S_, .f32⟩
  | 81 => ⟨S77824x256, .f32⟩
  | 82 => ⟨S77824x256, .f32⟩
  | 83 => ⟨S77824x256, .f32⟩
  | 84 => ⟨S1x1024x256, .f32⟩
  | 85 => ⟨S1024x256, .f32⟩
  | 86 => ⟨S77824x256, .f32⟩
  | 87 => ⟨S77824x256, .f32⟩
  | 88 => ⟨S77824x1, .f32⟩
  | 89 => ⟨S1x256x1024, .f32⟩
  | 90 => ⟨S256x1024, .f32⟩
  | 91 => ⟨S77824x1024, .f32⟩
  | 92 => ⟨S77824x1024, .f32⟩
  | 93 => ⟨S77824x1024, .f32⟩
  | 94 => ⟨S77824x1024, .f32⟩
  | 95 => ⟨S1x1024x256, .f32⟩
  | 96 => ⟨S1024x256, .f32⟩
  | 97 => ⟨S77824x256, .f32⟩
  | 98 => ⟨S77824x256, .f32⟩
  | 99 => ⟨S77824x256, .f32⟩
  | 100 => ⟨S_, .f32⟩
  | 101 => ⟨S77824x256, .f32⟩
  | 102 => ⟨S77824x256, .f32⟩
  | 103 => ⟨S_, .f32⟩
  | 104 => ⟨S77824x256, .f32⟩
  | 105 => ⟨S77824x256, .f32⟩
  | 106 => ⟨S77824x256, .f32⟩
  | 107 => ⟨S1x1024x256, .f32⟩
  | 108 => ⟨S1024x256, .f32⟩
  | 109 => ⟨S77824x256, .f32⟩
  | 110 => ⟨S77824x256, .f32⟩
  | 111 => ⟨S77824x1, .f32⟩
  | 112 => ⟨S1x256x1024, .f32⟩
  | 113 => ⟨S256x1024, .f32⟩
  | 114 => ⟨S77824x1024, .f32⟩
  | 115 => ⟨S77824x1024, .f32⟩
  | 116 => ⟨S77824x1024, .f32⟩
  | 117 => ⟨S77824x1024, .f32⟩
  | 118 => ⟨S1x1024x256, .f32⟩
  | 119 => ⟨S1024x256, .f32⟩
  | 120 => ⟨S77824x256, .f32⟩
  | 121 => ⟨S77824x256, .f32⟩
  | 122 => ⟨S77824x256, .f32⟩
  | 123 => ⟨S_, .f32⟩
  | 124 => ⟨S77824x256, .f32⟩
  | 125 => ⟨S77824x256, .f32⟩
  | 126 => ⟨S_, .f32⟩
  | 127 => ⟨S77824x256, .f32⟩
  | _ => ⟨S77824x1024, .f32⟩

abbrev hbmTy0_2 (i : Nat) : BufTy := match i % 128 with
  | 0 => ⟨S77824x256, .f32⟩
  | 1 => ⟨S77824x256, .f32⟩
  | 2 => ⟨S1x1024x256, .f32⟩
  | 3 => ⟨S1024x256, .f32⟩
  | 4 => ⟨S77824x256, .f32⟩
  | 5 => ⟨S77824x256, .f32⟩
  | 6 => ⟨S77824x1, .f32⟩
  | 7 => ⟨S1x256x1024, .f32⟩
  | 8 => ⟨S256x1024, .f32⟩
  | 9 => ⟨S77824x1024, .f32⟩
  | 10 => ⟨S77824x1024, .f32⟩
  | 11 => ⟨S77824x1024, .f32⟩
  | 12 => ⟨S77824x1024, .f32⟩
  | 13 => ⟨S1x1024x256, .f32⟩
  | 14 => ⟨S1024x256, .f32⟩
  | 15 => ⟨S77824x256, .f32⟩
  | 16 => ⟨S77824x256, .f32⟩
  | 17 => ⟨S77824x256, .f32⟩
  | 18 => ⟨S_, .f32⟩
  | 19 => ⟨S77824x256, .f32⟩
  | 20 => ⟨S77824x256, .f32⟩
  | 21 => ⟨S_, .f32⟩
  | 22 => ⟨S77824x256, .f32⟩
  | 23 => ⟨S77824x256, .f32⟩
  | 24 => ⟨S77824x256, .f32⟩
  | 25 => ⟨S1x1024x256, .f32⟩
  | 26 => ⟨S1024x256, .f32⟩
  | 27 => ⟨S77824x256, .f32⟩
  | 28 => ⟨S77824x256, .f32⟩
  | 29 => ⟨S77824x1, .f32⟩
  | 30 => ⟨S1x256x1024, .f32⟩
  | 31 => ⟨S256x1024, .f32⟩
  | 32 => ⟨S77824x1024, .f32⟩
  | 33 => ⟨S77824x1024, .f32⟩
  | 34 => ⟨S77824x1024, .f32⟩
  | 35 => ⟨S77824x1024, .f32⟩
  | 36 => ⟨S1x1024x256, .f32⟩
  | 37 => ⟨S1024x256, .f32⟩
  | 38 => ⟨S77824x256, .f32⟩
  | 39 => ⟨S77824x256, .f32⟩
  | 40 => ⟨S77824x256, .f32⟩
  | 41 => ⟨S_, .f32⟩
  | 42 => ⟨S77824x256, .f32⟩
  | 43 => ⟨S77824x256, .f32⟩
  | 44 => ⟨S_, .f32⟩
  | 45 => ⟨S77824x256, .f32⟩
  | 46 => ⟨S77824x256, .f32⟩
  | 47 => ⟨S77824x256, .f32⟩
  | 48 => ⟨S1x1024x256, .f32⟩
  | 49 => ⟨S1024x256, .f32⟩
  | 50 => ⟨S77824x256, .f32⟩
  | 51 => ⟨S77824x256, .f32⟩
  | 52 => ⟨S77824x1, .f32⟩
  | 53 => ⟨S1x256x1024, .f32⟩
  | 54 => ⟨S256x1024, .f32⟩
  | 55 => ⟨S77824x1024, .f32⟩
  | 56 => ⟨S77824x1024, .f32⟩
  | 57 => ⟨S77824x1024, .f32⟩
  | 58 => ⟨S77824x1024, .f32⟩
  | 59 => ⟨S1x1024x256, .f32⟩
  | 60 => ⟨S1024x256, .f32⟩
  | 61 => ⟨S77824x256, .f32⟩
  | 62 => ⟨S77824x256, .f32⟩
  | 63 => ⟨S77824x256, .f32⟩
  | 64 => ⟨S_, .f32⟩
  | 65 => ⟨S77824x256, .f32⟩
  | 66 => ⟨S77824x256, .f32⟩
  | 67 => ⟨S_, .f32⟩
  | 68 => ⟨S77824x256, .f32⟩
  | 69 => ⟨S77824x256, .f32⟩
  | 70 => ⟨S77824x256, .f32⟩
  | 71 => ⟨S1x1024x256, .f32⟩
  | 72 => ⟨S1024x256, .f32⟩
  | 73 => ⟨S77824x256, .f32⟩
  | 74 => ⟨S77824x256, .f32⟩
  | 75 => ⟨S77824x1, .f32⟩
  | 76 => ⟨S1x256x1024, .f32⟩
  | 77 => ⟨S256x1024, .f32⟩
  | 78 => ⟨S77824x1024, .f32⟩
  | 79 => ⟨S77824x1024, .f32⟩
  | 80 => ⟨S77824x1024, .f32⟩
  | 81 => ⟨S77824x1024, .f32⟩
  | 82 => ⟨S1x1024x256, .f32⟩
  | 83 => ⟨S1024x256, .f32⟩
  | 84 => ⟨S77824x256, .f32⟩
  | 85 => ⟨S77824x256, .f32⟩
  | 86 => ⟨S77824x256, .f32⟩
  | 87 => ⟨S_, .f32⟩
  | 88 => ⟨S77824x256, .f32⟩
  | 89 => ⟨S77824x256, .f32⟩
  | 90 => ⟨S_, .f32⟩
  | 91 => ⟨S77824x256, .f32⟩
  | 92 => ⟨S77824x256, .f32⟩
  | 93 => ⟨S77824x256, .f32⟩
  | 94 => ⟨S1x1024x256, .f32⟩
  | 95 => ⟨S1024x256, .f32⟩
  | 96 => ⟨S77824x256, .f32⟩
  | 97 => ⟨S77824x256, .f32⟩
  | 98 => ⟨S77824x1, .f32⟩
  | 99 => ⟨S1x256x1024, .f32⟩
  | 100 => ⟨S256x1024, .f32⟩
  | 101 => ⟨S77824x1024, .f32⟩
  | 102 => ⟨S77824x1024, .f32⟩
  | 103 => ⟨S77824x1024, .f32⟩
  | 104 => ⟨S77824x1024, .f32⟩
  | 105 => ⟨S1x1024x256, .f32⟩
  | 106 => ⟨S1024x256, .f32⟩
  | 107 => ⟨S77824x256, .f32⟩
  | 108 => ⟨S77824x256, .f32⟩
  | 109 => ⟨S77824x256, .f32⟩
  | 110 => ⟨S_, .f32⟩
  | 111 => ⟨S77824x256, .f32⟩
  | 112 => ⟨S77824x256, .f32⟩
  | 113 => ⟨S_, .f32⟩
  | 114 => ⟨S77824x256, .f32⟩
  | 115 => ⟨S77824x256, .f32⟩
  | 116 => ⟨S77824x256, .f32⟩
  | 117 => ⟨S1x1024x256, .f32⟩
  | 118 => ⟨S1024x256, .f32⟩
  | 119 => ⟨S77824x256, .f32⟩
  | 120 => ⟨S77824x256, .f32⟩
  | 121 => ⟨S77824x1, .f32⟩
  | 122 => ⟨S1x256x1024, .f32⟩
  | 123 => ⟨S256x1024, .f32⟩
  | 124 => ⟨S77824x1024, .f32⟩
  | 125 => ⟨S77824x1024, .f32⟩
  | 126 => ⟨S77824x1024, .f32⟩
  | 127 => ⟨S77824x1024, .f32⟩
  | _ => ⟨S77824x1024, .f32⟩

abbrev hbmTy0_3 (i : Nat) : BufTy := match i % 128 with
  | 0 => ⟨S1x1024x256, .f32⟩
  | 1 => ⟨S1024x256, .f32⟩
  | 2 => ⟨S77824x256, .f32⟩
  | 3 => ⟨S77824x256, .f32⟩
  | 4 => ⟨S77824x256, .f32⟩
  | 5 => ⟨S_, .f32⟩
  | 6 => ⟨S77824x256, .f32⟩
  | 7 => ⟨S77824x256, .f32⟩
  | 8 => ⟨S_, .f32⟩
  | 9 => ⟨S77824x256, .f32⟩
  | 10 => ⟨S77824x256, .f32⟩
  | 11 => ⟨S77824x256, .f32⟩
  | 12 => ⟨S1x1024x256, .f32⟩
  | 13 => ⟨S1024x256, .f32⟩
  | 14 => ⟨S77824x256, .f32⟩
  | 15 => ⟨S77824x256, .f32⟩
  | 16 => ⟨S77824x1, .f32⟩
  | 17 => ⟨S1x256x1024, .f32⟩
  | 18 => ⟨S256x1024, .f32⟩
  | 19 => ⟨S77824x1024, .f32⟩
  | 20 => ⟨S77824x1024, .f32⟩
  | 21 => ⟨S77824x1024, .f32⟩
  | 22 => ⟨S77824x1024, .f32⟩
  | _ => ⟨S77824x1024, .f32⟩

abbrev hbmTy (i : Nat) : BufTy := match i / 128 with
  | 0 => hbmTy0_0 i
  | 1 => hbmTy0_1 i
  | 2 => hbmTy0_2 i
  | 3 => hbmTy0_3 i
  | _ => ⟨S77824x1024, .f32⟩

abbrev bufTy : (tb : Table) → Fin (tcTables nBuf tb) → BufTy
  | .hbm, ⟨i, _⟩ => hbmTy i
  | _, _ => ⟨S77824x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v12 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call2_v0 : Ref sig .tc := ⟨.hbm, 42, rfl⟩
abbrev main_call2_v1 : Ref sig .tc := ⟨.hbm, 43, rfl⟩
abbrev main_call2_cst : Ref sig .tc := ⟨.hbm, 44, rfl⟩
abbrev main_call2_v2 : Ref sig .tc := ⟨.hbm, 45, rfl⟩
abbrev main_call2_v3 : Ref sig .tc := ⟨.hbm, 46, rfl⟩
abbrev main_call2_cst_0 : Ref sig .tc := ⟨.hbm, 47, rfl⟩
abbrev main_call2_v4 : Ref sig .tc := ⟨.hbm, 48, rfl⟩
abbrev main_call2_v5 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_call3_v0 : Ref sig .tc := ⟨.hbm, 65, rfl⟩
abbrev main_call3_v1 : Ref sig .tc := ⟨.hbm, 66, rfl⟩
abbrev main_call3_cst : Ref sig .tc := ⟨.hbm, 67, rfl⟩
abbrev main_call3_v2 : Ref sig .tc := ⟨.hbm, 68, rfl⟩
abbrev main_call3_v3 : Ref sig .tc := ⟨.hbm, 69, rfl⟩
abbrev main_call3_cst_0 : Ref sig .tc := ⟨.hbm, 70, rfl⟩
abbrev main_call3_v4 : Ref sig .tc := ⟨.hbm, 71, rfl⟩
abbrev main_call3_v5 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_call4_v0 : Ref sig .tc := ⟨.hbm, 88, rfl⟩
abbrev main_call4_v1 : Ref sig .tc := ⟨.hbm, 89, rfl⟩
abbrev main_call4_cst : Ref sig .tc := ⟨.hbm, 90, rfl⟩
abbrev main_call4_v2 : Ref sig .tc := ⟨.hbm, 91, rfl⟩
abbrev main_call4_v3 : Ref sig .tc := ⟨.hbm, 92, rfl⟩
abbrev main_call4_cst_0 : Ref sig .tc := ⟨.hbm, 93, rfl⟩
abbrev main_call4_v4 : Ref sig .tc := ⟨.hbm, 94, rfl⟩
abbrev main_call4_v5 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_call5_v0 : Ref sig .tc := ⟨.hbm, 111, rfl⟩
abbrev main_call5_v1 : Ref sig .tc := ⟨.hbm, 112, rfl⟩
abbrev main_call5_cst : Ref sig .tc := ⟨.hbm, 113, rfl⟩
abbrev main_call5_v2 : Ref sig .tc := ⟨.hbm, 114, rfl⟩
abbrev main_call5_v3 : Ref sig .tc := ⟨.hbm, 115, rfl⟩
abbrev main_call5_cst_0 : Ref sig .tc := ⟨.hbm, 116, rfl⟩
abbrev main_call5_v4 : Ref sig .tc := ⟨.hbm, 117, rfl⟩
abbrev main_call5_v5 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_call6_v0 : Ref sig .tc := ⟨.hbm, 134, rfl⟩
abbrev main_call6_v1 : Ref sig .tc := ⟨.hbm, 135, rfl⟩
abbrev main_call6_cst : Ref sig .tc := ⟨.hbm, 136, rfl⟩
abbrev main_call6_v2 : Ref sig .tc := ⟨.hbm, 137, rfl⟩
abbrev main_call6_v3 : Ref sig .tc := ⟨.hbm, 138, rfl⟩
abbrev main_call6_cst_0 : Ref sig .tc := ⟨.hbm, 139, rfl⟩
abbrev main_call6_v4 : Ref sig .tc := ⟨.hbm, 140, rfl⟩
abbrev main_call6_v5 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_call7_v0 : Ref sig .tc := ⟨.hbm, 157, rfl⟩
abbrev main_call7_v1 : Ref sig .tc := ⟨.hbm, 158, rfl⟩
abbrev main_call7_cst : Ref sig .tc := ⟨.hbm, 159, rfl⟩
abbrev main_call7_v2 : Ref sig .tc := ⟨.hbm, 160, rfl⟩
abbrev main_call7_v3 : Ref sig .tc := ⟨.hbm, 161, rfl⟩
abbrev main_call7_cst_0 : Ref sig .tc := ⟨.hbm, 162, rfl⟩
abbrev main_call7_v4 : Ref sig .tc := ⟨.hbm, 163, rfl⟩
abbrev main_call7_v5 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_call8_v0 : Ref sig .tc := ⟨.hbm, 180, rfl⟩
abbrev main_call8_v1 : Ref sig .tc := ⟨.hbm, 181, rfl⟩
abbrev main_call8_cst : Ref sig .tc := ⟨.hbm, 182, rfl⟩
abbrev main_call8_v2 : Ref sig .tc := ⟨.hbm, 183, rfl⟩
abbrev main_call8_v3 : Ref sig .tc := ⟨.hbm, 184, rfl⟩
abbrev main_call8_cst_0 : Ref sig .tc := ⟨.hbm, 185, rfl⟩
abbrev main_call8_v4 : Ref sig .tc := ⟨.hbm, 186, rfl⟩
abbrev main_call8_v5 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_call9_v0 : Ref sig .tc := ⟨.hbm, 203, rfl⟩
abbrev main_call9_v1 : Ref sig .tc := ⟨.hbm, 204, rfl⟩
abbrev main_call9_cst : Ref sig .tc := ⟨.hbm, 205, rfl⟩
abbrev main_call9_v2 : Ref sig .tc := ⟨.hbm, 206, rfl⟩
abbrev main_call9_v3 : Ref sig .tc := ⟨.hbm, 207, rfl⟩
abbrev main_call9_cst_0 : Ref sig .tc := ⟨.hbm, 208, rfl⟩
abbrev main_call9_v4 : Ref sig .tc := ⟨.hbm, 209, rfl⟩
abbrev main_call9_v5 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_call10_v0 : Ref sig .tc := ⟨.hbm, 226, rfl⟩
abbrev main_call10_v1 : Ref sig .tc := ⟨.hbm, 227, rfl⟩
abbrev main_call10_cst : Ref sig .tc := ⟨.hbm, 228, rfl⟩
abbrev main_call10_v2 : Ref sig .tc := ⟨.hbm, 229, rfl⟩
abbrev main_call10_v3 : Ref sig .tc := ⟨.hbm, 230, rfl⟩
abbrev main_call10_cst_0 : Ref sig .tc := ⟨.hbm, 231, rfl⟩
abbrev main_call10_v4 : Ref sig .tc := ⟨.hbm, 232, rfl⟩
abbrev main_call10_v5 : Ref sig .tc := ⟨.hbm, 233, rfl⟩
abbrev main_v142 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_v156 : Ref sig .tc := ⟨.hbm, 248, rfl⟩
abbrev main_call11_v0 : Ref sig .tc := ⟨.hbm, 249, rfl⟩
abbrev main_call11_v1 : Ref sig .tc := ⟨.hbm, 250, rfl⟩
abbrev main_call11_cst : Ref sig .tc := ⟨.hbm, 251, rfl⟩
abbrev main_call11_v2 : Ref sig .tc := ⟨.hbm, 252, rfl⟩
abbrev main_call11_v3 : Ref sig .tc := ⟨.hbm, 253, rfl⟩
abbrev main_call11_cst_0 : Ref sig .tc := ⟨.hbm, 254, rfl⟩
abbrev main_call11_v4 : Ref sig .tc := ⟨.hbm, 255, rfl⟩
abbrev main_call11_v5 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_call12_v0 : Ref sig .tc := ⟨.hbm, 272, rfl⟩
abbrev main_call12_v1 : Ref sig .tc := ⟨.hbm, 273, rfl⟩
abbrev main_call12_cst : Ref sig .tc := ⟨.hbm, 274, rfl⟩
abbrev main_call12_v2 : Ref sig .tc := ⟨.hbm, 275, rfl⟩
abbrev main_call12_v3 : Ref sig .tc := ⟨.hbm, 276, rfl⟩
abbrev main_call12_cst_0 : Ref sig .tc := ⟨.hbm, 277, rfl⟩
abbrev main_call12_v4 : Ref sig .tc := ⟨.hbm, 278, rfl⟩
abbrev main_call12_v5 : Ref sig .tc := ⟨.hbm, 279, rfl⟩
abbrev main_v172 : Ref sig .tc := ⟨.hbm, 280, rfl⟩
abbrev main_v173 : Ref sig .tc := ⟨.hbm, 281, rfl⟩
abbrev main_v174 : Ref sig .tc := ⟨.hbm, 282, rfl⟩
abbrev main_v175 : Ref sig .tc := ⟨.hbm, 283, rfl⟩
abbrev main_v176 : Ref sig .tc := ⟨.hbm, 284, rfl⟩
abbrev main_v177 : Ref sig .tc := ⟨.hbm, 285, rfl⟩
abbrev main_v178 : Ref sig .tc := ⟨.hbm, 286, rfl⟩
abbrev main_v179 : Ref sig .tc := ⟨.hbm, 287, rfl⟩
abbrev main_v180 : Ref sig .tc := ⟨.hbm, 288, rfl⟩
abbrev main_v181 : Ref sig .tc := ⟨.hbm, 289, rfl⟩
abbrev main_v182 : Ref sig .tc := ⟨.hbm, 290, rfl⟩
abbrev main_v183 : Ref sig .tc := ⟨.hbm, 291, rfl⟩
abbrev main_v184 : Ref sig .tc := ⟨.hbm, 292, rfl⟩
abbrev main_v185 : Ref sig .tc := ⟨.hbm, 293, rfl⟩
abbrev main_v186 : Ref sig .tc := ⟨.hbm, 294, rfl⟩
abbrev main_call13_v0 : Ref sig .tc := ⟨.hbm, 295, rfl⟩
abbrev main_call13_v1 : Ref sig .tc := ⟨.hbm, 296, rfl⟩
abbrev main_call13_cst : Ref sig .tc := ⟨.hbm, 297, rfl⟩
abbrev main_call13_v2 : Ref sig .tc := ⟨.hbm, 298, rfl⟩
abbrev main_call13_v3 : Ref sig .tc := ⟨.hbm, 299, rfl⟩
abbrev main_call13_cst_0 : Ref sig .tc := ⟨.hbm, 300, rfl⟩
abbrev main_call13_v4 : Ref sig .tc := ⟨.hbm, 301, rfl⟩
abbrev main_call13_v5 : Ref sig .tc := ⟨.hbm, 302, rfl⟩
abbrev main_v187 : Ref sig .tc := ⟨.hbm, 303, rfl⟩
abbrev main_v188 : Ref sig .tc := ⟨.hbm, 304, rfl⟩
abbrev main_v189 : Ref sig .tc := ⟨.hbm, 305, rfl⟩
abbrev main_v190 : Ref sig .tc := ⟨.hbm, 306, rfl⟩
abbrev main_v191 : Ref sig .tc := ⟨.hbm, 307, rfl⟩
abbrev main_v192 : Ref sig .tc := ⟨.hbm, 308, rfl⟩
abbrev main_v193 : Ref sig .tc := ⟨.hbm, 309, rfl⟩
abbrev main_v194 : Ref sig .tc := ⟨.hbm, 310, rfl⟩
abbrev main_v195 : Ref sig .tc := ⟨.hbm, 311, rfl⟩
abbrev main_v196 : Ref sig .tc := ⟨.hbm, 312, rfl⟩
abbrev main_v197 : Ref sig .tc := ⟨.hbm, 313, rfl⟩
abbrev main_v198 : Ref sig .tc := ⟨.hbm, 314, rfl⟩
abbrev main_v199 : Ref sig .tc := ⟨.hbm, 315, rfl⟩
abbrev main_v200 : Ref sig .tc := ⟨.hbm, 316, rfl⟩
abbrev main_v201 : Ref sig .tc := ⟨.hbm, 317, rfl⟩
abbrev main_call14_v0 : Ref sig .tc := ⟨.hbm, 318, rfl⟩
abbrev main_call14_v1 : Ref sig .tc := ⟨.hbm, 319, rfl⟩
abbrev main_call14_cst : Ref sig .tc := ⟨.hbm, 320, rfl⟩
abbrev main_call14_v2 : Ref sig .tc := ⟨.hbm, 321, rfl⟩
abbrev main_call14_v3 : Ref sig .tc := ⟨.hbm, 322, rfl⟩
abbrev main_call14_cst_0 : Ref sig .tc := ⟨.hbm, 323, rfl⟩
abbrev main_call14_v4 : Ref sig .tc := ⟨.hbm, 324, rfl⟩
abbrev main_call14_v5 : Ref sig .tc := ⟨.hbm, 325, rfl⟩
abbrev main_v202 : Ref sig .tc := ⟨.hbm, 326, rfl⟩
abbrev main_v203 : Ref sig .tc := ⟨.hbm, 327, rfl⟩
abbrev main_v204 : Ref sig .tc := ⟨.hbm, 328, rfl⟩
abbrev main_v205 : Ref sig .tc := ⟨.hbm, 329, rfl⟩
abbrev main_v206 : Ref sig .tc := ⟨.hbm, 330, rfl⟩
abbrev main_v207 : Ref sig .tc := ⟨.hbm, 331, rfl⟩
abbrev main_v208 : Ref sig .tc := ⟨.hbm, 332, rfl⟩
abbrev main_v209 : Ref sig .tc := ⟨.hbm, 333, rfl⟩
abbrev main_v210 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_v214 : Ref sig .tc := ⟨.hbm, 338, rfl⟩
abbrev main_v215 : Ref sig .tc := ⟨.hbm, 339, rfl⟩
abbrev main_v216 : Ref sig .tc := ⟨.hbm, 340, rfl⟩
abbrev main_call15_v0 : Ref sig .tc := ⟨.hbm, 341, rfl⟩
abbrev main_call15_v1 : Ref sig .tc := ⟨.hbm, 342, rfl⟩
abbrev main_call15_cst : Ref sig .tc := ⟨.hbm, 343, rfl⟩
abbrev main_call15_v2 : Ref sig .tc := ⟨.hbm, 344, rfl⟩
abbrev main_call15_v3 : Ref sig .tc := ⟨.hbm, 345, rfl⟩
abbrev main_call15_cst_0 : Ref sig .tc := ⟨.hbm, 346, rfl⟩
abbrev main_call15_v4 : Ref sig .tc := ⟨.hbm, 347, rfl⟩
abbrev main_call15_v5 : Ref sig .tc := ⟨.hbm, 348, rfl⟩
abbrev main_v217 : Ref sig .tc := ⟨.hbm, 349, rfl⟩
abbrev main_v218 : Ref sig .tc := ⟨.hbm, 350, rfl⟩
abbrev main_v219 : Ref sig .tc := ⟨.hbm, 351, rfl⟩
abbrev main_v220 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩
abbrev main_v224 : Ref sig .tc := ⟨.hbm, 356, rfl⟩
abbrev main_v225 : Ref sig .tc := ⟨.hbm, 357, rfl⟩
abbrev main_v226 : Ref sig .tc := ⟨.hbm, 358, rfl⟩
abbrev main_v227 : Ref sig .tc := ⟨.hbm, 359, rfl⟩
abbrev main_v228 : Ref sig .tc := ⟨.hbm, 360, rfl⟩
abbrev main_v229 : Ref sig .tc := ⟨.hbm, 361, rfl⟩
abbrev main_v230 : Ref sig .tc := ⟨.hbm, 362, rfl⟩
abbrev main_v231 : Ref sig .tc := ⟨.hbm, 363, rfl⟩
abbrev main_call16_v0 : Ref sig .tc := ⟨.hbm, 364, rfl⟩
abbrev main_call16_v1 : Ref sig .tc := ⟨.hbm, 365, rfl⟩
abbrev main_call16_cst : Ref sig .tc := ⟨.hbm, 366, rfl⟩
abbrev main_call16_v2 : Ref sig .tc := ⟨.hbm, 367, rfl⟩
abbrev main_call16_v3 : Ref sig .tc := ⟨.hbm, 368, rfl⟩
abbrev main_call16_cst_0 : Ref sig .tc := ⟨.hbm, 369, rfl⟩
abbrev main_call16_v4 : Ref sig .tc := ⟨.hbm, 370, rfl⟩
abbrev main_call16_v5 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_v235 : Ref sig .tc := ⟨.hbm, 375, rfl⟩
abbrev main_v236 : Ref sig .tc := ⟨.hbm, 376, rfl⟩
abbrev main_v237 : Ref sig .tc := ⟨.hbm, 377, rfl⟩
abbrev main_v238 : Ref sig .tc := ⟨.hbm, 378, rfl⟩
abbrev main_v239 : Ref sig .tc := ⟨.hbm, 379, rfl⟩
abbrev main_v240 : Ref sig .tc := ⟨.hbm, 380, rfl⟩
abbrev main_v241 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_v245 : Ref sig .tc := ⟨.hbm, 385, rfl⟩
abbrev main_v246 : Ref sig .tc := ⟨.hbm, 386, rfl⟩
abbrev main_call17_v0 : Ref sig .tc := ⟨.hbm, 387, rfl⟩
abbrev main_call17_v1 : Ref sig .tc := ⟨.hbm, 388, rfl⟩
abbrev main_call17_cst : Ref sig .tc := ⟨.hbm, 389, rfl⟩
abbrev main_call17_v2 : Ref sig .tc := ⟨.hbm, 390, rfl⟩
abbrev main_call17_v3 : Ref sig .tc := ⟨.hbm, 391, rfl⟩
abbrev main_call17_cst_0 : Ref sig .tc := ⟨.hbm, 392, rfl⟩
abbrev main_call17_v4 : Ref sig .tc := ⟨.hbm, 393, rfl⟩
abbrev main_call17_v5 : Ref sig .tc := ⟨.hbm, 394, rfl⟩
abbrev main_v247 : Ref sig .tc := ⟨.hbm, 395, rfl⟩
abbrev main_v248 : Ref sig .tc := ⟨.hbm, 396, rfl⟩
abbrev main_v249 : Ref sig .tc := ⟨.hbm, 397, rfl⟩
abbrev main_v250 : Ref sig .tc := ⟨.hbm, 398, rfl⟩
abbrev main_v251 : Ref sig .tc := ⟨.hbm, 399, rfl⟩
abbrev main_v252 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_v256 : Ref sig .tc := ⟨.hbm, 404, rfl⟩
abbrev main_v257 : Ref sig .tc := ⟨.hbm, 405, rfl⟩
abbrev main_v258 : Ref sig .tc := ⟨.hbm, 406, rfl⟩

abbrev nD : Nat := 1
abbrev τ : Topo := Topo.v7x

variable {F : FTy → Type} [FloatOps F]
-- ==== Kernel3.lean ====
abbrev S64x1x1024 : Shape := ⟨3, ![64, 1, 1024]⟩
abbrev S77824x1024 : Shape := ⟨2, ![77824, 1024]⟩
abbrev S32x2048x1024 : Shape := ⟨3, ![32, 2048, 1024]⟩
abbrev S32x6144 : Shape := ⟨2, ![32, 6144]⟩
abbrev S1024 : Shape := ⟨1, ![1024]⟩
abbrev S65536x1024 : Shape := ⟨2, ![65536, 1024]⟩
abbrev S32x6x1024 : Shape := ⟨3, ![32, 6, 1024]⟩
abbrev S1x1024 : Shape := ⟨2, ![1, 1024]⟩
abbrev S1x1x1024 : Shape := ⟨3, ![1, 1, 1024]⟩
abbrev S1024x1024 : Shape := ⟨2, ![1024, 1024]⟩
abbrev S1x6x1024 : Shape := ⟨3, ![1, 6, 1024]⟩
abbrev S2x1024x1024 : Shape := ⟨3, ![2, 1024, 1024]⟩
abbrev S2 : Shape := ⟨1, ![2]⟩
abbrev S1x1x1 : Shape := ⟨3, ![1, 1, 1]⟩
abbrev S1 : Shape := ⟨1, ![1]⟩
abbrev S_ : Shape := ⟨0, ![]⟩
abbrev S1x1024x1024 : Shape := ⟨3, ![1, 1024, 1024]⟩
abbrev S1024x1 : Shape := ⟨2, ![1024, 1]⟩

abbrev nBuf : Space → Nat
  | .hbm => 9
  | .vmem => 8
  | .smem => 4
  | _ => 0

abbrev bufTy : (tb : Table) → Fin (tcTables nBuf tb) → BufTy
  | .hbm, ⟨0, _⟩ => ⟨S64x1x1024, .i32⟩
  | .hbm, ⟨1, _⟩ => ⟨S77824x1024, .f32⟩
  | .hbm, ⟨2, _⟩ => ⟨S32x2048x1024, .f32⟩
  | .hbm, ⟨3, _⟩ => ⟨S32x6144, .f32⟩
  | .hbm, ⟨4, _⟩ => ⟨S1024, .f32⟩
  | .hbm, ⟨5, _⟩ => ⟨S65536x1024, .f32⟩
  | .hbm, ⟨6, _⟩ => ⟨S32x6x1024, .f32⟩
  | .hbm, ⟨7, _⟩ => ⟨S1x1024, .f32⟩
  | .hbm, ⟨8, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S2x1024x1024, .f32⟩
  | .local _ .smem, ⟨0, _⟩ => ⟨S1x1x1024, .i32⟩
  | .local _ .smem, ⟨1, _⟩ => ⟨S1x1x1024, .i32⟩
  | .local _ .smem, ⟨2, _⟩ => ⟨S1x1x1024, .i32⟩
  | .local _ .smem, ⟨3, _⟩ => ⟨S1x1x1024, .i32⟩
  | _, _ => ⟨S64x1x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_20 : BitVec 32 := 0#32
  let c128_i32 : BitVec 32 := 128#32
  let v43 : BitVec 32 := Scalar.addi c0_i32_20 c128_i32
  let c1_i32_21 : BitVec 32 := 1#32
  ⟨c0_i32_20, v43, c1_i32_21⟩
def k0_off1 (k0_t1 : Fin k0_t1_loop.trips) : Fin 3 → Nat :=
  let c0_24 : Index := 0#32
  let c0_25 : Index := 0#32
  let c0_i32_20 : BitVec 32 := 0#32
  let c1_i32_21 : BitVec 32 := 1#32
  let arg10 : BitVec 32 := Scf.iv c0_i32_20 c1_i32_21 k0_t1
  let c8_i32 : BitVec 32 := 8#32
  let v44 : BitVec 32 := Scalar.muli arg10 c8_i32
  let c0_i32_23 : BitVec 32 := 0#32
  let v45 : BitVec 32 := Scalar.addi v44 c0_i32_23
  let v46 : Index := Scalar.indexCast v45
  ![0, 0, v46.toNat]
def k0_off2 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_26 : BitVec 32 := 0#32
  let c0_i32_27 : BitVec 32 := 0#32
  ![v9.toNat, 0, 0]
def k0_off4 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c8_i32 : BitVec 32 := 8#32
  let v44 : BitVec 32 := Scalar.muli arg10 c8_i32
  let c0_i32_23 : BitVec 32 := 0#32
  let v45 : BitVec 32 := Scalar.addi v44 c0_i32_23
  let c0_i32_28 : BitVec 32 := 0#32
  ![v45.toNat, 0]
def k0_off5 (v47 : BitVec 32) : Fin 2 → Nat :=
  let c0_i32_29 : BitVec 32 := 0#32
  ![v47.toNat, 0]

def k0_chk1 (i : grid0.Coords) (v47 : BitVec 32) : Prop :=
  (∀ (k0_h1 : k0_cond1 i = 1#1), ∀ a, (k0_off5 v47) a + S1x1024.size a ≤ S77824x1024.size a)
theorem k0_off5_inb : ∀ (i : grid0.Coords) (v47 : BitVec 32) (k0_hw1 : k0_chk1 i v47), ∀ (k0_h1 : k0_cond1 i = 1#1), ∀ a, (k0_off5 v47) a + S1x1024.size a ≤ S77824x1024.size a := fun i v47 k0_hw1 k0_h1 => k0_hw1 k0_h1

def k0_off6 (k0_t1 : Fin k0_t1_loop.trips) : Fin 3 → Nat :=
  let c0_32 : Index := 0#32
  let c0_33 : Index := 0#32
  let c0_i32_20 : BitVec 32 := 0#32
  let c1_i32_21 : BitVec 32 := 1#32
  let arg10 : BitVec 32 := Scf.iv c0_i32_20 c1_i32_21 k0_t1
  let c8_i32_30 : BitVec 32 := 8#32
  let v54 : BitVec 32 := Scalar.muli arg10 c8_i32_30
  let c1_i32_31 : BitVec 32 := 1#32
  let v55 : BitVec 32 := Scalar.addi v54 c1_i32_31
  let v56 : Index := Scalar.indexCast v55
  ![0, 0, v56.toNat]
def k0_off7 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off8 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_34 : BitVec 32 := 0#32
  let c0_i32_35 : BitVec 32 := 0#32
  ![v9.toNat, 0, 0]
def k0_off9 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c8_i32_30 : BitVec 32 := 8#32
  let v54 : BitVec 32 := Scalar.muli arg10 c8_i32_30
  let c1_i32_31 : BitVec 32 := 1#32
  let v55 : BitVec 32 := Scalar.addi v54 c1_i32_31
  let c0_i32_36 : BitVec 32 := 0#32
  ![v55.toNat, 0]
def k0_off10 (v57 : BitVec 32) : Fin 2 → Nat :=
  let c0_i32_37 : BitVec 32 := 0#32
  ![v57.toNat, 0]

def k0_chk2 (i : grid0.Coords) (v57 : BitVec 32) : Prop :=
  (∀ (k0_h1 : k0_cond1 i = 1#1), ∀ a, (k0_off10 v57) a + S1x1024.size a ≤ S77824x1024.size a)
theorem k0_off10_inb : ∀ (i : grid0.Coords) (v57 : BitVec 32) (k0_hw2 : k0_chk2 i v57), ∀ (k0_h1 : k0_cond1 i = 1#1), ∀ a, (k0_off10 v57) a + S1x1024.size a ≤ S77824x1024.size a := fun i v57 k0_hw2 k0_h1 => k0_hw2 k0_h1

def k0_off11 (k0_t1 : Fin k0_t1_loop.trips) : Fin 3 → Nat :=
  let c0_40 : Index := 0#32
  let c0_41 : Index := 0#32
  let c0_i32_20 : BitVec 32 := 0#32
  let c1_i32_21 : BitVec 32 := 1#32
  let arg10 : BitVec 32 := Scf.iv c0_i32_20 c1_i32_21 k0_t1
  let c8_i32_38 : BitVec 32 := 8#32
  let v64 : BitVec 32 := Scalar.muli arg10 c8_i32_38
  let c2_i32_39 : BitVec 32 := 2#32
  let v65 : BitVec 32 := Scalar.addi v64 c2_i32_39
  let v66 : Index := Scalar.indexCast v65
  ![0, 0, v66.toNat]
def k0_off12 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off13 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_42 : BitVec 32 := 0#32
  let c0_i32_43 : BitVec 32 := 0#32
  ![v9.toNat, 0, 0]
def k0_off14 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c8_i32_38 : BitVec 32 := 8#32
  let v64 : BitVec 32 := Scalar.muli arg10 c8_i32_38
  let c2_i32_39 : BitVec 32 := 2#32
  let v65 : BitVec 32 := Scalar.addi v64 c2_i32_39
  let c0_i32_44 : BitVec 32 := 0#32
  ![v65.toNat, 0]
def k0_off15 (v67 : BitVec 32) : Fin 2 → Nat :=
  let c0_i32_45 : BitVec 32 := 0#32
  ![v67.toNat, 0]

def k0_chk3 (i : grid0.Coords) (v67 : BitVec 32) : Prop :=
  (∀ (k0_h1 : k0_cond1 i = 1#1), ∀ a, (k0_off15 v67) a + S1x1024.size a ≤ S77824x1024.size a)
theorem k0_off15_inb : ∀ (i : grid0.Coords) (v67 : BitVec 32) (k0_hw3 : k0_chk3 i v67), ∀ (k0_h1 : k0_cond1 i = 1#1), ∀ a, (k0_off15 v67) a + S1x1024.size a ≤ S77824x1024.size a := fun i v67 k0_hw3 k0_h1 => k0_hw3 k0_h1

def k0_off16 (k0_t1 : Fin k0_t1_loop.trips) : Fin 3 → Nat :=
  let c0_47 : Index := 0#32
  let c0_48 : Index := 0#32
  let c0_i32_20 : BitVec 32 := 0#32
  let c1_i32_21 : BitVec 32 := 1#32
  let arg10 : BitVec 32 := Scf.iv c0_i32_20 c1_i32_21 k0_t1
  let c8_i32_46 : BitVec 32 := 8#32
  let v74 : BitVec 32 := Scalar.muli arg10 c8_i32_46
  let c3_i32 : BitVec 32 := 3#32
  let v75 : BitVec 32 := Scalar.addi v74 c3_i32
  let v76 : Index := Scalar.indexCast v75
  ![0, 0, v76.toNat]
def k0_off17 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off18 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_49 : BitVec 32 := 0#32
  let c0_i32_50 : BitVec 32 := 0#32
  ![v9.toNat, 0, 0]
def k0_off19 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c8_i32_46 : BitVec 32 := 8#32
  let v74 : BitVec 32 := Scalar.muli arg10 c8_i32_46
  let c3_i32 : BitVec 32 := 3#32
  let v75 : BitVec 32 := Scalar.addi v74 c3_i32
  let c0_i32_51 : BitVec 32 := 0#32
  ![v75.toNat, 0]
def k0_off20 (v77 : BitVec 32) : Fin 2 → Nat :=
  let c0_i32_52 : BitVec 32 := 0#32
  ![v77.toNat, 0]

def k0_chk4 (i : grid0.Coords) (v77 : BitVec 32) : Prop :=
  (∀ (k0_h1 : k0_cond1 i = 1#1), ∀ a, (k0_off20 v77) a + S1x1024.size a ≤ S77824x1024.size a)
theorem k0_off20_inb : ∀ (i : grid0.Coords) (v77 : BitVec 32) (k0_hw4 : k0_chk4 i v77), ∀ (k0_h1 : k0_cond1 i = 1#1), ∀ a, (k0_off20 v77) a + S1x1024.size a ≤ S77824x1024.size a := fun i v77 k0_hw4 k0_h1 => k0_hw4 k0_h1

def k0_off21 (k0_t1 : Fin k0_t1_loop.trips) : Fin 3 → Nat :=
  let c0_54 : Index := 0#32
  let c0_55 : Index := 0#32
  let c0_i32_20 : BitVec 32 := 0#32
  let c1_i32_21 : BitVec 32 := 1#32
  let arg10 : BitVec 32 := Scf.iv c0_i32_20 c1_i32_21 k0_t1
  let c8_i32_53 : BitVec 32 := 8#32
  let v84 : BitVec 32 := Scalar.muli arg10 c8_i32_53
  let c4_i32 : BitVec 32 := 4#32
  let v85 : BitVec 32 := Scalar.addi v84 c4_i32
  let v86 : Index := Scalar.indexCast v85
  ![0, 0, v86.toNat]
def k0_off22 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off23 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_56 : BitVec 32 := 0#32
  let c0_i32_57 : BitVec 32 := 0#32
  ![v9.toNat, 0, 0]
def k0_off24 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c8_i32_53 : BitVec 32 := 8#32
  let v84 : BitVec 32 := Scalar.muli arg10 c8_i32_53
  let c4_i32 : BitVec 32 := 4#32
  let v85 : BitVec 32 := Scalar.addi v84 c4_i32
  let c0_i32_58 : BitVec 32 := 0#32
  ![v85.toNat, 0]
def k0_off25 (v87 : BitVec 32) : Fin 2 → Nat :=
  let c0_i32_59 : BitVec 32 := 0#32
  ![v87.toNat, 0]

def k0_chk5 (i : grid0.Coords) (v87 : BitVec 32) : Prop :=
  (∀ (k0_h1 : k0_cond1 i = 1#1), ∀ a, (k0_off25 v87) a + S1x1024.size a ≤ S77824x1024.size a)
theorem k0_off25_inb : ∀ (i : grid0.Coords) (v87 : BitVec 32) (k0_hw5 : k0_chk5 i v87), ∀ (k0_h1 : k0_cond1 i = 1#1), ∀ a, (k0_off25 v87) a + S1x1024.size a ≤ S77824x1024.size a := fun i v87 k0_hw5 k0_h1 => k0_hw5 k0_h1

def k0_off26 (k0_t1 : Fin k0_t1_loop.trips) : Fin 3 → Nat :=
  let c0_61 : Index := 0#32
  let c0_62 : Index := 0#32
  let c0_i32_20 : BitVec 32 := 0#32
  let c1_i32_21 : BitVec 32 := 1#32
  let arg10 : BitVec 32 := Scf.iv c0_i32_20 c1_i32_21 k0_t1
  let c8_i32_60 : BitVec 32 := 8#32
  let v94 : BitVec 32 := Scalar.muli arg10 c8_i32_60
  let c5_i32 : BitVec 32 := 5#32
  let v95 : BitVec 32 := Scalar.addi v94 c5_i32
  let v96 : Index := Scalar.indexCast v95
  ![0, 0, v96.toNat]
def k0_off27 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off28 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_63 : BitVec 32 := 0#32
  let c0_i32_64 : BitVec 32 := 0#32
  ![v9.toNat, 0, 0]
def k0_off29 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c8_i32_60 : BitVec 32 := 8#32
  let v94 : BitVec 32 := Scalar.muli arg10 c8_i32_60
  let c5_i32 : BitVec 32 := 5#32
  let v95 : BitVec 32 := Scalar.addi v94 c5_i32
  let c0_i32_65 : BitVec 32 := 0#32
  ![v95.toNat, 0]
def k0_off30 (v97 : BitVec 32) : Fin 2 → Nat :=
  let c0_i32_66 : BitVec 32 := 0#32
  ![v97.toNat, 0]

def k0_chk6 (i : grid0.Coords) (v97 : BitVec 32) : Prop :=
  (∀ (k0_h1 : k0_cond1 i = 1#1), ∀ a, (k0_off30 v97) a + S1x1024.size a ≤ S77824x1024.size a)
theorem k0_off30_inb : ∀ (i : grid0.Coords) (v97 : BitVec 32) (k0_hw6 : k0_chk6 i v97), ∀ (k0_h1 : k0_cond1 i = 1#1), ∀ a, (k0_off30 v97) a + S1x1024.size a ≤ S77824x1024.size a := fun i v97 k0_hw6 k0_h1 => k0_hw6 k0_h1

def k0_off31 (k0_t1 : Fin k0_t1_loop.trips) : Fin 3 → Nat :=
  let c0_68 : Index := 0#32
  let c0_69 : Index := 0#32
  let c0_i32_20 : BitVec 32 := 0#32
  let c1_i32_21 : BitVec 32 := 1#32
  let arg10 : BitVec 32 := Scf.iv c0_i32_20 c1_i32_21 k0_t1
  let c8_i32_67 : BitVec 32 := 8#32
  let v104 : BitVec 32 := Scalar.muli arg10 c8_i32_67
  let c6_i32 : BitVec 32 := 6#32
  let v105 : BitVec 32 := Scalar.addi v104 c6_i32
  let v106 : Index := Scalar.indexCast v105
  ![0, 0, v106.toNat]
def k0_off32 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off33 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_70 : BitVec 32 := 0#32
  let c0_i32_71 : BitVec 32 := 0#32
  ![v9.toNat, 0, 0]
def k0_off34 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c8_i32_67 : BitVec 32 := 8#32
  let v104 : BitVec 32 := Scalar.muli arg10 c8_i32_67
  let c6_i32 : BitVec 32 := 6#32
  let v105 : BitVec 32 := Scalar.addi v104 c6_i32
  let c0_i32_72 : BitVec 32 := 0#32
  ![v105.toNat, 0]
def k0_off35 (v107 : BitVec 32) : Fin 2 → Nat :=
  let c0_i32_73 : BitVec 32 := 0#32
  ![v107.toNat, 0]

def k0_chk7 (i : grid0.Coords) (v107 : BitVec 32) : Prop :=
  (∀ (k0_h1 : k0_cond1 i = 1#1), ∀ a, (k0_off35 v107) a + S1x1024.size a ≤ S77824x1024.size a)
theorem k0_off35_inb : ∀ (i : grid0.Coords) (v107 : BitVec 32) (k0_hw7 : k0_chk7 i v107), ∀ (k0_h1 : k0_cond1 i = 1#1), ∀ a, (k0_off35 v107) a + S1x1024.size a ≤ S77824x1024.size a := fun i v107 k0_hw7 k0_h1 => k0_hw7 k0_h1

def k0_off36 (k0_t1 : Fin k0_t1_loop.trips) : Fin 3 → Nat :=
  let c0_75 : Index := 0#32
  let c0_76 : Index := 0#32
  let c0_i32_20 : BitVec 32 := 0#32
  let c1_i32_21 : BitVec 32 := 1#32
  let arg10 : BitVec 32 := Scf.iv c0_i32_20 c1_i32_21 k0_t1
  let c8_i32_74 : BitVec 32 := 8#32
  let v114 : BitVec 32 := Scalar.muli arg10 c8_i32_74
  let c7_i32 : BitVec 32 := 7#32
  let v115 : BitVec 32 := Scalar.addi v114 c7_i32
  let v116 : Index := Scalar.indexCast v115
  ![0, 0, v116.toNat]
def k0_off37 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off38 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_77 : BitVec 32 := 0#32
  let c0_i32_78 : BitVec 32 := 0#32
  ![v9.toNat, 0, 0]
def k0_off39 (k0_t1 : Fin k0_t1_loop.trips) : Fin 2 → Nat :=
  let c0_i32_20 : BitVec 32 := 0#32
  let c1_i32_21 : BitVec 32 := 1#32
  let arg10 : BitVec 32 := Scf.iv c0_i32_20 c1_i32_21 k0_t1
  let c8_i32_74 : BitVec 32 := 8#32
  let v114 : BitVec 32 := Scalar.muli arg10 c8_i32_74
  let c7_i32 : BitVec 32 := 7#32
  let v115 : BitVec 32 := Scalar.addi v114 c7_i32
  let c0_i32_79 : BitVec 32 := 0#32
  ![v115.toNat, 0]
def k0_off40 (v117 : BitVec 32) : Fin 2 → Nat :=
  let c0_i32_80 : BitVec 32 := 0#32
  ![v117.toNat, 0]

def k0_chk8 (i : grid0.Coords) (v117 : BitVec 32) : Prop :=
  (∀ (k0_h1 : k0_cond1 i = 1#1), ∀ a, (k0_off40 v117) a + S1x1024.size a ≤ S77824x1024.size a)
theorem k0_off40_inb : ∀ (i : grid0.Coords) (v117 : BitVec 32) (k0_hw8 : k0_chk8 i v117), ∀ (k0_h1 : k0_cond1 i = 1#1), ∀ a, (k0_off40 v117) a + S1x1024.size a ≤ S77824x1024.size a := fun i v117 k0_hw8 k0_h1 => k0_hw8 k0_h1

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c64_i32 : BitVec 32 := 64#32
  let v14 : BitVec 1 := Scalar.cmpi .slt v13 c64_i32
  let v15 : BitVec 32 := Scalar.extui v14
  let c0_i32_6 : BitVec 32 := 0#32
  let v16 : BitVec 1 := Scalar.cmpi .ne v15 c0_i32_6
  v16

@[reducible] def k0_t2_loop : Scf.Loop 32 :=
  let c0_i32_21 : BitVec 32 := 0#32
  let c128_i32 : BitVec 32 := 128#32
  let v44 : BitVec 32 := Scalar.addi c0_i32_21 c128_i32
  let c1_i32_22 : BitVec 32 := 1#32
  ⟨c0_i32_21, v44, c1_i32_22⟩
def k0_off41 (k0_t2 : Fin k0_t2_loop.trips) : Fin 3 → Nat :=
  let c0_25 : Index := 0#32
  let c0_26 : Index := 0#32
  let c0_i32_21 : BitVec 32 := 0#32
  let c1_i32_22 : BitVec 32 := 1#32
  let arg10 : BitVec 32 := Scf.iv c0_i32_21 c1_i32_22 k0_t2
  let c8_i32 : BitVec 32 := 8#32
  let v45 : BitVec 32 := Scalar.muli arg10 c8_i32
  let c0_i32_24 : BitVec 32 := 0#32
  let v46 : BitVec 32 := Scalar.addi v45 c0_i32_24
  let v47 : Index := Scalar.indexCast v46
  ![0, 0, v47.toNat]
def k0_off42 (i : grid0.Coords) : Fin 1 → Nat :=
  let c1_i32_20 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : BitVec 32 := Scalar.subi c1_i32_20 v9
  ![v43.toNat]
def k0_off43 (i : grid0.Coords) : Fin 3 → Nat :=
  let c1_i32_20 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : BitVec 32 := Scalar.subi c1_i32_20 v9
  let c0_i32_27 : BitVec 32 := 0#32
  let c0_i32_28 : BitVec 32 := 0#32
  ![v43.toNat, 0, 0]
def k0_off44 (k0_t2 : Fin k0_t2_loop.trips) : Fin 2 → Nat :=
  let c0_i32_21 : BitVec 32 := 0#32
  let c1_i32_22 : BitVec 32 := 1#32
  let arg10 : BitVec 32 := Scf.iv c0_i32_21 c1_i32_22 k0_t2
  let c8_i32 : BitVec 32 := 8#32
  let v45 : BitVec 32 := Scalar.muli arg10 c8_i32
  let c0_i32_24 : BitVec 32 := 0#32
  let v46 : BitVec 32 := Scalar.addi v45 c0_i32_24
  let c0_i32_29 : BitVec 32 := 0#32
  ![v46.toNat, 0]
def k0_off45 (v48 : BitVec 32) : Fin 2 → Nat :=
  let c0_i32_30 : BitVec 32 := 0#32
  ![v48.toNat, 0]

def k0_chk9 (i : grid0.Coords) (v48 : BitVec 32) : Prop :=
  (∀ (k0_h2 : k0_cond2 i = 1#1), ∀ a, (k0_off45 v48) a + S1x1024.size a ≤ S77824x1024.size a)
theorem k0_off45_inb : ∀ (i : grid0.Coords) (v48 : BitVec 32) (k0_hw9 : k0_chk9 i v48), ∀ (k0_h2 : k0_cond2 i = 1#1), ∀ a, (k0_off45 v48) a + S1x1024.size a ≤ S77824x1024.size a := fun i v48 k0_hw9 k0_h2 => k0_hw9 k0_h2

def k0_off46 (k0_t2 : Fin k0_t2_loop.trips) : Fin 3 → Nat :=
  let c0_33 : Index := 0#32
  let c0_34 : Index := 0#32
  let c0_i32_21 : BitVec 32 := 0#32
  let c1_i32_22 : BitVec 32 := 1#32
  let arg10 : BitVec 32 := Scf.iv c0_i32_21 c1_i32_22 k0_t2
  let c8_i32_31 : BitVec 32 := 8#32
  let v55 : BitVec 32 := Scalar.muli arg10 c8_i32_31
  let c1_i32_32 : BitVec 32 := 1#32
  let v56 : BitVec 32 := Scalar.addi v55 c1_i32_32
  let v57 : Index := Scalar.indexCast v56
  ![0, 0, v57.toNat]
def k0_off47 (i : grid0.Coords) : Fin 1 → Nat :=
  let c1_i32_20 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : BitVec 32 := Scalar.subi c1_i32_20 v9
  ![v43.toNat]
def k0_off48 (i : grid0.Coords) : Fin 3 → Nat :=
  let c1_i32_20 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : BitVec 32 := Scalar.subi c1_i32_20 v9
  let c0_i32_35 : BitVec 32 := 0#32
  let c0_i32_36 : BitVec 32 := 0#32
  ![v43.toNat, 0, 0]
def k0_off49 (k0_t2 : Fin k0_t2_loop.trips) : Fin 2 → Nat :=
  let c0_i32_21 : BitVec 32 := 0#32
  let c1_i32_22 : BitVec 32 := 1#32
  let arg10 : BitVec 32 := Scf.iv c0_i32_21 c1_i32_22 k0_t2
  let c8_i32_31 : BitVec 32 := 8#32
  let v55 : BitVec 32 := Scalar.muli arg10 c8_i32_31
  let c1_i32_32 : BitVec 32 := 1#32
  let v56 : BitVec 32 := Scalar.addi v55 c1_i32_32
  let c0_i32_37 : BitVec 32 := 0#32
  ![v56.toNat, 0]
def k0_off50 (v58 : BitVec 32) : Fin 2 → Nat :=
  let c0_i32_38 : BitVec 32 := 0#32
  ![v58.toNat, 0]

def k0_chk10 (i : grid0.Coords) (v58 : BitVec 32) : Prop :=
  (∀ (k0_h2 : k0_cond2 i = 1#1), ∀ a, (k0_off50 v58) a + S1x1024.size a ≤ S77824x1024.size a)
theorem k0_off50_inb : ∀ (i : grid0.Coords) (v58 : BitVec 32) (k0_hw10 : k0_chk10 i v58), ∀ (k0_h2 : k0_cond2 i = 1#1), ∀ a, (k0_off50 v58) a + S1x1024.size a ≤ S77824x1024.size a := fun i v58 k0_hw10 k0_h2 => k0_hw10 k0_h2

def k0_off51 (k0_t2 : Fin k0_t2_loop.trips) : Fin 3 → Nat :=
  let c0_41 : Index := 0#32
  let c0_42 : Index := 0#32
  let c0_i32_21 : BitVec 32 := 0#32
  let c1_i32_22 : BitVec 32 := 1#32
  let arg10 : BitVec 32 := Scf.iv c0_i32_21 c1_i32_22 k0_t2
  let c8_i32_39 : BitVec 32 := 8#32
  let v65 : BitVec 32 := Scalar.muli arg10 c8_i32_39
  let c2_i32_40 : BitVec 32 := 2#32
  let v66 : BitVec 32 := Scalar.addi v65 c2_i32_40
  let v67 : Index := Scalar.indexCast v66
  ![0, 0, v67.toNat]
def k0_off52 (i : grid0.Coords) : Fin 1 → Nat :=
  let c1_i32_20 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : BitVec 32 := Scalar.subi c1_i32_20 v9
  ![v43.toNat]
def k0_off53 (i : grid0.Coords) : Fin 3 → Nat :=
  let c1_i32_20 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : BitVec 32 := Scalar.subi c1_i32_20 v9
  let c0_i32_43 : BitVec 32 := 0#32
  let c0_i32_44 : BitVec 32 := 0#32
  ![v43.toNat, 0, 0]
def k0_off54 (k0_t2 : Fin k0_t2_loop.trips) : Fin 2 → Nat :=
  let c0_i32_21 : BitVec 32 := 0#32
  let c1_i32_22 : BitVec 32 := 1#32
  let arg10 : BitVec 32 := Scf.iv c0_i32_21 c1_i32_22 k0_t2
  let c8_i32_39 : BitVec 32 := 8#32
  let v65 : BitVec 32 := Scalar.muli arg10 c8_i32_39
  let c2_i32_40 : BitVec 32 := 2#32
  let v66 : BitVec 32 := Scalar.addi v65 c2_i32_40
  let c0_i32_45 : BitVec 32 := 0#32
  ![v66.toNat, 0]
def k0_off55 (v68 : BitVec 32) : Fin 2 → Nat :=
  let c0_i32_46 : BitVec 32 := 0#32
  ![v68.toNat, 0]

def k0_chk11 (i : grid0.Coords) (v68 : BitVec 32) : Prop :=
  (∀ (k0_h2 : k0_cond2 i = 1#1), ∀ a, (k0_off55 v68) a + S1x1024.size a ≤ S77824x1024.size a)
theorem k0_off55_inb : ∀ (i : grid0.Coords) (v68 : BitVec 32) (k0_hw11 : k0_chk11 i v68), ∀ (k0_h2 : k0_cond2 i = 1#1), ∀ a, (k0_off55 v68) a + S1x1024.size a ≤ S77824x1024.size a := fun i v68 k0_hw11 k0_h2 => k0_hw11 k0_h2

def k0_off56 (k0_t2 : Fin k0_t2_loop.trips) : Fin 3 → Nat :=
  let c0_48 : Index := 0#32
  let c0_49 : Index := 0#32
  let c0_i32_21 : BitVec 32 := 0#32
  let c1_i32_22 : BitVec 32 := 1#32
  let arg10 : BitVec 32 := Scf.iv c0_i32_21 c1_i32_22 k0_t2
  let c8_i32_47 : BitVec 32 := 8#32
  let v75 : BitVec 32 := Scalar.muli arg10 c8_i32_47
  let c3_i32 : BitVec 32 := 3#32
  let v76 : BitVec 32 := Scalar.addi v75 c3_i32
  let v77 : Index := Scalar.indexCast v76
  ![0, 0, v77.toNat]
def k0_off57 (i : grid0.Coords) : Fin 1 → Nat :=
  let c1_i32_20 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : BitVec 32 := Scalar.subi c1_i32_20 v9
  ![v43.toNat]
def k0_off58 (i : grid0.Coords) : Fin 3 → Nat :=
  let c1_i32_20 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : BitVec 32 := Scalar.subi c1_i32_20 v9
  let c0_i32_50 : BitVec 32 := 0#32
  let c0_i32_51 : BitVec 32 := 0#32
  ![v43.toNat, 0, 0]
def k0_off59 (k0_t2 : Fin k0_t2_loop.trips) : Fin 2 → Nat :=
  let c0_i32_21 : BitVec 32 := 0#32
  let c1_i32_22 : BitVec 32 := 1#32
  let arg10 : BitVec 32 := Scf.iv c0_i32_21 c1_i32_22 k0_t2
  let c8_i32_47 : BitVec 32 := 8#32
  let v75 : BitVec 32 := Scalar.muli arg10 c8_i32_47
  let c3_i32 : BitVec 32 := 3#32
  let v76 : BitVec 32 := Scalar.addi v75 c3_i32
  let c0_i32_52 : BitVec 32 := 0#32
  ![v76.toNat, 0]
def k0_off60 (v78 : BitVec 32) : Fin 2 → Nat :=
  let c0_i32_53 : BitVec 32 := 0#32
  ![v78.toNat, 0]

def k0_chk12 (i : grid0.Coords) (v78 : BitVec 32) : Prop :=
  (∀ (k0_h2 : k0_cond2 i = 1#1), ∀ a, (k0_off60 v78) a + S1x1024.size a ≤ S77824x1024.size a)
theorem k0_off60_inb : ∀ (i : grid0.Coords) (v78 : BitVec 32) (k0_hw12 : k0_chk12 i v78), ∀ (k0_h2 : k0_cond2 i = 1#1), ∀ a, (k0_off60 v78) a + S1x1024.size a ≤ S77824x1024.size a := fun i v78 k0_hw12 k0_h2 => k0_hw12 k0_h2

def k0_off61 (k0_t2 : Fin k0_t2_loop.trips) : Fin 3 → Nat :=
  let c0_55 : Index := 0#32
  let c0_56 : Index := 0#32
  let c0_i32_21 : BitVec 32 := 0#32
  let c1_i32_22 : BitVec 32 := 1#32
  let arg10 : BitVec 32 := Scf.iv c0_i32_21 c1_i32_22 k0_t2
  let c8_i32_54 : BitVec 32 := 8#32
  let v85 : BitVec 32 := Scalar.muli arg10 c8_i32_54
  let c4_i32 : BitVec 32 := 4#32
  let v86 : BitVec 32 := Scalar.addi v85 c4_i32
  let v87 : Index := Scalar.indexCast v86
  ![0, 0, v87.toNat]
def k0_off62 (i : grid0.Coords) : Fin 1 → Nat :=
  let c1_i32_20 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : BitVec 32 := Scalar.subi c1_i32_20 v9
  ![v43.toNat]
def k0_off63 (i : grid0.Coords) : Fin 3 → Nat :=
  let c1_i32_20 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : BitVec 32 := Scalar.subi c1_i32_20 v9
  let c0_i32_57 : BitVec 32 := 0#32
  let c0_i32_58 : BitVec 32 := 0#32
  ![v43.toNat, 0, 0]
def k0_off64 (k0_t2 : Fin k0_t2_loop.trips) : Fin 2 → Nat :=
  let c0_i32_21 : BitVec 32 := 0#32
  let c1_i32_22 : BitVec 32 := 1#32
  let arg10 : BitVec 32 := Scf.iv c0_i32_21 c1_i32_22 k0_t2
  let c8_i32_54 : BitVec 32 := 8#32
  let v85 : BitVec 32 := Scalar.muli arg10 c8_i32_54
  let c4_i32 : BitVec 32 := 4#32
  let v86 : BitVec 32 := Scalar.addi v85 c4_i32
  let c0_i32_59 : BitVec 32 := 0#32
  ![v86.toNat, 0]
def k0_off65 (v88 : BitVec 32) : Fin 2 → Nat :=
  let c0_i32_60 : BitVec 32 := 0#32
  ![v88.toNat, 0]

def k0_chk13 (i : grid0.Coords) (v88 : BitVec 32) : Prop :=
  (∀ (k0_h2 : k0_cond2 i = 1#1), ∀ a, (k0_off65 v88) a + S1x1024.size a ≤ S77824x1024.size a)
theorem k0_off65_inb : ∀ (i : grid0.Coords) (v88 : BitVec 32) (k0_hw13 : k0_chk13 i v88), ∀ (k0_h2 : k0_cond2 i = 1#1), ∀ a, (k0_off65 v88) a + S1x1024.size a ≤ S77824x1024.size a := fun i v88 k0_hw13 k0_h2 => k0_hw13 k0_h2

def k0_off66 (k0_t2 : Fin k0_t2_loop.trips) : Fin 3 → Nat :=
  let c0_62 : Index := 0#32
  let c0_63 : Index := 0#32
  let c0_i32_21 : BitVec 32 := 0#32
  let c1_i32_22 : BitVec 32 := 1#32
  let arg10 : BitVec 32 := Scf.iv c0_i32_21 c1_i32_22 k0_t2
  let c8_i32_61 : BitVec 32 := 8#32
  let v95 : BitVec 32 := Scalar.muli arg10 c8_i32_61
  let c5_i32 : BitVec 32 := 5#32
  let v96 : BitVec 32 := Scalar.addi v95 c5_i32
  let v97 : Index := Scalar.indexCast v96
  ![0, 0, v97.toNat]
def k0_off67 (i : grid0.Coords) : Fin 1 → Nat :=
  let c1_i32_20 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : BitVec 32 := Scalar.subi c1_i32_20 v9
  ![v43.toNat]
def k0_off68 (i : grid0.Coords) : Fin 3 → Nat :=
  let c1_i32_20 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : BitVec 32 := Scalar.subi c1_i32_20 v9
  let c0_i32_64 : BitVec 32 := 0#32
  let c0_i32_65 : BitVec 32 := 0#32
  ![v43.toNat, 0, 0]
def k0_off69 (k0_t2 : Fin k0_t2_loop.trips) : Fin 2 → Nat :=
  let c0_i32_21 : BitVec 32 := 0#32
  let c1_i32_22 : BitVec 32 := 1#32
  let arg10 : BitVec 32 := Scf.iv c0_i32_21 c1_i32_22 k0_t2
  let c8_i32_61 : BitVec 32 := 8#32
  let v95 : BitVec 32 := Scalar.muli arg10 c8_i32_61
  let c5_i32 : BitVec 32 := 5#32
  let v96 : BitVec 32 := Scalar.addi v95 c5_i32
  let c0_i32_66 : BitVec 32 := 0#32
  ![v96.toNat, 0]
def k0_off70 (v98 : BitVec 32) : Fin 2 → Nat :=
  let c0_i32_67 : BitVec 32 := 0#32
  ![v98.toNat, 0]

def k0_chk14 (i : grid0.Coords) (v98 : BitVec 32) : Prop :=
  (∀ (k0_h2 : k0_cond2 i = 1#1), ∀ a, (k0_off70 v98) a + S1x1024.size a ≤ S77824x1024.size a)
theorem k0_off70_inb : ∀ (i : grid0.Coords) (v98 : BitVec 32) (k0_hw14 : k0_chk14 i v98), ∀ (k0_h2 : k0_cond2 i = 1#1), ∀ a, (k0_off70 v98) a + S1x1024.size a ≤ S77824x1024.size a := fun i v98 k0_hw14 k0_h2 => k0_hw14 k0_h2

def k0_off71 (k0_t2 : Fin k0_t2_loop.trips) : Fin 3 → Nat :=
  let c0_69 : Index := 0#32
  let c0_70 : Index := 0#32
  let c0_i32_21 : BitVec 32 := 0#32
  let c1_i32_22 : BitVec 32 := 1#32
  let arg10 : BitVec 32 := Scf.iv c0_i32_21 c1_i32_22 k0_t2
  let c8_i32_68 : BitVec 32 := 8#32
  let v105 : BitVec 32 := Scalar.muli arg10 c8_i32_68
  let c6_i32 : BitVec 32 := 6#32
  let v106 : BitVec 32 := Scalar.addi v105 c6_i32
  let v107 : Index := Scalar.indexCast v106
  ![0, 0, v107.toNat]
def k0_off72 (i : grid0.Coords) : Fin 1 → Nat :=
  let c1_i32_20 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : BitVec 32 := Scalar.subi c1_i32_20 v9
  ![v43.toNat]
def k0_off73 (i : grid0.Coords) : Fin 3 → Nat :=
  let c1_i32_20 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : BitVec 32 := Scalar.subi c1_i32_20 v9
  let c0_i32_71 : BitVec 32 := 0#32
  let c0_i32_72 : BitVec 32 := 0#32
  ![v43.toNat, 0, 0]
def k0_off74 (k0_t2 : Fin k0_t2_loop.trips) : Fin 2 → Nat :=
  let c0_i32_21 : BitVec 32 := 0#32
  let c1_i32_22 : BitVec 32 := 1#32
  let arg10 : BitVec 32 := Scf.iv c0_i32_21 c1_i32_22 k0_t2
  let c8_i32_68 : BitVec 32 := 8#32
  let v105 : BitVec 32 := Scalar.muli arg10 c8_i32_68
  let c6_i32 : BitVec 32 := 6#32
  let v106 : BitVec 32 := Scalar.addi v105 c6_i32
  let c0_i32_73 : BitVec 32 := 0#32
  ![v106.toNat, 0]
def k0_off75 (v108 : BitVec 32) : Fin 2 → Nat :=
  let c0_i32_74 : BitVec 32 := 0#32
  ![v108.toNat, 0]

def k0_chk15 (i : grid0.Coords) (v108 : BitVec 32) : Prop :=
  (∀ (k0_h2 : k0_cond2 i = 1#1), ∀ a, (k0_off75 v108) a + S1x1024.size a ≤ S77824x1024.size a)
theorem k0_off75_inb : ∀ (i : grid0.Coords) (v108 : BitVec 32) (k0_hw15 : k0_chk15 i v108), ∀ (k0_h2 : k0_cond2 i = 1#1), ∀ a, (k0_off75 v108) a + S1x1024.size a ≤ S77824x1024.size a := fun i v108 k0_hw15 k0_h2 => k0_hw15 k0_h2

def k0_off76 (k0_t2 : Fin k0_t2_loop.trips) : Fin 3 → Nat :=
  let c0_76 : Index := 0#32
  let c0_77 : Index := 0#32
  let c0_i32_21 : BitVec 32 := 0#32
  let c1_i32_22 : BitVec 32 := 1#32
  let arg10 : BitVec 32 := Scf.iv c0_i32_21 c1_i32_22 k0_t2
  let c8_i32_75 : BitVec 32 := 8#32
  let v115 : BitVec 32 := Scalar.muli arg10 c8_i32_75
  let c7_i32 : BitVec 32 := 7#32
  let v116 : BitVec 32 := Scalar.addi v115 c7_i32
  let v117 : Index := Scalar.indexCast v116
  ![0, 0, v117.toNat]
def k0_off77 (i : grid0.Coords) : Fin 1 → Nat :=
  let c1_i32_20 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : BitVec 32 := Scalar.subi c1_i32_20 v9
  ![v43.toNat]
def k0_off78 (i : grid0.Coords) : Fin 3 → Nat :=
  let c1_i32_20 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : BitVec 32 := Scalar.subi c1_i32_20 v9
  let c0_i32_78 : BitVec 32 := 0#32
  let c0_i32_79 : BitVec 32 := 0#32
  ![v43.toNat, 0, 0]
def k0_off79 (k0_t2 : Fin k0_t2_loop.trips) : Fin 2 → Nat :=
  let c0_i32_21 : BitVec 32 := 0#32
  let c1_i32_22 : BitVec 32 := 1#32
  let arg10 : BitVec 32 := Scf.iv c0_i32_21 c1_i32_22 k0_t2
  let c8_i32_75 : BitVec 32 := 8#32
  let v115 : BitVec 32 := Scalar.muli arg10 c8_i32_75
  let c7_i32 : BitVec 32 := 7#32
  let v116 : BitVec 32 := Scalar.addi v115 c7_i32
  let c0_i32_80 : BitVec 32 := 0#32
  ![v116.toNat, 0]
def k0_off80 (v118 : BitVec 32) : Fin 2 → Nat :=
  let c0_i32_81 : BitVec 32 := 0#32
  ![v118.toNat, 0]

def k0_chk16 (i : grid0.Coords) (v118 : BitVec 32) : Prop :=
  (∀ (k0_h2 : k0_cond2 i = 1#1), ∀ a, (k0_off80 v118) a + S1x1024.size a ≤ S77824x1024.size a)
theorem k0_off80_inb : ∀ (i : grid0.Coords) (v118 : BitVec 32) (k0_hw16 : k0_chk16 i v118), ∀ (k0_h2 : k0_cond2 i = 1#1), ∀ a, (k0_off80 v118) a + S1x1024.size a ≤ S77824x1024.size a := fun i v118 k0_hw16 k0_h2 => k0_hw16 k0_h2

@[reducible] def k0_t3_loop : Scf.Loop 32 :=
  let c0_i32_7 : BitVec 32 := 0#32
  let c1024_i32 : BitVec 32 := 1024#32
  let v17 : BitVec 32 := Scalar.addi c0_i32_7 c1024_i32
  let c1_i32_8 : BitVec 32 := 1#32
  ⟨c0_i32_7, v17, c1_i32_8⟩
def k0_off81 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off82 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_20 : BitVec 32 := 0#32
  let c0_i32_21 : BitVec 32 := 0#32
  ![v9.toNat, 0, 0]
def k0_off83 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v22 : Index := Scalar.indexCast v9
  let c0_12 : Index := 0#32
  let c0_13 : Index := 0#32
  ![v22.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S64x1x1024 : Shape := ⟨3, ![64, 1, 1024]⟩
abbrev S77824x1024 : Shape := ⟨2, ![77824, 1024]⟩
abbrev S32x2048x1024 : Shape := ⟨3, ![32, 2048, 1024]⟩
abbrev S32x6144 : Shape := ⟨2, ![32, 6144]⟩
abbrev S1024 : Shape := ⟨1, ![1024]⟩
abbrev S32x1x6144 : Shape := ⟨3, ![32, 1, 6144]⟩
abbrev S32x1x1024 : Shape := ⟨3, ![32, 1, 1024]⟩
abbrev S65536 : Shape := ⟨1, ![65536]⟩
abbrev S_ : Shape := ⟨0, ![]⟩
abbrev S65536x1 : Shape := ⟨2, ![65536, 1]⟩
abbrev S65536x1024 : Shape := ⟨2, ![65536, 1024]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S64x1x1024, .i32⟩
  | .hbm, ⟨1, _⟩ => ⟨S77824x1024, .f32⟩
  | .hbm, ⟨2, _⟩ => ⟨S32x2048x1024, .f32⟩
  | .hbm, ⟨3, _⟩ => ⟨S32x6144, .f32⟩
  | .hbm, ⟨4, _⟩ => ⟨S1024, .f32⟩
  | .hbm, ⟨5, _⟩ => ⟨S32x1x6144, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S65536, .i32⟩
  | .hbm, ⟨13, _⟩ => ⟨S_, .i32⟩
  | .hbm, ⟨14, _⟩ => ⟨S65536, .i32⟩
  | .hbm, ⟨15, _⟩ => ⟨S65536, .i1⟩
  | .hbm, ⟨16, _⟩ => ⟨S_, .i32⟩
  | .hbm, ⟨17, _⟩ => ⟨S65536, .i32⟩
  | .hbm, ⟨18, _⟩ => ⟨S65536, .i32⟩
  | .hbm, ⟨19, _⟩ => ⟨S65536, .i32⟩
  | .hbm, ⟨20, _⟩ => ⟨S65536x1, .i32⟩
  | .hbm, ⟨21, _⟩ => ⟨S65536x1024, .f32⟩
  | .hbm, ⟨22, _⟩ => ⟨S32x2048x1024, .f32⟩
  | .hbm, ⟨23, _⟩ => ⟨S32x2048x1024, .f32⟩
  | .hbm, ⟨24, _⟩ => ⟨S32x2048x1024, .f32⟩
  | .hbm, ⟨25, _⟩ => ⟨S32x2048x1024, .f32⟩
  | .hbm, ⟨26, _⟩ => ⟨S32x2048x1024, .f32⟩
  | .hbm, ⟨27, _⟩ => ⟨S_, .f32⟩
  | .hbm, ⟨28, _⟩ => ⟨S32x2048, .f32⟩
  | .hbm, ⟨29, _⟩ => ⟨S32x2048x1, .f32⟩
  | .hbm, ⟨30, _⟩ => ⟨S_, .f32⟩
  | .hbm, ⟨31, _⟩ => ⟨S32x2048x1, .f32⟩
  | .hbm, ⟨32, _⟩ => ⟨S32x2048x1, .f32⟩
  | .hbm, ⟨33, _⟩ => ⟨S_, .f32⟩
  | .hbm, ⟨34, _⟩ => ⟨S32x2048x1, .f32⟩
  | .hbm, ⟨35, _⟩ => ⟨S32x2048x1, .f32⟩
  | .hbm, ⟨36, _⟩ => ⟨S32x2048x1, .f32⟩
  | .hbm, ⟨37, _⟩ => ⟨S32x2048x1024, .f32⟩
  | .hbm, ⟨38, _⟩ => ⟨S32x2048x1024, .f32⟩
  | .hbm, ⟨39, _⟩ => ⟨S1x1x1024, .f32⟩
  | .hbm, ⟨40, _⟩ => ⟨S32x2048x1024, .f32⟩
  | .hbm, ⟨41, _⟩ => ⟨S32x2048x1024, .f32⟩
  | .hbm, ⟨42, _⟩ => ⟨S65536x1024, .f32⟩
  | _, _ => ⟨S64x1x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel4.lean ====
abbrev S32x1024 : Shape := ⟨2, ![32, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x32x6144 : Shape := ⟨3, ![2, 32, 6144]⟩
abbrev S1x1024x1024 : Shape := ⟨3, ![1, 1024, 1024]⟩
abbrev S1x1x1024 : Shape := ⟨3, ![1, 1, 1024]⟩
abbrev S1x32x1024 : Shape := ⟨3, ![1, 32, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x32x6144, .f32⟩
  | .local _ .vmem, ⟨0, _⟩ => ⟨S32x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x32x1024, .f32⟩
  | .local _ .vmem, ⟨6, _⟩ => ⟨S1x32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S32x1024 : Shape := ⟨2, ![32, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S32x6144 : Shape := ⟨2, ![32, 6144]⟩
abbrev S1x6144 : Shape := ⟨2, ![1, 6144]⟩
abbrev S6144 : Shape := ⟨1, ![6144]⟩
abbrev S1x32x6144 : Shape := ⟨3, ![1, 32, 6144]⟩
abbrev S2x32x6144 : Shape := ⟨3, ![2, 32, 6144]⟩

abbrev nBuf : Space → Nat
  | .hbm => 31
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S2x1024x6144, .f32⟩
  | .hbm, ⟨2, _⟩ => ⟨S2x6144, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S1x1024x6144, .f32⟩
  | .hbm, ⟨13, _⟩ => ⟨S1024x6144, .f32⟩
  | .hbm, ⟨14, _⟩ => ⟨S32x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S32x6144, .f32⟩
  | .hbm, ⟨19, _⟩ => ⟨S32x6144, .f32⟩
  | .hbm, ⟨20, _⟩ => ⟨S1x1024x6144, .f32⟩
  | .hbm, ⟨21, _⟩ => ⟨S1024x6144, .f32⟩
  | .hbm, ⟨22, _⟩ => ⟨S32x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S32x6144, .f32⟩
  | .hbm, ⟨27, _⟩ => ⟨S32x6144, .f32⟩
  | .hbm, ⟨28, _⟩ => ⟨S1x32x6144, .f32⟩
  | .hbm, ⟨29, _⟩ => ⟨S1x32x6144, .f32⟩
  | .hbm, ⟨30, _⟩ => ⟨S2x32x6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel5.lean ====
abbrev S32x2048x1024 : Shape := ⟨3, ![32, 2048, 1024]⟩
abbrev S65536x256 : Shape := ⟨2, ![65536, 256]⟩
abbrev S1024x1024 : Shape := ⟨2, ![1024, 1024]⟩
abbrev S32x6144 : Shape := ⟨2, ![32, 6144]⟩
abbrev S1024 : Shape := ⟨1, ![1024]⟩
abbrev S1024x16 : Shape := ⟨2, ![1024, 16]⟩
abbrev S16 : Shape := ⟨1, ![16]⟩
abbrev S16x1024 : Shape := ⟨2, ![16, 1024]⟩
abbrev S1x16x1024 : Shape := ⟨3, ![1, 16, 1024]⟩
abbrev S2x16x1024 : Shape := ⟨3, ![2, 16, 1024]⟩
abbrev S65536x1024 : Shape := ⟨2, ![65536, 1024]⟩
abbrev S32x6x1024 : Shape := ⟨3, ![32, 6, 1024]⟩
abbrev S1x1024 : Shape := ⟨2, ![1, 1024]⟩
abbrev S16x1 : Shape := ⟨2, ![16, 1]⟩
abbrev S65536x1152 : Shape := ⟨2, ![65536, 1152]⟩
abbrev S8x65536 : Shape := ⟨2, ![8, 65536]⟩
abbrev S1024x256 : Shape := ⟨2, ![1024, 256]⟩
abbrev S1x6x1024 : Shape := ⟨3, ![1, 6, 1024]⟩
abbrev S1024x1152 : Shape := ⟨2, ![1024, 1152]⟩
abbrev S8x1024 : Shape := ⟨2, ![8, 1024]⟩
abbrev S1x1x1024 : Shape := ⟨3, ![1, 1, 1024]⟩
abbrev S1024x1 : Shape := ⟨2, ![1024, 1]⟩
abbrev S5x1024 : Shape := ⟨2, ![5, 1024]⟩
abbrev S120x1024 : Shape := ⟨2, ![120, 1024]⟩
abbrev S128x1024 : Shape := ⟨2, ![128, 1024]⟩
abbrev S1024x128 : Shape := ⟨2, ![1024, 128]⟩

abbrev nBuf : Space → Nat
  | .hbm => 28
  | .vmem => 22
  | .smem => 0
  | _ => 0

abbrev bufTy : (tb : Table) → Fin (tcTables nBuf tb) → BufTy
  | .hbm, ⟨0, _⟩ => ⟨S32x2048x1024, .f32⟩
  | .hbm, ⟨1, _⟩ => ⟨S65536x256, .bf16⟩
  | .hbm, ⟨2, _⟩ => ⟨S65536x256, .bf16⟩
  | .hbm, ⟨3, _⟩ => ⟨S65536x256, .bf16⟩
  | .hbm, ⟨4, _⟩ => ⟨S65536x256, .bf16⟩
  | .hbm, ⟨5, _⟩ => ⟨S1024x1024, .f32⟩
  | .hbm, ⟨6, _⟩ => ⟨S32x6144, .f32⟩
  | .hbm, ⟨7, _⟩ => ⟨S1024, .f32⟩
  | .hbm, ⟨8, _⟩ => ⟨S1024x16, .f32⟩
  | .hbm, ⟨9, _⟩ => ⟨S16, .f32⟩
  | .hbm, ⟨10, _⟩ => ⟨S16x1024, .f32⟩
  | .hbm, ⟨11, _⟩ => ⟨S16x1024, .bf16⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x1024, .bf16⟩
  | .hbm, ⟨16, _⟩ => ⟨S1x16x1024, .bf16⟩
  | .hbm, ⟨17, _⟩ => ⟨S1x16x1024, .bf16⟩
  | .hbm, ⟨18, _⟩ => ⟨S2x16x1024, .bf16⟩
  | .hbm, ⟨19, _⟩ => ⟨S65536x1024, .f32⟩
  | .hbm, ⟨20, _⟩ => ⟨S1024x1024, .bf16⟩
  | .hbm, ⟨21, _⟩ => ⟨S32x6x1024, .f32⟩
  | .hbm, ⟨22, _⟩ => ⟨S1x1024, .f32⟩
  | .hbm, ⟨23, _⟩ => ⟨S16x1, .f32⟩
  | .hbm, ⟨24, _⟩ => ⟨S65536x1024, .f32⟩
  | .hbm, ⟨25, _⟩ => ⟨S65536x1152, .f32⟩
  | .hbm, ⟨26, _⟩ => ⟨S8x65536, .f32⟩
  | .hbm, ⟨27, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x1024, .bf16⟩
  | .local _ .vmem, ⟨11, _⟩ => ⟨S1x6x1024, .f32⟩
  | .local _ .vmem, ⟨12, _⟩ => ⟨S1x6x1024, .f32⟩
  | .local _ .vmem, ⟨13, _⟩ => ⟨S1x1024, .f32⟩
  | .local _ .vmem, ⟨14, _⟩ => ⟨S2x16x1024, .bf16⟩
  | .local _ .vmem, ⟨15, _⟩ => ⟨S16x1, .f32⟩
  | .local _ .vmem, ⟨16, _⟩ => ⟨S1024x1024, .f32⟩
  | .local _ .vmem, ⟨17, _⟩ => ⟨S1024x1024, .f32⟩
  | .local _ .vmem, ⟨18, _⟩ => ⟨S1024x1152, .f32⟩
  | .local _ .vmem, ⟨19, _⟩ => ⟨S1024x1152, .f32⟩
  | .local _ .vmem, ⟨20, _⟩ => ⟨S8x1024, .f32⟩
  | .local _ .vmem, ⟨21, _⟩ => ⟨S8x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x16x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1152 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference5Ideal.lean ====
abbrev S32x2048x1024 : Shape := ⟨3, ![32, 2048, 1024]⟩
abbrev S65536x256 : Shape := ⟨2, ![65536, 256]⟩
abbrev S1024x1024 : Shape := ⟨2, ![1024, 1024]⟩
abbrev S32x6144 : Shape := ⟨2, ![32, 6144]⟩
abbrev S1024 : Shape := ⟨1, ![1024]⟩
abbrev S1024x16 : Shape := ⟨2, ![1024, 16]⟩
abbrev S16 : Shape := ⟨1, ![16]⟩
abbrev S32x1x6144 : Shape := ⟨3, ![32, 1, 6144]⟩
abbrev S32x1x1024 : Shape := ⟨3, ![32, 1, 1024]⟩
abbrev S65536x1024 : Shape := ⟨2, ![65536, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S65536x256, .bf16⟩
  | .hbm, ⟨2, _⟩ => ⟨S65536x256, .bf16⟩
  | .hbm, ⟨3, _⟩ => ⟨S65536x256, .bf16⟩
  | .hbm, ⟨4, _⟩ => ⟨S65536x256, .bf16⟩
  | .hbm, ⟨5, _⟩ => ⟨S1024x1024, .f32⟩
  | .hbm, ⟨6, _⟩ => ⟨S32x6144, .f32⟩
  | .hbm, ⟨7, _⟩ => ⟨S1024, .f32⟩
  | .hbm, ⟨8, _⟩ => ⟨S1024x16, .f32⟩
  | .hbm, ⟨9, _⟩ => ⟨S16, .f32⟩
  | .hbm, ⟨10, _⟩ => ⟨S32x1x6144, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S32x1x1024, .f32⟩
  | .hbm, ⟨16, _⟩ => ⟨S32x1x1024, .f32⟩
  | .hbm, ⟨17, _⟩ => ⟨S65536x1024, .bf16⟩
  | .hbm, ⟨18, _⟩ => ⟨S65536x1024, .f32⟩
  | .hbm, ⟨19, _⟩ => ⟨S65536x1024, .f32⟩
  | .hbm, ⟨20, _⟩ => ⟨S32x2048x1024, .f32⟩
  | .hbm, ⟨21, _⟩ => ⟨S32x2048x1024, .f32⟩
  | .hbm, ⟨22, _⟩ => ⟨S32x2048x1024, .f32⟩
  | .hbm, ⟨23, _⟩ => ⟨S32x2048x1024, .f32⟩
  | .hbm, ⟨24, _⟩ => ⟨S32x2048x1024, .f32⟩
  | .hbm, ⟨25, _⟩ => ⟨S_, .f32⟩
  | .hbm, ⟨26, _⟩ => ⟨S32x2048, .f32⟩
  | .hbm, ⟨27, _⟩ => ⟨S32x2048x1, .f32⟩
  | .hbm, ⟨28, _⟩ => ⟨S_, .f32⟩
  | .hbm, ⟨29, _⟩ => ⟨S32x2048x1, .f32⟩
  | .hbm, ⟨30, _⟩ => ⟨S32x2048x1, .f32⟩
  | .hbm, ⟨31, _⟩ => ⟨S_, .f32⟩
  | .hbm, ⟨32, _⟩ => ⟨S32x2048x1, .f32⟩
  | .hbm, ⟨33, _⟩ => ⟨S32x2048x1, .f32⟩
  | .hbm, ⟨34, _⟩ => ⟨S32x2048x1, .f32⟩
  | .hbm, ⟨35, _⟩ => ⟨S32x2048x1024, .f32⟩
  | .hbm, ⟨36, _⟩ => ⟨S32x2048x1024, .f32⟩
  | .hbm, ⟨37, _⟩ => ⟨S1x1x1024, .f32⟩
  | .hbm, ⟨38, _⟩ => ⟨S32x2048x1024, .f32⟩
  | .hbm, ⟨39, _⟩ => ⟨S32x2048x1024, .f32⟩
  | .hbm, ⟨40, _⟩ => ⟨S_, .f32⟩
  | .hbm, ⟨41, _⟩ => ⟨S32x1x1024, .f32⟩
  | .hbm, ⟨42, _⟩ => ⟨S32x1x1024, .f32⟩
  | .hbm, ⟨43, _⟩ => ⟨S32x2048x1024, .f32⟩
  | .hbm, ⟨44, _⟩ => ⟨S32x2048x1024, .f32⟩
  | .hbm, ⟨45, _⟩ => ⟨S32x2048x1024, .f32⟩
  | .hbm, ⟨46, _⟩ => ⟨S32x2048x1024, .f32⟩
  | .hbm, ⟨47, _⟩ => ⟨S65536x1024, .f32⟩
  | .hbm, ⟨48, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel6.lean ====
abbrev S32x2048x1024 : Shape := ⟨3, ![32, 2048, 1024]⟩
abbrev S32x6144 : Shape := ⟨2, ![32, 6144]⟩
abbrev S1024 : Shape := ⟨1, ![1024]⟩
abbrev S1024x2380 : Shape := ⟨2, ![1024, 2380]⟩
abbrev S256 : Shape := ⟨1, ![256]⟩
abbrev S256x384 : Shape := ⟨2, ![256, 384]⟩
abbrev S128 : Shape := ⟨1, ![128]⟩
abbrev S128x512 : Shape := ⟨2, ![128, 512]⟩
abbrev S128x128 : Shape := ⟨2, ![128, 128]⟩
abbrev S1024x256 : Shape := ⟨2, ![1024, 256]⟩
abbrev S1024x4 : Shape := ⟨2, ![1024, 4]⟩
abbrev S1024x128 : Shape := ⟨2, ![1024, 128]⟩
abbrev S1024x32 : Shape := ⟨2, ![1024, 32]⟩
abbrev S1024x64 : Shape := ⟨2, ![1024, 64]⟩
abbrev S1024x8 : Shape := ⟨2, ![1024, 8]⟩
abbrev S_ : Shape := ⟨0, ![]⟩
abbrev S1024x20 : Shape := ⟨2, ![1024, 20]⟩
abbrev S1024x16 : Shape := ⟨2, ![1024, 16]⟩
abbrev S1024x2432 : Shape := ⟨2, ![1024, 2432]⟩
abbrev S256x96 : Shape := ⟨2, ![256, 96]⟩
abbrev S256x32 : Shape := ⟨2, ![256, 32]⟩
abbrev S256x64 : Shape := ⟨2, ![256, 64]⟩
abbrev S256x16 : Shape := ⟨2, ![256, 16]⟩
abbrev S256x512 : Shape := ⟨2, ![256, 512]⟩
abbrev S128x64 : Shape := ⟨2, ![128, 64]⟩
abbrev S256x128 : Shape := ⟨2, ![256, 128]⟩
abbrev S256x768 : Shape := ⟨2, ![256, 768]⟩
abbrev S65536x1024 : Shape := ⟨2, ![65536, 1024]⟩
abbrev S32x6x1024 : Shape := ⟨3, ![32, 6, 1024]⟩
abbrev S1x1024 : Shape := ⟨2, ![1, 1024]⟩
abbrev S1x256 : Shape := ⟨2, ![1, 256]⟩
abbrev S1x128 : Shape := ⟨2, ![1, 128]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S1x2048x2x16 : Shape := ⟨4, ![1, 2048, 2, 16]⟩
abbrev S2048x32 : Shape := ⟨2, ![2048, 32]⟩
abbrev S2048x64 : Shape := ⟨2, ![2048, 64]⟩
abbrev S2048x128 : Shape := ⟨2, ![2048, 128]⟩
abbrev S1x2048x128 : Shape := ⟨3, ![1, 2048, 128]⟩
abbrev S4x2048x128 : Shape := ⟨3, ![4, 2048, 128]⟩
abbrev S65536x768 : Shape := ⟨2, ![65536, 768]⟩
abbrev S65536x896 : Shape := ⟨2, ![65536, 896]⟩
abbrev S65536x128 : Shape := ⟨2, ![65536, 128]⟩
abbrev S65536x512 : Shape := ⟨2, ![65536, 512]⟩
abbrev S65536x256 : Shape := ⟨2, ![65536, 256]⟩
abbrev S1024x1024 : Shape := ⟨2, ![1024, 1024]⟩
abbrev S1x6x1024 : Shape := ⟨3, ![1, 6, 1024]⟩
abbrev S4x1024x128 : Shape := ⟨3, ![4, 1024, 128]⟩
abbrev S1024x768 : Shape := ⟨2, ![1024, 768]⟩
abbrev S1024x896 : Shape := ⟨2, ![1024, 896]⟩
abbrev S1024x512 : Shape := ⟨2, ![1024, 512]⟩
abbrev S1024x1 : Shape := ⟨2, ![1024, 1]⟩
abbrev S1x1x1024 : Shape := ⟨3, ![1, 1, 1024]⟩
abbrev S1024x640 : Shape := ⟨2, ![1024, 640]⟩
abbrev S1x1024x128 : Shape := ⟨3, ![1, 1024, 128]⟩

abbrev nBuf : Space → Nat
  | .hbm => 183
  | .vmem => 26
  | .smem => 0
  | _ => 0

abbrev hbmTy0_0 (i : Nat) : BufTy := match i % 128 with
  | 0 => ⟨S32x2048x1024, .f32⟩
  | 1 => ⟨S32x6144, .f32⟩
  | 2 => ⟨S1024, .f32⟩
  | 3 => ⟨S1024x2380, .f32⟩
  | 4 => ⟨S256, .f32⟩
  | 5 => ⟨S256x384, .f32⟩
  | 6 => ⟨S128, .f32⟩
  | 7 => ⟨S128x512, .f32⟩
  | 8 => ⟨S128x128, .f32⟩
  | 9 => ⟨S1024x256, .f32⟩
  | 10 => ⟨S1024x256, .f32⟩
  | 11 => ⟨S1024x256, .f32⟩
  | 12 => ⟨S1024x4, .f32⟩
  | 13 => ⟨S1024x256, .f32⟩
  | 14 => ⟨S1024x128, .f32⟩
  | 15 => ⟨S1024x32, .f32⟩
  | 16 => ⟨S1024x256, .f32⟩
  | 17 => ⟨S1024x128, .f32⟩
  | 18 => ⟨S1024x128, .f32⟩
  | 19 => ⟨S1024x256, .f32⟩
  | 20 => ⟨S1024x64, .f32⟩
  | 21 => ⟨S1024x64, .f32⟩
  | 22 => ⟨S1024x256, .f32⟩
  | 23 => ⟨S1024x32, .f32⟩
  | 24 => ⟨S1024x8, .f32⟩
  | 25 => ⟨S_, .f32⟩
  | 26 => ⟨S1024x8, .f32⟩
  | 27 => ⟨S1024x8, .f32⟩
  | 28 => ⟨S_, .f32⟩
  | 29 => ⟨S1024x20, .f32⟩
  | 30 => ⟨S1024x16, .f32⟩
  | 31 => ⟨S1024x16, .f32⟩
  | 32 => ⟨S1024x16, .f32⟩
  | 33 => ⟨S1024x32, .f32⟩
  | 34 => ⟨S1024x128, .f32⟩
  | 35 => ⟨S_, .f32⟩
  | 36 => ⟨S1024x256, .f32⟩
  | 37 => ⟨S1024x256, .f32⟩
  | 38 => ⟨S_, .f32⟩
  | 39 => ⟨S1024x256, .f32⟩
  | 40 => ⟨S1024x256, .f32⟩
  | 41 => ⟨S_, .f32⟩
  | 42 => ⟨S1024x256, .f32⟩
  | 43 => ⟨S1024x256, .f32⟩
  | 44 => ⟨S1024x2432, .f32⟩
  | 45 => ⟨S1024x2432, .bf16⟩
  | 46 => ⟨S256x96, .f32⟩
  | 47 => ⟨S256x32, .f32⟩
  | 48 => ⟨S256x64, .f32⟩
  | 49 => ⟨S256x16, .f32⟩
  | 50 => ⟨S256x16, .f32⟩
  | 51 => ⟨S256x16, .f32⟩
  | 52 => ⟨S256x32, .f32⟩
  | 53 => ⟨S256x96, .f32⟩
  | 54 => ⟨S256x32, .f32⟩
  | 55 => ⟨S256x64, .f32⟩
  | 56 => ⟨S256x16, .f32⟩
  | 57 => ⟨S256x16, .f32⟩
  | 58 => ⟨S256x16, .f32⟩
  | 59 => ⟨S256x32, .f32⟩
  | 60 => ⟨S256x96, .f32⟩
  | 61 => ⟨S256x32, .f32⟩
  | 62 => ⟨S256x64, .f32⟩
  | 63 => ⟨S256x16, .f32⟩
  | 64 => ⟨S256x16, .f32⟩
  | 65 => ⟨S256x16, .f32⟩
  | 66 => ⟨S256x32, .f32⟩
  | 67 => ⟨S256x96, .f32⟩
  | 68 => ⟨S256x32, .f32⟩
  | 69 => ⟨S256x64, .f32⟩
  | 70 => ⟨S256x16, .f32⟩
  | 71 => ⟨S256x16, .f32⟩
  | 72 => ⟨S256x16, .f32⟩
  | 73 => ⟨S256x32, .f32⟩
  | 74 => ⟨S256x512, .f32⟩
  | 75 => ⟨S256x512, .bf16⟩
  | 76 => ⟨S128x128, .f32⟩
  | 77 => ⟨S128x64, .f32⟩
  | 78 => ⟨S_, .f32⟩
  | 79 => ⟨S128x64, .f32⟩
  | 80 => ⟨S128x128, .f32⟩
  | 81 => ⟨S256x128, .f32⟩
  | 82 => ⟨S128x64, .f32⟩
  | 83 => ⟨S_, .f32⟩
  | 84 => ⟨S128x64, .f32⟩
  | 85 => ⟨S256x64, .f32⟩
  | 86 => ⟨S128x128, .f32⟩
  | 87 => ⟨S128x64, .f32⟩
  | 88 => ⟨S_, .f32⟩
  | 89 => ⟨S128x64, .f32⟩
  | 90 => ⟨S128x128, .f32⟩
  | 91 => ⟨S256x128, .f32⟩
  | 92 => ⟨S128x64, .f32⟩
  | 93 => ⟨S_, .f32⟩
  | 94 => ⟨S128x64, .f32⟩
  | 95 => ⟨S256x64, .f32⟩
  | 96 => ⟨S128x128, .f32⟩
  | 97 => ⟨S128x64, .f32⟩
  | 98 => ⟨S_, .f32⟩
  | 99 => ⟨S128x64, .f32⟩
  | 100 => ⟨S128x128, .f32⟩
  | 101 => ⟨S256x128, .f32⟩
  | 102 => ⟨S128x64, .f32⟩
  | 103 => ⟨S_, .f32⟩
  | 104 => ⟨S128x64, .f32⟩
  | 105 => ⟨S256x64, .f32⟩
  | 106 => ⟨S128x128, .f32⟩
  | 107 => ⟨S128x64, .f32⟩
  | 108 => ⟨S_, .f32⟩
  | 109 => ⟨S128x64, .f32⟩
  | 110 => ⟨S128x128, .f32⟩
  | 111 => ⟨S256x128, .f32⟩
  | 112 => ⟨S128x64, .f32⟩
  | 113 => ⟨S_, .f32⟩
  | 114 => ⟨S128x64, .f32⟩
  | 115 => ⟨S256x64, .f32⟩
  | 116 => ⟨S256x768, .f32⟩
  | 117 => ⟨S256x768, .bf16⟩
  | 118 => ⟨S65536x1024, .f32⟩
  | 119 => ⟨S32x6x1024, .f32⟩
  | 120 => ⟨S1x1024, .f32⟩
  | 121 => ⟨S1x256, .f32⟩
  | 122 => ⟨S1x128, .f32⟩
  | 123 => ⟨S16, .f32⟩
  | 124 => ⟨S16, .f32⟩
  | 125 => ⟨S_, .f32⟩
  | 126 => ⟨S16, .f32⟩
  | 127 => ⟨S16, .f32⟩
  | _ => ⟨S32x2048x1024, .f32⟩

abbrev hbmTy0_1 (i : Nat) : BufTy := match i % 128 with
  | 0 => ⟨S_, .f32⟩
  | 1 => ⟨S16, .f32⟩
  | 2 => ⟨S16, .f32⟩
  | 3 => ⟨S2048, .f32⟩
  | 4 => ⟨S2048x1, .f32⟩
  | 5 => ⟨S1x16, .f32⟩
  | 6 => ⟨S2048x16, .f32⟩
  | 7 => ⟨S2048x16, .f32⟩
  | 8 => ⟨S2048x16, .f32⟩
  | 9 => ⟨S2048x16, .f32⟩
  | 10 => ⟨S1x2048x1x16, .f32⟩
  | 11 => ⟨S1x2048x2x16, .f32⟩
  | 12 => ⟨S2048x32, .f32⟩
  | 13 => ⟨S2048x16, .f32⟩
  | 14 => ⟨S1x2048x1x16, .f32⟩
  | 15 => ⟨S1x2048x2x16, .f32⟩
  | 16 => ⟨S2048x32, .f32⟩
  | 17 => ⟨S_, .f32⟩
  | 18 => ⟨S2048x64, .f32⟩
  | 19 => ⟨S_, .f32⟩
  | 20 => ⟨S2048x32, .f32⟩
  | 21 => ⟨S2048x32, .f32⟩
  | 22 => ⟨S_, .f32⟩
  | 23 => ⟨S2048x32, .f32⟩
  | 24 => ⟨S2048x128, .f32⟩
  | 25 => ⟨S_, .f32⟩
  | 26 => ⟨S2048x64, .f32⟩
  | 27 => ⟨S_, .f32⟩
  | 28 => ⟨S2048x32, .f32⟩
  | 29 => ⟨S2048x32, .f32⟩
  | 30 => ⟨S_, .f32⟩
  | 31 => ⟨S2048x32, .f32⟩
  | 32 => ⟨S2048x128, .f32⟩
  | 33 => ⟨S_, .f32⟩
  | 34 => ⟨S2048x32, .f32⟩
  | 35 => ⟨S_, .f32⟩
  | 36 => ⟨S2048x64, .f32⟩
  | 37 => ⟨S2048x128, .f32⟩
  | 38 => ⟨S_, .f32⟩
  | 39 => ⟨S2048x32, .f32⟩
  | 40 => ⟨S_, .f32⟩
  | 41 => ⟨S2048x64, .f32⟩
  | 42 => ⟨S2048x128, .f32⟩
  | 43 => ⟨S1x2048x128, .f32⟩
  | 44 => ⟨S1x2048x128, .f32⟩
  | 45 => ⟨S1x2048x128, .f32⟩
  | 46 => ⟨S1x2048x128, .f32⟩
  | 47 => ⟨S4x2048x128, .f32⟩
  | 48 => ⟨S65536x768, .bf16⟩
  | 49 => ⟨S65536x768, .bf16⟩
  | 50 => ⟨S65536x896, .bf16⟩
  | 51 => ⟨S65536x128, .f32⟩
  | 52 => ⟨S65536x512, .bf16⟩
  | 53 => ⟨S65536x512, .bf16⟩
  | 54 => ⟨S65536x256, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2432, .bf16⟩
  | .local _ .vmem, ⟨6, _⟩ => ⟨S256x512, .bf16⟩
  | .local _ .vmem, ⟨7, _⟩ => ⟨S256x768, .bf16⟩
  | .local _ .vmem, ⟨8, _⟩ => ⟨S1x256, .f32⟩
  | .local _ .vmem, ⟨9, _⟩ => ⟨S1x128, .f32⟩
  | .local _ .vmem, ⟨10, _⟩ => ⟨S4x1024x128, .f32⟩
  | .local _ .vmem, ⟨11, _⟩ => ⟨S4x1024x128, .f32⟩
  | .local _ .vmem, ⟨12, _⟩ => ⟨S1024x768, .bf16⟩
  | .local _ .vmem, ⟨13, _⟩ => ⟨S1024x768, .bf16⟩
  | .local _ .vmem, ⟨14, _⟩ => ⟨S1024x768, .bf16⟩
  | .local _ .vmem, ⟨15, _⟩ => ⟨S1024x768, .bf16⟩
  | .local _ .vmem, ⟨16, _⟩ => ⟨S1024x896, .bf16⟩
  | .local _ .vmem, ⟨17, _⟩ => ⟨S1024x896, .bf16⟩
  | .local _ .vmem, ⟨18, _⟩ => ⟨S1024x128, .f32⟩
  | .local _ .vmem, ⟨19, _⟩ => ⟨S1024x128, .f32⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x256, .bf16⟩
  | .local _ .vmem, ⟨25, _⟩ => ⟨S1024x256, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_5 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_6 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_7 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_8 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_9 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_10 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_11 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_12 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_cst_13 : Ref sig .tc := ⟨.hbm, 125, rfl⟩
abbrev main_v103 : Ref sig .tc := ⟨.hbm, 126, rfl⟩
abbrev main_v104 : Ref sig .tc := ⟨.hbm, 127, rfl⟩
abbrev main_cst_14 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_cst_15 : Ref sig .tc := ⟨.hbm, 145, rfl⟩
abbrev main_v121 : Ref sig .tc := ⟨.hbm, 146, rfl⟩
abbrev main_cst_16 : Ref sig .tc := ⟨.hbm, 147, rfl⟩
abbrev main_v122 : Ref sig .tc := ⟨.hbm, 148, rfl⟩
abbrev main_v123 : Ref sig .tc := ⟨.hbm, 149, rfl⟩
abbrev main_cst_17 : Ref sig .tc := ⟨.hbm, 150, rfl⟩
abbrev main_v124 : Ref sig .tc := ⟨.hbm, 151, rfl⟩
abbrev main_v125 : Ref sig .tc := ⟨.hbm, 152, rfl⟩
abbrev main_cst_18 : Ref sig .tc := ⟨.hbm, 153, rfl⟩
abbrev main_v126 : Ref sig .tc := ⟨.hbm, 154, rfl⟩
abbrev main_cst_19 : Ref sig .tc := ⟨.hbm, 155, rfl⟩
abbrev main_v127 : Ref sig .tc := ⟨.hbm, 156, rfl⟩
abbrev main_v128 : Ref sig .tc := ⟨.hbm, 157, rfl⟩
abbrev main_cst_20 : Ref sig .tc := ⟨.hbm, 158, rfl⟩
abbrev main_v129 : Ref sig .tc := ⟨.hbm, 159, rfl⟩
abbrev main_v130 : Ref sig .tc := ⟨.hbm, 160, rfl⟩
abbrev main_cst_21 : Ref sig .tc := ⟨.hbm, 161, rfl⟩
abbrev main_v131 : Ref sig .tc := ⟨.hbm, 162, rfl⟩
abbrev main_cst_22 : Ref sig .tc := ⟨.hbm, 163, rfl⟩
abbrev main_v132 : Ref sig .tc := ⟨.hbm, 164, rfl⟩
abbrev main_v133 : Ref sig .tc := ⟨.hbm, 165, rfl⟩
abbrev main_cst_23 : Ref sig .tc := ⟨.hbm, 166, rfl⟩
abbrev main_v134 : Ref sig .tc := ⟨.hbm, 167, rfl⟩
abbrev main_cst_24 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142_0 : Ref sig .tc := ⟨.hbm, 176, rfl⟩
abbrev main_v142_1 : Ref sig .tc := ⟨.hbm, 177, rfl⟩
abbrev main_v142_2 : Ref sig .tc := ⟨.hbm, 178, rfl⟩
abbrev main_v142_3 : Ref sig .tc := ⟨.hbm, 179, rfl⟩
abbrev main_v142_4 : Ref sig .tc := ⟨.hbm, 180, rfl⟩
abbrev main_v142_5 : Ref sig .tc := ⟨.hbm, 181, rfl⟩
abbrev main_v142_6 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x896 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference6Ideal.lean ====
abbrev S32x2048x1024 : Shape := ⟨3, ![32, 2048, 1024]⟩
abbrev S32x6144 : Shape := ⟨2, ![32, 6144]⟩
abbrev S1024 : Shape := ⟨1, ![1024]⟩
abbrev S1024x2380 : Shape := ⟨2, ![1024, 2380]⟩
abbrev S256 : Shape := ⟨1, ![256]⟩
abbrev S256x384 : Shape := ⟨2, ![256, 384]⟩
abbrev S128 : Shape := ⟨1, ![128]⟩
abbrev S128x512 : Shape := ⟨2, ![128, 512]⟩
abbrev S32x1x6144 : Shape := ⟨3, ![32, 1, 6144]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2380 : Shape := ⟨3, ![32, 2048, 2380]⟩
abbrev S32x2048x256 : Shape := ⟨3, ![32, 2048, 256]⟩
abbrev S32x2048x1612 : Shape := ⟨3, ![32, 2048, 1612]⟩
abbrev S32x2048x768 : Shape := ⟨3, ![32, 2048, 768]⟩
abbrev S65536x768 : Shape := ⟨2, ![65536, 768]⟩

abbrev nBuf : Space → Nat
  | .hbm => 52
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024, .f32⟩
  | .hbm, ⟨3, _⟩ => ⟨S1024x2380, .f32⟩
  | .hbm, ⟨4, _⟩ => ⟨S256, .f32⟩
  | .hbm, ⟨5, _⟩ => ⟨S256x384, .f32⟩
  | .hbm, ⟨6, _⟩ => ⟨S128, .f32⟩
  | .hbm, ⟨7, _⟩ => ⟨S128x512, .f32⟩
  | .hbm, ⟨8, _⟩ => ⟨S32x1x6144, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S32x2048x1024, .f32⟩
  | .hbm, ⟨16, _⟩ => ⟨S_, .f32⟩
  | .hbm, ⟨17, _⟩ => ⟨S32x2048, .f32⟩
  | .hbm, ⟨18, _⟩ => ⟨S32x2048x1, .f32⟩
  | .hbm, ⟨19, _⟩ => ⟨S_, .f32⟩
  | .hbm, ⟨20, _⟩ => ⟨S32x2048x1, .f32⟩
  | .hbm, ⟨21, _⟩ => ⟨S32x2048x1, .f32⟩
  | .hbm, ⟨22, _⟩ => ⟨S_, .f32⟩
  | .hbm, ⟨23, _⟩ => ⟨S32x2048x1, .f32⟩
  | .hbm, ⟨24, _⟩ => ⟨S32x2048x1, .f32⟩
  | .hbm, ⟨25, _⟩ => ⟨S32x2048x1, .f32⟩
  | .hbm, ⟨26, _⟩ => ⟨S32x2048x1024, .f32⟩
  | .hbm, ⟨27, _⟩ => ⟨S32x2048x1024, .f32⟩
  | .hbm, ⟨28, _⟩ => ⟨S1x1x1024, .f32⟩
  | .hbm, ⟨29, _⟩ => ⟨S32x2048x1024, .f32⟩
  | .hbm, ⟨30, _⟩ => ⟨S32x2048x1024, .f32⟩
  | .hbm, ⟨31, _⟩ => ⟨S_, .f32⟩
  | .hbm, ⟨32, _⟩ => ⟨S32x1x1024, .f32⟩
  | .hbm, ⟨33, _⟩ => ⟨S32x1x1024, .f32⟩
  | .hbm, ⟨34, _⟩ => ⟨S32x2048x1024, .f32⟩
  | .hbm, ⟨35, _⟩ => ⟨S32x2048x1024, .f32⟩
  | .hbm, ⟨36, _⟩ => ⟨S32x2048x1024, .f32⟩
  | .hbm, ⟨37, _⟩ => ⟨S32x2048x1024, .f32⟩
  | .hbm, ⟨38, _⟩ => ⟨S32x2048x2380, .f32⟩
  | .hbm, ⟨39, _⟩ => ⟨S32x2048x256, .f32⟩
  | .hbm, ⟨40, _⟩ => ⟨S32x2048x256, .f32⟩
  | .hbm, ⟨41, _⟩ => ⟨S32x2048x256, .f32⟩
  | .hbm, ⟨42, _⟩ => ⟨S32x2048x1612, .f32⟩
  | .hbm, ⟨43, _⟩ => ⟨S_, .f32⟩
  | .hbm, ⟨44, _⟩ => ⟨S32x2048x256, .f32⟩
  | .hbm, ⟨45, _⟩ => ⟨S32x2048x256, .f32⟩
  | .hbm, ⟨46, _⟩ => ⟨S_, .f32⟩
  | .hbm, ⟨47, _⟩ => ⟨S32x2048x256, .f32⟩
  | .hbm, ⟨48, _⟩ => ⟨S32x2048x256, .f32⟩
  | .hbm, ⟨49, _⟩ => ⟨S32x2048x768, .f32⟩
  | .hbm, ⟨50, _⟩ => ⟨S65536x768, .f32⟩
  | .hbm, ⟨51, _⟩ => ⟨S65536x768, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Proof.Sort.Rows.lean ====
/-
  The row sort's issue of one row, and what holds before each row: the geometry of the sorted array's rows and of the
  staged block's rows, the deliveries of the row copies, and the rule for one row's load, check and copy.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Batch
public import Idealize.ShloMosaic.Lib.Ring
public import Idealize.ShloMosaic.Lib.Tactic

@[expose] public section

set_option maxRecDepth 16384

noncomputable section

namespace Cert.KernelIdeal.Sort

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Rows -/

/-- Row `y` of the sorted array lies inside it. -/
theorem dst_inb (y : Fin 77824) : ∀ a, (![y.val, 0] : Fin 2 → ℕ) a + S1x1152.size a ≤ S77824x1152.size a := by
  have := y.isLt; intro a; fin_cases a
  · show y.val + 1 ≤ 77824; omega
  · show 0 + 1152 ≤ 1152; omega
/-- Row `r` of a staged block lies inside it. -/
theorem src_inb (r : Fin 1024) : ∀ a, (![r.val, 0] : Fin 2 → ℕ) a + S1x1152.size a ≤ S1024x1152.size a := by
  have := r.isLt; intro a; fin_cases a
  · show r.val + 1 ≤ 1024; omega
  · show 0 + 1152 ≤ 1152; omega
/-- Word `r` of a staged block of positions lies inside it. -/
theorem pos_inb (r : Fin 1024) : ∀ a, (![0, 0, r.val] : Fin 3 → ℕ) a + S1x1x1.size a ≤ S1x1x1024.size a := by
  have := r.isLt; intro a; fin_cases a
  · show 0 + 1 ≤ 1; omega
  · show 0 + 1 ≤ 1; omega
  · show r.val + 1 ≤ 1024; omega

/-- Row `y` of the sorted array as a copy's destination. -/
def dstM (y : Fin 77824) : Memref sig .tc .hbm S1x1152 .f32 :=
  (Memref.whole main_v0 : Memref sig .tc .hbm S77824x1152 .f32).slice (Rect.unit (s := S77824x1152) ![y.val, 0] S1x1152.size (dst_inb y)) (fun _ => rfl)
/-- Row `r` of a staged block as a copy's source. -/
def srcM (arg2 : Memref sig .tc .vmem S1024x1152 .f32) (r : Fin 1024) : Memref sig .tc .vmem S1x1152 .f32 :=
  arg2.slice (Rect.unit (s := S1024x1152) ![r.val, 0] S1x1152.size (src_inb r)) (fun _ => rfl)

/-- The elements of row `y` of the sorted array. -/
abbrev dset (y : Fin 77824) : Finset S77824x1152.Idx := (Rect.unit (s := S77824x1152) ![y.val, 0] S1x1152.size (dst_inb y)).set
/-- The elements of row `r` of a staged block. -/
abbrev sset (r : Fin 1024) : Finset S1024x1152.Idx := (Rect.unit (s := S1024x1152) ![r.val, 0] S1x1152.size (src_inb r)).set

theorem mem_dset (y : Fin 77824) (x : S77824x1152.Idx) : x ∈ dset y ↔ (x 0).val = y.val := by
  rw [Rect.mem_set_unit]
  have h1 : (x 1).val < 1152 := (x 1).isLt
  constructor
  · intro H; have a0 : y.val ≤ (x 0).val ∧ (x 0).val < y.val + 1 := H 0; omega
  · intro H a; fin_cases a
    · show y.val ≤ (x 0).val ∧ (x 0).val < y.val + 1; omega
    · show 0 ≤ (x 1).val ∧ (x 1).val < 0 + 1152; omega
theorem mem_sset (r : Fin 1024) (x : S1024x1152.Idx) : x ∈ sset r ↔ (x 0).val = r.val := by
  rw [Rect.mem_set_unit]
  have h1 : (x 1).val < 1152 := (x 1).isLt
  constructor
  · intro H; have a0 : r.val ≤ (x 0).val ∧ (x 0).val < r.val + 1 := H 0; omega
  · intro H a; fin_cases a
    · show r.val ≤ (x 0).val ∧ (x 0).val < r.val + 1; omega
    · show 0 ≤ (x 1).val ∧ (x 1).val < 0 + 1152; omega

theorem dset_disjoint : ∀ y y' : Fin 77824, y ≠ y' → Disjoint (dset y) (dset y') := fun y y' hne => by
  rw [Finset.disjoint_left]; intro x hx hx'; rw [mem_dset] at hx hx'; exact hne (Fin.ext (by omega))
theorem dset_cover : Finset.univ.biUnion dset = Finset.univ := by
  ext x; simp only [Finset.mem_biUnion, Finset.mem_univ, true_and, iff_true]; exact ⟨x 0, (mem_dset _ _).mpr rfl⟩
theorem sset_disjoint : ∀ r r' : Fin 1024, r ≠ r' → Disjoint (sset r) (sset r') := fun r r' hne => by
  rw [Finset.disjoint_left]; intro x hx hx'; rw [mem_sset] at hx hx'; exact hne (Fin.ext (by omega))
theorem sset_cover : Finset.univ.biUnion sset = Finset.univ := by
  ext x; simp only [Finset.mem_biUnion, Finset.mem_univ, true_and, iff_true]; exact ⟨x 0, (mem_sset _ _).mpr rfl⟩

theorem dstM_set (y : Fin 77824) : (dstM y).view.set = dset y := by
  unfold dstM; exact View.set_slice_whole _ _

section Source

variable (arg2 : Memref sig .tc .vmem S1024x1152 .f32)

/-- The elements of row `r` of the staged block, as elements of its buffer. -/
def sblk (r : Fin 1024) : Finset arg2.view.ty.Idx := (sset r).map arg2.view.emb

theorem srcM_set (r : Fin 1024) : (srcM arg2 r).view.set = sblk arg2 r := by
  unfold srcM sblk; exact View.set_slice _ _
theorem sblk_disjoint : ∀ r r' : Fin 1024, r ≠ r' → Disjoint (sblk arg2 r) (sblk arg2 r') := fun r r' hne => by
  unfold sblk
  exact (Finset.disjoint_map _).mpr (sset_disjoint r r' hne)
theorem sblk_cover : Finset.univ.biUnion (sblk arg2) = arg2.view.set := by
  ext x
  rw [Finset.mem_biUnion, View.set, Finset.mem_map]
  refine ⟨fun h => ?_, fun h => ?_⟩
  · obtain ⟨r, -, hr⟩ := h
    obtain ⟨y, -, e⟩ := Finset.mem_map.mp hr
    exact ⟨y, Finset.mem_univ _, e⟩
  · obtain ⟨y, -, e⟩ := h
    exact ⟨y 0, Finset.mem_univ _, Finset.mem_map.mpr ⟨y, (mem_sset _ _).mpr rfl, e⟩⟩

end Source

/-! ## The deliveries -/

section Deliveries

variable (c : Dev nD) (arg1 : Memref sig .tc .smem S1x1x1024 .i32) (arg2 : Memref sig .tc .vmem S1024x1152 .f32)
  (P : Fin 1024 → Fin 77824)
  (fp : Buf (Elt F) (arg1.view.loc (c : Thread nD τ)))
  (fs : Buf (Elt F) (arg2.view.loc (c : Thread nD τ)))
  (f : Buf (Elt F) ((c : Thread nD τ).loc main_v0))

/-- Row `y` of the sorted array, held at contents `f`. -/
def rowPt (y : Fin 77824) : sProp 𝕄 := ((c : Thread nD τ).loc main_v0) ↦[dset y]{fullShare} f
/-- Row `r` of the staged block, held at contents `fs`. -/
def srcPt (r : Fin 1024) : sProp 𝕄 := arg2.view.loc (c : Thread nD τ) ↦[sblk arg2 r]{fullShare} fs

/-- What row `r`'s copy leaves in the sorted array: row `P r` overwritten with row `r` of the staged block. -/
def landed (r : Fin 1024) : Buf (Elt F) ((c : Thread nD τ).loc main_v0) :=
  (dstM (P r)).view.write (Elt F) f (ReadAs.same.apply ((srcM arg2 r).view.read (Elt F) fs)) Finset.univ

/-- What row `r`'s copy hands back: row `P r` of the sorted array as written, and row `r` of the staged block. -/
def deliv (r : Fin 1024) : sProp 𝕄 :=
  iprop((((c : Thread nD τ).loc main_v0) ↦[dset (P r)]{fullShare} landed c arg2 P fs f r) ∗ srcPt c arg2 fs r)

instance deliv_storable (r : Fin 1024) : Storable (upEmb : UEmb _ 𝕄) (deliv c arg2 P fs f r) := by
  unfold deliv srcPt; infer_instance

/-- One row's credit on the copies' semaphore. -/
def rowAmount : ℕ := (dstM 0).view.dmaCredit
theorem rowAmount_pos : 0 < rowAmount := View.dmaCredit_pos _ (by decide)

/-- The rows of the sorted array no copy before the `k`-th has taken. -/
def untaken (k : ℕ) : Finset (Fin 77824) := Finset.univ.filter fun y => ∀ j : Fin 1024, j.val < k → P j ≠ y

theorem untaken_zero : untaken P 0 = Finset.univ := by
  unfold untaken; ext y; simp
theorem untaken_split (hinj : Function.Injective P) (k : Fin 1024) : untaken P k.val = insert (P k) (untaken P (k.val + 1)) := by
  unfold untaken; ext y
  simp only [Finset.mem_filter, Finset.mem_univ, true_and, Finset.mem_insert]
  constructor
  · intro h
    by_cases hy : y = P k
    · exact .inl hy
    · refine .inr fun j hj => ?_
      rcases Nat.lt_succ_iff_lt_or_eq.mp hj with h' | h'
      · exact h j h'
      · rw [show j = k from Fin.ext h']; exact fun e => hy e.symm
  · rintro (rfl | h) j hj
    · exact fun e => by have := hinj e; subst this; omega
    · exact h j (by omega)
theorem not_mem_untaken (k : Fin 1024) : P k ∉ untaken P (k.val + 1) := by
  unfold untaken; simp only [Finset.mem_filter, not_and, not_forall]; intro _; exact ⟨k, Nat.lt_succ_self _, fun h => h rfl⟩

/-- The rows not taken before copy `k` are the row copy `k` takes and the rows not taken before copy `k + 1`. -/
theorem bigSep_untaken (hinj : Function.Injective P) (k : Fin 1024) (Φ : Fin 77824 → sProp 𝕄) :
    bigSep (untaken P k.val) Φ = iprop(Φ (P k) ∗ bigSep (untaken P (k.val + 1)) Φ) := by
  rw [untaken_split P hinj k, bigSep_insert (not_mem_untaken P k)]; rfl

/-- The cell the copies complete on. -/
abbrev scell : SemLoc sig := .dma cc0_scratch0.sem

/-- Before row `k`: `k` copies issued and none waited for, the positions' block, the rows not yet taken and the rows of
    the staged block from `k` on. -/
def At (k : ℕ) : sProp 𝕄 :=
  iprop(Transfers.Batch (countersEmb (U := Pipeline.UD sig nD τ)) (c : Thread nD τ) scell () rowAmount (deliv c arg2 P fs f) k 0
    ∗ (arg1.view.loc (c : Thread nD τ) ↦[arg1.view.set]{fullShare} fp)
    ∗ bigSep (untaken P k) (rowPt c f)
    ∗ bigSep (Ring.rangeSet 1024 k 1024) (srcPt c arg2 fs))

/-- The word the kernel loads for row `r`. -/
def word (r : Fin 1024) : BitVec 32 :=
  (arg1.access (Rect.unit (s := S1x1x1024) ![0, 0, r.val] S1x1x1.size (pos_inb r))).read (Elt F) fp
    (Shape.Idx.first ((numel1_S1x1x1).symm ▸ Nat.one_pos))

end Deliveries

/-! ## One row -/

/-- The load of a row's position, the check of it, and the row's copy, before the rest `k` of a program. -/
def rowProg {α : Type} (arg1 : Memref sig .tc .smem S1x1x1024 .i32) (arg2 : Memref sig .tc .vmem S1024x1152 .f32)
    (arg4 : Memref sig .tc .hbm S77824x1152 .f32) (arg5 : DmaSems sig S_)
    (o1 : Fin 3 → ℕ) (h1 : ∀ a, o1 a + S1x1x1.size a ≤ S1x1x1024.size a)
    (chk : BitVec 32 → Prop) (dec : ∀ v, Decidable (chk v))
    (o2 : BitVec 32 → Fin 2 → ℕ) (h2 : ∀ v, chk v → ∀ a, o2 v a + S1x1152.size a ≤ S77824x1152.size a)
    (o3 : Fin 2 → ℕ) (h3 : ∀ a, o3 a + S1x1152.size a ≤ S1024x1152.size a)
    (k : Prog (TpuEff nD τ sig (Elt F) Λ₀ .tc) α) : Prog (TpuEff nD τ sig (Elt F) Λ₀ .tc) α :=
  smemLoadElt arg1 (Rect.unit (s := S1x1x1024) o1 S1x1x1.size h1) (View.loads_smem_one rfl numel1_S1x1x1)
    (Shape.Idx.first ((numel1_S1x1x1).symm ▸ Nat.one_pos)) fun v =>
    .op (.assume (chk v) (dec v)) fun hw =>
      .op (.enqueueDma (arg2.slice (Rect.unit (s := S1024x1152) o3 S1x1152.size h3) (fun _ => rfl))
        (.here (arg4.slice (Rect.unit (s := S77824x1152) (o2 v) S1x1152.size (h2 v hw.down)) (fun _ => rfl)))
        (.dma arg5.sem) (View.wordExact_bits rfl) (View.wordExact_bits rfl) ⟨Or.inl rfl, trivial⟩) fun _ => k

/-- THE COPY OF ONE ROW: issued into row `P r` of the sorted array from row `r` of the staged block, it takes both and
    leaves one more copy in flight. -/
theorem copy_step {α : Type} (𝒱 : Variants) (c : Dev nD) (arg2 : Memref sig .tc .vmem S1024x1152 .f32)
    (P : Fin 1024 → Fin 77824) (fs : Buf (Elt F) (arg2.view.loc (c : Thread nD τ)))
    (f : Buf (Elt F) ((c : Thread nD τ).loc main_v0)) (r : Fin 1024)
    {o : Fin 2 → ℕ} {h : ∀ a, o a + S1x1152.size a ≤ S77824x1152.size a} (ho : o = ![(P r).val, 0])
    {o3 : Fin 2 → ℕ} {h3 : ∀ a, o3 a + S1x1152.size a ≤ S1024x1152.size a} (ho3 : o3 = ![r.val, 0])
    (k : Prog (TpuEff nD τ sig (Elt F) Λ₀ .tc) α) (Q : α → sProp 𝕄) :
    iprop(srcPt c arg2 fs r ∗ rowPt c f (P r)
      ∗ Transfers.Batch (countersEmb (U := Pipeline.UD sig nD τ)) (c : Thread nD τ) scell () rowAmount (deliv c arg2 P fs f) r.val 0)
      ⊢ iprop((Transfers.Batch (countersEmb (U := Pipeline.UD sig nD τ)) (c : Thread nD τ) scell () rowAmount (deliv c arg2 P fs f) (r.val + 1) 0
          -∗ wp frame (wpE (defs₀ (F := F)) 𝒱 (c : Thread nD τ) none) Set.univ k Q)
        -∗ wp frame (wpE (defs₀ (F := F)) 𝒱 (c : Thread nD τ) none) Set.univ
          (.op (.enqueueDma (arg2.slice (Rect.unit (s := S1024x1152) o3 S1x1152.size h3) (fun _ => rfl))
            (.here ((Memref.whole main_v0 : Memref sig .tc .hbm S77824x1152 .f32).slice (Rect.unit (s := S77824x1152) o S1x1152.size h) (fun _ => rfl)))
            (.dma cc0_scratch0.sem) (View.wordExact_bits rfl) (View.wordExact_bits rfl) ⟨Or.inl rfl, trivial⟩) fun _ => k) Q) := by
  subst ho ho3
  have hs : srcPt c arg2 fs r = iprop((srcM arg2 r).view.loc (c : Thread nD τ) ↦[(srcM arg2 r).view.set]{fullShare} fs) := by
    unfold srcPt; rw [srcM_set]; rfl
  rw [hs]
  exact Transfers.wp_dmaBatch (countersEmb (U := Pipeline.UD sig nD τ)) 𝒱 (c : Thread nD τ) none (n := 1024)
    (src := srcM arg2 r) (dst := dstM (P r)) (via := ReadAs.same) (sm := scell) (k := fun _ => k)
    (D := deliv c arg2 P fs f) (j := r.val) (u := 0) (q := fullShare) (fs := fs) (Sd := dset (P r)) (fd := f) () rowAmount rfl
    (dstM_set (P r)).subset r.isLt (Nat.zero_le _) (by unfold deliv; rw [hs]; exact .rfl)

end Cert.KernelIdeal.Sort

end
-- ==== Proof.Sort.Step.lean ====
/-
  One row of the row sort: from the state before it to the state after it.
-/
module

public import proofs.«01_k».proof.Proof.Sort.Rows
public import proofs.«01_k».proof.Proof.Gen.KernelIdeal.Frame
public import proofs.«01_k».proof.Proof.Gen.KernelIdeal.Skeleton
public import proofs.«01_k».proof.Proof.Gen.KernelIdeal.Loops
public import Idealize.ShloMosaic.Lib.Batch
public import Idealize.ShloMosaic.Lib.Ring
public import Idealize.ShloMosaic.Lib.Tactic

@[expose] public section

set_option maxRecDepth 16384

noncomputable section

namespace Cert.KernelIdeal.Sort

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- ONE ROW, from the state before row `r` to the state before row `r + 1`: the word loaded is the row's position, the
    check holds of it, and the copy takes row `P r` of the sorted array and row `r` of the staged block. -/
theorem row_step {α : Type} (𝒱 : Variants) (c : Dev nD) (arg1 : Memref sig .tc .smem S1x1x1024 .i32) (arg2 : Memref sig .tc .vmem S1024x1152 .f32)
    (P : Fin 1024 → Fin 77824) (hinj : Function.Injective P)
    (fp : Buf (Elt F) (arg1.view.loc (c : Thread nD τ))) (fs : Buf (Elt F) (arg2.view.loc (c : Thread nD τ)))
    (f : Buf (Elt F) ((c : Thread nD τ).loc main_v0))
    (hP : ∀ r, (word c arg1 fp r).toNat = (P r).val)
    (r : Fin 1024) {o1 : Fin 3 → ℕ} {h1 : ∀ a, o1 a + S1x1x1.size a ≤ S1x1x1024.size a} (ho1 : o1 = ![0, 0, r.val])
    {chk : BitVec 32 → Prop} {dec : ∀ v, Decidable (chk v)} (hchk : ∀ v : BitVec 32, v.toNat < 77824 → chk v)
    {o2 : BitVec 32 → Fin 2 → ℕ} {h2 : ∀ v, chk v → ∀ a, o2 v a + S1x1152.size a ≤ S77824x1152.size a} (ho2 : ∀ v, o2 v = ![v.toNat, 0])
    {o3 : Fin 2 → ℕ} {h3 : ∀ a, o3 a + S1x1152.size a ≤ S1024x1152.size a} (ho3 : o3 = ![r.val, 0])
    (k : Prog (TpuEff nD τ sig (Elt F) Λ₀ .tc) α) (Q : α → sProp 𝕄) :
    At c arg1 arg2 P fp fs f r.val
      ⊢ iprop((At c arg1 arg2 P fp fs f (r.val + 1) -∗ wp frame (wpE (defs₀ (F := F)) 𝒱 (c : Thread nD τ) none) Set.univ k Q)
        -∗ wp frame (wpE (defs₀ (F := F)) 𝒱 (c : Thread nD τ) none) Set.univ
          (rowProg arg1 arg2 (Memref.whole main_v0) cc0_scratch0 o1 h1 chk dec o2 h2 o3 h3 k) Q) := by
  subst ho1 ho3
  unfold At
  rw [bigSep_untaken P hinj r,
    Ring.bigSep_rangeSet_head (Φ := srcPt c arg2 fs) r.isLt r.isLt]
  unfold rowProg
  iintro ⟨HB, Hp, ⟨Hd, Hds⟩, Hs, Hss⟩ Hk
  iapply (wp_smemLoadElt_named 𝒱 (c : Thread nD τ) none Set.univ (m := arg1) (S := arg1.view.set) (View.set_slice_subset _ _)) $$ Hp
  iintro Hp %w %hwd
  have hwr : w.toNat = (P r).val := (congrArg BitVec.toNat hwd).trans (hP r)
  have hw : chk w := hchk _ (by rw [hwr]; exact (P r).isLt)
  rw [wp_assume_of _ _ _ _ (d := dec _) hw]
  have ho : o2 w = ![(P r).val, 0] := by rw [ho2, hwr]
  iapply (copy_step 𝒱 c arg2 P fs f r ho rfl k Q) $$ [HB Hs Hd]
  · isplitl [Hs]; · iexact Hs
    isplitl [Hd]; · iexact Hd
    iexact HB
  iintro HB
  iapply Hk
  isplitl [HB]; · iexact HB
  isplitl [Hp]; · iexact Hp
  isplitl [Hds]; · iexact Hds
  iexact Hss

end Cert.KernelIdeal.Sort

end
-- ==== Proof.Sort.Loops.lean ====
/-
  The row sort's two loops: a trip of the issue loop (eight rows), the issue loop, and the loop of waits.
-/
module

public import proofs.«01_k».proof.Proof.Sort.Step
public import proofs.«01_k».proof.Proof.Gen.KernelIdeal.Frame
public import proofs.«01_k».proof.Proof.Gen.KernelIdeal.Skeleton
public import proofs.«01_k».proof.Proof.Gen.KernelIdeal.Loops
public import Idealize.ShloMosaic.Lib.Batch
public import Idealize.ShloMosaic.Lib.Ring
public import Idealize.ShloMosaic.Lib.Tactic

@[expose] public section

set_option maxRecDepth 16384

noncomputable section

namespace Cert.KernelIdeal.Sort

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The offsets of a trip's rows -/

/-- A trip's row `j` is one of the 1024. -/
def rowOf (t : Fin k0_t1_loop.trips) (j : Fin 8) : Fin 1024 :=
  ⟨8 * t.val + j.val, by have h : t.val < 128 := t.isLt; omega⟩

theorem off1_eq : ∀ t : Fin k0_t1_loop.trips, k0_off1 t = ![0, 0, (rowOf t 0).val] := by decide +kernel
theorem off3_eq : ∀ t : Fin k0_t1_loop.trips, k0_off3 t = ![(rowOf t 0).val, 0] := by decide +kernel
theorem chk1_of : ∀ v : BitVec 32, v.toNat < 77824 → k0_chk1 v := fun v hv => dst_inb ⟨v.toNat, hv⟩
theorem off4_eq : ∀ t : Fin k0_t1_loop.trips, k0_off4 t = ![0, 0, (rowOf t 1).val] := by decide +kernel
theorem off6_eq : ∀ t : Fin k0_t1_loop.trips, k0_off6 t = ![(rowOf t 1).val, 0] := by decide +kernel
theorem chk2_of : ∀ v : BitVec 32, v.toNat < 77824 → k0_chk2 v := fun v hv => dst_inb ⟨v.toNat, hv⟩
theorem off7_eq : ∀ t : Fin k0_t1_loop.trips, k0_off7 t = ![0, 0, (rowOf t 2).val] := by decide +kernel
theorem off9_eq : ∀ t : Fin k0_t1_loop.trips, k0_off9 t = ![(rowOf t 2).val, 0] := by decide +kernel
theorem chk3_of : ∀ v : BitVec 32, v.toNat < 77824 → k0_chk3 v := fun v hv => dst_inb ⟨v.toNat, hv⟩
theorem off10_eq : ∀ t : Fin k0_t1_loop.trips, k0_off10 t = ![0, 0, (rowOf t 3).val] := by decide +kernel
theorem off12_eq : ∀ t : Fin k0_t1_loop.trips, k0_off12 t = ![(rowOf t 3).val, 0] := by decide +kernel
theorem chk4_of : ∀ v : BitVec 32, v.toNat < 77824 → k0_chk4 v := fun v hv => dst_inb ⟨v.toNat, hv⟩
theorem off13_eq : ∀ t : Fin k0_t1_loop.trips, k0_off13 t = ![0, 0, (rowOf t 4).val] := by decide +kernel
theorem off15_eq : ∀ t : Fin k0_t1_loop.trips, k0_off15 t = ![(rowOf t 4).val, 0] := by decide +kernel
theorem chk5_of : ∀ v : BitVec 32, v.toNat < 77824 → k0_chk5 v := fun v hv => dst_inb ⟨v.toNat, hv⟩
theorem off16_eq : ∀ t : Fin k0_t1_loop.trips, k0_off16 t = ![0, 0, (rowOf t 5).val] := by decide +kernel
theorem off18_eq : ∀ t : Fin k0_t1_loop.trips, k0_off18 t = ![(rowOf t 5).val, 0] := by decide +kernel
theorem chk6_of : ∀ v : BitVec 32, v.toNat < 77824 → k0_chk6 v := fun v hv => dst_inb ⟨v.toNat, hv⟩
theorem off19_eq : ∀ t : Fin k0_t1_loop.trips, k0_off19 t = ![0, 0, (rowOf t 6).val] := by decide +kernel
theorem off21_eq : ∀ t : Fin k0_t1_loop.trips, k0_off21 t = ![(rowOf t 6).val, 0] := by decide +kernel
theorem chk7_of : ∀ v : BitVec 32, v.toNat < 77824 → k0_chk7 v := fun v hv => dst_inb ⟨v.toNat, hv⟩
theorem off22_eq : ∀ t : Fin k0_t1_loop.trips, k0_off22 t = ![0, 0, (rowOf t 7).val] := by decide +kernel
theorem off24_eq : ∀ t : Fin k0_t1_loop.trips, k0_off24 t = ![(rowOf t 7).val, 0] := by decide +kernel
theorem chk8_of : ∀ v : BitVec 32, v.toNat < 77824 → k0_chk8 v := fun v hv => dst_inb ⟨v.toNat, hv⟩

/-! ## A trip of the issue loop -/

/-- A trip's region is eight rows one after another. -/
theorem t1_body_eq (i : grid0.Coords) (arg1 : Memref sig .tc .smem S1x1x1024 .i32) (harg1 : arg1.IsWhole) (arg2 : Memref sig .tc .vmem S1024x1152 .f32) (harg2 : arg2.IsWhole)
    (arg3 : Memref sig .tc .hbm S77824x1152 .f32) (harg3 : arg3.IsWhole) (arg4 : Memref sig .tc .hbm S77824x1152 .f32) (harg4 : arg4.IsWhole) (arg5 : DmaSems sig S_)
    (t : Fin k0_t1_loop.trips) (x : Unit) :
    k0_t1_body (F := F) i arg1 harg1 arg2 harg2 arg3 harg3 arg4 harg4 arg5 t x =
      (rowProg arg1 arg2 arg4 arg5 (k0_off1 t) (k0_off1_inb t) k0_chk1 k0_chk1.dec k0_off2 k0_off2_inb (k0_off3 t) (k0_off3_inb t)
      (rowProg arg1 arg2 arg4 arg5 (k0_off4 t) (k0_off4_inb t) k0_chk2 k0_chk2.dec k0_off5 k0_off5_inb (k0_off6 t) (k0_off6_inb t)
      (rowProg arg1 arg2 arg4 arg5 (k0_off7 t) (k0_off7_inb t) k0_chk3 k0_chk3.dec k0_off8 k0_off8_inb (k0_off9 t) (k0_off9_inb t)
      (rowProg arg1 arg2 arg4 arg5 (k0_off10 t) (k0_off10_inb t) k0_chk4 k0_chk4.dec k0_off11 k0_off11_inb (k0_off12 t) (k0_off12_inb t)
      (rowProg arg1 arg2 arg4 arg5 (k0_off13 t) (k0_off13_inb t) k0_chk5 k0_chk5.dec k0_off14 k0_off14_inb (k0_off15 t) (k0_off15_inb t)
      (rowProg arg1 arg2 arg4 arg5 (k0_off16 t) (k0_off16_inb t) k0_chk6 k0_chk6.dec k0_off17 k0_off17_inb (k0_off18 t) (k0_off18_inb t)
      (rowProg arg1 arg2 arg4 arg5 (k0_off19 t) (k0_off19_inb t) k0_chk7 k0_chk7.dec k0_off20 k0_off20_inb (k0_off21 t) (k0_off21_inb t)
      (rowProg arg1 arg2 arg4 arg5 (k0_off22 t) (k0_off22_inb t) k0_chk8 k0_chk8.dec k0_off23 k0_off23_inb (k0_off24 t) (k0_off24_inb t)
      (pure ⟨⟩))))))))) := rfl

/-- One row, the counts of copies before and after it given by equations. -/
theorem row_step_at {α : Type} (𝒱 : Variants) (c : Dev nD) (arg1 : Memref sig .tc .smem S1x1x1024 .i32) (arg2 : Memref sig .tc .vmem S1024x1152 .f32)
    (P : Fin 1024 → Fin 77824) (hinj : Function.Injective P)
    (fp : Buf (Elt F) (arg1.view.loc (c : Thread nD τ))) (fs : Buf (Elt F) (arg2.view.loc (c : Thread nD τ)))
    (f : Buf (Elt F) ((c : Thread nD τ).loc main_v0))
    (hP : ∀ r, (word c arg1 fp r).toNat = (P r).val) (a b : ℕ)
    (r : Fin 1024) (ha : a = r.val) (hb : b = r.val + 1) {o1 : Fin 3 → ℕ} {h1 : ∀ a, o1 a + S1x1x1.size a ≤ S1x1x1024.size a} (ho1 : o1 = ![0, 0, r.val])
    {chk : BitVec 32 → Prop} {dec : ∀ v, Decidable (chk v)} (hchk : ∀ v : BitVec 32, v.toNat < 77824 → chk v)
    {o2 : BitVec 32 → Fin 2 → ℕ} {h2 : ∀ v, chk v → ∀ a, o2 v a + S1x1152.size a ≤ S77824x1152.size a} (ho2 : ∀ v, o2 v = ![v.toNat, 0])
    {o3 : Fin 2 → ℕ} {h3 : ∀ a, o3 a + S1x1152.size a ≤ S1024x1152.size a} (ho3 : o3 = ![r.val, 0])
    (k : Prog (TpuEff nD τ sig (Elt F) Λ₀ .tc) α) (Q : α → sProp 𝕄) :
    At c arg1 arg2 P fp fs f a
      ⊢ iprop((At c arg1 arg2 P fp fs f b -∗ wp frame (wpE (defs₀ (F := F)) 𝒱 (c : Thread nD τ) none) Set.univ k Q)
        -∗ wp frame (wpE (defs₀ (F := F)) 𝒱 (c : Thread nD τ) none) Set.univ
          (rowProg arg1 arg2 (Memref.whole main_v0) cc0_scratch0 o1 h1 chk dec o2 h2 o3 h3 k) Q) := by
  subst ha hb
  exact row_step 𝒱 c arg1 arg2 P hinj fp fs f hP r ho1 hchk ho2 ho3 k Q

/-- ONE TRIP of the issue loop: from the state before row `8 t` to the state before row `8 (t + 1)`. -/
theorem t1_step (𝒱 : Variants) (c : Dev nD) (i : grid0.Coords) (arg1 : Memref sig .tc .smem S1x1x1024 .i32) (harg1 : arg1.IsWhole) (arg2 : Memref sig .tc .vmem S1024x1152 .f32) (harg2 : arg2.IsWhole)
    (arg3 : Memref sig .tc .hbm S77824x1152 .f32) (harg3 : arg3.IsWhole) (harg4 : (Memref.whole main_v0 : Memref sig .tc .hbm S77824x1152 .f32).IsWhole)
    (P : Fin 1024 → Fin 77824) (hinj : Function.Injective P)
    (fp : Buf (Elt F) (arg1.view.loc (c : Thread nD τ))) (fs : Buf (Elt F) (arg2.view.loc (c : Thread nD τ)))
    (f : Buf (Elt F) ((c : Thread nD τ).loc main_v0))
    (hP : ∀ r, (word c arg1 fp r).toNat = (P r).val) (t : Fin k0_t1_loop.trips) (x : Unit) :
    At c arg1 arg2 P fp fs f (8 * t.val)
      ⊢ wp frame (wpE (defs₀ (F := F)) 𝒱 (c : Thread nD τ) none) Set.univ
          (k0_t1_body i arg1 harg1 arg2 harg2 arg3 harg3 (Memref.whole main_v0) harg4 cc0_scratch0 t x)
          (fun _ => At c arg1 arg2 P fp fs f (8 * (t.val + 1))) := by
  rw [t1_body_eq]
  iintro H
  iapply (row_step_at 𝒱 c arg1 arg2 P hinj fp fs f hP (8 * t.val) (8 * t.val + 1) (rowOf t 0) rfl rfl (off1_eq t) chk1_of (fun _ => rfl) (off3_eq t) _ _) $$ H
  iintro H
  iapply (row_step_at 𝒱 c arg1 arg2 P hinj fp fs f hP (8 * t.val + 1) (8 * t.val + 2) (rowOf t 1) rfl rfl (off4_eq t) chk2_of (fun _ => rfl) (off6_eq t) _ _) $$ H
  iintro H
  iapply (row_step_at 𝒱 c arg1 arg2 P hinj fp fs f hP (8 * t.val + 2) (8 * t.val + 3) (rowOf t 2) rfl rfl (off7_eq t) chk3_of (fun _ => rfl) (off9_eq t) _ _) $$ H
  iintro H
  iapply (row_step_at 𝒱 c arg1 arg2 P hinj fp fs f hP (8 * t.val + 3) (8 * t.val + 4) (rowOf t 3) rfl rfl (off10_eq t) chk4_of (fun _ => rfl) (off12_eq t) _ _) $$ H
  iintro H
  iapply (row_step_at 𝒱 c arg1 arg2 P hinj fp fs f hP (8 * t.val + 4) (8 * t.val + 5) (rowOf t 4) rfl rfl (off13_eq t) chk5_of (fun _ => rfl) (off15_eq t) _ _) $$ H
  iintro H
  iapply (row_step_at 𝒱 c arg1 arg2 P hinj fp fs f hP (8 * t.val + 5) (8 * t.val + 6) (rowOf t 5) rfl rfl (off16_eq t) chk6_of (fun _ => rfl) (off18_eq t) _ _) $$ H
  iintro H
  iapply (row_step_at 𝒱 c arg1 arg2 P hinj fp fs f hP (8 * t.val + 6) (8 * t.val + 7) (rowOf t 6) rfl rfl (off19_eq t) chk7_of (fun _ => rfl) (off21_eq t) _ _) $$ H
  iintro H
  iapply (row_step_at 𝒱 c arg1 arg2 P hinj fp fs f hP (8 * t.val + 7) (8 * (t.val + 1)) (rowOf t 7) rfl rfl (off22_eq t) chk8_of (fun _ => rfl) (off24_eq t) _ _) $$ H
  iintro H
  rw [show (pure ⟨⟩ : Prog (TpuEff nD τ sig (Elt F) Λ₀ .tc) Unit) = .ret ⟨⟩ from rfl, wp_ret]
  imodintro
  iexact H

/-- THE ISSUE LOOP: all 1024 copies in flight. -/
theorem t1_loop {α : Type} (𝒱 : Variants) (c : Dev nD) (i : grid0.Coords) (arg1 : Memref sig .tc .smem S1x1x1024 .i32) (harg1 : arg1.IsWhole) (arg2 : Memref sig .tc .vmem S1024x1152 .f32) (harg2 : arg2.IsWhole)
    (arg3 : Memref sig .tc .hbm S77824x1152 .f32) (harg3 : arg3.IsWhole) (harg4 : (Memref.whole main_v0 : Memref sig .tc .hbm S77824x1152 .f32).IsWhole)
    (P : Fin 1024 → Fin 77824) (hinj : Function.Injective P)
    (fp : Buf (Elt F) (arg1.view.loc (c : Thread nD τ))) (fs : Buf (Elt F) (arg2.view.loc (c : Thread nD τ)))
    (f : Buf (Elt F) ((c : Thread nD τ).loc main_v0))
    (hP : ∀ r, (word c arg1 fp r).toNat = (P r).val)
    (kk : Unit → Prog (TpuEff nD τ sig (Elt F) Λ₀ .tc) α) (Q : α → sProp 𝕄) :
    At c arg1 arg2 P fp fs f 0
      ⊢ iprop((At c arg1 arg2 P fp fs f 1024 -∗ wp frame (wpE (defs₀ (F := F)) 𝒱 (c : Thread nD τ) none) Set.univ (kk ⟨⟩) Q)
        -∗ wp frame (wpE (defs₀ (F := F)) 𝒱 (c : Thread nD τ) none) Set.univ
          (Scf.Loop.for k0_t1_loop k0_t1_ok ⟨⟩ (k0_t1_body i arg1 harg1 arg2 harg2 arg3 harg3 (Memref.whole main_v0) harg4 cc0_scratch0) >>= kk) Q) := by
  iintro H Hk
  iapply (Scf.wp_for_bind frame (wpE (defs₀ (F := F)) 𝒱 (c : Thread nD τ) none) Set.univ k0_t1_loop.lb k0_t1_loop.ub k0_t1_loop.st k0_t1_ok ()
    (k0_t1_body i arg1 harg1 arg2 harg2 arg3 harg3 (Memref.whole main_v0) harg4 cc0_scratch0)
    (fun k _ => At c arg1 arg2 P fp fs f (8 * k))
    (fun t x => t1_step 𝒱 c i arg1 harg1 arg2 harg2 arg3 harg3 harg4 P hinj fp fs f hP t x)) $$ H
  iintro %x H
  iapply Hk
  iexact H

/-! ## The loop of waits -/

/-- Before wait `k`: `k` rows' credit consumed of the 1024 issued. -/
def Drain (c : Dev nD) (arg2 : Memref sig .tc .vmem S1024x1152 .f32) (P : Fin 1024 → Fin 77824) (fs : Buf (Elt F) (arg2.view.loc (c : Thread nD τ)))
    (f : Buf (Elt F) ((c : Thread nD τ).loc main_v0)) (k : ℕ) : sProp 𝕄 :=
  iprop(Transfers.Batch (countersEmb (U := Pipeline.UD sig nD τ)) (c : Thread nD τ) scell () rowAmount (deliv c arg2 P fs f) 1024 (k * rowAmount)
    ∗ ∃ W, owes (c : Thread nD τ) 0 W)

/-- The loop of waits has 1024 trips. -/
theorem t2_trips : Scf.trips k0_t2_loop.lb k0_t2_loop.ub k0_t2_loop.st = 1024 := by decide +kernel
theorem t2_lt (t : Fin k0_t2_loop.trips) : t.val < 1024 := lt_of_lt_of_eq t.isLt t2_trips
/-- A wait's credit is one row's. -/
theorem wait_amount : (dstM 0).view.dmaCredit = 1 * rowAmount := by rw [Nat.one_mul]; rfl

/-- One wait before the rest of a program. -/
theorem wait_step {α : Type} (𝒱 : Variants) (c : Dev nD) (arg2 : Memref sig .tc .vmem S1024x1152 .f32)
    (P : Fin 1024 → Fin 77824) (fs : Buf (Elt F) (arg2.view.loc (c : Thread nD τ)))
    (f : Buf (Elt F) ((c : Thread nD τ).loc main_v0)) (n : ℕ) (hn : n < 1024)
    (k : Prog (TpuEff nD τ sig (Elt F) Λ₀ .tc) α) (Q : α → sProp 𝕄) :
    Drain c arg2 P fs f n
      ⊢ iprop((Drain c arg2 P fs f (n + 1) -∗ wp frame (wpE (defs₀ (F := F)) 𝒱 (c : Thread nD τ) none) Set.univ k Q)
        -∗ wp frame (wpE (defs₀ (F := F)) 𝒱 (c : Thread nD τ) none) Set.univ
          (.op (.waitDma2 cc0_scratch0.sem (arg2.slice (Rect.unit (s := S1024x1152) ![0, 0] S1x1152.size inb_S1024x1152_S1x1152_0_0) (fun _ => rfl))
            ((Memref.whole main_v0 : Memref sig .tc .hbm S77824x1152 .f32).slice (Rect.unit (s := S77824x1152) ![0, 0] S1x1152.size inb_S77824x1152_S1x1152_0_0) (fun _ => rfl))
            (View.wordExact_bits rfl) (View.wordExact_bits rfl)) fun _ => k) Q) := by
  have hle : n * rowAmount + 1 * rowAmount ≤ rowAmount * 1024 := by
    rw [← Nat.add_mul, Nat.mul_comm rowAmount]; exact Nat.mul_le_mul_right _ (by omega)
  unfold Drain
  iintro ⟨HB, %W, HO⟩ Hk
  ihave H := (Transfers.wp_waitBatchMul (countersEmb (U := Pipeline.UD sig nD τ)) 𝒱 (c : Thread nD τ) none (n := 1024)
    (srcw := srcM arg2 0) (dstw := dstM 0) (sem := cc0_scratch0.sem) (N := rowAmount) (D := deliv c arg2 P fs f) (j := 1024) (u := n * rowAmount)
    (hsrc := View.wordExact_bits rfl) (hdst := View.wordExact_bits rfl) (Q := Q)
    (k := fun _ => k) () 1 wait_amount hle (W := W)) $$ [HB HO]
  · isplitl [HB]; · iexact HB
    iexact HO
  iapply H
  rw [← Nat.add_mul]
  iintro ⟨HB, HO⟩
  iapply Hk
  isplitl [HB]; · iexact HB
  iexists _; iexact HO

/-- ONE WAIT. -/
theorem t2_step (𝒱 : Variants) (c : Dev nD) (i : grid0.Coords) (arg1 : Memref sig .tc .smem S1x1x1024 .i32) (harg1 : arg1.IsWhole) (arg2 : Memref sig .tc .vmem S1024x1152 .f32) (harg2 : arg2.IsWhole)
    (arg3 : Memref sig .tc .hbm S77824x1152 .f32) (harg3 : arg3.IsWhole) (harg4 : (Memref.whole main_v0 : Memref sig .tc .hbm S77824x1152 .f32).IsWhole)
    (P : Fin 1024 → Fin 77824) (fs : Buf (Elt F) (arg2.view.loc (c : Thread nD τ)))
    (f : Buf (Elt F) ((c : Thread nD τ).loc main_v0)) (t : Fin k0_t2_loop.trips) (x : Unit) :
    Drain c arg2 P fs f t.val
      ⊢ wp frame (wpE (defs₀ (F := F)) 𝒱 (c : Thread nD τ) none) Set.univ
          (k0_t2_body i arg1 harg1 arg2 harg2 arg3 harg3 (Memref.whole main_v0) harg4 cc0_scratch0 t x)
          (fun _ => Drain c arg2 P fs f (t.val + 1)) := by
  have ht : t.val < 1024 := t2_lt t
  exact (wait_step 𝒱 c arg2 P fs f t.val ht (.ret PUnit.unit) (fun _ => Drain c arg2 P fs f (t.val + 1))).trans (by
    rw [wp_ret]
    iintro H
    iapply H
    iintro H
    imodintro
    iexact H)

/-- THE LOOP OF WAITS: the deliveries of all the copies, and the semaphore back at zero. -/
theorem t2_loop {α : Type} (𝒱 : Variants) (c : Dev nD) (i : grid0.Coords) (arg1 : Memref sig .tc .smem S1x1x1024 .i32) (harg1 : arg1.IsWhole) (arg2 : Memref sig .tc .vmem S1024x1152 .f32) (harg2 : arg2.IsWhole)
    (arg3 : Memref sig .tc .hbm S77824x1152 .f32) (harg3 : arg3.IsWhole) (harg4 : (Memref.whole main_v0 : Memref sig .tc .hbm S77824x1152 .f32).IsWhole)
    (P : Fin 1024 → Fin 77824) (fs : Buf (Elt F) (arg2.view.loc (c : Thread nD τ)))
    (f : Buf (Elt F) ((c : Thread nD τ).loc main_v0)) (kk : Unit → Prog (TpuEff nD τ sig (Elt F) Λ₀ .tc) α) (Q : α → sProp 𝕄) :
    Drain c arg2 P fs f 0
      ⊢ iprop((iprop(bigSep Finset.univ (deliv c arg2 P fs f) ∗ semVal ((c : Thread nD τ), scell) 0 ∗ (∃ W, owes (c : Thread nD τ) 0 W))
          -∗ wp frame (wpE (defs₀ (F := F)) 𝒱 (c : Thread nD τ) none) Set.univ (kk ⟨⟩) Q)
        -∗ wp frame (wpE (defs₀ (F := F)) 𝒱 (c : Thread nD τ) none) Set.univ
          (Scf.Loop.for k0_t2_loop k0_t2_ok ⟨⟩ (k0_t2_body i arg1 harg1 arg2 harg2 arg3 harg3 (Memref.whole main_v0) harg4 cc0_scratch0) >>= kk) Q) := by
  iintro H Hk
  iapply (Scf.wp_for_bind frame (wpE (defs₀ (F := F)) 𝒱 (c : Thread nD τ) none) Set.univ k0_t2_loop.lb k0_t2_loop.ub k0_t2_loop.st k0_t2_ok ()
    (k0_t2_body i arg1 harg1 arg2 harg2 arg3 harg3 (Memref.whole main_v0) harg4 cc0_scratch0)
    (fun k _ => Drain c arg2 P fs f k)
    (fun t x => t2_step 𝒱 c i arg1 harg1 arg2 harg2 arg3 harg3 harg4 P fs f t x)) $$ H
  iintro %x H
  ihave H' := (show Drain c arg2 P fs f (Scf.trips k0_t2_loop.lb k0_t2_loop.ub k0_t2_loop.st) ⊢ iprop(Transfers.Batch (countersEmb (U := Pipeline.UD sig nD τ)) (c : Thread nD τ) scell () rowAmount (deliv c arg2 P fs f) 1024 (rowAmount * 1024)
    ∗ ∃ W, owes (c : Thread nD τ) 0 W) from by rw [t2_trips]; unfold Drain; rw [Nat.mul_comm]) $$ H
  icases H' with ⟨HB, HO⟩
  imod (Transfers.batch_collect' (countersEmb (U := Pipeline.UD sig nD τ)) (c : Thread nD τ) rowAmount_pos) $$ HB with ⟨HD, Hv⟩
  iapply Hk
  isplitl [HD]; · iexact HD
  isplitl [Hv]; · iexact Hv
  iexact HO

end Cert.KernelIdeal.Sort

end
-- ==== Proof.Sort.Body.lean ====
/-
  What the row sort leaves: the sorted array after one block's rows have landed, and the kernel's body as that update.
-/
module

public import proofs.«01_k».proof.Proof.Sort.Loops
public import proofs.«01_k».proof.Proof.Gen.KernelIdeal.Frame
public import proofs.«01_k».proof.Proof.Gen.KernelIdeal.Skeleton
public import proofs.«01_k».proof.Proof.Gen.KernelIdeal.Loops
public import Idealize.ShloMosaic.Lib.Batch
public import Idealize.ShloMosaic.Lib.Ring
public import Idealize.ShloMosaic.Lib.Tactic
public import Idealize.ShloMosaic.Lib.Pipeline.ValueKit.Geometry

@[expose] public section

set_option maxRecDepth 16384

noncomputable section

namespace Cert.KernelIdeal.Sort

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The sorted array after a block of rows -/

/-- Word `r` of a block of positions. -/
def posIx (r : Fin 1024) : S1x1x1024.Idx := fun a => match a with
  | ⟨0, _⟩ => (0 : Fin 1) | ⟨1, _⟩ => (0 : Fin 1) | ⟨2, _⟩ => r
/-- Element `j` of row `r` of a block of rows. -/
def rowIx (r : Fin 1024) (j : Fin 1152) : S1024x1152.Idx := fun a => match a with
  | ⟨0, _⟩ => r | ⟨1, _⟩ => j

/-- The sorted array once the rows `X2` of a block have gone to the rows its positions `X1` name. -/
def placed {A : Type} (X1 : S1x1x1024.Idx → BitVec 32) (X2 : S1024x1152.Idx → A) (f : S77824x1152.Idx → A) (x : S77824x1152.Idx) : A :=
  open Classical in if h : ∃ r : Fin 1024, (X1 (posIx r)).toNat = (x 0).val then X2 (rowIx h.choose (x 1)) else f x

theorem placed_of_eq {A : Type} (X1 : S1x1x1024.Idx → BitVec 32) (X2 : S1024x1152.Idx → A) (f : S77824x1152.Idx → A)
    (P : Fin 1024 → Fin 77824) (hP : ∀ r, (X1 (posIx r)).toNat = (P r).val) (hinj : Function.Injective P)
    (x : S77824x1152.Idx) (r : Fin 1024) (hx : (x 0).val = (P r).val) : placed X1 X2 f x = X2 (rowIx r (x 1)) := by
  unfold placed
  have h : ∃ r : Fin 1024, (X1 (posIx r)).toNat = (x 0).val := ⟨r, by rw [hP, hx]⟩
  rw [dif_pos h]
  have e : h.choose = r := hinj (Fin.ext (by rw [← hP, h.choose_spec, hx]))
  rw [e]
theorem placed_of_ne {A : Type} (X1 : S1x1x1024.Idx → BitVec 32) (X2 : S1024x1152.Idx → A) (f : S77824x1152.Idx → A)
    (x : S77824x1152.Idx) (hx : ∀ r : Fin 1024, (X1 (posIx r)).toNat ≠ (x 0).val) : placed X1 X2 f x = f x := by
  unfold placed
  rw [dif_neg fun ⟨r, h⟩ => hx r h]

section

variable (c : Dev nD) (arg1 : Memref sig .tc .smem S1x1x1024 .i32) (arg2 : Memref sig .tc .vmem S1024x1152 .f32)
  (P : Fin 1024 → Fin 77824)

/-- The word loaded for row `r` is the block's word `r`. -/
theorem word_eq (fp : Buf (Elt F) (arg1.view.loc (c : Thread nD τ))) (r : Fin 1024) :
    word c arg1 fp r = arg1.view.read (Elt F) fp (posIx r) := by
  unfold word
  show arg1.view.read (Elt F) fp ((Rect.unit (s := S1x1x1024) ![0, 0, r.val] S1x1x1.size (pos_inb r)).emb _) = _
  congr 1
  funext a
  apply Fin.ext
  rw [Idealize.ShloMosaic.ValueKit.rect_emb_unit_val]
  fin_cases a
  · rfl
  · rfl
  · rfl

/-- On row `P r` what row `r`'s copy leaves is the block's update. -/
theorem landed_eq (X1 : S1x1x1024.Idx → BitVec 32) (hP : ∀ r, (X1 (posIx r)).toNat = (P r).val) (hinj : Function.Injective P)
    (fs : Buf (Elt F) (arg2.view.loc (c : Thread nD τ))) (f : Buf (Elt F) ((c : Thread nD τ).loc main_v0)) (r : Fin 1024)
    (x : S77824x1152.Idx) (hx : x ∈ dset (P r)) :
    landed c arg2 P fs f r x = placed X1 (arg2.view.read (Elt F) fs) f x := by
  have hx0 := (mem_dset _ _).mp hx
  rw [placed_of_eq X1 _ f P hP hinj x r hx0]
  obtain ⟨y, rfl⟩ : ∃ y, (Rect.unit (s := S77824x1152) ![(P r).val, 0] S1x1152.size (dst_inb (P r))).emb y = x := by
    refine ⟨fun a => match a with | ⟨0, _⟩ => (0 : Fin 1) | ⟨1, _⟩ => x 1, ?_⟩
    funext a
    apply Fin.ext
    rw [Idealize.ShloMosaic.ValueKit.rect_emb_unit_val]
    fin_cases a
    · show (P r).val + 0 = (x 0).val; omega
    · show 0 + (x 1).val = (x 1).val; omega
  unfold landed
  refine (View.write_emb_of_mem (v := (dstM (P r)).view) f _ (Finset.mem_univ y)).trans ?_
  show arg2.view.read (Elt F) fs ((Rect.unit (s := S1024x1152) ![r.val, 0] S1x1152.size (src_inb r)).emb y) = _
  congr 1
  funext a
  apply Fin.ext
  rw [Idealize.ShloMosaic.ValueKit.rect_emb_unit_val]
  have hy0 : (y 0).val = 0 := by have : (y 0).val < 1 := (y 0).isLt; omega
  fin_cases a
  · show r.val + (y 0).val = r.val; omega
  · show 0 + (y 1).val = (((Rect.unit (s := S77824x1152) ![(P r).val, 0] S1x1152.size (dst_inb (P r))).emb y) 1).val
    rw [Idealize.ShloMosaic.ValueKit.rect_emb_unit_val]; rfl

/-- A row outside those taken by the first `k` copies is none of them. -/
theorem mem_untaken (k : ℕ) (y : Fin 77824) : y ∈ untaken P k ↔ ∀ j : Fin 1024, j.val < k → P j ≠ y := by
  unfold untaken; simp only [Finset.mem_filter, Finset.mem_univ, true_and]

/-- Nothing held beside a thing held. -/
theorem emp_left (A : sProp 𝕄) : A = iprop(emp ∗ A) := by
  have h1 : A ⊢ iprop(emp ∗ A) := by
    iintro H; isplitr; · iempintro
    iexact H
  have h2 : iprop(emp ∗ A) ⊢ A := by iintro ⟨-, H⟩; iexact H
  exact Entails.antisymm h1 h2

/-- A row held at one contents is held at another that agrees on it. -/
theorem rowPt_congr (f g : Buf (Elt F) ((c : Thread nD τ).loc main_v0)) (y : Fin 77824) (h : ∀ x ∈ dset y, f x = g x) :
    (rowPt c f y : sProp 𝕄) = rowPt c g y := pointsTo_congr h

/-- Three held things regrouped. -/
theorem rotate (A B C : sProp 𝕄) : iprop(A ∗ B ∗ C) = iprop((B ∗ A) ∗ C) := by
  have h1 : iprop(A ∗ B ∗ C) ⊢ iprop((B ∗ A) ∗ C) := by
    iintro ⟨H1, H2, H3⟩
    isplitr [H3]
    · isplitl [H2]; · iexact H2
      iexact H1
    iexact H3
  have h2 : iprop((B ∗ A) ∗ C) ⊢ iprop(A ∗ B ∗ C) := by
    iintro ⟨⟨H2, H1⟩, H3⟩
    isplitl [H1]; · iexact H1
    isplitl [H2]; · iexact H2
    iexact H3
  exact Entails.antisymm h1 h2

/-- The staged block held whole is its rows held. -/
theorem src_blocks (fs : Buf (Elt F) (arg2.view.loc (c : Thread nD τ))) :
    (arg2.view.loc (c : Thread nD τ) ↦[arg2.view.set]{fullShare} fs : sProp 𝕄) = bigSep Finset.univ (srcPt c arg2 fs) := by
  have h := pointsTo_biUnion (nD := nD) (τ := τ) (sig := sig) (Ix := Unit) (Val := Elt F) (Name := ℕ) (U := Pipeline.UD sig nD τ) (Lvl := ℕ)
    (ℓ := arg2.view.loc (c : Thread nD τ)) (q := fullShare) (f := fs) Finset.univ (fun r => sblk arg2 r) (fun r _ r' _ h => sblk_disjoint arg2 r r' h)
  rw [← sblk_cover arg2]; exact h

/-- The sorted array held whole is its rows held. -/
theorem dst_blocks (f : Buf (Elt F) ((c : Thread nD τ).loc main_v0)) :
    (((c : Thread nD τ).loc main_v0) ↦{fullShare} f : sProp 𝕄) = bigSep Finset.univ (rowPt c f) :=
  Ring.pointsTo_blocks (ℓ := ((c : Thread nD τ).loc main_v0)) dset dset_disjoint dset_cover f

/-- The rows taken by the first `k` copies beside the rows not taken are all the rows. -/
theorem untaken_all (hinj : Function.Injective P) (Φ : Fin 77824 → sProp 𝕄) :
    ∀ k : ℕ, k ≤ 1024 → bigSep Finset.univ Φ = iprop(bigSep (Ring.rangeSet 1024 0 k) (fun r => Φ (P r)) ∗ bigSep (untaken P k) Φ)
  | 0, _ => by
    rw [Ring.bigSep_rangeSet_empty (le_refl _), untaken_zero]
    exact emp_left _
  | k + 1, hk => by
    rw [untaken_all hinj Φ k (by omega), bigSep_untaken P hinj ⟨k, by omega⟩,
      Ring.bigSep_rangeSet_last (Φ := fun r => Φ (P r)) (lo := 0) (hi := k + 1) (by omega) hk]
    exact rotate _ _ _

/-- The rows no copy took, at the updated contents. -/
theorem left_rows (X1 : S1x1x1024.Idx → BitVec 32) (hP : ∀ r, (X1 (posIx r)).toNat = (P r).val)
    (X2 : S1024x1152.Idx → Elt F .f32) (f g : Buf (Elt F) ((c : Thread nD τ).loc main_v0)) (hg : g = placed X1 X2 f) :
    bigSep (untaken P 1024) (rowPt c f) = (bigSep (untaken P 1024) (rowPt c g) : sProp 𝕄) := by
  refine bigSep_congr fun y hy => rowPt_congr c _ _ y fun x hx => ?_
  have hy' := (mem_untaken P 1024 y).mp hy
  subst hg
  refine (placed_of_ne X1 _ f x ?_).symm
  intro r e
  refine hy' r r.isLt (Fin.ext ?_)
  have h1 := (mem_dset _ _).mp hx
  have h2 := hP r
  omega

/-- Two held things, the first in two parts, with the last part exchanged. -/
theorem regroup (A B D : sProp 𝕄) : iprop((A ∗ B) ∗ D) ⊢ iprop((A ∗ D) ∗ B) := by
  iintro ⟨⟨H1, H2⟩, H3⟩
  isplitr [H2]
  · isplitl [H1]; · iexact H1
    iexact H3
  iexact H2

/-- The deliveries, at the updated contents. -/
theorem given_rows (X1 : S1x1x1024.Idx → BitVec 32) (hP : ∀ r, (X1 (posIx r)).toNat = (P r).val) (hinj : Function.Injective P)
    (fs : Buf (Elt F) (arg2.view.loc (c : Thread nD τ))) (f g : Buf (Elt F) ((c : Thread nD τ).loc main_v0)) (hg : g = placed X1 (arg2.view.read (Elt F) fs) f) :
    bigSep Finset.univ (deliv c arg2 P fs f) = (iprop(bigSep Finset.univ (fun r => rowPt c g (P r)) ∗ bigSep Finset.univ (srcPt c arg2 fs)) : sProp 𝕄) := by
  rw [← bigSep_sep']
  refine bigSep_congr fun r _ => ?_
  unfold deliv rowPt
  subst hg
  rw [pointsTo_congr fun x hx => landed_eq c arg2 P X1 hP hinj fs f r x hx]

/-- THE JOIN: the deliveries of all the copies and the rows no copy took are the sorted array as updated, and the staged
    block. -/
theorem join (X1 : S1x1x1024.Idx → BitVec 32) (hP : ∀ r, (X1 (posIx r)).toNat = (P r).val) (hinj : Function.Injective P)
    (fs : Buf (Elt F) (arg2.view.loc (c : Thread nD τ))) (f g : Buf (Elt F) ((c : Thread nD τ).loc main_v0)) (hg : g = placed X1 (arg2.view.read (Elt F) fs) f) :
    iprop(bigSep Finset.univ (deliv c arg2 P fs f) ∗ bigSep (untaken P 1024) (rowPt c f))
      ⊢ (iprop((((c : Thread nD τ).loc main_v0) ↦{fullShare} g)
        ∗ (arg2.view.loc (c : Thread nD τ) ↦[arg2.view.set]{fullShare} fs)) : sProp 𝕄) := by
  have hall := untaken_all P hinj (rowPt c g) 1024 (le_refl _)
  rw [Ring.rangeSet_univ] at hall
  rw [dst_blocks, src_blocks, given_rows c arg2 P X1 hP hinj fs f g hg, left_rows c P X1 hP (arg2.view.read (Elt F) fs) f g hg, hall]
  exact regroup _ _ _

end

/-! ## The kernel's body -/

/-- THE BODY at a grid point: from a block of positions that are rows of the sorted array, apart from each other, and a
    block of rows, it places the rows and leaves the blocks and its semaphore as they were. -/
theorem body_wp (𝒱 : Variants) (c : Dev nD) (i : grid0.Coords) (arg1 : Memref sig .tc .smem S1x1x1024 .i32) (harg1 : arg1.IsWhole) (arg2 : Memref sig .tc .vmem S1024x1152 .f32) (harg2 : arg2.IsWhole)
    (arg3 : Memref sig .tc .hbm S77824x1152 .f32) (harg3 : arg3.IsWhole) (harg4 : (Memref.whole main_v0 : Memref sig .tc .hbm S77824x1152 .f32).IsWhole)
    (P : Fin 1024 → Fin 77824) (hinj : Function.Injective P)
    (X1 : S1x1x1024.Idx → BitVec 32) (hP : ∀ r, (X1 (posIx r)).toNat = (P r).val) (X2 : S1024x1152.Idx → Elt F .f32)
    (f : Buf (Elt F) ((c : Thread nD τ).loc main_v0)) :
    (iprop((((c : Thread nD τ).loc main_v0) ↦{fullShare} f) ∗ semVal ((c : Thread nD τ), scell) 0 ∗ (∃ W, owes (c : Thread nD τ) 0 W)
        ∗ owns (Val := Elt F) (c : Thread nD τ) arg1 fullShare X1 ∗ owns (c : Thread nD τ) arg2 fullShare X2) : sProp 𝕄)
      ⊢ wp frame (wpE (defs₀ (F := F)) 𝒱 (c : Thread nD τ) none) Set.univ
          (cc0_moe_sort_rows i arg1 harg1 arg2 harg2 arg3 harg3 (Memref.whole main_v0) harg4 cc0_scratch0)
          (fun _ => iprop((((c : Thread nD τ).loc main_v0) ↦{fullShare} (placed X1 X2 f : Buf (Elt F) ((c : Thread nD τ).loc main_v0))) ∗ semVal ((c : Thread nD τ), scell) 0 ∗ (∃ W, owes (c : Thread nD τ) 0 W)
            ∗ owns (Val := Elt F) (c : Thread nD τ) arg1 fullShare X1 ∗ owns (c : Thread nD τ) arg2 fullShare X2)) := by
  rw [cc0_moe_sort_rows_eq_skeleton]
  unfold cc0_moe_sort_rows_skel owns
  iintro ⟨Hv, Hsem, HO, ⟨%fp, %hfp, Hp⟩, ⟨%fs, %hfs, Hs⟩⟩
  have hPw : ∀ r, (word c arg1 fp r).toNat = (P r).val := fun r => by rw [word_eq, hfp]; exact hP r
  imod (Transfers.batch_alloc' (countersEmb (U := Pipeline.UD sig nD τ)) (c : Thread nD τ) (sm := scell) () rowAmount (deliv c arg2 P fs f) (E := Set.univ)) $$ Hsem with HB
  iapply (t1_loop 𝒱 c i arg1 harg1 arg2 harg2 arg3 harg3 harg4 P hinj fp fs f hPw _ _) $$ [HB Hp Hv Hs]
  · unfold At
    isplitl [HB]; · iexact HB
    isplitl [Hp]; · iexact Hp
    rw [untaken_zero, Ring.rangeSet_univ]
    isplitl [Hv]
    · iapply (Entails.of_eq (dst_blocks c f)) $$ Hv
    · iapply (Entails.of_eq (src_blocks c arg2 fs)) $$ Hs
  iintro H
  ihave H' := (show At c arg1 arg2 P fp fs f 1024 ⊢ iprop(Transfers.Batch (countersEmb (U := Pipeline.UD sig nD τ)) (c : Thread nD τ) scell () rowAmount (deliv c arg2 P fs f) 1024 0
    ∗ (arg1.view.loc (c : Thread nD τ) ↦[arg1.view.set]{fullShare} fp)
    ∗ bigSep (untaken P 1024) (rowPt c f)) from by
      unfold At; iintro ⟨H1, H2, H3, -⟩
      isplitl [H1]; · iexact H1
      isplitl [H2]; · iexact H2
      iexact H3) $$ H
  icases H' with ⟨HB, Hp, HU⟩
  iapply (t2_loop 𝒱 c i arg1 harg1 arg2 harg2 arg3 harg3 harg4 P fs f _ _) $$ [HB HO]
  · unfold Drain
    rw [Nat.zero_mul]
    isplitl [HB]; · iexact HB
    iexact HO
  iintro ⟨HD, Hsem, HO⟩
  ihave HJ := (join c arg2 P X1 hP hinj fs f _ rfl) $$ [HD HU]
  · isplitl [HD]; · iexact HD
    iexact HU
  icases HJ with ⟨Hv, Hs⟩
  rw [show (pure ⟨⟩ : Prog (TpuEff nD τ sig (Elt F) Λ₀ .tc) PUnit) = .ret ⟨⟩ from rfl, wp_ret]
  imodintro
  rw [hfs]
  isplitl [Hv]; · iexact Hv
  isplitl [Hsem]; · iexact Hsem
  isplitl [HO]; · iexact HO
  isplitl [Hp]
  · iexists fp
    isplitr; · ipureintro; exact hfp
    iexact Hp
  · iexists fs
    isplitr; · ipureintro; exact hfs
    iexact Hs

end Cert.KernelIdeal.Sort

end
-- ==== Proof.Sort.Run.lean ====
/-
  The row sort's run: the sorted array after each block, the pipeline's proof data, the body's obligation, and the run of
  the whole program.
-/
module

public import proofs.«01_k».proof.Proof.Sort.Body
public import Idealize.ShloMosaic.Lib.Pipeline.KitQuiescent

@[expose] public section

set_option maxRecDepth 16384

noncomputable section

namespace Cert.KernelIdeal.Sort

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev 𝒱₀ : Variants := Variants.none

/-! ## The sorted array, block by block -/

/-- The positions the pipeline stages at point `t`. -/
def posAt (c : Dev nD) (t : Fin cfg0.N) : S1x1x1024.Idx → BitVec 32 := iblk m c 0 t
/-- The rows the pipeline stages at point `t`. -/
def srcAt (c : Dev nD) (t : Fin cfg0.N) : S1024x1152.Idx → Elt F .f32 := iblk m c 1 t

/-- The sorted array before point `n`: what it held at launch, with the rows of the points before `n` placed. -/
def rowsAfter (c : Dev nD) : ℕ → Buf (Elt F) ((c : Thread nD τ).loc main_v0)
  | 0 => V m c main_v0
  | n + 1 => if h : n < cfg0.N then placed (posAt m c ⟨n, h⟩) (srcAt m c ⟨n, h⟩) (rowsAfter c n) else rowsAfter c n

theorem rowsAfter_succ (c : Dev nD) (t : Fin cfg0.N) : rowsAfter m c (t.val + 1) = placed (posAt m c t) (srcAt m c t) (rowsAfter m c t.val) :=
  dif_pos t.isLt

/-- What is asked of the launch memory: at every point the staged positions are rows of the sorted array, apart from each
    other. -/
def PreOK : Prop := ∀ (c : Dev nD) (t : Fin cfg0.N), (∀ r, (posAt m c t (posIx r)).toNat < 77824)
  ∧ ∀ r r', (posAt m c t (posIx r)).toNat = (posAt m c t (posIx r')).toNat → r = r'

/-! ## The pipeline's proof data -/

/-- Before point `n`: the sorted array, the initial array, and the copies' semaphore at zero. -/
def held (c : Dev nD) (n : ℕ) : sProp 𝕄 :=
  iprop((((c : Thread nD τ).loc main_v0) ↦{fullShare} rowsAfter m c n)
    ∗ (((c : Thread nD τ).loc main_arg2) ↦{fullShare} V m c main_arg2) ∗ semVal ((c : Thread nD τ), scell) 0)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := held m c t.val
  q _ := fullShare
  owed _ := 0

/-- The staged positions are point `t`'s at point `t`. -/
theorem before_pos (c : Dev nD) (t : Fin cfg0.N) (d) : (dats m 0 c).before 0 t d = iblk m c 0 t :=
  ((dats m 0 c).before_in_eq_fetched 0 rfl (fun _ => rfl) (fun _ _ _ => rfl) (fun t => by
    rw [show (dats m 0 c).after 0 t = iblk m c 0 t from rfl]; unfold Dat.blockOf iblk; rw [show (dats m 0 c).A 0 = V m c (Pipeline.arrRef spec0 0) from rfl]; try rfl) t d).trans
    (by unfold Dat.fetched Dat.blockOf iblk; rw [show (dats m 0 c).A 0 = V m c (Pipeline.arrRef spec0 0) from rfl]; try rfl)
/-- The staged rows are point `t`'s at point `t`. -/
theorem before_src (c : Dev nD) (t : Fin cfg0.N) (d) : (dats m 0 c).before 1 t d = iblk m c 1 t :=
  ((dats m 0 c).before_in_eq_fetched 1 rfl (fun _ => rfl) (fun _ _ _ => rfl) (fun t => by
    rw [show (dats m 0 c).after 1 t = iblk m c 1 t from rfl]; unfold Dat.blockOf iblk; rw [show (dats m 0 c).A 1 = V m c (Pipeline.arrRef spec0 1) from rfl]; try rfl) t d).trans
    (by unfold Dat.fetched Dat.blockOf iblk; rw [show (dats m 0 c).A 1 = V m c (Pipeline.arrRef spec0 1) from rfl]; try rfl)

/-- The waits recorded, within no bound. -/
theorem owes_in (c : Dev nD) (B : Set (SemLoc sig × Unit)) :
    (Pipeline.owesWithin c 0 B : sProp 𝕄) ⊢ iprop(∃ W, owes (c : Thread nD τ) 0 W) := by
  iintro ⟨%W, -, H⟩; iexists W; iexact H
theorem owes_out (c : Dev nD) (B : Set (SemLoc sig × Unit)) (hB : B = Set.univ) :
    iprop(∃ W, owes (c : Thread nD τ) 0 W) ⊢ (Pipeline.owesWithin c 0 B : sProp 𝕄) := by
  iintro ⟨%W, H⟩; iexists W
  isplitr; · ipureintro; subst hB; exact Set.subset_univ _
  iexact H

/-- The body's step on what the pipeline's invariant holds. -/
theorem body_held (hpre : PreOK m) (c : Dev nD) (t : Fin cfg0.N) :
    iprop(held m c t.val ∗ (∃ W, owes (c : Thread nD τ) 0 W)
        ∗ owns (Val := Elt F) (c : Thread nD τ) (st0_0 t) fullShare (posAt m c t) ∗ owns (c : Thread nD τ) (st0_1 t) fullShare (srcAt m c t))
      ⊢ (wp frame (wpE (defs₀ (F := F)) 𝒱₀ (c : Thread nD τ) none) Set.univ (bodyAt0 t) (fun _ =>
        iprop(held m c (t.val + 1) ∗ (∃ W, owes (c : Thread nD τ) 0 W)
        ∗ owns (Val := Elt F) (c : Thread nD τ) (st0_0 t) fullShare (posAt m c t) ∗ owns (c : Thread nD τ) (st0_1 t) fullShare (srcAt m c t))) : sProp 𝕄) := by
  unfold held
  rw [rowsAfter_succ]
  iintro ⟨⟨Hv, Ha, Hs⟩, HO, H1, H2⟩
  iapply (wp_wand Idealize.ShloMosaic.frame (wpE (defs₀ (F := F)) 𝒱₀ (c : Thread nD τ) none) Set.univ) $$ [Hv Hs HO H1 H2]
  · iapply (body_wp 𝒱₀ c (grid0.coords t) (win0_0.stage (cfg0.slots t 0)) (hstage0_0 ((cfg0.slots t 0).cast nbuf0_0)) (win0_1.stage (cfg0.slots t 1)) (hstage0_1 ((cfg0.slots t 1).cast nbuf0_1)) (Memref.whole main_v0) (Memref.isWhole_whole _) (Memref.isWhole_whole _)
      (fun r => ⟨(posAt m c t (posIx r)).toNat, (hpre c t).1 r⟩) (fun r r' h => (hpre c t).2 r r' (Fin.mk.inj h)) (posAt m c t) (fun _ => rfl) (srcAt m c t) (rowsAfter m c t.val))
    isplitl [Hv]; · iexact Hv
    isplitl [Hs]; · iexact Hs
    isplitl [HO]; · iexact HO
    isplitl [H1]; · iexact H1
    iexact H2
  · iintro %u ⟨Hv, Hs, HO, H1, H2⟩
    isplitl [Hv Ha Hs]
    · isplitl [Hv]; · iexact Hv
      isplitl [Ha]; · iexact Ha
      iexact Hs
    isplitl [HO]; · iexact HO
    isplitl [H1]; · iexact H1
    iexact H2

/-- The library's body obligation on core `c`. -/
theorem body_obligation (hpre : PreOK m) (c : Dev nD) :
    Pipeline.BodyObligationLoose (dats (F := F) m 0 c) (defs₀ (F := F)) 𝒱₀ () Set.univ := fun t => by
  rw [bigSep_W0, bigSep_W0]
  have hΦ : (dats (F := F) m 0 c).Φ t.castSucc = held m c t.val := Pipeline.Dat.Φ_castSucc (fun n _ => held m c n) t
  rw [hΦ, show (dats (F := F) m 0 c).Φ t.succ = held m c (t.val + 1) from rfl]
  simp only [before_pos, before_src]
  show iprop(held m c t.val ∗ (Pipeline.owesWithin c 0 ((dats (F := F) m 0 c).bound () t.castSucc)) ∗ (∃ d, owns (Val := Elt F) (c : Thread nD τ) (st0_0 t) fullShare (posAt m c t)) ∗ (∃ d, owns (c : Thread nD τ) (st0_1 t) fullShare (srcAt m c t)))
    ⊢ (wp frame (wpE (defs₀ (F := F)) 𝒱₀ (c : Thread nD τ) none) Set.univ (bodyAt0 t) (fun _ =>
        iprop(held m c (t.val + 1) ∗ (Pipeline.owesWithin c 0 ((dats (F := F) m 0 c).bound () t.succ))
        ∗ owns (Val := Elt F) (c : Thread nD τ) (st0_0 t) fullShare (posAt m c t) ∗ owns (c : Thread nD τ) (st0_1 t) fullShare (srcAt m c t))) : sProp 𝕄)
  iintro ⟨Hh, HO, ⟨%d0, H1⟩, ⟨%d1, H2⟩⟩
  ihave HO := (owes_in c _) $$ HO
  iapply (wp_wand Idealize.ShloMosaic.frame (wpE (defs₀ (F := F)) 𝒱₀ (c : Thread nD τ) none) Set.univ) $$ [Hh HO H1 H2]
  · iapply (body_held m hpre c t)
    isplitl [Hh]; · iexact Hh
    isplitl [HO]; · iexact HO
    isplitl [H1]; · iexact H1
    iexact H2
  · iintro %u ⟨Hh, HO, H1, H2⟩
    ihave HO := (owes_out c _ (Set.univ_union _)) $$ HO
    isplitl [Hh]; · iexact Hh
    isplitl [HO]; · iexact HO
    isplitl [H1]; · iexact H1
    iexact H2

/-! ## The run -/

/-- The kernel's own semaphore. -/
def osem : Fin 1 → SemLoc sig := fun _ => .dma cc0_scratch0.sem
theorem ownSemFacts : Pipeline.OwnSemFacts spec0 osem := by decide

theorem ownSems0_one (c : Dev nD) : (Pipeline.ownSems0 (Ix := Unit) (Name := ℕ) (U := Pipeline.UD sig nD τ) (Lvl := ℕ) (Val := Elt F) (τ := τ) osem c : sProp 𝕄)
    = semVal ((c : Thread nD τ), scell) 0 :=
  Pipeline.ownSems0_eq_of_list c osem [0] (by decide) (by decide)

set_option maxHeartbeats 800000 in
/-- @main up to the call. -/
theorem hmain_sort : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- What every final state holds: the arguments as launched and the sorted array as the points left it. -/
def QC (s : MemSt nD τ sig (Elt F)) : Prop :=
  ∀ c : Dev nD, s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_v0) = rowsAfter m c 64

/-- THE RUN: from positions in range and apart at every point, every execution ends, the arguments as launched, the sorted
    array as the points left it, every counter zero. -/
theorem run_main (hpre : PreOK m) : θ_run defs (onTc (τ := τ) (main (F := F))) (s₀ m ρ) (fun r => QC m r.2 ∧ r.2.sem = fun _ => 0) :=
  Pipeline.θ_run_region_kit_quiescent cfgs (dats m) () (0 : Fin 1) launch0 ownSemFacts (embL : Emb (UR sig nD τ) 𝕄) defs₀ 𝒱₀ m ρ main
    (hbody := body_obligation m hpre) (hshare := fun c => (dats m 0 c).share_full fun _ => rfl)
    (howed := fun _ _ => rfl)
    (G := fun _ => iprop(emp)) (u₀ := (initOf (Pipeline.cells cfgs cellOf_inj) (Pipeline.launchToks cfgs cellOf_inj), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmain_sort m) (hA := fun _ _ => rfl)
    (X := fun c => held m c 0) (Y := fun c => iprop((((c : Thread nD τ).loc main_v0) ↦{fullShare} rowsAfter m c 64)
    ∗ (((c : Thread nD τ).loc main_arg2) ↦{fullShare} V m c main_arg2))) (Z := fun _ => iprop(emp))
    (hX := fun c => by
      unfold held
      rw [unscopedRest0_eq, ownSems0_one]
      iintro ⟨⟨Ha, Hv⟩, Hs, -, -, -⟩
      imodintro
      isplitl
      · isplitl [Hv]; · iexact Hv
        isplitl [Ha]; · iexact Ha
        iexact Hs
      iempintro)
    (hin := fun c => by
      rw [scopedRest0_eq, show (dats m 0 c).Φ 0 = held m c 0 from rfl]
      iintro ⟨H, -⟩; iexact H)
    (hout := fun c => by
      rw [scopedRest0_eq, ownSems0_one, show (dats m 0 c).Φ (Fin.last cfg0.N) = held m c cfg0.N from rfl, show cfg0.N = 64 from N_0]
      unfold held
      iintro ⟨Hv, Ha, Hs⟩
      isplitl [Hv Ha]
      · isplitl [Hv]; · iexact Hv
        iexact Ha
      isplitl [Hs]; · iexact Hs
      iempintro)
    (QY := fun c s => s.mem ((c : Thread nD τ).loc main_v0) = rowsAfter m c 64 ∧ s.mem ((c : Thread nD τ).loc main_arg2) = V m c main_arg2)
    (hY := fun c s' => by
      iintro ⟨⟨Hv, Ha⟩, -, HSI⟩
      icombine HSI Hv gives %h1
      icombine HSI Ha gives %h2
      imodintro
      isplitr; · ipureintro; exact ⟨Buf.eq_of_forall_mem_univ h1, Buf.eq_of_forall_mem_univ h2⟩
      iexact HSI)
    (hQ := fun s h hz => ⟨fun c => ⟨((h c).1 0).trans (((dats m 0 c).arrAt_in 0 rfl _).trans (V_main_arg0 m c)),
      ((h c).1 1).trans (((dats m 0 c).arrAt_in 1 rfl _).trans (V_main_arg1 m c)), (h c).2.2.trans (V_main_arg2 m c), (h c).2.1⟩, hz⟩)

end Cert.KernelIdeal.Sort

end
-- ==== Proof.Sort.Scatter.lean ====
/-
  A scatter of whole rows, read at one element: the last row sent to the element's row stands. And the same of the sorted
  array the kernel builds block by block.
-/
module

public import proofs.«01_k».proof.Proof.Sort.Body
public import Idealize.ShloMosaic.Lib.Routing.OpsSet

@[expose] public section

set_option maxRecDepth 16384

noncomputable section

namespace Cert.KernelIdeal.Sort

open Cert.KernelIdeal Cert.KernelIdeal.Gen
open Idealize.ShloMosaic Idealize.ShloMosaic.Routing Idealize.ShloMosaic.ValueIdx

/-! ## The last write of a fold stands -/

/-- A fold over `0 … N - 1` that takes `val n` at each hit ends with the value of the last hit. -/
theorem foldl_last {A : Type} : ∀ (N : ℕ) (hit : Fin N → Prop) [DecidablePred hit] (val : Fin N → A) (x : A) (k : Fin N),
    hit k → (∀ n, k < n → ¬ hit n) → (List.finRange N).foldl (fun a n => if hit n then val n else a) x = val k
  | 0, _, _, _, _, k, _, _ => k.elim0
  | N + 1, hit, _, val, x, k, hk, hl => by
    rw [List.finRange_succ_last, List.foldl_append, List.foldl_map]
    show (if hit (Fin.last N) then val (Fin.last N) else _) = _
    by_cases e : k = Fin.last N
    · subst e; rw [if_pos hk]
    · have hlt : k < Fin.last N := lt_of_le_of_ne (Fin.le_last k) e
      rw [if_neg (hl _ hlt)]
      exact foldl_last N (fun n => hit n.castSucc) (fun n => val n.castSucc) x ⟨k.val, hlt⟩ hk (fun n hn => hl n.castSucc hn)

/-! ## Where an update of a row scatter lands -/

/-- Element `(t, j)` of the updates of a row scatter lands at `(y, c)` exactly when row `t`'s index word, read signed, is
    `y`, and `j` is `c`. -/
theorem lands_row {R C M w : ℕ} (d : ScatterDims (shape2 R C) (shape2 M 1) (shape2 M C)) (huw : d.updateWindowDims = [1])
    (hiw : d.insertedWindowDims = [0]) (hsd : d.scatterDimsToOperandDims = [0]) (hivd : d.indexVectorDim = 1)
    (idx : IVec (shape2 M 1) w) (t : Fin M) (j c : Fin C) (y : Fin R) :
    d.resultIdx? (ix2 t j) idx = some (ix2 y c) ↔ (idx (ix2 t (0 : Fin 1))).toInt = (y.val : Int) ∧ j = c := by
  have hm : (0 : Fin 2) ∈ d.scatterDimsToOperandDims := by rw [hsd]; exact List.mem_singleton.2 rfl
  have hkept : d.sKept = [1] := by
    show (shape2 R C).kept d.insertedWindowDims = _
    rw [hiw]; rfl
  have hu : d.uScatter = [0] := by
    show (shape2 M C).kept d.updateWindowDims = _
    rw [huw]; rfl
  have pick : ∀ (l : List (Fin 2)) (n : ℕ) (h : n < l.length) (m : Fin 2), l = [m] → l[n]'h = m := by
    intro l n h m hl
    subst hl
    have : n = 0 := by simpa using h
    subst this; rfl
  have hwin0 : d.window (ix2 t j) 0 = 0 := by
    unfold ScatterDims.window
    rw [dif_neg fun h => by rw [hkept] at h; exact absurd (List.mem_singleton.1 h) (by decide : (0 : Fin 2) ≠ 1)]
  have hwin1 : d.window (ix2 t j) 1 = j.val := by
    unfold ScatterDims.window
    rw [dif_pos (by rw [hkept]; exact List.mem_singleton.2 rfl)]
    exact congrArg (fun q : Fin 2 => ((ix2 t j : (shape2 M C).Idx) q).val) (pick _ _ _ 1 huw)
  have hstart1 : d.start (ix2 t j) idx 1 = 0 := by
    unfold ScatterDims.start
    rw [dif_neg fun h => by rw [hsd] at h; exact absurd (List.mem_singleton.1 h) (by decide : (1 : Fin 2) ≠ 0)]
  have hstart0 : d.start (ix2 t j) idx 0 = (idx (ix2 t (0 : Fin 1))).toInt := by
    unfold ScatterDims.start
    rw [dif_pos hm]
    have hsi : d.siIdx (ix2 t j) ⟨d.scatterDimsToOperandDims.idxOf 0, List.idxOf_lt_length_iff.2 hm⟩ = ix2 t (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        exact congrArg (fun q : Fin 2 => ((ix2 t j : (shape2 M C).Idx) q).val) (pick _ _ _ 0 hu)
      | ⟨1, _⟩ =>
        unfold ScatterDims.siIdx
        rw [dif_pos (by rw [hivd])]
        show List.idxOf (0 : Fin 2) d.scatterDimsToOperandDims = 0
        rw [hsd]; simp
    rw [hsi]
  rw [resultIdx?_ix2, hwin0, hwin1, hstart0, hstart1]
  constructor
  · rintro ⟨h0, h1⟩; exact ⟨by omega, Fin.ext (by omega)⟩
  · rintro ⟨h0, rfl⟩; exact ⟨by omega, by omega⟩

/-- A row scatter at an element whose row no update is sent to: the operand's. -/
theorem scatter_row_miss {A : Type} {R C M w : ℕ} (d : ScatterDims (shape2 R C) (shape2 M 1) (shape2 M C)) (huw : d.updateWindowDims = [1])
    (hiw : d.insertedWindowDims = [0]) (hsd : d.scatterDimsToOperandDims = [0]) (hivd : d.indexVectorDim = 1)
    (x0 : (shape2 R C).Idx → A) (idx : IVec (shape2 M 1) w) (upd : (shape2 M C).Idx → A) (y : Fin R) (c : Fin C)
    (h : ∀ t : Fin M, (idx (ix2 t (0 : Fin 1))).toInt ≠ (y.val : Int)) :
    Host.scatter d (fun _ b => b) x0 idx upd (ix2 y c) = x0 (ix2 y c) :=
  scatter_set_miss d x0 idx upd _ fun k hk => h (k 0) ((lands_row d huw hiw hsd hivd idx (k 0) (k 1) c y).1
    ((congrArg (fun q => d.resultIdx? q idx) (eq_ix2 k).symm).trans hk)).1

/-- A row scatter at an element of row `y`, row `k` of the updates being the last one sent to `y`: row `k`'s element. -/
theorem scatter_row_last {A : Type} {R C M w : ℕ} (d : ScatterDims (shape2 R C) (shape2 M 1) (shape2 M C)) (huw : d.updateWindowDims = [1])
    (hiw : d.insertedWindowDims = [0]) (hsd : d.scatterDimsToOperandDims = [0]) (hivd : d.indexVectorDim = 1)
    (x0 : (shape2 R C).Idx → A) (idx : IVec (shape2 M 1) w) (upd : (shape2 M C).Idx → A) (y : Fin R) (c : Fin C) (k : Fin M)
    (hk : (idx (ix2 k (0 : Fin 1))).toInt = (y.val : Int)) (hl : ∀ t : Fin M, k < t → (idx (ix2 t (0 : Fin 1))).toInt ≠ (y.val : Int)) :
    Host.scatter d (fun _ b => b) x0 idx upd (ix2 y c) = upd (ix2 k c) := by
  have hC : 0 < C := lt_of_le_of_lt (Nat.zero_le _) c.isLt
  rw [scatter_at]
  refine (foldl_last _ _ (fun n => upd ((shape2 M C).rowMajor.symm n)) (x0 (ix2 y c)) ((shape2 M C).rowMajor (ix2 k c)) ?_ ?_).trans ?_
  · rw [Equiv.symm_apply_apply]
    exact (lands_row d huw hiw hsd hivd idx k c c y).2 ⟨hk, rfl⟩
  · intro n hn hit
    obtain ⟨q, rfl⟩ := (shape2 M C).rowMajor.surjective n
    rw [Equiv.symm_apply_apply] at hit
    have hq := (lands_row d huw hiw hsd hivd idx (q 0) (q 1) c y).1 ((congrArg (fun q => d.resultIdx? q idx) (eq_ix2 q).symm).trans hit)
    have hlt : ((shape2 M C).rowMajor (ix2 k c)).val < ((shape2 M C).rowMajor q).val := hn
    rw [Shape.rowMajor_val_two, Shape.rowMajor_val_two] at hlt
    change k.val * C + c.val < (q 0).val * C + (q 1).val at hlt
    have h1 : (q 1).val = c.val := congrArg Fin.val hq.2
    rw [h1] at hlt
    exact hl (q 0) (Nat.lt_of_mul_lt_mul_right (a := C) (by omega)) hq.1
  · exact congrArg upd (Equiv.symm_apply_apply _ _)

/-! ## The kernel's sorted array -/

/-- The sorted array the blocks build, at an element no row below block `n` is sent to, and at one whose last such row is `k`. -/
theorem rows_read {A : Type} (rows : ℕ → S77824x1152.Idx → A) (X1 : Fin 64 → S1x1x1024.Idx → BitVec 32) (X2 : Fin 64 → S1024x1152.Idx → A)
    (hrow : ∀ n : Fin 64, rows (n.val + 1) = placed (X1 n) (X2 n) (rows n.val))
    (W : ℕ → ℕ) (U : ℕ → Fin 1152 → A) (hW : ∀ (n : Fin 64) (r : Fin 1024), (X1 n (posIx r)).toNat = W (n.val * 1024 + r.val))
    (hU : ∀ (n : Fin 64) (r : Fin 1024) j, X2 n (rowIx r j) = U (n.val * 1024 + r.val) j)
    (hlt : ∀ (n : Fin 64) r, (X1 n (posIx r)).toNat < 77824)
    (hinj : ∀ (n : Fin 64) r r', (X1 n (posIx r)).toNat = (X1 n (posIx r')).toNat → r = r') (x : S77824x1152.Idx) :
    ∀ n ≤ 64, ((∀ k < n * 1024, W k ≠ (x 0).val) → rows n x = rows 0 x)
      ∧ ∀ k < n * 1024, W k = (x 0).val → (∀ k' < n * 1024, k < k' → W k' ≠ (x 0).val) → rows n x = U k (x 1)
  | 0, _ => ⟨fun _ => rfl, fun k hk => absurd hk (by omega)⟩
  | n + 1, hn => by
    obtain ⟨ih0, ih1⟩ := rows_read rows X1 X2 hrow W U hW hU hlt hinj x n (by omega)
    have hr := congrFun (hrow ⟨n, by omega⟩) x
    change rows (n + 1) x = placed (X1 ⟨n, by omega⟩) (X2 ⟨n, by omega⟩) (rows n) x at hr
    rw [hr]
    have miss : (∀ k, n * 1024 ≤ k → k < (n + 1) * 1024 → W k ≠ (x 0).val) →
        placed (X1 ⟨n, by omega⟩) (X2 ⟨n, by omega⟩) (rows n) x = rows n x := fun h =>
      placed_of_ne _ _ _ x fun r e => h (n * 1024 + r.val) (by omega) (by have := r.isLt; omega) (by rw [← hW ⟨n, by omega⟩ r]; exact e)
    refine ⟨fun h => ?_, fun k hk hWk hl => ?_⟩
    · rw [miss fun k _ hk => h k hk]
      exact ih0 fun k hk => h k (by omega)
    · by_cases hb : k < n * 1024
      · rw [miss fun k' hk' hk'' => hl k' hk'' (by omega)]
        exact ih1 k hb hWk fun k' hk' => hl k' (by omega)
      · have hr' : k - n * 1024 < 1024 := by omega
        have hkr : k = n * 1024 + (⟨k - n * 1024, hr'⟩ : Fin 1024).val := by show k = n * 1024 + (k - n * 1024); omega
        have e : (X1 ⟨n, by omega⟩ (posIx ⟨k - n * 1024, hr'⟩)).toNat = (x 0).val := by
          rw [hW ⟨n, by omega⟩, ← hWk]; exact congrArg W hkr.symm
        rw [placed_of_eq _ _ _ (fun r => ⟨(X1 ⟨n, by omega⟩ (posIx r)).toNat, hlt _ r⟩) (fun _ => rfl)
          (fun r r' h => hinj _ r r' (Fin.mk.inj h)) x ⟨k - n * 1024, hr'⟩ e.symm]
        exact (hU ⟨n, by omega⟩ ⟨k - n * 1024, hr'⟩ (x 1)).trans (congrArg (fun q => U q (x 1)) hkr.symm)

end Cert.KernelIdeal.Sort

end
-- ==== Proof.Sort.Value.lean ====
/-
  The row sort's value: the array the blocks build is the reference's scatter of the rows, over any floats; and what the
  precondition says of the positions.
-/
module

public import proofs.«01_k».proof.Proof.Sort.Run
public import proofs.«01_k».proof.Proof.Sort.Scatter
public import proofs.«01_k».proof.Proof.Gen.ReferenceIdeal.Run
public import proofs.«01_k».proof.Proof.Gen.Pre_rows_in_range_and_apart
public import Idealize.ShloMosaic.Lib.ValueLayout

@[expose] public section

set_option maxRecDepth 16384

noncomputable section

namespace Cert.KernelIdeal.Sort

open Cert.KernelIdeal Cert.KernelIdeal.Gen
open Idealize.ShloMosaic Idealize.ShloMosaic.TcCoe Idealize.ShloMosaic.Routing Idealize.ShloMosaic.ValueIdx
open Idealize.SL.Sem

variable {F : FTy → Type} [FloatOps F]
variable (m : (ℓ : Loc nD τ sig) → Buf (Elt F) ℓ)

/-! ## What a point stages, read off the arguments -/

/-- The positions and the rows as launched. -/
def posArg (c : Dev nD) : S64x1x1024.Idx → BitVec 32 := m ((c : Thread nD τ).loc main_arg0)
def rowArg (c : Dev nD) : S65536x1152.Idx → Elt F .f32 := m ((c : Thread nD τ).loc main_arg1)
def initArg (c : Dev nD) : S77824x1152.Idx → Elt F .f32 := m ((c : Thread nD τ).loc main_arg2)

theorem coord0 (t : Fin cfg0.N) : (grid0.coords t 0).val = t.val := by
  have h := Pipeline.Grid.coords_val (G := grid0) t 0 (S := 1) (B := 64) (by decide) rfl
  have hN : cfg0.N = 64 := rfl
  have := t.isLt
  omega

theorem word_coord0 (t : Fin cfg0.N) : (BitVec.ofNat 32 (grid0.coords t 0).val).toNat = t.val := by
  rw [coord0, BitVec.toNat_ofNat]
  have hN : cfg0.N = 64 := rfl
  have := t.isLt
  omega

theorem posAt_read (c : Dev nD) (t : Fin cfg0.N) (r : Fin 1024) :
    posAt m c t (posIx r) = posArg m c (ix3 (⟨t.val, t.isLt⟩ : Fin 64) (0 : Fin 1) r) := by
  unfold posAt iblk posArg
  rw [View.read_apply, V_main_arg0 m c]
  refine congrArg (m ((c : Thread nD τ).loc main_arg0)) ?_
  funext a
  apply Fin.ext
  refine (Pipeline.Window.rect_emb_val (cfg0.win 0) t (posIx r) a).trans ?_
  match a with
  | ⟨0, _⟩ =>
    show (BitVec.ofNat 32 (grid0.coords t 0).val).toNat * 1 + 0 = t.val
    rw [word_coord0]; omega
  | ⟨1, _⟩ => rfl
  | ⟨2, _⟩ => show 0 * 1024 + r.val = r.val; omega

theorem srcAt_read (c : Dev nD) (t : Fin cfg0.N) (r : Fin 1024) (j : Fin 1152) (h : t.val * 1024 + r.val < 65536) :
    srcAt m c t (rowIx r j) = rowArg m c (ix2 (⟨t.val * 1024 + r.val, h⟩ : Fin 65536) j) := by
  unfold srcAt iblk rowArg
  rw [View.read_apply, V_main_arg1 m c]
  refine congrArg (m ((c : Thread nD τ).loc main_arg1)) ?_
  funext a
  apply Fin.ext
  refine (Pipeline.Window.rect_emb_val (cfg0.win 1) t (rowIx r j) a).trans ?_
  match a with
  | ⟨0, _⟩ =>
    show (BitVec.ofNat 32 (grid0.coords t 0).val).toNat * 1024 + r.val = t.val * 1024 + r.val
    rw [word_coord0]
  | ⟨1, _⟩ => show 0 * 1152 + j.val = j.val; omega

/-- The sorted array is launched as the initial one. -/
theorem V_rows (c : Dev nD) : V m c main_v0 = initArg m c := by
  unfold V initArg
  after_results
  rfl

/-! ## The reference's index words -/

/-- What the reference computes from the positions, the rows and the initial array. -/
def scattered (p : S64x1x1024.Idx → BitVec 32) (u : S65536x1152.Idx → Elt F .f32) (x0 : S77824x1152.Idx → Elt F .f32) : S77824x1152.Idx → Elt F .f32 :=
  open Cert.ReferenceIdeal Cert.ReferenceIdeal.Gen in
  Host.scatter scatter_S77824x1152_S65536x1_S65536x1152_1_0_0_1 (fun _ b => b) x0
    (broadcastInDim Cert.ReferenceIdeal.S65536x1 ![0] bcast_S65536_S65536x1_0
      (select (cmpi .slt (shapeCast Cert.ReferenceIdeal.S65536 p shapeCasts_S64x1x1024_S65536)
          (broadcastInDim Cert.ReferenceIdeal.S65536 ![] bcast_S_S65536 (constantI Cert.ReferenceIdeal.S_ 32 0#32)))
        (addi (shapeCast Cert.ReferenceIdeal.S65536 p shapeCasts_S64x1x1024_S65536)
          (broadcastInDim Cert.ReferenceIdeal.S65536 ![] bcast_S_S65536 (constantI Cert.ReferenceIdeal.S_ 32 77824#32)))
        (shapeCast Cert.ReferenceIdeal.S65536 p shapeCasts_S64x1x1024_S65536))) u

/-- Row `t`'s position. -/
def posWord (p : S64x1x1024.Idx → BitVec 32) (t : ℕ) : BitVec 32 :=
  p (ix3 (⟨t / 1024 % 64, Nat.mod_lt _ (by decide)⟩ : Fin 64) (0 : Fin 1) (⟨t % 1024, Nat.mod_lt _ (by decide)⟩ : Fin 1024))

/-- The positions in one row of 65536, as the reference lays them. -/
theorem flat_word (p : S64x1x1024.Idx → BitVec 32) (t : Fin 65536) (h : S64x1x1024.ShapeCasts (shape1 65536)) :
    shapeCast (shape1 65536) p h (ix1 t) = posWord p t.val := by
  refine shapeCast_apply p h _ _ ?_
  rw [Shape.rowMajor_val_one, Shape.rowMajor_val_three]
  show (t.val / 1024 % 64 * 1 + 0) * 1024 + t.val % 1024 = t.val
  have := t.isLt
  omega

/-- With every position below 77824, the reference at an element: the initial array's where no row is sent there, else
    the last such row's. -/
theorem scattered_read (p : S64x1x1024.Idx → BitVec 32) (u : S65536x1152.Idx → Elt F .f32) (x0 : S77824x1152.Idx → Elt F .f32)
    (hp : ∀ i, (p i).toNat < 77824) (y : Fin 77824) (c : Fin 1152) :
    ((∀ k < 65536, (posWord p k).toNat ≠ y.val) → scattered p u x0 (ix2 y c) = x0 (ix2 y c))
      ∧ ∀ k (hk : k < 65536), (posWord p k).toNat = y.val → (∀ k' < 65536, k < k' → (posWord p k').toNat ≠ y.val) →
        scattered p u x0 (ix2 y c) = u (ix2 (⟨k, hk⟩ : Fin 65536) c) := by
  have hw : ∀ (idx : IVec (shape2 65536 1) 32) (t : Fin 65536), (idx (ix2 t (0 : Fin 1)) = Scalar.select (IntOp.cmpi .slt (posWord p t.val) 0#32)
      (IntOp.addi (posWord p t.val) 77824#32) (posWord p t.val)) → (idx (ix2 t (0 : Fin 1))).toInt = ((posWord p t.val).toNat : Int) := by
    intro idx t h
    have hlt : (posWord p t.val).toNat < 77824 := hp _
    rw [h, wrap_of_lt _ _ (by omega), BitVec.toInt_eq_toNat_of_lt (by omega)]
  unfold scattered
  constructor
  · intro h
    refine scatter_row_miss _ rfl rfl rfl rfl x0 _ u y c fun t => ?_
    rw [hw _ t ?_]
    · intro e; exact h t.val t.isLt (by exact_mod_cast e)
    · exact congrArg (fun b => Scalar.select (IntOp.cmpi .slt b 0#32) (IntOp.addi b 77824#32) b) (flat_word p t _)
  · intro k hk e hl
    refine scatter_row_last _ rfl rfl rfl rfl x0 _ u y c ⟨k, hk⟩ ?_ fun t ht => ?_
    · rw [hw _ ⟨k, hk⟩ ?_]
      · exact_mod_cast e
      · exact congrArg (fun b => Scalar.select (IntOp.cmpi .slt b 0#32) (IntOp.addi b 77824#32) b) (flat_word p ⟨k, hk⟩ _)
    · rw [hw _ t ?_]
      · intro e'; exact hl t.val t.isLt ht (by exact_mod_cast e')
      · exact congrArg (fun b => Scalar.select (IntOp.cmpi .slt b 0#32) (IntOp.addi b 77824#32) b) (flat_word p t _)

/-! ## The two agree -/

theorem rowsAfter_eq (c : Dev nD) (hp : ∀ i, (posArg m c i).toNat < 77824) (hpre : PreOK m) :
    rowsAfter m c 64 = scattered (posArg m c) (rowArg m c) (initArg m c) := by
  funext x
  obtain ⟨y, j, rfl⟩ : ∃ (y : Fin 77824) (j : Fin 1152), x = ix2 y j := ⟨x 0, x 1, eq_ix2 x⟩
  have key := rows_read (rowsAfter m c) (fun n => posAt m c n) (fun n => srcAt m c n) (fun n => rowsAfter_succ m c n)
    (fun k => (posWord (posArg m c) k).toNat) (fun k j => rowArg m c (ix2 (⟨k % 65536, Nat.mod_lt _ (by decide)⟩ : Fin 65536) j))
    (fun n r => by
      refine (congrArg BitVec.toNat (posAt_read m c n r)).trans ?_
      refine congrArg (fun i => (posArg m c i).toNat) ?_
      have h1 : (n.val * 1024 + r.val) / 1024 % 64 = n.val := by have := n.isLt; have := r.isLt; omega
      have h2 : (n.val * 1024 + r.val) % 1024 = r.val := by have := r.isLt; omega
      simp only [h1, h2])
    (fun n r j => by
      have hlt : n.val * 1024 + r.val < 65536 := by have := n.isLt; have := r.isLt; omega
      refine (srcAt_read m c n r j hlt).trans ?_
      simp only [Nat.mod_eq_of_lt hlt])
    (fun n r => (hpre c n).1 r) (fun n r r' => (hpre c n).2 r r') (ix2 y j) 64 le_rfl
  obtain ⟨k0, k1⟩ := key
  obtain ⟨s0, s1⟩ := scattered_read (posArg m c) (rowArg m c) (initArg m c) hp y j
  by_cases h : ∃ k, k < 65536 ∧ (posWord (posArg m c) k).toNat = y.val
  · obtain ⟨k, ⟨hk, hky⟩, hmax⟩ : ∃ k, (k < 65536 ∧ (posWord (posArg m c) k).toNat = y.val)
        ∧ ∀ k' < 65536, k < k' → (posWord (posArg m c) k').toNat ≠ y.val := by
      classical
      obtain ⟨k, hk⟩ := h
      refine ⟨Nat.findGreatest (fun q => q < 65536 ∧ (posWord (posArg m c) q).toNat = y.val) 65535,
        Nat.findGreatest_spec (P := fun q => q < 65536 ∧ (posWord (posArg m c) q).toNat = y.val) (m := k) (by omega) hk, fun k' hk' hlt e => ?_⟩
      exact Nat.findGreatest_is_greatest hlt (by omega) ⟨hk', e⟩
    refine (k1 k hk hky hmax).trans ((s1 k hk hky hmax).trans ?_).symm
    exact congrArg (fun q => rowArg m c (ix2 q j)) (Fin.ext (Nat.mod_eq_of_lt hk).symm)
  · have h' : ∀ k < 65536, (posWord (posArg m c) k).toNat ≠ y.val := fun k hk e => h ⟨k, hk, e⟩
    refine (k0 h').trans ((s0 h').trans ?_).symm
    exact congrFun (V_rows m c).symm _

/-! ## The precondition -/

/-- What the precondition says, word by word: every position is a row of the sorted array, and two positions of one block
    differ. -/
theorem apart_of_pre (p : S64x1x1024.Idx → BitVec 32) (u : S65536x1152.Idx → Elt F .f32) (x0 : S77824x1152.Idx → Elt F .f32)
    (h : Cert.Pre_rows_in_range_and_apart.fn (F := F) p u x0 = fun _ => 1#1) (g : Fin 64) (i j : Fin 1024) :
    (p (ix3 g (0 : Fin 1) i)).toNat < 77824
      ∧ ((p (ix3 g (0 : Fin 1) i)).toNat = (p (ix3 g (0 : Fin 1) j)).toNat → i = j) := by
  have andi_ofBool (p q : Bool) : IntOp.andi (BitVec.ofBool p) (BitVec.ofBool q) = BitVec.ofBool (p && q) := by
    cases p <;> cases q <;> decide
  have ori_ofBool (p q : Bool) : IntOp.ori (BitVec.ofBool p) (BitVec.ofBool q) = BitVec.ofBool (p || q) := by
    cases p <;> cases q <;> decide
  have ofBool_eq_one (p : Bool) : (BitVec.ofBool p = 1#1) ↔ p = true := by cases p <;> decide
  have cast : ∀ (k : Fin 1024) (hs : S64x1x1024.ShapeCasts (shape2 64 1024)), shapeCast (shape2 64 1024) p hs (ix2 g k) = p (ix3 g (0 : Fin 1) k) := by
    intro k hs
    refine shapeCast_apply p hs _ _ ?_
    rw [Shape.rowMajor_val_two, Shape.rowMajor_val_three]
    show (g.val * 1 + 0) * 1024 + k.val = g.val * 1024 + k.val
    omega
  have e := congrFun h (ix3 g i j)
  have e' : IntOp.andi (IntOp.andi (IntOp.cmpi .sge (p (ix3 g (0 : Fin 1) i)) 0#32) (IntOp.cmpi .slt (p (ix3 g (0 : Fin 1) i)) 77824#32))
      (IntOp.ori (IntOp.cmpi .ne (p (ix3 g (0 : Fin 1) i)) (p (ix3 g (0 : Fin 1) j)))
        (IntOp.cmpi .eq (BitVec.ofNat 32 i.val) (BitVec.ofNat 32 j.val))) = 1#1 := by
    rw [← cast i Cert.Pre_rows_in_range_and_apart.Facts.shapeCasts_S64x1x1024_S64x1024, ← cast j Cert.Pre_rows_in_range_and_apart.Facts.shapeCasts_S64x1x1024_S64x1024]
    exact e
  simp only [IntOp.cmpi, andi_ofBool, ori_ofBool, ofBool_eq_one, Bool.and_eq_true, Bool.or_eq_true, beq_iff_eq, bne_iff_ne] at e'
  obtain ⟨⟨h0, h1⟩, h2⟩ := e'
  simp only [BitVec.sle, BitVec.slt, decide_eq_true_eq] at h0 h1
  generalize p (ix3 g (0 : Fin 1) i) = a at *
  generalize p (ix3 g (0 : Fin 1) j) = b at *
  refine ⟨?_, fun hab => ?_⟩
  · have := BitVec.toInt_eq_toNat_cond a
    have h3 : (77824#32 : BitVec 32).toInt = 77824 := by decide
    have h4 : (0#32 : BitVec 32).toInt = 0 := by decide
    rw [h3] at h1; rw [h4] at h0
    split at this <;> omega
  · rcases h2 with h2 | h2
    · exact absurd (BitVec.eq_of_toNat_eq hab) h2
    · have := congrArg BitVec.toNat h2
      rw [BitVec.toNat_ofNat, BitVec.toNat_ofNat] at this
      have := i.isLt; have := j.isLt
      exact Fin.ext (by omega)

/-- The precondition's, over every word. -/
theorem range_of_pre (p : S64x1x1024.Idx → BitVec 32) (u : S65536x1152.Idx → Elt F .f32) (x0 : S77824x1152.Idx → Elt F .f32)
    (h : Cert.Pre_rows_in_range_and_apart.fn (F := F) p u x0 = fun _ => 1#1) (i) : (p i).toNat < 77824 := by
  have e : i = ix3 (i 0) (0 : Fin 1) (i 2) := by
    funext a
    match a with
    | ⟨0, _⟩ => rfl
    | ⟨1, _⟩ => exact Subsingleton.elim (α := Fin 1) _ _
    | ⟨2, _⟩ => rfl
  rw [e]
  exact (apart_of_pre p u x0 h (i 0) (i 2) (i 2)).1

theorem preOK_of (h : ∀ c : Dev nD, Cert.Pre_rows_in_range_and_apart.fn (F := F) (posArg m c) (rowArg m c) (initArg m c) = fun _ => 1#1) : PreOK m := by
  intro c t
  refine ⟨fun r => ?_, fun r r' e => ?_⟩
  · rw [posAt_read]; exact (apart_of_pre _ _ _ (h c) _ r r).1
  · rw [posAt_read, posAt_read] at e; exact (apart_of_pre _ _ _ (h c) _ r r').2 e

end Cert.KernelIdeal.Sort

end
-- ==== Proof.Moe.Body.lean ====
/-
  The expert layer's block step: over one block of rows, with both of its experts' weights staged, the body leaves what it
  read as it was and the output block at zeros (a block with nothing in it) or at the two experts' weighted sum.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.KitQuiescent
public import Idealize.ShloMosaic.Lib.Tactic

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none

/-! ## What a block holds -/

/-- A staged block's rows, without the columns that carry the weights. -/
def rowsOf (X : S512x1152.Idx → F .f32) : S512x1024.Idx → F .f32 :=
  fun j => X ((Rect.unit (s := S512x1152) ![0, 0] S512x1024.size inb_S512x1152_S512x1024_0_0).emb j)
/-- The rows' weights for the block's first expert. -/
def wLow (X : S512x1152.Idx → F .f32) : S512x1.Idx → F .f32 :=
  fun j => X ((Rect.unit (s := S512x1152) ![0, 1025] S512x1.size inb_S512x1152_S512x1_0_1025).emb j)
/-- The rows' weights for the block's second expert. -/
def wHigh (X : S512x1152.Idx → F .f32) : S512x1.Idx → F .f32 :=
  fun j => X ((Rect.unit (s := S512x1152) ![0, 1026] S512x1.size inb_S512x1152_S512x1_0_1026).emb j)

/-- The output block: zeros where the block holds no row, else the two experts' outputs weighted and added. -/
def tile (v : BitVec 32) (X : S512x1152.Idx → F .f32) (G0 G1 : S1x1024x512.Idx → F .bf16) (D0 D1 : S1x256x1024.Idx → F .bf16) :
    S512x1024.Idx → F .f32 :=
  if v = 0#32 then k0_pay1
  else k0_pay2 (k0_pay4 (wHigh X)) (k0_pay5 (rowsOf X) (wLow X) G0 D0) (k0_pay6 (rowsOf X) G1) D1

theorem cond1_iff (v : BitVec 32) : k0_cond1 v = 1#1 ↔ v = 0#32 := by
  unfold k0_cond1; by_cases h : v = 0#32
  · subst h; simp; decide
  · have e : (v == 0#32) = false := by simpa using h
    simp [h, Scalar.cmpi, IntOp.cmpi, Scalar.extui, e]
theorem cond2_iff (v : BitVec 32) : k0_cond2 v = 1#1 ↔ v ≠ 0#32 := by
  unfold k0_cond2; by_cases h : v = 0#32
  · subst h; simp; decide
  · have e : (v == 0#32) = false := by simpa using h
    have e' : (v != 0#32) = true := by simp [bne, e]
    simp [h, Scalar.cmpi, IntOp.cmpi, Scalar.extui, e']

/-! ## Reading and writing a held buffer -/

/-- A load through a rectangle of a held buffer reads its contents there. -/
theorem owns_load (c : Dev nD) {s : Shape} {e : EltTy} (M : Memref sig .tc .vmem s e) (X : s.Idx → Elt F e) (r : Rect s)
    (hl : M.view.LoadsAt r.toLoadRect) {α : Type} (k : (r.shape.Idx → Elt F e) → Prog (TpuEff nD τ sig (Elt F) Λ₀ .tc) α)
    (Q : α → sProp 𝕄) :
    (owns (c : Thread nD τ) M fullShare X : sProp 𝕄)
      ⊢ iprop((owns (c : Thread nD τ) M fullShare X
          -∗ wp Idealize.ShloMosaic.frame (wpE (defs₀ (F := F)) 𝒱₀ (c : Thread nD τ) none) Set.univ (k fun j => X (r.emb j)) Q)
        -∗ wp Idealize.ShloMosaic.frame (wpE (defs₀ (F := F)) 𝒱₀ (c : Thread nD τ) none) Set.univ (.op (.load M r.toLoadRect hl) k) Q) := by
  unfold owns
  iintro Hm Hk
  icases Hm with ⟨%f, %hf, H⟩
  iapply (wp_load_rect 𝒱₀ (c : Thread nD τ) none Set.univ (m := M) (r := r) (hl := hl) (k := k) (Q := Q) (S := M.view.set)
    (q := fullShare) (f := f) (View.set_slice_subset _ _)) $$ H
  iintro H
  have e : (M.access r).read (Elt F) f = fun j => X (r.emb j) := by
    funext j; exact congrFun hf (r.emb j)
  rw [e]
  iapply Hk
  iexists f
  isplitr [H]
  · ipureintro; exact hf
  · iexact H

/-- Reading the whole of a value is the value. -/
theorem whole3 {s : Shape} {off : Fin s.rank → ℕ} {inb : ∀ a, off a + s.size a ≤ s.size a} {α : Type} (X : s.Idx → α) :
    (fun j : s.Idx => X ((Rect.unit (s := s) off s.size inb).emb j)) = X := by
  funext y
  congr 1
  funext a; apply Fin.ext
  have h0 := inb a
  show off a + 1 * (y a).val = (y a).val
  omega

/-- A load of the whole of a held buffer reads its contents. -/
theorem owns_load_whole (c : Dev nD) {s : Shape} {e : EltTy} (M : Memref sig .tc .vmem s e) (X : s.Idx → Elt F e) (off : Fin s.rank → ℕ)
    (inb : ∀ a, off a + s.size a ≤ s.size a)
    (hl : M.view.LoadsAt (Rect.unit (s := s) off s.size inb).toLoadRect) {α : Type}
    (k : (s.Idx → Elt F e) → Prog (TpuEff nD τ sig (Elt F) Λ₀ .tc) α) (Q : α → sProp 𝕄) :
    (owns (c : Thread nD τ) M fullShare X : sProp 𝕄)
      ⊢ iprop((owns (c : Thread nD τ) M fullShare X -∗ wp Idealize.ShloMosaic.frame (wpE (defs₀ (F := F)) 𝒱₀ (c : Thread nD τ) none) Set.univ (k X) Q)
        -∗ wp Idealize.ShloMosaic.frame (wpE (defs₀ (F := F)) 𝒱₀ (c : Thread nD τ) none) Set.univ (.op (.load M (Rect.unit (s := s) off s.size inb).toLoadRect hl) k) Q) := by
  have h := owns_load (F := F) c M X (Rect.unit (s := s) off s.size inb) hl k Q
  have e2 : (fun j => X ((Rect.unit (s := s) off s.size inb).emb j)) = X := whole3 X
  rw [e2] at h
  exact h

/-- A store over the whole of a held buffer leaves it at what is stored. -/
theorem owns_store (c : Dev nD) {s : Shape} {e : EltTy} (M : Memref sig .tc .vmem s e) (X : s.Idx → Elt F e) (off : Fin s.rank → ℕ)
    (inb : ∀ a, off a + s.size a ≤ s.size a) (w : s.Idx → Elt F e)
    (hx : (M.access (Rect.unit (s := s) off s.size inb)).Stores Finset.univ)
    (hm : Finset.univ = Finset.univ ∨ ∀ a, (Rect.unit (s := s) off s.size inb).stride a = 1)
    {α : Type} (k : PUnit.{1} → Prog (TpuEff nD τ sig (Elt F) Λ₀ .tc) α) (Q : α → sProp 𝕄) :
    (owns (c : Thread nD τ) M fullShare X : sProp 𝕄)
      ⊢ iprop((owns (c : Thread nD τ) M fullShare w
          -∗ wp Idealize.ShloMosaic.frame (wpE (defs₀ (F := F)) 𝒱₀ (c : Thread nD τ) none) Set.univ (k ⟨⟩) Q)
        -∗ wp Idealize.ShloMosaic.frame (wpE (defs₀ (F := F)) 𝒱₀ (c : Thread nD τ) none) Set.univ
            (.op (.store M (Rect.unit (s := s) off s.size inb) w Finset.univ hx hm) k) Q) := by
  unfold owns
  iintro Hm Hk
  icases Hm with ⟨%f, %hf, H⟩
  iapply (wp_store_writes₀ 𝒱₀ (c : Thread nD τ) none Set.univ (m := M) (r := Rect.unit (s := s) off s.size inb) (w := w) (hx := hx) (hm := hm)
    (k := k) (Q := Q) (S := M.view.set) (f := f) (View.set_slice_subset _ _)) $$ H
  iintro H
  iapply Hk
  iexists _
  isplitr [H]
  · ipureintro
    funext y
    have e : (Rect.unit (s := s) off s.size inb).emb y = y := by
      funext a; apply Fin.ext
      have h0 := inb a
      show off a + 1 * (y a).val = (y a).val
      omega
    have h := View.read_writes_cons_emb M.view f (Rect.unit (s := s) off s.size inb) w [] y
    rw [e] at h
    exact h
  · iexact H

/-! ## The body -/

/-- The word the body reads of the validity table at a point. -/
def wordOf (c : Dev nD) (i : grid0.Coords) (M : Memref sig .tc .smem S152 .i32) (T : Buf (Elt F) (M.view.loc (c : Thread nD τ))) : BitVec 32 :=
  (M.access (Rect.unit (s := S152) (k0_off1 i) S1.size (k0_off1_inb i))).read (Elt F) T
    (Shape.Idx.first (numel1_S1.symm ▸ Nat.one_pos))

/-- The validity table's word, loaded. -/
theorem smem_step (c : Dev nD) (M : Memref sig .tc .smem S152 .i32) (q : PosShare TreeShare) (T : Buf (Elt F) (M.view.loc (c : Thread nD τ)))
    (off : Fin 1 → ℕ) (inb : ∀ a, off a + S1.size a ≤ S152.size a) (hp : EltTy.packing .i32 = 1)
    {α : Type} (k : Elt F .i32 → Prog (TpuEff nD τ sig (Elt F) Λ₀ .tc) α) (Q : α → sProp 𝕄) :
    (M.view.loc (c : Thread nD τ) ↦[Finset.univ]{q} T : sProp 𝕄)
      ⊢ iprop(((M.view.loc (c : Thread nD τ) ↦[Finset.univ]{q} T)
          -∗ wp Idealize.ShloMosaic.frame (wpE (defs₀ (F := F)) 𝒱₀ (c : Thread nD τ) none) Set.univ
            (k ((M.access (Rect.unit (s := S152) off S1.size inb)).read (Elt F) T (Shape.Idx.first (numel1_S1.symm ▸ Nat.one_pos)))) Q)
        -∗ wp Idealize.ShloMosaic.frame (wpE (defs₀ (F := F)) 𝒱₀ (c : Thread nD τ) none) Set.univ
            (smemLoad M (Rect.unit (s := S152) off S1.size inb) numel1_S1 hp >>= k) Q) := by
  iintro HT Hk
  iapply (wp_smemLoadElt_named 𝒱₀ (c : Thread nD τ) none Set.univ (m := M) (r := Rect.unit (s := S152) off S1.size inb)
    (hw := View.loads_smem_one hp numel1_S1) (x := Shape.Idx.first (numel1_S1.symm ▸ Nat.one_pos)) (k := k) (Q := Q) (S := Finset.univ) (Finset.subset_univ _)) $$ HT
  iintro HT %w %hw
  rw [hw]
  iapply Hk $$ HT

/-- A block with no row: the output is set to zeros. -/
theorem zeros_step (c : Dev nD) (M9 : Memref sig .tc .vmem S512x1024 .f32) (Y : S512x1024.Idx → Elt F .f32) (hl hx hm)
    {α : Type} (k : PUnit.{1} → Prog (TpuEff nD τ sig (Elt F) Λ₀ .tc) α) (Q : α → sProp 𝕄) :
    (owns (c : Thread nD τ) M9 fullShare Y : sProp 𝕄)
      ⊢ iprop((owns (c : Thread nD τ) M9 fullShare (k0_pay1 (F := F)) -∗ wp Idealize.ShloMosaic.frame (wpE (defs₀ (F := F)) 𝒱₀ (c : Thread nD τ) none) Set.univ (k ⟨⟩) Q)
        -∗ wp Idealize.ShloMosaic.frame (wpE (defs₀ (F := F)) 𝒱₀ (c : Thread nD τ) none) Set.univ
          (do
            let _v11 : Vec F S512x1024 .f32 ← Prog.lift (.load M9 (Rect.unit (s := S512x1024) ![0, 0] S512x1024.size inb_S512x1024_S512x1024_0_0).toLoadRect hl)
            Prog.lift (.store M9 (Rect.unit (s := S512x1024) ![0, 0] S512x1024.size inb_S512x1024_S512x1024_0_0) (k0_pay1 (F := F)) Finset.univ hx hm)
            k ⟨⟩) Q) := by
  iintro H9 Hk
  iapply (owns_load_whole (F := F) c M9 Y ![0, 0] inb_S512x1024_S512x1024_0_0 hl _ Q) $$ H9
  iintro H9
  iapply (owns_store (F := F) c M9 Y ![0, 0] inb_S512x1024_S512x1024_0_0 (k0_pay1 (F := F)) hx hm k Q) $$ H9
  iintro H9
  iapply Hk $$ H9

/-- The first part of a block's computation: everything but the second expert's down projection is loaded. -/
theorem part1_step (c : Dev nD) (i : grid0.Coords)
    (M1 : Memref sig .tc .smem S152 .i32) (h1 : M1.IsWhole) (M2 : Memref sig .tc .smem S152 .i32) (h2 : M2.IsWhole)
    (M3 : Memref sig .tc .smem S152 .i32) (h3 : M3.IsWhole) (M4 : Memref sig .tc .vmem S512x1152 .f32) (h4 : M4.IsWhole)
    (M5 : Memref sig .tc .vmem S1x1024x512 .bf16) (h5 : M5.IsWhole) (M6 : Memref sig .tc .vmem S1x1024x512 .bf16) (h6 : M6.IsWhole)
    (M7 : Memref sig .tc .vmem S1x256x1024 .bf16) (h7 : M7.IsWhole) (M8 : Memref sig .tc .vmem S1x256x1024 .bf16) (h8 : M8.IsWhole)
    (M9 : Memref sig .tc .vmem S512x1024 .f32) (h9 : M9.IsWhole)
    (X : S512x1152.Idx → Elt F .f32) (G0 G1 : S1x1024x512.Idx → Elt F .bf16) (D0 : S1x256x1024.Idx → Elt F .bf16)
    {α : Type} (k : (Σ' (v16 : FVec F S512x1 .f32) (v34 : FVec F S512x1024 .f32), FVec F S512x256 .bf16) → Prog (TpuEff nD τ sig (Elt F) Λ₀ .tc) α)
    (Q : α → sProp 𝕄) :
    iprop(owns (c : Thread nD τ) M4 fullShare X ∗ owns (c : Thread nD τ) M5 fullShare G0
        ∗ owns (c : Thread nD τ) M6 fullShare G1 ∗ (owns (c : Thread nD τ) M7 fullShare D0 : sProp 𝕄))
      ⊢ iprop((owns (c : Thread nD τ) M4 fullShare X ∗ owns (c : Thread nD τ) M5 fullShare G0
            ∗ owns (c : Thread nD τ) M6 fullShare G1 ∗ owns (c : Thread nD τ) M7 fullShare D0
          -∗ wp Idealize.ShloMosaic.frame (wpE (defs₀ (F := F)) 𝒱₀ (c : Thread nD τ) none) Set.univ
            (k ⟨k0_pay4 (wHigh X), k0_pay5 (rowsOf X) (wLow X) G0 D0, k0_pay6 (rowsOf X) G1⟩) Q)
        -∗ wp Idealize.ShloMosaic.frame (wpE (defs₀ (F := F)) 𝒱₀ (c : Thread nD τ) none) Set.univ (k0_part1 i M1 h1 M2 h2 M3 h3 M4 h4 M5 h5 M6 h6 M7 h7 M8 h8 M9 h9 >>= k) Q) := by
  rw [k0_part1_eq_skeleton]
  iintro ⟨H4, H5, H6, H7⟩ Hk
  iapply (owns_load (F := F) c M4 X (Rect.unit (s := S512x1152) ![0, 0] S512x1024.size inb_S512x1152_S512x1024_0_0) (View.loadsAt_vmem h_S512x1024) _ Q) $$ H4
  iintro H4
  iapply (owns_load (F := F) c M4 X (Rect.unit (s := S512x1152) ![0, 1025] S512x1.size inb_S512x1152_S512x1_0_1025) (View.loadsAt_vmem h_S512x1) _ Q) $$ H4
  iintro H4
  iapply (owns_load (F := F) c M4 X (Rect.unit (s := S512x1152) ![0, 1026] S512x1.size inb_S512x1152_S512x1_0_1026) (View.loadsAt_vmem h_S512x1) _ Q) $$ H4
  iintro H4
  iapply (owns_load_whole (F := F) c M5 G0 ![0, 0, 0] inb_S1x1024x512_S1x1024x512_0_0_0 (View.loadsAt_vmem h_S1x1024x512) _ Q) $$ H5
  iintro H5
  iapply (owns_load_whole (F := F) c M7 D0 ![0, 0, 0] inb_S1x256x1024_S1x256x1024_0_0_0 (View.loadsAt_vmem h_S1x256x1024) _ Q) $$ H7
  iintro H7
  iapply (owns_load_whole (F := F) c M6 G1 ![0, 0, 0] inb_S1x1024x512_S1x1024x512_0_0_0 (View.loadsAt_vmem h_S1x1024x512) _ Q) $$ H6
  iintro H6
  iapply Hk
  isplitl [H4]; · iexact H4
  isplitl [H5]; · iexact H5
  isplitl [H6]; · iexact H6
  iexact H7

/-- A block's computation alone. -/
def compute (i : grid0.Coords)
    (M1 : Memref sig .tc .smem S152 .i32) (h1 : M1.IsWhole) (M2 : Memref sig .tc .smem S152 .i32) (h2 : M2.IsWhole)
    (M3 : Memref sig .tc .smem S152 .i32) (h3 : M3.IsWhole) (M4 : Memref sig .tc .vmem S512x1152 .f32) (h4 : M4.IsWhole)
    (M5 : Memref sig .tc .vmem S1x1024x512 .bf16) (h5 : M5.IsWhole) (M6 : Memref sig .tc .vmem S1x1024x512 .bf16) (h6 : M6.IsWhole)
    (M7 : Memref sig .tc .vmem S1x256x1024 .bf16) (h7 : M7.IsWhole) (M8 : Memref sig .tc .vmem S1x256x1024 .bf16) (h8 : M8.IsWhole)
    (M9 : Memref sig .tc .vmem S512x1024 .f32) (h9 : M9.IsWhole) : Prog (TpuEff nD τ sig (Elt F) Λ₀ .tc) PUnit.{1} := do
    let ⟨v16, v34, v47⟩ : Σ' (v16 : FVec F S512x1 .f32) (v34 : FVec F S512x1024 .f32), FVec F S512x256 .bf16 ← k0_part1 i M1 h1 M2 h2 M3 h3 M4 h4 M5 h5 M6 h6 M7 h7 M8 h8 M9 h9
    let v48 : Vec F S1x256x1024 .bf16 ← Prog.lift (.load M8 (Rect.unit (s := S1x256x1024) ![0, 0, 0] S1x256x1024.size inb_S1x256x1024_S1x256x1024_0_0_0).toLoadRect (View.loadsAt_vmem h_S1x256x1024))
    let _v54 : Vec F S512x1024 .f32 ← Prog.lift (.load M9 (Rect.unit (s := S512x1024) ![0, 0] S512x1024.size inb_S512x1024_S512x1024_0_0).toLoadRect (View.loadsAt_vmem h_S512x1024))
    Prog.lift (.store M9 (Rect.unit (s := S512x1024) ![0, 0] S512x1024.size inb_S512x1024_S512x1024_0_0) (k0_pay2 v16 v34 v47 v48) Finset.univ (View.stores_vmem_bits_univ h_S512x1024 rfl) (.inl rfl))
    Pure.pure ⟨⟩

/-- A block with rows: the output is set to its two experts' weighted sum. -/
theorem compute_step (c : Dev nD) (i : grid0.Coords)
    (M1 : Memref sig .tc .smem S152 .i32) (h1 : M1.IsWhole) (M2 : Memref sig .tc .smem S152 .i32) (h2 : M2.IsWhole)
    (M3 : Memref sig .tc .smem S152 .i32) (h3 : M3.IsWhole) (M4 : Memref sig .tc .vmem S512x1152 .f32) (h4 : M4.IsWhole)
    (M5 : Memref sig .tc .vmem S1x1024x512 .bf16) (h5 : M5.IsWhole) (M6 : Memref sig .tc .vmem S1x1024x512 .bf16) (h6 : M6.IsWhole)
    (M7 : Memref sig .tc .vmem S1x256x1024 .bf16) (h7 : M7.IsWhole) (M8 : Memref sig .tc .vmem S1x256x1024 .bf16) (h8 : M8.IsWhole)
    (M9 : Memref sig .tc .vmem S512x1024 .f32) (h9 : M9.IsWhole)
    (X : S512x1152.Idx → Elt F .f32) (G0 G1 : S1x1024x512.Idx → Elt F .bf16) (D0 D1 : S1x256x1024.Idx → Elt F .bf16)
    (Y : S512x1024.Idx → Elt F .f32) (Q : PUnit.{1} → sProp 𝕄) :
    iprop(owns (c : Thread nD τ) M4 fullShare X ∗ owns (c : Thread nD τ) M5 fullShare G0
        ∗ owns (c : Thread nD τ) M6 fullShare G1 ∗ owns (c : Thread nD τ) M7 fullShare D0 ∗ owns (c : Thread nD τ) M8 fullShare D1
        ∗ (owns (c : Thread nD τ) M9 fullShare Y : sProp 𝕄))
      ⊢ iprop((owns (c : Thread nD τ) M4 fullShare X ∗ owns (c : Thread nD τ) M5 fullShare G0
            ∗ owns (c : Thread nD τ) M6 fullShare G1 ∗ owns (c : Thread nD τ) M7 fullShare D0 ∗ owns (c : Thread nD τ) M8 fullShare D1
            ∗ owns (c : Thread nD τ) M9 fullShare (k0_pay2 (k0_pay4 (wHigh X)) (k0_pay5 (rowsOf X) (wLow X) G0 D0) (k0_pay6 (rowsOf X) G1) D1)
          -∗ wp Idealize.ShloMosaic.frame (wpE (defs₀ (F := F)) 𝒱₀ (c : Thread nD τ) none) Set.univ (Prog.ret ⟨⟩) Q)
        -∗ wp Idealize.ShloMosaic.frame (wpE (defs₀ (F := F)) 𝒱₀ (c : Thread nD τ) none) Set.univ (compute i M1 h1 M2 h2 M3 h3 M4 h4 M5 h5 M6 h6 M7 h7 M8 h8 M9 h9) Q) := by
  unfold compute
  iintro ⟨H4, H5, H6, H7, H8, H9⟩ Hk
  iapply (part1_step (F := F) c i M1 h1 M2 h2 M3 h3 M4 h4 M5 h5 M6 h6 M7 h7 M8 h8 M9 h9 X G0 G1 D0 _ Q) $$ [H4 H5 H6 H7]
  · isplitl [H4]; · iexact H4
    isplitl [H5]; · iexact H5
    isplitl [H6]; · iexact H6
    iexact H7
  iintro ⟨H4, H5, H6, H7⟩
  iapply (owns_load_whole (F := F) c M8 D1 ![0, 0, 0] inb_S1x256x1024_S1x256x1024_0_0_0 (View.loadsAt_vmem h_S1x256x1024) _ Q) $$ H8
  iintro H8
  iapply (owns_load_whole (F := F) c M9 Y ![0, 0] inb_S512x1024_S512x1024_0_0 (View.loadsAt_vmem h_S512x1024) _ Q) $$ H9
  iintro H9
  iapply (owns_store (F := F) c M9 Y ![0, 0] inb_S512x1024_S512x1024_0_0
    (k0_pay2 (k0_pay4 (wHigh X)) (k0_pay5 (rowsOf X) (wLow X) G0 D0) (k0_pay6 (rowsOf X) G1) D1) (View.stores_vmem_bits_univ h_S512x1024 rfl) (.inl rfl) (fun _ => Pure.pure ⟨⟩) Q) $$ H9
  iintro H9
  iapply Hk
  isplitl [H4]; · iexact H4
  isplitl [H5]; · iexact H5
  isplitl [H6]; · iexact H6
  isplitl [H7]; · iexact H7
  isplitl [H8]; · iexact H8
  iexact H9

/-- The body's second half: the block's computation where its word `v` is not zero. -/
def second (i : grid0.Coords)
    (M1 : Memref sig .tc .smem S152 .i32) (h1 : M1.IsWhole) (M2 : Memref sig .tc .smem S152 .i32) (h2 : M2.IsWhole)
    (M3 : Memref sig .tc .smem S152 .i32) (h3 : M3.IsWhole) (M4 : Memref sig .tc .vmem S512x1152 .f32) (h4 : M4.IsWhole)
    (M5 : Memref sig .tc .vmem S1x1024x512 .bf16) (h5 : M5.IsWhole) (M6 : Memref sig .tc .vmem S1x1024x512 .bf16) (h6 : M6.IsWhole)
    (M7 : Memref sig .tc .vmem S1x256x1024 .bf16) (h7 : M7.IsWhole) (M8 : Memref sig .tc .vmem S1x256x1024 .bf16) (h8 : M8.IsWhole)
    (M9 : Memref sig .tc .vmem S512x1024 .f32) (h9 : M9.IsWhole) (v : BitVec 32) : Prog (TpuEff nD τ sig (Elt F) Λ₀ .tc) PUnit.{1} :=
  if k0_h2 : k0_cond2 v = 1#1 then compute i M1 h1 M2 h2 M3 h3 M4 h4 M5 h5 M6 h6 M7 h7 M8 h8 M9 h9
  else Pure.pure ⟨⟩

/-- An empty block's zeros, and the second half, over the word read again. -/
def zeros (i : grid0.Coords)
    (M1 : Memref sig .tc .smem S152 .i32) (h1 : M1.IsWhole) (M2 : Memref sig .tc .smem S152 .i32) (h2 : M2.IsWhole)
    (M3 : Memref sig .tc .smem S152 .i32) (h3 : M3.IsWhole) (M4 : Memref sig .tc .vmem S512x1152 .f32) (h4 : M4.IsWhole)
    (M5 : Memref sig .tc .vmem S1x1024x512 .bf16) (h5 : M5.IsWhole) (M6 : Memref sig .tc .vmem S1x1024x512 .bf16) (h6 : M6.IsWhole)
    (M7 : Memref sig .tc .vmem S1x256x1024 .bf16) (h7 : M7.IsWhole) (M8 : Memref sig .tc .vmem S1x256x1024 .bf16) (h8 : M8.IsWhole)
    (M9 : Memref sig .tc .vmem S512x1024 .f32) (h9 : M9.IsWhole) : Prog (TpuEff nD τ sig (Elt F) Λ₀ .tc) PUnit.{1} := do
    let _v11 : Vec F S512x1024 .f32 ← Prog.lift (.load M9 (Rect.unit (s := S512x1024) ![0, 0] S512x1024.size inb_S512x1024_S512x1024_0_0).toLoadRect (View.loadsAt_vmem h_S512x1024))
    Prog.lift (.store M9 (Rect.unit (s := S512x1024) ![0, 0] S512x1024.size inb_S512x1024_S512x1024_0_0) (k0_pay1 (F := F)) Finset.univ (View.stores_vmem_bits_univ h_S512x1024 rfl) (.inl rfl))
    smemLoad M3 (Rect.unit (s := S152) (k0_off2 i) S1.size (k0_off2_inb i)) numel1_S1 rfl >>= second i M1 h1 M2 h2 M3 h3 M4 h4 M5 h5 M6 h6 M7 h7 M8 h8 M9 h9

/-- The body's first half: zeros where the block's word `v` is zero; the second half follows. -/
def first (i : grid0.Coords)
    (M1 : Memref sig .tc .smem S152 .i32) (h1 : M1.IsWhole) (M2 : Memref sig .tc .smem S152 .i32) (h2 : M2.IsWhole)
    (M3 : Memref sig .tc .smem S152 .i32) (h3 : M3.IsWhole) (M4 : Memref sig .tc .vmem S512x1152 .f32) (h4 : M4.IsWhole)
    (M5 : Memref sig .tc .vmem S1x1024x512 .bf16) (h5 : M5.IsWhole) (M6 : Memref sig .tc .vmem S1x1024x512 .bf16) (h6 : M6.IsWhole)
    (M7 : Memref sig .tc .vmem S1x256x1024 .bf16) (h7 : M7.IsWhole) (M8 : Memref sig .tc .vmem S1x256x1024 .bf16) (h8 : M8.IsWhole)
    (M9 : Memref sig .tc .vmem S512x1024 .f32) (h9 : M9.IsWhole) (v : BitVec 32) : Prog (TpuEff nD τ sig (Elt F) Λ₀ .tc) PUnit.{1} :=
  if k0_h1 : k0_cond1 v = 1#1 then zeros i M1 h1 M2 h2 M3 h3 M4 h4 M5 h5 M6 h6 M7 h7 M8 h8 M9 h9
  else smemLoad M3 (Rect.unit (s := S152) (k0_off2 i) S1.size (k0_off2_inb i)) numel1_S1 rfl >>= second i M1 h1 M2 h2 M3 h3 M4 h4 M5 h5 M6 h6 M7 h7 M8 h8 M9 h9

/-- The body is its halves in order. -/
theorem cc0_moe_eq (i : grid0.Coords)
    (M1 : Memref sig .tc .smem S152 .i32) (h1 : M1.IsWhole) (M2 : Memref sig .tc .smem S152 .i32) (h2 : M2.IsWhole)
    (M3 : Memref sig .tc .smem S152 .i32) (h3 : M3.IsWhole) (M4 : Memref sig .tc .vmem S512x1152 .f32) (h4 : M4.IsWhole)
    (M5 : Memref sig .tc .vmem S1x1024x512 .bf16) (h5 : M5.IsWhole) (M6 : Memref sig .tc .vmem S1x1024x512 .bf16) (h6 : M6.IsWhole)
    (M7 : Memref sig .tc .vmem S1x256x1024 .bf16) (h7 : M7.IsWhole) (M8 : Memref sig .tc .vmem S1x256x1024 .bf16) (h8 : M8.IsWhole)
    (M9 : Memref sig .tc .vmem S512x1024 .f32) (h9 : M9.IsWhole) :
    cc0_moe (F := F) i M1 h1 M2 h2 M3 h3 M4 h4 M5 h5 M6 h6 M7 h7 M8 h8 M9 h9 = (smemLoad M3 (Rect.unit (s := S152) (k0_off1 i) S1.size (k0_off1_inb i)) numel1_S1 rfl >>= first i M1 h1 M2 h2 M3 h3 M4 h4 M5 h5 M6 h6 M7 h7 M8 h8 M9 h9) := by
  rw [cc0_moe_eq_skeleton]; rfl

/-- The body over a block: what it reads stays, the output block becomes `tile`. -/
theorem moe_body (c : Dev nD) (i : grid0.Coords)
    (M1 : Memref sig .tc .smem S152 .i32) (h1 : M1.IsWhole) (M2 : Memref sig .tc .smem S152 .i32) (h2 : M2.IsWhole)
    (M3 : Memref sig .tc .smem S152 .i32) (h3 : M3.IsWhole) (M4 : Memref sig .tc .vmem S512x1152 .f32) (h4 : M4.IsWhole)
    (M5 : Memref sig .tc .vmem S1x1024x512 .bf16) (h5 : M5.IsWhole) (M6 : Memref sig .tc .vmem S1x1024x512 .bf16) (h6 : M6.IsWhole)
    (M7 : Memref sig .tc .vmem S1x256x1024 .bf16) (h7 : M7.IsWhole) (M8 : Memref sig .tc .vmem S1x256x1024 .bf16) (h8 : M8.IsWhole)
    (M9 : Memref sig .tc .vmem S512x1024 .f32) (h9 : M9.IsWhole)
    (q : PosShare TreeShare) (T : Buf (Elt F) (M3.view.loc (c : Thread nD τ)))
    (X : S512x1152.Idx → Elt F .f32) (G0 G1 : S1x1024x512.Idx → Elt F .bf16) (D0 D1 : S1x256x1024.Idx → Elt F .bf16)
    (Y : S512x1024.Idx → Elt F .f32) :
    iprop((M3.view.loc (c : Thread nD τ) ↦[Finset.univ]{q} T) ∗ owns (c : Thread nD τ) M4 fullShare X ∗ owns (c : Thread nD τ) M5 fullShare G0
        ∗ owns (c : Thread nD τ) M6 fullShare G1 ∗ owns (c : Thread nD τ) M7 fullShare D0 ∗ owns (c : Thread nD τ) M8 fullShare D1
        ∗ (owns (c : Thread nD τ) M9 fullShare Y : sProp 𝕄))
      ⊢ wp Idealize.ShloMosaic.frame (wpE (defs₀ (F := F)) 𝒱₀ (c : Thread nD τ) none) Set.univ
          (cc0_moe i M1 h1 M2 h2 M3 h3 M4 h4 M5 h5 M6 h6 M7 h7 M8 h8 M9 h9) (fun _ =>
        iprop((M3.view.loc (c : Thread nD τ) ↦[Finset.univ]{q} T) ∗ owns (c : Thread nD τ) M4 fullShare X ∗ owns (c : Thread nD τ) M5 fullShare G0
          ∗ owns (c : Thread nD τ) M6 fullShare G1 ∗ owns (c : Thread nD τ) M7 fullShare D0 ∗ owns (c : Thread nD τ) M8 fullShare D1
          ∗ (owns (c : Thread nD τ) M9 fullShare (tile (wordOf c i M3 T) X G0 G1 D0 D1)))) := by
  rw [cc0_moe_eq]
  iintro ⟨HT, H4, H5, H6, H7, H8, H9⟩
  iapply (smem_step (F := F) c M3 q T (k0_off1 i) (k0_off1_inb i) rfl (first i M1 h1 M2 h2 M3 h3 M4 h4 M5 h5 M6 h6 M7 h7 M8 h8 M9 h9) _) $$ HT
  iintro HT
  rw [show (M3.access (Rect.unit (s := S152) (k0_off1 i) S1.size (k0_off1_inb i))).read (Elt F) T (Shape.Idx.first (numel1_S1.symm ▸ Nat.one_pos))
    = wordOf c i M3 T from rfl]
  by_cases hc : wordOf c i M3 T = 0#32
  · rw [show tile (wordOf c i M3 T) X G0 G1 D0 D1 = k0_pay1 (F := F) from if_pos hc]
    rw [show first (F := F) i M1 h1 M2 h2 M3 h3 M4 h4 M5 h5 M6 h6 M7 h7 M8 h8 M9 h9 (wordOf c i M3 T) = zeros i M1 h1 M2 h2 M3 h3 M4 h4 M5 h5 M6 h6 M7 h7 M8 h8 M9 h9 from dif_pos ((cond1_iff _).mpr hc)]
    iapply (zeros_step (F := F) c M9 Y _ _ _ (fun _ => smemLoad M3 (Rect.unit (s := S152) (k0_off2 i) S1.size (k0_off2_inb i)) numel1_S1 rfl >>= second i M1 h1 M2 h2 M3 h3 M4 h4 M5 h5 M6 h6 M7 h7 M8 h8 M9 h9) _) $$ H9
    iintro H9
    iapply (smem_step (F := F) c M3 q T (k0_off2 i) (k0_off2_inb i) rfl (second i M1 h1 M2 h2 M3 h3 M4 h4 M5 h5 M6 h6 M7 h7 M8 h8 M9 h9) _) $$ HT
    iintro HT
    rw [show (M3.access (Rect.unit (s := S152) (k0_off2 i) S1.size (k0_off2_inb i))).read (Elt F) T (Shape.Idx.first (numel1_S1.symm ▸ Nat.one_pos))
      = wordOf c i M3 T from rfl]
    rw [show second (F := F) i M1 h1 M2 h2 M3 h3 M4 h4 M5 h5 M6 h6 M7 h7 M8 h8 M9 h9 (wordOf c i M3 T) = .ret ⟨⟩ from dif_neg fun h => (cond2_iff _).mp h hc, wp_ret]
    imodintro
    isplitl [HT]; · iexact HT
    isplitl [H4]; · iexact H4
    isplitl [H5]; · iexact H5
    isplitl [H6]; · iexact H6
    isplitl [H7]; · iexact H7
    isplitl [H8]; · iexact H8
    iexact H9
  · rw [show tile (wordOf c i M3 T) X G0 G1 D0 D1
      = k0_pay2 (k0_pay4 (wHigh X)) (k0_pay5 (rowsOf X) (wLow X) G0 D0) (k0_pay6 (rowsOf X) G1) D1 from if_neg hc]
    rw [show first (F := F) i M1 h1 M2 h2 M3 h3 M4 h4 M5 h5 M6 h6 M7 h7 M8 h8 M9 h9 (wordOf c i M3 T) = (smemLoad M3 (Rect.unit (s := S152) (k0_off2 i) S1.size (k0_off2_inb i)) numel1_S1 rfl >>= second i M1 h1 M2 h2 M3 h3 M4 h4 M5 h5 M6 h6 M7 h7 M8 h8 M9 h9)
      from dif_neg fun h => hc ((cond1_iff _).mp h)]
    iapply (smem_step (F := F) c M3 q T (k0_off2 i) (k0_off2_inb i) rfl (second i M1 h1 M2 h2 M3 h3 M4 h4 M5 h5 M6 h6 M7 h7 M8 h8 M9 h9) _) $$ HT
    iintro HT
    rw [show (M3.access (Rect.unit (s := S152) (k0_off2 i) S1.size (k0_off2_inb i))).read (Elt F) T (Shape.Idx.first (numel1_S1.symm ▸ Nat.one_pos))
      = wordOf c i M3 T from rfl]
    rw [show second (F := F) i M1 h1 M2 h2 M3 h3 M4 h4 M5 h5 M6 h6 M7 h7 M8 h8 M9 h9 (wordOf c i M3 T) = compute i M1 h1 M2 h2 M3 h3 M4 h4 M5 h5 M6 h6 M7 h7 M8 h8 M9 h9 from dif_pos ((cond2_iff _).mpr hc)]
    iapply (compute_step (F := F) c i M1 h1 M2 h2 M3 h3 M4 h4 M5 h5 M6 h6 M7 h7 M8 h8 M9 h9 X G0 G1 D0 D1 Y _) $$ [H4 H5 H6 H7 H8 H9]
    · isplitl [H4]; · iexact H4
      isplitl [H5]; · iexact H5
      isplitl [H6]; · iexact H6
      isplitl [H7]; · iexact H7
      isplitl [H8]; · iexact H8
      iexact H9
    iintro ⟨H4, H5, H6, H7, H8, H9⟩
    rw [wp_ret]
    imodintro
    isplitl [HT]; · iexact HT
    isplitl [H4]; · iexact H4
    isplitl [H5]; · iexact H5
    isplitl [H6]; · iexact H6
    isplitl [H7]; · iexact H7
    isplitl [H8]; · iexact H8
    iexact H9

end Cert.Kernel2Ideal.Moe

end
-- ==== Proof.Moe.Run.lean ====
/-
  The expert layer's run: the pipeline's proof data at the tables' contents at launch, the body's obligation, and the run
  of the whole program.
-/
module

public import proofs.«01_k».proof.Proof.Moe.Body
public import Idealize.ShloMosaic.Lib.Pipeline.FrameBody
public import Idealize.ShloMosaic.Lib.Pipeline.KitQuiescent
public import Idealize.ShloMosaic.Lib.Tactic

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the call -/

/-- Every buffer as the call finds it: the host operations run on the launch memory. -/
def V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The pipeline at the tables -/

variable (a : (pcfg0 (F := F)).Adm)

/-- The pipeline at the tables' contents `a`. -/
abbrev cfgA : Cfg sig Λ₀ := Pipeline.pin (pcfgs (F := F)) (fun _ => a) 0

/-- Window `w`'s block at point `t`, read off its array as the call finds it. -/
def iblk (c : Dev nD) (w : Fin (cfgA a).W) (t : Fin (cfgA a).N) :
    (((cfgA a).win w).xblock ((cfgA a).grid.coords t)).Idx → Elt F ((cfgA a).win w).elt :=
  (((cfgA a).win w).blk t).view.read (Elt F) (V m c (Pipeline.arrRef spec0 w))

/-- The rows point `t` stages. -/
def xAt (c : Dev nD) (t : Fin (cfgA a).N) : S512x1152.Idx → Elt F .f32 := iblk m a c (0 : Fin 6) t
/-- The first expert's gate and up projections point `t` stages. -/
def g0At (c : Dev nD) (t : Fin (cfgA a).N) : S1x1024x512.Idx → Elt F .bf16 := iblk m a c (1 : Fin 6) t
/-- The second expert's. -/
def g1At (c : Dev nD) (t : Fin (cfgA a).N) : S1x1024x512.Idx → Elt F .bf16 := iblk m a c (2 : Fin 6) t
/-- The first expert's down projection point `t` stages. -/
def d0At (c : Dev nD) (t : Fin (cfgA a).N) : S1x256x1024.Idx → Elt F .bf16 := iblk m a c (3 : Fin 6) t
/-- The second expert's. -/
def d1At (c : Dev nD) (t : Fin (cfgA a).N) : S1x256x1024.Idx → Elt F .bf16 := iblk m a c (4 : Fin 6) t
/-- The word of the validity table at point `t`. -/
def wordAt (t : Fin (cfgA a).N) : BitVec 32 := wordOf (F := F) (0 : Dev nD) (grid0.coords t) (Memref.whole main_arg4) (a.1 2)
/-- The output block point `t` leaves. -/
def tileAt (c : Dev nD) (t : Fin (cfgA a).N) : S512x1024.Idx → Elt F .f32 :=
  tile (wordAt a t) (xAt m a c t) (g0At m a c t) (g1At m a c t) (d0At m a c t) (d1At m a c t)

/-- The pipeline's proof data. -/
def dats (p : Fin 1) (c : Dev nD) : Dat τ (Elt F) Unit ℕ (UR sig nD τ) ℕ (Pipeline.pin (pcfgs (F := F)) (fun _ => a) p) c where
  A w := V m c (Pipeline.arrRef spec0 w)
  after w t := match w with
    | ⟨0, _⟩ => iblk m a c (0 : Fin 6) t
    | ⟨1, _⟩ => iblk m a c (1 : Fin 6) t
    | ⟨2, _⟩ => iblk m a c (2 : Fin 6) t
    | ⟨3, _⟩ => iblk m a c (3 : Fin 6) t
    | ⟨4, _⟩ => iblk m a c (4 : Fin 6) t
    | ⟨5, _⟩ => tileAt m a c t
  Φ _ := iprop(Pipeline.ΦA spec0 c ∗ Pipeline.ΦT pre0 a.1 c)
  q w := Pipeline.shareOf spec0 w
  owed _ := 0

/-- The output window is written at every point. -/
theorem not_idle (i : grid0.Coords) : idle0 a.1 5 i = false := by
  show (!(k0_cond1 _ == 1#1) && !(k0_cond2 _ == 1#1)) = false
  rw [show k0_off2 i = k0_off1 i from rfl]
  generalize a.1.atD 2 (k0_off1 i) = v
  by_cases hv : (v : BitVec 32) = 0#32
  · rw [(cond1_iff v).mpr hv]; simp
  · rw [(cond2_iff v).mpr hv]; simp

theorem before_0 (c : Dev nD) (t : Fin (cfgA a).N) (d) : (dats m a 0 c).before (0 : Fin 6) t d = iblk m a c (0 : Fin 6) t :=
  ((dats m a 0 c).before_in_eq_fetched (0 : Fin 6) rfl (fun _ => rfl) (fun _ _ _ => rfl) (fun t => by
    rw [show (dats m a 0 c).after (0 : Fin 6) t = iblk m a c (0 : Fin 6) t from rfl]; unfold Dat.blockOf iblk; rw [show (dats m a 0 c).A (0 : Fin 6) = V m c (Pipeline.arrRef spec0 (0 : Fin 6)) from rfl]; try rfl) t d).trans
    (by unfold Dat.fetched Dat.blockOf iblk; rw [show (dats m a 0 c).A (0 : Fin 6) = V m c (Pipeline.arrRef spec0 (0 : Fin 6)) from rfl]; try rfl)
theorem before_1 (c : Dev nD) (t : Fin (cfgA a).N) (d) : (dats m a 0 c).before (1 : Fin 6) t d = iblk m a c (1 : Fin 6) t :=
  ((dats m a 0 c).before_in_eq_fetched (1 : Fin 6) rfl (fun _ => rfl) (fun _ _ _ => rfl) (fun t => by
    rw [show (dats m a 0 c).after (1 : Fin 6) t = iblk m a c (1 : Fin 6) t from rfl]; unfold Dat.blockOf iblk; rw [show (dats m a 0 c).A (1 : Fin 6) = V m c (Pipeline.arrRef spec0 (1 : Fin 6)) from rfl]; try rfl) t d).trans
    (by unfold Dat.fetched Dat.blockOf iblk; rw [show (dats m a 0 c).A (1 : Fin 6) = V m c (Pipeline.arrRef spec0 (1 : Fin 6)) from rfl]; try rfl)
theorem before_2 (c : Dev nD) (t : Fin (cfgA a).N) (d) : (dats m a 0 c).before (2 : Fin 6) t d = iblk m a c (2 : Fin 6) t :=
  ((dats m a 0 c).before_in_eq_fetched (2 : Fin 6) rfl (fun _ => rfl) (fun _ _ _ => rfl) (fun t => by
    rw [show (dats m a 0 c).after (2 : Fin 6) t = iblk m a c (2 : Fin 6) t from rfl]; unfold Dat.blockOf iblk; rw [show (dats m a 0 c).A (2 : Fin 6) = V m c (Pipeline.arrRef spec0 (2 : Fin 6)) from rfl]; try rfl) t d).trans
    (by unfold Dat.fetched Dat.blockOf iblk; rw [show (dats m a 0 c).A (2 : Fin 6) = V m c (Pipeline.arrRef spec0 (2 : Fin 6)) from rfl]; try rfl)
theorem before_3 (c : Dev nD) (t : Fin (cfgA a).N) (d) : (dats m a 0 c).before (3 : Fin 6) t d = iblk m a c (3 : Fin 6) t :=
  ((dats m a 0 c).before_in_eq_fetched (3 : Fin 6) rfl (fun _ => rfl) (fun _ _ _ => rfl) (fun t => by
    rw [show (dats m a 0 c).after (3 : Fin 6) t = iblk m a c (3 : Fin 6) t from rfl]; unfold Dat.blockOf iblk; rw [show (dats m a 0 c).A (3 : Fin 6) = V m c (Pipeline.arrRef spec0 (3 : Fin 6)) from rfl]; try rfl) t d).trans
    (by unfold Dat.fetched Dat.blockOf iblk; rw [show (dats m a 0 c).A (3 : Fin 6) = V m c (Pipeline.arrRef spec0 (3 : Fin 6)) from rfl]; try rfl)
theorem before_4 (c : Dev nD) (t : Fin (cfgA a).N) (d) : (dats m a 0 c).before (4 : Fin 6) t d = iblk m a c (4 : Fin 6) t :=
  ((dats m a 0 c).before_in_eq_fetched (4 : Fin 6) rfl (fun _ => rfl) (fun _ _ _ => rfl) (fun t => by
    rw [show (dats m a 0 c).after (4 : Fin 6) t = iblk m a c (4 : Fin 6) t from rfl]; unfold Dat.blockOf iblk; rw [show (dats m a 0 c).A (4 : Fin 6) = V m c (Pipeline.arrRef spec0 (4 : Fin 6)) from rfl]; try rfl) t d).trans
    (by unfold Dat.fetched Dat.blockOf iblk; rw [show (dats m a 0 c).A (4 : Fin 6) = V m c (Pipeline.arrRef spec0 (4 : Fin 6)) from rfl]; try rfl)

/-! ## The body's obligation -/

/-- The tables one by one. -/
theorem tables_eq (c : Dev nD) (v : pre0.Contents (Elt F)) :
    (Pipeline.ΦT pre0 v c : sProp 𝕄) = iprop((((c : Thread nD τ).loc main_arg2) ↦{fullShare.right} v 0)
      ∗ (((c : Thread nD τ).loc main_arg3) ↦{fullShare.right} v 1) ∗ (((c : Thread nD τ).loc main_arg4) ↦{fullShare.right} v 2)) :=
  bigSep_univ_eq_bigSepL [(0 : Fin 3), (1 : Fin 3), (2 : Fin 3)] (by decide) (by decide)
    (fun k => iprop(((c : Thread nD τ).loc (pre0.ref k)) ↦{fullShare.right} v k))

/-- What the pipeline's invariant holds throughout. -/
def held (c : Dev nD) : sProp 𝕄 := iprop(Pipeline.ΦA spec0 c ∗ Pipeline.ΦT pre0 a.1 c)

/-- The body's step on what the pipeline's invariant holds. -/
theorem body_held (c : Dev nD) (t : Fin (cfgA a).N) (Y : S512x1024.Idx → Elt F .f32) :
    iprop(held a c ∗ owns (Val := Elt F) (c : Thread nD τ) (spec0_0.stage ((cfgA a).slots t (0 : Fin 6))) fullShare (xAt m a c t) ∗ owns (Val := Elt F) (c : Thread nD τ) (spec0_1.stage ((cfgA a).slots t (1 : Fin 6))) fullShare (g0At m a c t) ∗ owns (Val := Elt F) (c : Thread nD τ) (spec0_2.stage ((cfgA a).slots t (2 : Fin 6))) fullShare (g1At m a c t) ∗ owns (Val := Elt F) (c : Thread nD τ) (spec0_3.stage ((cfgA a).slots t (3 : Fin 6))) fullShare (d0At m a c t) ∗ owns (Val := Elt F) (c : Thread nD τ) (spec0_4.stage ((cfgA a).slots t (4 : Fin 6))) fullShare (d1At m a c t) ∗ owns (Val := Elt F) (c : Thread nD τ) (spec0_5.stage ((cfgA a).slots t (5 : Fin 6))) fullShare Y)
      ⊢ (wp frame (wpE (defs₀ (F := F)) 𝒱₀ (c : Thread nD τ) none) Set.univ (defs₀ (F := F) .tc (cfgA a).body ((cfgA a).bodyArgs t ((cfgA a).slots t))) (fun _ =>
        iprop(held a c ∗ owns (Val := Elt F) (c : Thread nD τ) (spec0_0.stage ((cfgA a).slots t (0 : Fin 6))) fullShare (xAt m a c t) ∗ owns (Val := Elt F) (c : Thread nD τ) (spec0_1.stage ((cfgA a).slots t (1 : Fin 6))) fullShare (g0At m a c t) ∗ owns (Val := Elt F) (c : Thread nD τ) (spec0_2.stage ((cfgA a).slots t (2 : Fin 6))) fullShare (g1At m a c t) ∗ owns (Val := Elt F) (c : Thread nD τ) (spec0_3.stage ((cfgA a).slots t (3 : Fin 6))) fullShare (d0At m a c t) ∗ owns (Val := Elt F) (c : Thread nD τ) (spec0_4.stage ((cfgA a).slots t (4 : Fin 6))) fullShare (d1At m a c t) ∗ owns (Val := Elt F) (c : Thread nD τ) (spec0_5.stage ((cfgA a).slots t (5 : Fin 6))) fullShare (tileAt m a c t))) : sProp 𝕄) := by
  have hc : c = 0 := Subsingleton.elim _ _
  subst hc
  unfold held
  rw [tables_eq]
  iintro ⟨⟨HA, HT0, HT1, HT⟩, H4, H5, H6, H7, H8, H9⟩
  iapply (wp_wand Idealize.ShloMosaic.frame (wpE (defs₀ (F := F)) 𝒱₀ ((0 : Dev nD) : Thread nD τ) none) Set.univ) $$ [HT H4 H5 H6 H7 H8 H9]
  · iapply (moe_body (F := F) (0 : Dev nD) (grid0.coords t) (Memref.whole main_arg2) (Memref.isWhole_whole _) (Memref.whole main_arg3) (Memref.isWhole_whole _)
      (Memref.whole main_arg4) (Memref.isWhole_whole _)
      (spec0_0.stage ((cfgA a).slots t (0 : Fin 6))) (hstage0_0 (((cfgA a).slots t (0 : Fin 6)).cast nbuf0_0))
      (spec0_1.stage ((cfgA a).slots t (1 : Fin 6))) (hstage0_1 (((cfgA a).slots t (1 : Fin 6)).cast nbuf0_1))
      (spec0_2.stage ((cfgA a).slots t (2 : Fin 6))) (hstage0_2 (((cfgA a).slots t (2 : Fin 6)).cast nbuf0_2))
      (spec0_3.stage ((cfgA a).slots t (3 : Fin 6))) (hstage0_3 (((cfgA a).slots t (3 : Fin 6)).cast nbuf0_3))
      (spec0_4.stage ((cfgA a).slots t (4 : Fin 6))) (hstage0_4 (((cfgA a).slots t (4 : Fin 6)).cast nbuf0_4))
      (spec0_5.stage ((cfgA a).slots t (5 : Fin 6))) (hstage0_5 (((cfgA a).slots t (5 : Fin 6)).cast nbuf0_5))
      fullShare.right (a.1 2) (xAt m a 0 t) (g0At m a 0 t) (g1At m a 0 t) (d0At m a 0 t) (d1At m a 0 t) Y)
    isplitl [HT]; · iexact HT
    isplitl [H4]; · iexact H4
    isplitl [H5]; · iexact H5
    isplitl [H6]; · iexact H6
    isplitl [H7]; · iexact H7
    isplitl [H8]; · iexact H8
    iexact H9
  · iintro %u ⟨HT, H4, H5, H6, H7, H8, H9⟩
    isplitl [HA HT0 HT1 HT]
    · isplitl [HA]; · iexact HA
      isplitl [HT0]; · iexact HT0
      isplitl [HT1]; · iexact HT1
      iexact HT
    isplitl [H4]; · iexact H4
    isplitl [H5]; · iexact H5
    isplitl [H6]; · iexact H6
    isplitl [H7]; · iexact H7
    isplitl [H8]; · iexact H8
    iexact H9

/-- The waits recorded, within no bound. -/
theorem owes_in (c : Dev nD) (B : Set (SemLoc sig × Unit)) :
    (Pipeline.owesWithin c 0 B : sProp 𝕄) ⊢ iprop(∃ W, owes (c : Thread nD τ) 0 W) := by
  iintro ⟨%W, -, H⟩; iexists W; iexact H
theorem owes_out (c : Dev nD) (B : Set (SemLoc sig × Unit)) (hB : B = Set.univ) :
    iprop(∃ W, owes (c : Thread nD τ) 0 W) ⊢ (Pipeline.owesWithin c 0 B : sProp 𝕄) := by
  iintro ⟨%W, H⟩; iexists W
  isplitr; · ipureintro; subst hB; exact Set.subset_univ _
  iexact H

/-- The library's body obligation on core `c`. -/
theorem body_obligation (c : Dev nD) :
    Pipeline.BodyObligationLoose (dats (F := F) m a 0 c) (defs₀ (F := F)) 𝒱₀ () Set.univ := fun t => by
  rw [bigSep_W0, bigSep_W0]
  simp only [before_0, before_1, before_2, before_3, before_4]
  rw [show idle0 a.1 (5 : Fin 6) (((pcfgs (F := F) 0).gridAt a.1).coords t) = false from not_idle a _]
  show iprop(held a c ∗ (Pipeline.owesWithin c 0 ((dats (F := F) m a 0 c).bound () t.castSucc)) ∗ (∃ d : _, owns (Val := Elt F) (c : Thread nD τ) (spec0_0.stage ((cfgA a).slots t (0 : Fin 6))) fullShare (xAt m a c t)) ∗ (∃ d : _, owns (Val := Elt F) (c : Thread nD τ) (spec0_1.stage ((cfgA a).slots t (1 : Fin 6))) fullShare (g0At m a c t)) ∗ (∃ d : _, owns (Val := Elt F) (c : Thread nD τ) (spec0_2.stage ((cfgA a).slots t (2 : Fin 6))) fullShare (g1At m a c t)) ∗ (∃ d : _, owns (Val := Elt F) (c : Thread nD τ) (spec0_3.stage ((cfgA a).slots t (3 : Fin 6))) fullShare (d0At m a c t)) ∗ (∃ d : _, owns (Val := Elt F) (c : Thread nD τ) (spec0_4.stage ((cfgA a).slots t (4 : Fin 6))) fullShare (d1At m a c t)) ∗ (∃ d, owns (Val := Elt F) (c : Thread nD τ) (spec0_5.stage ((cfgA a).slots t (5 : Fin 6))) fullShare ((dats (F := F) m a 0 c).before (5 : Fin 6) t d)))
    ⊢ (wp frame (wpE (defs₀ (F := F)) 𝒱₀ (c : Thread nD τ) none) Set.univ (defs₀ (F := F) .tc (cfgA a).body ((cfgA a).bodyArgs t ((cfgA a).slots t))) (fun _ =>
        iprop(held a c ∗ (Pipeline.owesWithin c 0 ((dats (F := F) m a 0 c).bound () t.succ))
        ∗ owns (Val := Elt F) (c : Thread nD τ) (spec0_0.stage ((cfgA a).slots t (0 : Fin 6))) fullShare (xAt m a c t) ∗ owns (Val := Elt F) (c : Thread nD τ) (spec0_1.stage ((cfgA a).slots t (1 : Fin 6))) fullShare (g0At m a c t) ∗ owns (Val := Elt F) (c : Thread nD τ) (spec0_2.stage ((cfgA a).slots t (2 : Fin 6))) fullShare (g1At m a c t) ∗ owns (Val := Elt F) (c : Thread nD τ) (spec0_3.stage ((cfgA a).slots t (3 : Fin 6))) fullShare (d0At m a c t) ∗ owns (Val := Elt F) (c : Thread nD τ) (spec0_4.stage ((cfgA a).slots t (4 : Fin 6))) fullShare (d1At m a c t) ∗ owns (Val := Elt F) (c : Thread nD τ) (spec0_5.stage ((cfgA a).slots t (5 : Fin 6))) fullShare (tileAt m a c t))) : sProp 𝕄)
  iintro ⟨Hh, HO, ⟨%d0, H4⟩, ⟨%d1, H5⟩, ⟨%d2, H6⟩, ⟨%d3, H7⟩, ⟨%d4, H8⟩, ⟨%d5, H9⟩⟩
  ihave HO := (owes_in c _) $$ HO
  iapply (wp_wand Idealize.ShloMosaic.frame (wpE (defs₀ (F := F)) 𝒱₀ (c : Thread nD τ) none) Set.univ) $$ [Hh H4 H5 H6 H7 H8 H9]
  · iapply (body_held m a c t ((dats (F := F) m a 0 c).before (5 : Fin 6) t d5))
    isplitl [Hh]; · iexact Hh
    isplitl [H4]; · iexact H4
    isplitl [H5]; · iexact H5
    isplitl [H6]; · iexact H6
    isplitl [H7]; · iexact H7
    isplitl [H8]; · iexact H8
    iexact H9
  · iintro %u ⟨Hh, H4, H5, H6, H7, H8, H9⟩
    ihave HO := (owes_out c _ (Set.univ_union _)) $$ HO
    isplitl [Hh]; · iexact Hh
    isplitl [HO]; · iexact HO
    isplitl [H4]; · iexact H4
    isplitl [H5]; · iexact H5
    isplitl [H6]; · iexact H6
    isplitl [H7]; · iexact H7
    isplitl [H8]; · iexact H8
    iexact H9

/-! ## The run -/

set_option maxHeartbeats 800000 in
/-- @main up to the call. -/
theorem hmain_moe : Pipeline.HMainP (Ix := Unit) (Name := ℕ) (U := UR sig nD τ) (Lvl := ℕ) (pcfgs (F := F)) 0 defs₀ 𝒱₀ m (main (F := F)) (V m) :=
  Pipeline.hmainP_prefix pcfgs 0 defs₀ 𝒱₀ m main hostOps0 hostOps0_sub hostOps0_fresh main_chain

/-- What every final state holds: the arguments as launched and the result as the points left it. -/
def QC (s : MemSt nD τ sig (Elt F)) : Prop :=
  ∀ c : Dev nD, (s.mem ((c : Thread nD τ).loc main_arg0) = m ((c : Thread nD τ).loc main_arg0) ∧ s.mem ((c : Thread nD τ).loc main_arg1) = m ((c : Thread nD τ).loc main_arg1) ∧ s.mem ((c : Thread nD τ).loc main_arg2) = m ((c : Thread nD τ).loc main_arg2) ∧ s.mem ((c : Thread nD τ).loc main_arg3) = m ((c : Thread nD τ).loc main_arg3) ∧ s.mem ((c : Thread nD τ).loc main_arg4) = m ((c : Thread nD τ).loc main_arg4) ∧ s.mem ((c : Thread nD τ).loc main_arg5) = m ((c : Thread nD τ).loc main_arg5) ∧ s.mem ((c : Thread nD τ).loc main_arg6) = m ((c : Thread nD τ).loc main_arg6) ∧ s.mem ((c : Thread nD τ).loc main_arg7) = m ((c : Thread nD τ).loc main_arg7))
    ∧ s.mem ((c : Thread nD τ).loc main_v6) = (dats m a 0 c).arrAt (5 : Fin 6) (cfgA a).N

/-- THE RUN: from tables that name experts, every execution ends, the arguments as launched, the result as the points left
    it, every counter zero. -/
theorem run_main (ha : ∀ k, V m (0 : Dev nD) (pre0.ref k) = a.1 k) :
    θ_run defs (onTc (τ := τ) (main (F := F))) (s₀ m ρ) (fun r => QC m a r.2 ∧ r.2.sem = fun _ => 0) :=
  Pipeline.θ_run_frameP_shared (pcfgs (F := F)) (fun _ => a) (dats m a) 0 launch₀0 defs₀ 𝒱₀ m ρ main
    (hbody := body_obligation m a) (hq := fun _ _ _ => rfl) (howed := fun _ _ => rfl) (V := V m) (hmain := hmain_moe m)
    (hA := fun _ _ => rfl) (hpf := fun c k => by have hc : c = 0 := Subsingleton.elim _ _; subst hc; exact ha k)
    (hΦ := fun _ _ => rfl) (Q' := _)
    (hQ' := fun r h => ⟨fun c => ⟨⟨((h.1 c).2 main_arg0 (Pipeline.mem_restRefs_of main_arg0 rfl (show ∀ w : Fin 6, (spec0 w).arr.view.ref ≠ main_arg0 by decide))).trans (V_main_arg0 m c), ((h.1 c).2 main_arg1 (Pipeline.mem_restRefs_of main_arg1 rfl (show ∀ w : Fin 6, (spec0 w).arr.view.ref ≠ main_arg1 by decide))).trans (V_main_arg1 m c), ((h.1 c).2 main_arg2 (Pipeline.mem_restRefs_of main_arg2 rfl (show ∀ w : Fin 6, (spec0 w).arr.view.ref ≠ main_arg2 by decide))).trans (V_main_arg2 m c), ((h.1 c).2 main_arg3 (Pipeline.mem_restRefs_of main_arg3 rfl (show ∀ w : Fin 6, (spec0 w).arr.view.ref ≠ main_arg3 by decide))).trans (V_main_arg3 m c), ((h.1 c).2 main_arg4 (Pipeline.mem_restRefs_of main_arg4 rfl (show ∀ w : Fin 6, (spec0 w).arr.view.ref ≠ main_arg4 by decide))).trans (V_main_arg4 m c), ((h.1 c).2 main_arg5 (Pipeline.mem_restRefs_of main_arg5 rfl (show ∀ w : Fin 6, (spec0 w).arr.view.ref ≠ main_arg5 by decide))).trans (V_main_arg5 m c), ((h.1 c).2 main_arg6 (Pipeline.mem_restRefs_of main_arg6 rfl (show ∀ w : Fin 6, (spec0 w).arr.view.ref ≠ main_arg6 by decide))).trans (V_main_arg6 m c), ((h.1 c).2 main_arg7 (Pipeline.mem_restRefs_of main_arg7 rfl (show ∀ w : Fin 6, (spec0 w).arr.view.ref ≠ main_arg7 by decide))).trans (V_main_arg7 m c)⟩, (h.1 c).1 (5 : Fin 6)⟩, h.2⟩)

end Cert.Kernel2Ideal.Moe

end
-- ==== Proof.Moe.Tables.lean ====
/-
  The expert layer's tables: what the precondition says of them, and that they keep every staged block inside its array.
-/
module

public import proofs.«01_k».proof.Proof.Moe.Run
public import proofs.«01_k».proof.Proof.Gen.Pre_two_experts
public import Idealize.ShloMosaic.Lib.Pipeline.FrameBody
public import Idealize.ShloMosaic.Lib.Pipeline.KitQuiescent
public import Idealize.ShloMosaic.Lib.Tactic

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the precondition says of one block's two experts: both are experts, and they differ where the block holds rows. -/
theorem experts_of_pre (x : S77824x1024.Idx → Elt F .f32) (w : S77824x2.Idx → Elt F .f32) (lo hi va : S152.Idx → BitVec 32)
    (wg wu : S16x1024x256.Idx → Elt F .f32) (wd : S16x256x1024.Idx → Elt F .f32)
    (h : Cert.Pre_two_experts.fn (F := F) x w lo hi va wg wu wd = fun _ => 1#1) (g : S152.Idx) :
    (lo g).toNat < 16 ∧ (hi g).toNat < 16 ∧ (va g ≠ 0#32 → (lo g).toNat ≠ (hi g).toNat) := by
  have andi_ofBool (p q : Bool) : IntOp.andi (BitVec.ofBool p) (BitVec.ofBool q) = BitVec.ofBool (p && q) := by
    cases p <;> cases q <;> decide
  have ori_ofBool (p q : Bool) : IntOp.ori (BitVec.ofBool p) (BitVec.ofBool q) = BitVec.ofBool (p || q) := by
    cases p <;> cases q <;> decide
  have ofBool_eq_one (p : Bool) : (BitVec.ofBool p = 1#1) ↔ p = true := by cases p <;> decide
  have below (v : BitVec 32) (h0 : (0#32).sle v = true) (h1 : v.slt 16#32 = true) : v.toNat < 16 := by
    simp only [BitVec.sle, BitVec.slt, decide_eq_true_eq] at h0 h1
    have hv := BitVec.toInt_eq_toNat_cond v
    have h3 : (16#32 : BitVec 32).toInt = 16 := by decide
    have h4 : (0#32 : BitVec 32).toInt = 0 := by decide
    rw [h3] at h1; rw [h4] at h0
    split at hv <;> omega
  have e : IntOp.andi (IntOp.andi (IntOp.andi (IntOp.andi (IntOp.cmpi .sge (lo g) 0#32) (IntOp.cmpi .slt (lo g) 16#32))
      (IntOp.cmpi .sge (hi g) 0#32)) (IntOp.cmpi .slt (hi g) 16#32)) (IntOp.ori (IntOp.cmpi .ne (lo g) (hi g)) (IntOp.cmpi .eq (va g) 0#32)) = 1#1 :=
    congrFun h g
  simp only [IntOp.cmpi, andi_ofBool, ori_ofBool, ofBool_eq_one, Bool.and_eq_true, Bool.or_eq_true] at e
  obtain ⟨⟨⟨⟨h0, h1⟩, h2⟩, h3⟩, h4⟩ := e
  refine ⟨below _ h0 h1, below _ h2 h3, fun hv he => ?_⟩
  rcases h4 with h4 | h4
  · exact (bne_iff_ne.mp h4) (BitVec.eq_of_toNat_eq he)
  · exact hv (beq_iff_eq.mp h4)

/-- The tables' entry of a grid point. -/
def coordIx (i : grid0.Coords) : S152.Idx :=
  (Rect.unit (s := S152) (k0_off1 i) S1.size (k0_off1_inb i)).emb (Shape.Idx.first (numel1_S1.symm ▸ Nat.one_pos))

/-- Tables of experts keep every staged block inside its array. -/
theorem ok_of (pf : pre0.Contents (Elt F))
    (h : (∀ g : S152.Idx, (pf 0 g : BitVec 32).toNat < 16) ∧ ∀ g : S152.Idx, (pf 1 g : BitVec 32).toNat < 16) : ok0 pf :=
  ⟨fun i => ⟨fun x => by
      have hr := h.1 (coordIx i)
      match x with
      | ⟨0, _⟩ =>
        exact (Nat.mul_one _).le.trans (show (pf 0 (coordIx i) : BitVec 32).toNat + 1 ≤ 16 from hr)
      | ⟨1, _⟩ => exact le_of_eq rfl
      | ⟨2, _⟩ => exact le_of_eq rfl, .inr (.inr ⟨by decide, rfl, rfl, rfl⟩)⟩,
   fun i => ⟨fun x => by
      have hr := h.2 (coordIx i)
      match x with
      | ⟨0, _⟩ =>
        exact (Nat.mul_one _).le.trans (show (pf 1 (coordIx i) : BitVec 32).toNat + 1 ≤ 16 from hr)
      | ⟨1, _⟩ => exact le_of_eq rfl
      | ⟨2, _⟩ => exact le_of_eq rfl, .inr (.inr ⟨by decide, rfl, rfl, rfl⟩)⟩,
   fun i => ⟨fun x => by
      have hr := h.1 (coordIx i)
      match x with
      | ⟨0, _⟩ =>
        exact (Nat.mul_one _).le.trans (show (pf 0 (coordIx i) : BitVec 32).toNat + 1 ≤ 16 from hr)
      | ⟨1, _⟩ => exact le_of_eq rfl
      | ⟨2, _⟩ => exact le_of_eq rfl, .inr (.inr ⟨by decide, rfl, rfl, rfl⟩)⟩,
   fun i => ⟨fun x => by
      have hr := h.2 (coordIx i)
      match x with
      | ⟨0, _⟩ =>
        exact (Nat.mul_one _).le.trans (show (pf 1 (coordIx i) : BitVec 32).toNat + 1 ≤ 16 from hr)
      | ⟨1, _⟩ => exact le_of_eq rfl
      | ⟨2, _⟩ => exact le_of_eq rfl, .inr (.inr ⟨by decide, rfl, rfl, rfl⟩)⟩⟩

variable (m : (ℓ : Loc nD τ sig) → Buf (Elt F) ℓ) (ρ : Dev nD → PrngReg)

/-- The precondition, of a launch memory. -/
def PreM : Prop := ∀ c : Dev nD, Cert.Pre_two_experts.fn (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = fun _ => 1#1

/-- The tables at launch. -/
def tabs : pre0.Contents (Elt F) := fun k => V m (0 : Dev nD) (pre0.ref k)

theorem tabs_0 : tabs m 0 = m (((0 : Dev nD) : Thread nD τ).loc main_arg2) := V_main_arg2 m 0
theorem tabs_1 : tabs m 1 = m (((0 : Dev nD) : Thread nD τ).loc main_arg3) := V_main_arg3 m 0
theorem tabs_2 : tabs m 2 = m (((0 : Dev nD) : Thread nD τ).loc main_arg4) := V_main_arg4 m 0

theorem ok_tabs (h : PreM m) : ok0 (tabs m) := ok_of (tabs m)
  ⟨fun g => by rw [tabs_0]; exact (experts_of_pre _ _ _ _ _ _ _ _ (h 0) g).1,
   fun g => by rw [tabs_1]; exact (experts_of_pre _ _ _ _ _ _ _ _ (h 0) g).2.1⟩

/-- The tables at launch, with that. -/
def adm (h : PreM m) : (pcfg0 (F := F)).Adm := ⟨tabs m, ok_tabs m h⟩

/-- THE RUN under the precondition. -/
theorem run_pre (h : PreM m) :
    θ_run defs (onTc (τ := τ) (main (F := F))) (s₀ m ρ) (fun r => QC m (adm m h) r.2 ∧ r.2.sem = fun _ => 0) :=
  run_main m ρ (adm m h) fun _ => rfl

end Cert.Kernel2Ideal.Moe

end
-- ==== Proof.Moe.Frames.lean ====
/-
  The frames of the expert call: the run over any instance read at the extended reals, and at the device's floats for the
  program as printed, whose definitions are the same.
-/
module

public import proofs.«01_k».proof.Defs
public import proofs.«01_k».proof.Proof.Moe.Tables
public import proofs.«01_k».proof.Proof.Gen.Kernel2
public import proofs.«01_k».proof.Proof.Gen.Reference2Ideal
public import proofs.«01_k».proof.Proof.Gen.Reference2Ideal.Run

@[expose] public section

set_option maxRecDepth 16384

namespace Cert.Kernel2Ideal.Moe

open Idealize.ShloMosaic Idealize.ShloMosaic.TcCoe Idealize.SL.Sem

/-- The frame over any instance. -/
theorem frame_moe {F : FTy → Type} [FloatOps F] (m : (ℓ : Loc nD τ sig) → Buf (Elt F) ℓ) (ρ : Dev nD → PrngReg) (h : PreM m) :
    θ_run defs (onTc (τ := τ) (main (F := F))) ⟨m, fun _ => 0, ρ⟩ (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ q => ⟨fun c => (q.1 c).1, q.2⟩) (run_pre m ρ h)

/-- The two printed programs run the same body. -/
theorem body_eq : Cert.Kernel2.defs₀ (F := Bits) = Cert.Kernel2Ideal.defs₀ (F := Bits) := by
  funext p l a
  cases p with
  | tc => match l, a with
    | ⟨0, _⟩, (t, s) => rfl
  | _ => rfl

theorem defs_eq : Cert.Kernel2.defs (F := Bits) = Cert.Kernel2Ideal.defs (F := Bits) :=
  congrArg (fun d => Pipeline.defs (Cert.Kernel2Ideal.pcfgs (F := Bits)) d) body_eq

theorem pcfgs_eq : Cert.Kernel2.pcfgs (F := Bits) = Cert.Kernel2Ideal.pcfgs (F := Bits) := rfl

theorem main_eq : Cert.Kernel2.main (F := Bits) = Cert.Kernel2Ideal.main (F := Bits) := by
  unfold Cert.Kernel2.main Cert.Kernel2Ideal.main
  rfl

theorem frame_kernel2 : Cert.quiescent_Kernel2 := by
  unfold Cert.quiescent_Kernel2
  rw [defs_eq, main_eq]
  exact fun m ρ hp => frame_moe (F := Bits) m ρ hp

theorem frame_kernel2Ideal : Cert.quiescent_Kernel2Ideal := fun m ρ hp => frame_moe (F := Ideal) m ρ hp

theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference2Ideal_pre : Cert.quiescent_Reference2Ideal_pre_two_experts := fun m ρ _ =>
  frame_reference2Ideal m ρ trivial

end Cert.Kernel2Ideal.Moe

end
-- ==== Proof.Moe.Math.lean ====
/-
  One expert on one row, over the extended reals, and how a row's gates pick two of the sixteen experts.
-/
module

public import Idealize.ShloMosaic.Lib.IdealHost
public import Idealize.ShloMosaic.Lib.ValueLayout

@[expose] public section

noncomputable section

namespace Cert.Kernel2Ideal.Moe

open Idealize.ShloMosaic

/-- A row times a matrix. -/
def proj {d k : ℕ} (x : Fin d → EReal) (w : Fin d → Fin k → EReal) (j : Fin k) : EReal := ∑ i, x i * w i j

/-- `x` times its logistic. -/
def silu (x : EReal) : EReal := x * Ideal.div 1 (1 + Ideal.exp (-x))

/-- An expert on a row. -/
def ffn (x : Fin 1024 → EReal) (g u : Fin 1024 → Fin 256 → EReal) (d : Fin 256 → Fin 1024 → EReal) (j : Fin 1024) : EReal :=
  ∑ k, (silu (proj x g k) * proj x u k) * d k j

theorem exp_nonneg (x : EReal) : 0 ≤ Ideal.exp x := by
  induction x using EReal.rec with
  | bot => exact le_of_eq rfl
  | top => exact le_top
  | coe r => exact EReal.coe_nonneg.2 (Real.exp_pos r).le

theorem one_add_exp_ne_zero (x : EReal) : 1 + Ideal.exp x ≠ 0 := by
  intro e
  have h1 : (1 : EReal) ≤ 1 + Ideal.exp x := le_add_of_nonneg_right (exp_nonneg x)
  rw [e] at h1
  exact absurd h1 (by simp)

/-- A quotient by one plus the exponential is the product with the logistic. -/
theorem silu_div (x : EReal) : Ideal.div x (1 + Ideal.exp (0 - x)) = silu x := by
  unfold silu
  rw [zero_sub, Ideal.mul_one_div (one_add_exp_ne_zero _)]

/-- A sum over the experts whose gates are one weight at one expert and another at a second: two terms. -/
theorem sum_two_gates (lo hi : Fin 16) (h : lo ≠ hi) (a b : EReal) (f : Fin 16 → EReal) :
    ∑ e : Fin 16, ((if lo = e then (1 : EReal) else 0) * a + (if hi = e then (1 : EReal) else 0) * b) * f e = a * f lo + b * f hi := by
  rw [Fintype.sum_eq_add lo hi h]
  · rw [if_pos rfl, if_neg (Ne.symm h), if_neg h, if_pos rfl]
    simp
  · rintro e ⟨h1, h2⟩
    rw [if_neg (Ne.symm h1), if_neg (Ne.symm h2)]
    simp

end Cert.Kernel2Ideal.Moe

end
-- ==== Proof.Moe.Tile.lean ====
/-
  The block step's value over the extended reals: at a row and a column, the two experts' outputs weighted and added.
-/
module

public import proofs.«01_k».proof.Proof.Moe.Body
public import proofs.«01_k».proof.Proof.Moe.Math
public import Idealize.ShloMosaic.Lib.MatmulPlain
public import Idealize.ShloMosaic.Lib.Pipeline.Value

@[expose] public section

set_option maxRecDepth 16384

noncomputable section

namespace Cert.Kernel2Ideal.Moe

open Cert.Kernel2Ideal Cert.Kernel2Ideal.Gen
open Idealize.ShloMosaic Idealize.ShloMosaic.ValueIdx

/-- A block's gate columns and up columns. -/
def gcol (k : Fin 256) : Fin 512 := ⟨k.val, by have := k.isLt; omega⟩
def ucol (k : Fin 256) : Fin 512 := ⟨256 + k.val, by have := k.isLt; omega⟩

theorem dot_up : dot_S512x1024_S1024x512_S512x512_1_0_0_1_n_n = DotDims.plain 512 1024 512 := rfl
theorem dot_down : dot_S512x256_S256x1024_S512x1024_1_0_0_1_n_n = DotDims.plain 512 256 1024 := rfl

/-- Dropping a leading axis of one. -/
theorem drop3 {a b : ℕ} {α : Type} (W : (⟨3, ![1, a, b]⟩ : Shape).Idx → α) (h : (⟨3, ![1, a, b]⟩ : Shape).ShapeCasts ⟨2, ![a, b]⟩)
    (i : Fin a) (j : Fin b) : shapeCast ⟨2, ![a, b]⟩ W h (ix2 i j) = W (ix3 (0 : Fin 1) i j) :=
  shapeCast_apply W h _ _ (by
    rw [Shape.rowMajor_val_three, Shape.rowMajor_val_two]
    show (0 * a + i.val) * b + j.val = i.val * b + j.val
    rw [Nat.zero_mul, Nat.zero_add])

theorem mm_up (X : FVec Ideal S512x1024 .bf16) (W : FVec Ideal S1024x512 .bf16) (r : Fin 512) (c : Fin 512) :
    matmul dot_S512x1024_S1024x512_S512x512_1_0_0_1_n_n none X W (constant S512x512 .f32 0x00000000#32) (ix2 r c)
      = ∑ d : Fin 1024, X (ix2 r d) * W (ix2 d c) := by
  rw [dot_up]
  refine (Ideal.matmul_plain_apply none X W _ r c).trans ?_
  show Ideal.ofBits .f32 0x00000000#32 + _ = _
  rw [Ideal.ofBits_zero_f32, zero_add]

theorem mm_down (X : FVec Ideal S512x256 .bf16) (W : FVec Ideal S256x1024 .bf16) (r : Fin 512) (c : Fin 1024) :
    matmul dot_S512x256_S256x1024_S512x1024_1_0_0_1_n_n none X W (constant S512x1024 .f32 0x00000000#32) (ix2 r c)
      = ∑ d : Fin 256, X (ix2 r d) * W (ix2 d c) := by
  rw [dot_down]
  refine (Ideal.matmul_plain_apply none X W _ r c).trans ?_
  show Ideal.ofBits .f32 0x00000000#32 + _ = _
  rw [Ideal.ofBits_zero_f32, zero_add]

theorem pay3_eq (X : Vec Ideal S512x1024 .f32) : k0_pay3 (F := Ideal) X = X := by
  funext j
  show shapeCast S512x1024 X shapeCasts_S512x1024_S512x1024 j = X j
  exact shapeCast_apply X _ _ _ rfl

theorem pay4_eq (X : Vec Ideal S512x1 .f32) : k0_pay4 (F := Ideal) X = X := by
  funext j
  show shapeCast S512x1 X shapeCasts_S512x1_S512x1 j = X j
  exact shapeCast_apply X _ _ _ rfl

/-- The gate and up projections of a block of rows. -/
def both (X : Vec Ideal S512x1024 .f32) (W : Vec Ideal S1x1024x512 .bf16) : FVec Ideal S512x512 .f32 :=
  matmul dot_S512x1024_S1024x512_S512x512_1_0_0_1_n_n none (k0_pay3 X) (shapeCast S1024x512 W shapeCasts_S1x1024x512_S1024x512 : FVec Ideal S1024x512 .bf16)
    (constant S512x512 .f32 0x00000000#32)

theorem both_apply (X : Vec Ideal S512x1024 .f32) (W : Vec Ideal S1x1024x512 .bf16) (y : Fin 512) (c : Fin 512) :
    both X W (ix2 y c) = ∑ d : Fin 1024, X (ix2 y d) * W (ix3 (0 : Fin 1) d c) := by
  unfold both
  rw [mm_up, pay3_eq]
  exact Finset.sum_congr rfl fun d _ => congrArg (X (ix2 y d) * ·) (drop3 W _ d c)

/-- The activation of a block of rows. -/
theorem act_apply (X : Vec Ideal S512x1024 .f32) (W : Vec Ideal S1x1024x512 .bf16) (y : Fin 512) (k : Fin 256) :
    k0_pay6 X W (ix2 y k)
      = silu (proj (fun d => X (ix2 y d)) (fun d k => W (ix3 (0 : Fin 1) d (gcol k))) k)
        * proj (fun d => X (ix2 y d)) (fun d k => W (ix3 (0 : Fin 1) d (ucol k))) k := by
  have hg : extractStridedSlice S512x256 ![0, 0] (both X W) slices_S512x512_o0_0_S512x256 (ix2 y k) = both X W (ix2 y (gcol k)) :=
    slice2_axis1_apply 0 (both X W) _ y k (gcol k) (Nat.zero_add _).symm
  have hu : extractStridedSlice S512x256 ![0, 256] (both X W) slices_S512x512_o0_256_S512x256 (ix2 y k) = both X W (ix2 y (ucol k)) :=
    slice2_axis1_apply 256 (both X W) _ y k (ucol k) rfl
  show Ideal.div (extractStridedSlice S512x256 ![0, 0] (both X W) slices_S512x512_o0_0_S512x256 (ix2 y k))
      (Ideal.ofBits .f32 0x3F800000#32 + Ideal.exp (Ideal.ofBits .f32 0x00000000#32
        - extractStridedSlice S512x256 ![0, 0] (both X W) slices_S512x512_o0_0_S512x256 (ix2 y k)))
      * extractStridedSlice S512x256 ![0, 256] (both X W) slices_S512x512_o0_256_S512x256 (ix2 y k) = _
  rw [hg, hu, Ideal.ofBits_one_f32, Ideal.ofBits_zero_f32, silu_div, both_apply, both_apply]
  rfl

/-- A column laid along the rows. -/
theorem along (w : FVec Ideal S512x1 .f32) (y : Fin 512) (j : Fin 1024) :
    broadcastTo S512x1024 w broadcasts_S512x1_S512x1024 (ix2 y j) = w (ix2 y (0 : Fin 1)) :=
  broadcastTo_apply w _ _ _ (fun a => by
    match a with
    | ⟨0, _⟩ => rfl
    | ⟨1, _⟩ => rfl)

/-- A weighted expert over a block of rows. -/
theorem weighted (w : FVec Ideal S512x1 .f32) (X : Vec Ideal S512x1024 .f32) (G : Vec Ideal S1x1024x512 .bf16)
    (D : Vec Ideal S1x256x1024 .bf16) (y : Fin 512) (j : Fin 1024) :
    mulf (broadcastTo S512x1024 w broadcasts_S512x1_S512x1024)
      (matmul dot_S512x256_S256x1024_S512x1024_1_0_0_1_n_n none (k0_pay6 X G) (shapeCast S256x1024 D shapeCasts_S1x256x1024_S256x1024 : FVec Ideal S256x1024 .bf16)
        (constant S512x1024 .f32 0x00000000#32)) (ix2 y j)
      = w (ix2 y (0 : Fin 1)) * ffn (fun d => X (ix2 y d)) (fun d k => G (ix3 (0 : Fin 1) d (gcol k))) (fun d k => G (ix3 (0 : Fin 1) d (ucol k)))
          (fun k j => D (ix3 (0 : Fin 1) k j)) j := by
  refine congrArg₂ (fun p q : EReal => p * q) (along w y j) ?_
  rw [mm_down]
  refine Finset.sum_congr rfl fun k _ => ?_
  rw [act_apply]
  exact congrArg₂ (fun p q : EReal => p * q) rfl (drop3 D _ k j)

/-- A block with rows in it. -/
theorem tile_apply (v : BitVec 32) (hv : v ≠ 0#32) (X : S512x1152.Idx → Ideal .f32) (G0 G1 : S1x1024x512.Idx → Ideal .bf16)
    (D0 D1 : S1x256x1024.Idx → Ideal .bf16) (y : Fin 512) (j : Fin 1024) :
    tile v X G0 G1 D0 D1 (ix2 y j)
      = wLow X (ix2 y (0 : Fin 1)) * ffn (fun d => rowsOf X (ix2 y d)) (fun d k => G0 (ix3 (0 : Fin 1) d (gcol k)))
            (fun d k => G0 (ix3 (0 : Fin 1) d (ucol k))) (fun k j => D0 (ix3 (0 : Fin 1) k j)) j
        + wHigh X (ix2 y (0 : Fin 1)) * ffn (fun d => rowsOf X (ix2 y d)) (fun d k => G1 (ix3 (0 : Fin 1) d (gcol k)))
            (fun d k => G1 (ix3 (0 : Fin 1) d (ucol k))) (fun k j => D1 (ix3 (0 : Fin 1) k j)) j := by
  unfold tile
  rw [if_neg hv, pay4_eq]
  have h5 : k0_pay5 (F := Ideal) (rowsOf X) (wLow X) G0 D0
      = mulf (broadcastTo S512x1024 (k0_pay4 (wLow X)) broadcasts_S512x1_S512x1024)
          (matmul dot_S512x256_S256x1024_S512x1024_1_0_0_1_n_n none (k0_pay6 (rowsOf X) G0)
            (shapeCast S256x1024 D0 shapeCasts_S1x256x1024_S256x1024 : FVec Ideal S256x1024 .bf16) (constant S512x1024 .f32 0x00000000#32)) := rfl
  rw [h5, pay4_eq]
  exact congrArg₂ (fun p q : EReal => p + q) (weighted (wLow X) (rowsOf X) G0 D0 y j) (weighted (wHigh X) (rowsOf X) G1 D1 y j)

/-- A block with none. -/
theorem tile_zero (X : S512x1152.Idx → Ideal .f32) (G0 G1 : S1x1024x512.Idx → Ideal .bf16)
    (D0 D1 : S1x256x1024.Idx → Ideal .bf16) (i : S512x1024.Idx) : tile 0#32 X G0 G1 D0 D1 i = 0 := by
  unfold tile
  rw [if_pos rfl]
  exact Ideal.ofBits_zero_f32

end Cert.Kernel2Ideal.Moe

end
-- ==== Proof.Moe.Blocks.lean ====
/-
  What a grid point stages, read off the arguments: its block of rows with the two weight columns, and its two experts'
  matrices, the gate and up projections side by side.
-/
module

public import proofs.«01_k».proof.Proof.Moe.Tables
public import proofs.«01_k».proof.Proof.Moe.Tile
public import Idealize.ShloMosaic.Lib.StableHlo.Run

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.ValueIdx
open Idealize.SL.Sem

/-! ## The arrays the host operations prepare -/

section
variable {F : FTy → Type} [FloatOps F]
variable (m : (ℓ : Loc nD τ sig) → Buf (Elt F) ℓ)

theorem V_main_v2 (c : Dev nD) : (V m c main_v2 : S77824x1152.Idx → F .f32)
    = concatenate S77824x1152 1 [⟨S77824x1024, (m ((c : Thread nD τ).loc main_arg0) : S77824x1024.Idx → F .f32)⟩,
        ⟨S77824x1, broadcastInDim S77824x1 ![] bcast_S_S77824x1 (constant (F := F) S_ .f32 0x00000000#32)⟩,
        ⟨S77824x2, (m ((c : Thread nD τ).loc main_arg1) : S77824x2.Idx → F .f32)⟩,
        ⟨S77824x125, broadcastInDim S77824x125 ![] bcast_S_S77824x125 (constant (F := F) S_ .f32 0x00000000#32)⟩]
        concatenates_S77824x1024_S77824x1_S77824x2_S77824x125_S77824x1152_d1 := by
  unfold V hostOps0
  after_results
  rfl

theorem V_main_v4 (c : Dev nD) : (V m c main_v4 : S16x1024x512.Idx → F .bf16)
    = truncf .bf16 (concatenate S16x1024x512 2 [⟨S16x1024x256, (m ((c : Thread nD τ).loc main_arg5) : S16x1024x256.Idx → F .f32)⟩,
        ⟨S16x1024x256, (m ((c : Thread nD τ).loc main_arg6) : S16x1024x256.Idx → F .f32)⟩] concatenates_S16x1024x256_S16x1024x256_S16x1024x512_d2)
        bitsLt_bf16_f32 := by
  unfold V hostOps0
  after_results

theorem V_main_v5 (c : Dev nD) : (V m c main_v5 : S16x256x1024.Idx → F .bf16)
    = truncf .bf16 (m ((c : Thread nD τ).loc main_arg7) : S16x256x1024.Idx → F .f32) bitsLt_bf16_f32 := by
  unfold V hostOps0
  after_results

/-! ## A point's coordinate -/

theorem coord0 (i : Fin grid0.N) : (grid0.coords i 0).val = i.val := by
  have h := Pipeline.Grid.coords_val (G := grid0) i 0 (S := 1) (B := 152) (by decide) rfl
  have hN : grid0.N = 152 := rfl
  have := i.isLt
  omega

theorem word_coord0 (i : Fin grid0.N) : (BitVec.ofNat 32 (grid0.coords i 0).val).toNat = i.val := by
  rw [coord0, BitVec.toNat_ofNat]
  have hN : grid0.N = 152 := rfl
  have := i.isLt
  omega

/-- The tables' entry of a point is the point's own. -/
theorem coordIx_eq (i : Fin grid0.N) : coordIx (grid0.coords i) = ix1 (⟨i.val, i.isLt⟩ : Fin 152) := by
  funext a
  apply Fin.ext
  match a with
  | ⟨0, _⟩ =>
    show (Scalar.indexCast (BitVec.ofNat 32 (grid0.coords i 0).val)).toNat + 1 * 0 = i.val
    rw [Nat.mul_zero, Nat.add_zero]
    exact word_coord0 i

/-! ## The blocks -/

variable (a : (pcfg0 (F := F)).Adm)

/-- Row `y` of block `t`. -/
def rowAt (t : Fin 152) (y : Fin 512) : Fin 77824 := ⟨t.val * 512 + y.val, by have := t.isLt; have := y.isLt; omega⟩

theorem xAt_read (c : Dev nD) (t : Fin 152) (y : Fin 512) (k : Fin 1152) :
    xAt m a c t (ix2 y k) = (V m c main_v2 : S77824x1152.Idx → F .f32) (ix2 (rowAt t y) k) := by
  unfold xAt iblk
  rw [View.read_apply]
  refine congrArg (V m c main_v2 : S77824x1152.Idx → F .f32) ?_
  funext b
  apply Fin.ext
  refine (Pipeline.Window.rect_emb_val ((cfgA a).win (0 : Fin 6)) t (ix2 y k) b).trans ?_
  match b with
  | ⟨0, _⟩ =>
    show (BitVec.ofNat 32 (grid0.coords t 0).val).toNat * 512 + y.val = t.val * 512 + y.val
    exact congrArg (fun n => n * 512 + y.val) (word_coord0 t)
  | ⟨1, _⟩ =>
    show 0 * 1152 + k.val = k.val
    rw [Nat.zero_mul, Nat.zero_add]

theorem g0At_read (c : Dev nD) (t : Fin 152) (l : Fin 16) (hl : (a.1 0 (ix1 t) : BitVec 32).toNat = l.val) (d : Fin 1024) (k : Fin 512) :
    g0At m a c t (ix3 (0 : Fin 1) d k) = (V m c main_v4 : S16x1024x512.Idx → F .bf16) (ix3 l d k) := by
  unfold g0At iblk
  rw [View.read_apply]
  refine congrArg (V m c main_v4 : S16x1024x512.Idx → F .bf16) ?_
  funext b
  apply Fin.ext
  refine (Pipeline.Window.rect_emb_val ((cfgA a).win (1 : Fin 6)) t (ix3 (0 : Fin 1) d k) b).trans ?_
  match b with
  | ⟨0, _⟩ =>
    exact (congrArg (fun g => (a.1 0 g : BitVec 32).toNat * 1 + 0) (coordIx_eq t)).trans ((Nat.mul_one _).trans hl)
  | ⟨1, _⟩ =>
    show 0 * 1024 + d.val = d.val
    rw [Nat.zero_mul, Nat.zero_add]
  | ⟨2, _⟩ =>
    show 0 * 512 + k.val = k.val
    rw [Nat.zero_mul, Nat.zero_add]

theorem g1At_read (c : Dev nD) (t : Fin 152) (l : Fin 16) (hl : (a.1 1 (ix1 t) : BitVec 32).toNat = l.val) (d : Fin 1024) (k : Fin 512) :
    g1At m a c t (ix3 (0 : Fin 1) d k) = (V m c main_v4 : S16x1024x512.Idx → F .bf16) (ix3 l d k) := by
  unfold g1At iblk
  rw [View.read_apply]
  refine congrArg (V m c main_v4 : S16x1024x512.Idx → F .bf16) ?_
  funext b
  apply Fin.ext
  refine (Pipeline.Window.rect_emb_val ((cfgA a).win (2 : Fin 6)) t (ix3 (0 : Fin 1) d k) b).trans ?_
  match b with
  | ⟨0, _⟩ =>
    exact (congrArg (fun g => (a.1 1 g : BitVec 32).toNat * 1 + 0) (coordIx_eq t)).trans ((Nat.mul_one _).trans hl)
  | ⟨1, _⟩ =>
    show 0 * 1024 + d.val = d.val
    rw [Nat.zero_mul, Nat.zero_add]
  | ⟨2, _⟩ =>
    show 0 * 512 + k.val = k.val
    rw [Nat.zero_mul, Nat.zero_add]

theorem d0At_read (c : Dev nD) (t : Fin 152) (l : Fin 16) (hl : (a.1 0 (ix1 t) : BitVec 32).toNat = l.val) (k : Fin 256) (j : Fin 1024) :
    d0At m a c t (ix3 (0 : Fin 1) k j) = (V m c main_v5 : S16x256x1024.Idx → F .bf16) (ix3 l k j) := by
  unfold d0At iblk
  rw [View.read_apply]
  refine congrArg (V m c main_v5 : S16x256x1024.Idx → F .bf16) ?_
  funext b
  apply Fin.ext
  refine (Pipeline.Window.rect_emb_val ((cfgA a).win (3 : Fin 6)) t (ix3 (0 : Fin 1) k j) b).trans ?_
  match b with
  | ⟨0, _⟩ =>
    exact (congrArg (fun g => (a.1 0 g : BitVec 32).toNat * 1 + 0) (coordIx_eq t)).trans ((Nat.mul_one _).trans hl)
  | ⟨1, _⟩ =>
    show 0 * 256 + k.val = k.val
    rw [Nat.zero_mul, Nat.zero_add]
  | ⟨2, _⟩ =>
    show 0 * 1024 + j.val = j.val
    rw [Nat.zero_mul, Nat.zero_add]

theorem d1At_read (c : Dev nD) (t : Fin 152) (l : Fin 16) (hl : (a.1 1 (ix1 t) : BitVec 32).toNat = l.val) (k : Fin 256) (j : Fin 1024) :
    d1At m a c t (ix3 (0 : Fin 1) k j) = (V m c main_v5 : S16x256x1024.Idx → F .bf16) (ix3 l k j) := by
  unfold d1At iblk
  rw [View.read_apply]
  refine congrArg (V m c main_v5 : S16x256x1024.Idx → F .bf16) ?_
  funext b
  apply Fin.ext
  refine (Pipeline.Window.rect_emb_val ((cfgA a).win (4 : Fin 6)) t (ix3 (0 : Fin 1) k j) b).trans ?_
  match b with
  | ⟨0, _⟩ =>
    exact (congrArg (fun g => (a.1 1 g : BitVec 32).toNat * 1 + 0) (coordIx_eq t)).trans ((Nat.mul_one _).trans hl)
  | ⟨1, _⟩ =>
    show 0 * 256 + k.val = k.val
    rw [Nat.zero_mul, Nat.zero_add]
  | ⟨2, _⟩ =>
    show 0 * 1024 + j.val = j.val
    rw [Nat.zero_mul, Nat.zero_add]

/-- The validity word of a point. -/
theorem wordAt_eq (t : Fin 152) : wordAt (F := F) a t = (a.1 2 (ix1 t) : BitVec 32) := by
  refine Eq.trans (b := (a.1 2 (coordIx (grid0.coords t)) : BitVec 32)) rfl ?_
  exact congrArg (a.1 2) (coordIx_eq t)

end

end Cert.Kernel2Ideal.Moe

end
-- ==== Proof.Moe.Refer.lean ====
/-
  The reference over the extended reals: at a row and a column, the sixteen experts' outputs weighted by the row's gates and
  added; the gates the two weights at the row's two experts, and nothing where the row's block is empty.
-/
module

public import proofs.«01_k».proof.Proof.Moe.Math
public import proofs.«01_k».proof.Proof.Gen.Reference2Ideal.Run
public import Idealize.ShloMosaic.Lib.StackMember
public import Idealize.ShloMosaic.Lib.Pipeline.Value
public import Idealize.ShloMosaic.PureOps.Ideal.Laws

@[expose] public section

set_option maxRecDepth 16384

noncomputable section

namespace Cert.Reference2Ideal.Moe

open Cert.Reference2Ideal Cert.Reference2Ideal.Gen
open Idealize.ShloMosaic Idealize.ShloMosaic.ValueIdx Idealize.ShloMosaic.TcCoe
open Cert.Kernel2Ideal.Moe (proj silu ffn)

theorem dot_up : dot_S77824x1024_S1024x256_S77824x256_1_0_0_1_n_n = DotDims.plain 77824 1024 256 := rfl
theorem dot_down : dot_S77824x256_S256x1024_S77824x1024_1_0_0_1_n_n = DotDims.plain 77824 256 1024 := rfl

/-- One expert's matrix out of the stack. -/
theorem member {p a b : ℕ} {α : Type} (o : ℕ) (ho : o < p) (W : (⟨3, ![p, a, b]⟩ : Shape).Idx → α)
    (hs : (⟨3, ![p, a, b]⟩ : Shape).Slices ![o, 0, 0] ⟨3, ![1, a, b]⟩) (hc : (⟨3, ![1, a, b]⟩ : Shape).ShapeCasts ⟨2, ![a, b]⟩)
    (i : Fin a) (j : Fin b) :
    shapeCast ⟨2, ![a, b]⟩ (extractStridedSlice ⟨3, ![1, a, b]⟩ ![o, 0, 0] W hs) hc (ix2 i j) = W (ix3 (⟨o, ho⟩ : Fin p) i j) := by
  refine (shapeCast_apply _ hc _ (ix3 (0 : Fin 1) i j) ?_).trans ?_
  · rw [Shape.rowMajor_val_three, Shape.rowMajor_val_two]
    show (0 * a + i.val) * b + j.val = i.val * b + j.val
    rw [Nat.zero_mul, Nat.zero_add]
  · refine extractStridedSlice_apply _ W hs _ _ (fun ax => ?_)
    match ax with
    | ⟨0, _⟩ => rfl
    | ⟨1, _⟩ => exact (Nat.zero_add _).symm
    | ⟨2, _⟩ => exact (Nat.zero_add _).symm

/-- A projection of the rows by one expert. -/
theorem up_apply (o : ℕ) (ho : o < 16) (T : FVec Ideal S77824x1024 .f32) (W : FVec Ideal S16x1024x256 .f32)
    (hs : S16x1024x256.Slices ![o, 0, 0] S1x1024x256) (hc : S1x1024x256.ShapeCasts S1024x256) (r : Fin 77824) (k : Fin 256) :
    Host.dotGeneral dot_S77824x1024_S1024x256_S77824x256_1_0_0_1_n_n none T
        (shapeCast S1024x256 (extractStridedSlice S1x1024x256 ![o, 0, 0] W hs) hc : FVec Ideal S1024x256 .f32) (ix2 r k)
      = proj (fun d => T (ix2 r d)) (fun d k => W (ix3 (⟨o, ho⟩ : Fin 16) d k)) k := by
  rw [dot_up]
  refine (StackMember.dotGeneral_plain_apply none T _ r k).trans ?_
  exact Finset.sum_congr rfl fun d _ => congrArg (fun q : EReal => T (ix2 r d) * q) (member o ho W hs hc d k)

/-- One expert's weighted output. -/
theorem term_apply (o : ℕ) (ho : o < 16) (G : FVec Ideal S77824x16 .f32) (T : FVec Ideal S77824x1024 .f32)
    (WG WU : FVec Ideal S16x1024x256 .f32) (WD : FVec Ideal S16x256x1024 .f32)
    (hg : S77824x16.Slices ![0, o] S77824x1) (hs : S16x1024x256.Slices ![o, 0, 0] S1x1024x256) (hd : S16x256x1024.Slices ![o, 0, 0] S1x256x1024)
    (H : FVec Ideal S77824x256 .f32)
    (hH : H = Host.dotGeneral dot_S77824x1024_S1024x256_S77824x256_1_0_0_1_n_n none T
        (shapeCast _ (extractStridedSlice S1x1024x256 ![o, 0, 0] WG hs) shapeCasts_S1x1024x256_S1024x256 : FVec Ideal S1024x256 .f32))
    (r : Fin 77824) (j : Fin 1024) :
    mulf (broadcastInDim S77824x1024 ![0, 1] bcast_S77824x1_S77824x1024_0_1 (extractStridedSlice S77824x1 ![0, o] G hg))
      (Host.dotGeneral dot_S77824x256_S256x1024_S77824x1024_1_0_0_1_n_n none
        (mulf (mulf H (Host.divf (broadcastInDim S77824x256 ![] bcast_S_S77824x256 (constant (F := Ideal) S_ .f32 0x3F800000#32))
            (addf (broadcastInDim S77824x256 ![] bcast_S_S77824x256 (constant (F := Ideal) S_ .f32 0x3F800000#32)) (Host.exp (Host.negf H)))))
          (Host.dotGeneral dot_S77824x1024_S1024x256_S77824x256_1_0_0_1_n_n none T
            (shapeCast _ (extractStridedSlice S1x1024x256 ![o, 0, 0] WU hs) shapeCasts_S1x1024x256_S1024x256 : FVec Ideal S1024x256 .f32)))
        (shapeCast _ (extractStridedSlice S1x256x1024 ![o, 0, 0] WD hd) shapeCasts_S1x256x1024_S256x1024 : FVec Ideal S256x1024 .f32)) (ix2 r j)
      = G (ix2 r (⟨o, ho⟩ : Fin 16)) * ffn (fun d => T (ix2 r d)) (fun d k => WG (ix3 (⟨o, ho⟩ : Fin 16) d k))
          (fun d k => WU (ix3 (⟨o, ho⟩ : Fin 16) d k)) (fun k j => WD (ix3 (⟨o, ho⟩ : Fin 16) k j)) j := by
  refine congrArg₂ (fun p q : EReal => p * q) ?_ ?_
  · refine (broadcastInDim_apply _ _ _ _ (ix2 r (0 : Fin 1)) (fun ax => by
      match ax with
      | ⟨0, _⟩ => rfl
      | ⟨1, _⟩ => rfl)).trans ?_
    exact slice2_axis1_apply o G hg r (0 : Fin 1) ⟨o, ho⟩ rfl
  · rw [dot_down]
    refine (StackMember.dotGeneral_plain_apply none _ _ r j).trans ?_
    refine Finset.sum_congr rfl fun k _ => ?_
    refine congrArg₂ (fun p q : EReal => p * q) ?_ (member o ho WD hd _ k j)
    refine congrArg₂ (fun p q : EReal => p * q) ?_ (up_apply o ho T WU hs _ r k)
    show H (ix2 r k) * Ideal.div (Ideal.ofBits .f32 0x3F800000#32) (Ideal.ofBits .f32 0x3F800000#32 + Ideal.exp (-(H (ix2 r k)))) = _
    rw [Ideal.ofBits_one_f32, hH, up_apply o ho T WG hs]
    rfl

/-! ## The gates -/

/-- The block a row lies in. -/
def blockOf (r : Fin 77824) : Fin 152 := ⟨r.val / 512, by have := r.isLt; omega⟩

/-- A table's entry laid along the block's rows. -/
theorem rep_apply (x : IVec S152 32) (r : Fin 77824) :
    broadcastInDim S77824x1 ![0] bcast_S77824_S77824x1_0 (shapeCast S77824 (broadcastInDim S152x512 ![0] bcast_S152_S152x512_0 x) shapeCasts_S152x512_S77824)
      (ix2 r (0 : Fin 1)) = x (ix1 (blockOf r)) := by
  refine (broadcastInDim_apply _ _ _ _ (ix1 r) (fun ax => by
    match ax with
    | ⟨0, _⟩ => rfl)).trans ?_
  refine (shapeCast_apply _ _ _ (ix2 (blockOf r) (⟨r.val % 512, Nat.mod_lt _ (by decide)⟩ : Fin 512)) ?_).trans ?_
  · rw [Shape.rowMajor_val_two, Shape.rowMajor_val_one]
    show r.val / 512 * 512 + r.val % 512 = r.val
    omega
  · exact broadcastInDim_apply _ _ _ _ _ (fun ax => by
      match ax with
      | ⟨0, _⟩ => rfl)

/-- A comparison for equality as a number. -/
theorem oneHot_apply {s : Shape} (A B : IVec s 32) (i : s.Idx) :
    uitofp (F := Ideal) .f32 (cmpi .eq A B) i = if A i = B i then (1 : EReal) else 0 := by
  show (((BitVec.ofBool (A i == B i)).toNat : ℝ) : EReal) = _
  by_cases h : A i = B i
  · rw [if_pos h, h]; simp
  · rw [if_neg h, show (A i == B i) = false from by simpa using h]; simp

/-- A pair of columns, laid along the experts, at one of the two. -/
theorem pair_apply {α : Type} (P : S77824x2.Idx → α) (r : Fin 77824) (a : Fin 2) (e : Fin 16) :
    broadcastInDim S77824x2x16 ![0, 1, 2] bcast_S77824x2x1_S77824x2x16_0_1_2
      (broadcastInDim S77824x2x1 ![0, 1] bcast_S77824x2_S77824x2x1_0_1 P) (ix3 r a e) = P (ix2 r a) := by
  refine (broadcastInDim_apply _ _ _ _ (ix3 r a (0 : Fin 1)) (fun ax => by
    match ax with
    | ⟨0, _⟩ => rfl
    | ⟨1, _⟩ => rfl
    | ⟨2, _⟩ => rfl)).trans ?_
  exact broadcastInDim_apply _ _ _ _ (ix2 r a) (fun ax => by
    match ax with
    | ⟨0, _⟩ => rfl
    | ⟨1, _⟩ => rfl)

theorem iota_apply (r : Fin 77824) (a : Fin 2) (e : Fin 16) :
    broadcastInDim S77824x2x16 ![0, 1, 2] bcast_S1x1x16_S77824x2x16_0_1_2 (iotaInDim S1x1x16 32 2) (ix3 r a e) = BitVec.ofNat 32 e.val := by
  refine (broadcastInDim_apply _ _ _ _ (ix3 (0 : Fin 1) (0 : Fin 1) e) (fun ax => by
    match ax with
    | ⟨0, _⟩ => rfl
    | ⟨1, _⟩ => rfl
    | ⟨2, _⟩ => rfl)).trans rfl

theorem cols_left (A B : S77824x1.Idx → BitVec 32) (r : Fin 77824) :
    concatenate S77824x2 1 [⟨S77824x1, A⟩, ⟨S77824x1, B⟩] concatenates_S77824x1_S77824x1_S77824x2_d1 (ix2 r (0 : Fin 2)) = A (ix2 r (0 : Fin 1)) :=
  concatenate_pair_apply_left (t := S77824x2) 1 A B _ _ rfl _ (fun b => by
    match b with
    | ⟨0, _⟩ => rfl
    | ⟨1, _⟩ => rfl)
theorem cols_right (A B : S77824x1.Idx → BitVec 32) (r : Fin 77824) :
    concatenate S77824x2 1 [⟨S77824x1, A⟩, ⟨S77824x1, B⟩] concatenates_S77824x1_S77824x1_S77824x2_d1 (ix2 r (1 : Fin 2)) = B (ix2 r (0 : Fin 1)) :=
  concatenate_pair_apply_right (t := S77824x2) 1 A B _ _ rfl rfl _ (fun b hb => by
    match b with
    | ⟨0, _⟩ => rfl
    | ⟨1, _⟩ => exact absurd rfl hb) rfl

/-- A row's weight, where its block holds rows. -/
theorem masked_apply (x : IVec S77824x1 32) (w : FVec Ideal S77824x2 .f32) (r : Fin 77824) (a : Fin 2) :
    select (broadcastInDim S77824x2 ![0, 1] bcast_S77824x1_S77824x2_0_1 (cmpi .ne x (broadcastInDim S77824x1 ![] bcast_S_S77824x1 (constantI S_ 32 0#32)))) w
      (broadcastInDim S77824x2 ![] bcast_S_S77824x2 (id (constant (F := Ideal) S_ .f32 0x00000000#32))) (ix2 r a)
      = if x (ix2 r (0 : Fin 1)) = 0#32 then (0 : EReal) else w (ix2 r a) := by
  have hc : broadcastInDim S77824x2 ![0, 1] bcast_S77824x1_S77824x2_0_1 (cmpi .ne x (broadcastInDim S77824x1 ![] bcast_S_S77824x1 (constantI S_ 32 0#32)))
      (ix2 r a) = BitVec.ofBool (x (ix2 r (0 : Fin 1)) != 0#32) :=
    (broadcastInDim_apply _ _ _ _ (ix2 r (0 : Fin 1)) (fun ax => by
      match ax with
      | ⟨0, _⟩ => rfl
      | ⟨1, _⟩ => rfl)).trans rfl
  show (if _ = 1#1 then w (ix2 r a) else Ideal.ofBits .f32 0x00000000#32) = _
  rw [hc, Ideal.ofBits_zero_f32]
  by_cases h : x (ix2 r (0 : Fin 1)) = 0#32
  · rw [if_pos h, h]; rfl
  · rw [if_neg h, show (x (ix2 r (0 : Fin 1)) != 0#32) = true from by simpa using h]; rfl

theorem reduces_d1 : S77824x2x16.Reduces [1] S77824x16 := by decide

theorem lift_eq (r : Fin 77824) (e : Fin 16) (a : Fin 2) : reduces_d1.lift (ix2 r e) a = ix3 r a e := by
  funext ax
  apply Fin.ext
  match ax with
  | ⟨0, _⟩ => rfl
  | ⟨1, _⟩ => rfl
  | ⟨2, _⟩ => rfl

/-- A row's gate for an expert. -/
theorem gate_apply (V0 : Valuation τ sig (Elt Ideal)) (r : Fin 77824) (e : Fin 16)
    (lo hi va : IVec S152 32) (w : FVec Ideal S77824x2 .f32)
    (hlo : V0 (Proc.devRef .tc main_arg2) = lo) (hhi : V0 (Proc.devRef .tc main_arg3) = hi) (hva : V0 (Proc.devRef .tc main_arg4) = va)
    (hw : V0 (Proc.devRef .tc main_arg1) = w) :
    Value.res_main_v17 V0 (ix2 r e)
      = (if lo (ix1 (blockOf r)) = BitVec.ofNat 32 e.val then (1 : EReal) else 0) * (if va (ix1 (blockOf r)) = 0#32 then (0 : EReal) else w (ix2 r (0 : Fin 2)))
        + (if hi (ix1 (blockOf r)) = BitVec.ofNat 32 e.val then (1 : EReal) else 0) * (if va (ix1 (blockOf r)) = 0#32 then (0 : EReal) else w (ix2 r (1 : Fin 2))) := by
  subst hlo hhi hva hw
  unfold Value.res_main_v17
  refine (hostReduceAdd_apply _ _ _ _ _).trans ?_
  refine (Ideal.hostReduceAdd_single _ reduces_d1 _ _ _).trans ?_
  refine (congrArg₂ (fun p q : EReal => p + q) Ideal.ofBits_zero_f32 (Fin.sum_univ_two _)).trans ?_
  rw [zero_add]
  refine congrArg₂ (fun p q : EReal => p + q) ?_ ?_
  · rw [lift_eq]
    refine congrArg₂ (fun p q : EReal => p * q) ?_ ?_
    · refine (oneHot_apply _ _ _).trans ?_
      rw [pair_apply, iota_apply, cols_left, rep_apply]
    · refine (pair_apply _ _ _ _).trans ?_
      refine (masked_apply _ _ _ _).trans ?_
      rw [rep_apply]
  · rw [lift_eq]
    refine congrArg₂ (fun p q : EReal => p * q) ?_ ?_
    · refine (oneHot_apply _ _ _).trans ?_
      rw [pair_apply, iota_apply, cols_right, rep_apply]
    · refine (pair_apply _ _ _ _).trans ?_
      refine (masked_apply _ _ _ _).trans ?_
      rw [rep_apply]

/-! ## The sum over the experts -/

/-- One expert's weighted output at a row and a column. -/
def term (G : FVec Ideal S77824x16 .f32) (T : FVec Ideal S77824x1024 .f32) (WG WU : FVec Ideal S16x1024x256 .f32)
    (WD : FVec Ideal S16x256x1024 .f32) (r : Fin 77824) (j : Fin 1024) (e : Fin 16) : EReal :=
  G (ix2 r e) * ffn (fun d => T (ix2 r d)) (fun d k => WG (ix3 e d k)) (fun d k => WU (ix3 e d k)) (fun k j => WD (ix3 e k j)) j

variable (V0 : Valuation τ sig (Elt Ideal))

/-- The term of the reference's arrays. -/
def termV (r : Fin 77824) (j : Fin 1024) (e : Fin 16) : EReal :=
  term (Value.res_main_v17 V0) (V0 (Proc.devRef .tc main_arg0)) (V0 (Proc.devRef .tc main_arg5)) (V0 (Proc.devRef .tc main_arg6))
    (V0 (Proc.devRef .tc main_arg7)) r j e

/-- The reference's sums over the first five, ten and fifteen experts. -/
def at5 (r : Fin 77824) (j : Fin 1024) : EReal := Value.res_main_v93 V0 (ix2 r j)
def at10 (r : Fin 77824) (j : Fin 1024) : EReal := Value.res_main_v168 V0 (ix2 r j)
def at15 (r : Fin 77824) (j : Fin 1024) : EReal := Value.res_main_v243 V0 (ix2 r j)

theorem sum5 (r : Fin 77824) (j : Fin 1024) : at5 V0 r j = (((((0 : EReal) + termV V0 r j 0) + termV V0 r j 1) + termV V0 r j 2) + termV V0 r j 3) + termV V0 r j 4 := by
  unfold at5 Value.res_main_v93
  exact (congrArg₂ (fun p q : EReal => p + q) (congrArg₂ (fun p q : EReal => p + q) (congrArg₂ (fun p q : EReal => p + q) (congrArg₂ (fun p q : EReal => p + q) (congrArg₂ (fun p q : EReal => p + q) Ideal.ofBits_zero_f32
    (term_apply 0 (by decide) _ _ _ _ _ _ _ _ (Value.res_main_v21 V0) rfl r j))
    (term_apply 1 (by decide) _ _ _ _ _ _ _ _ (Value.res_main_v36 V0) rfl r j))
    (term_apply 2 (by decide) _ _ _ _ _ _ _ _ (Value.res_main_v51 V0) rfl r j))
    (term_apply 3 (by decide) _ _ _ _ _ _ _ _ (Value.res_main_v66 V0) rfl r j))
    (term_apply 4 (by decide) _ _ _ _ _ _ _ _ (Value.res_main_v81 V0) rfl r j))

theorem sum10 (r : Fin 77824) (j : Fin 1024) : at10 V0 r j = ((((at5 V0 r j + termV V0 r j 5) + termV V0 r j 6) + termV V0 r j 7) + termV V0 r j 8) + termV V0 r j 9 := by
  unfold at10 Value.res_main_v168
  exact (congrArg₂ (fun p q : EReal => p + q) (congrArg₂ (fun p q : EReal => p + q) (congrArg₂ (fun p q : EReal => p + q) (congrArg₂ (fun p q : EReal => p + q) (congrArg₂ (fun p q : EReal => p + q) rfl
    (term_apply 5 (by decide) _ _ _ _ _ _ _ _ (Value.res_main_v96 V0) rfl r j))
    (term_apply 6 (by decide) _ _ _ _ _ _ _ _ (Value.res_main_v111 V0) rfl r j))
    (term_apply 7 (by decide) _ _ _ _ _ _ _ _ (Value.res_main_v126 V0) rfl r j))
    (term_apply 8 (by decide) _ _ _ _ _ _ _ _ (Value.res_main_v141 V0) rfl r j))
    (term_apply 9 (by decide) _ _ _ _ _ _ _ _ (Value.res_main_v156 V0) rfl r j))

theorem sum15 (r : Fin 77824) (j : Fin 1024) : at15 V0 r j = ((((at10 V0 r j + termV V0 r j 10) + termV V0 r j 11) + termV V0 r j 12) + termV V0 r j 13) + termV V0 r j 14 := by
  unfold at15 Value.res_main_v243
  exact (congrArg₂ (fun p q : EReal => p + q) (congrArg₂ (fun p q : EReal => p + q) (congrArg₂ (fun p q : EReal => p + q) (congrArg₂ (fun p q : EReal => p + q) (congrArg₂ (fun p q : EReal => p + q) rfl
    (term_apply 10 (by decide) _ _ _ _ _ _ _ _ (Value.res_main_v171 V0) rfl r j))
    (term_apply 11 (by decide) _ _ _ _ _ _ _ _ (Value.res_main_v186 V0) rfl r j))
    (term_apply 12 (by decide) _ _ _ _ _ _ _ _ (Value.res_main_v201 V0) rfl r j))
    (term_apply 13 (by decide) _ _ _ _ _ _ _ _ (Value.res_main_v216 V0) rfl r j))
    (term_apply 14 (by decide) _ _ _ _ _ _ _ _ (Value.res_main_v231 V0) rfl r j))

theorem sum16 (r : Fin 77824) (j : Fin 1024) :
    at15 V0 r j + termV V0 r j 15 = ∑ e : Fin 16, termV V0 r j e := by
  rw [sum15, sum10, sum5]
  simp only [Fin.sum_univ_castSucc, Fin.sum_univ_zero]
  rfl

/-- The reference's element at a row and a column: the sum of the experts' weighted outputs. -/
theorem result_apply (r : Fin 77824) (j : Fin 1024) (T : FVec Ideal S77824x1024 .f32) (WU : FVec Ideal S16x1024x256 .f32)
    (WD : FVec Ideal S16x256x1024 .f32) (h0 : V0 (Proc.devRef .tc main_arg0) = T) (h6 : V0 (Proc.devRef .tc main_arg6) = WU)
    (h7 : V0 (Proc.devRef .tc main_arg7) = WD) :
    addf (Value.res_main_v243 V0) (mulf (broadcastInDim S77824x1024 ![0, 1] bcast_S77824x1_S77824x1024_0_1 (extractStridedSlice S77824x1 ![0, 15] (Value.res_main_v17 V0) slices_S77824x16_S77824x1_0_15))
      (Host.dotGeneral dot_S77824x256_S256x1024_S77824x1024_1_0_0_1_n_n none
        (mulf (mulf (Value.res_main_v246 V0) (Host.divf (broadcastInDim S77824x256 ![] bcast_S_S77824x256 (constant (F := Ideal) S_ .f32 0x3F800000#32))
            (addf (broadcastInDim S77824x256 ![] bcast_S_S77824x256 (constant (F := Ideal) S_ .f32 0x3F800000#32)) (Host.exp (Host.negf (Value.res_main_v246 V0))))))
          (Host.dotGeneral dot_S77824x1024_S1024x256_S77824x256_1_0_0_1_n_n none T
            (shapeCast _ (extractStridedSlice S1x1024x256 ![15, 0, 0] WU slices_S16x1024x256_S1x1024x256_15_0_0) shapeCasts_S1x1024x256_S1024x256 : FVec Ideal S1024x256 .f32)))
        (shapeCast _ (extractStridedSlice S1x256x1024 ![15, 0, 0] WD slices_S16x256x1024_S1x256x1024_15_0_0) shapeCasts_S1x256x1024_S256x1024 : FVec Ideal S256x1024 .f32))) (ix2 r j)
      = ∑ e : Fin 16, termV V0 r j e := by
  subst h0 h6 h7
  exact (congrArg₂ (fun p q : EReal => p + q) (show Value.res_main_v243 V0 (ix2 r j) = at15 V0 r j from rfl)
    (term_apply 15 (by decide) _ _ _ _ _ _ _ _ (Value.res_main_v246 V0) rfl r j)).trans (sum16 V0 r j)

/-- A word naming expert `l` is the word of `e` exactly when `l` is `e`. -/
theorem word_eq_iff (v : BitVec 32) (l e : Fin 16) (h : v.toNat = l.val) : (v = BitVec.ofNat 32 e.val) = (l = e) := by
  have he := e.isLt
  refine propext ⟨fun hv => Fin.ext ?_, fun hl => BitVec.eq_of_toNat_eq ?_⟩
  · rw [hv, BitVec.toNat_ofNat, Nat.mod_eq_of_lt (by omega)] at h; exact h.symm
  · rw [h, hl, BitVec.toNat_ofNat, Nat.mod_eq_of_lt (by omega)]

/-- Where a row's two experts are `l` and `h`, the sum over the experts is their two outputs, weighted; nothing in an empty
    block. -/
theorem sum_picked (r : Fin 77824) (j : Fin 1024) (l h : Fin 16) (lo hi va : IVec S152 32) (hlh : va (ix1 (blockOf r)) ≠ 0#32 → l ≠ h) (w : FVec Ideal S77824x2 .f32)
    (T : FVec Ideal S77824x1024 .f32) (WG WU : FVec Ideal S16x1024x256 .f32) (WD : FVec Ideal S16x256x1024 .f32)
    (h0 : V0 (Proc.devRef .tc main_arg0) = T) (h1 : V0 (Proc.devRef .tc main_arg1) = w) (h2 : V0 (Proc.devRef .tc main_arg2) = lo)
    (h3 : V0 (Proc.devRef .tc main_arg3) = hi) (h4 : V0 (Proc.devRef .tc main_arg4) = va) (h5 : V0 (Proc.devRef .tc main_arg5) = WG)
    (h6 : V0 (Proc.devRef .tc main_arg6) = WU) (h7 : V0 (Proc.devRef .tc main_arg7) = WD)
    (hl : (lo (ix1 (blockOf r))).toNat = l.val) (hh : (hi (ix1 (blockOf r))).toNat = h.val) :
    ∑ e : Fin 16, termV V0 r j e
      = if va (ix1 (blockOf r)) = 0#32 then (0 : EReal)
        else w (ix2 r (0 : Fin 2)) * ffn (fun d => T (ix2 r d)) (fun d k => WG (ix3 l d k)) (fun d k => WU (ix3 l d k)) (fun k j => WD (ix3 l k j)) j
          + w (ix2 r (1 : Fin 2)) * ffn (fun d => T (ix2 r d)) (fun d k => WG (ix3 h d k)) (fun d k => WU (ix3 h d k)) (fun k j => WD (ix3 h k j)) j := by
  have e1 : ∀ e : Fin 16, termV V0 r j e
      = ((if l = e then (1 : EReal) else 0) * (if va (ix1 (blockOf r)) = 0#32 then (0 : EReal) else w (ix2 r (0 : Fin 2)))
        + (if h = e then (1 : EReal) else 0) * (if va (ix1 (blockOf r)) = 0#32 then (0 : EReal) else w (ix2 r (1 : Fin 2))))
        * ffn (fun d => T (ix2 r d)) (fun d k => WG (ix3 e d k)) (fun d k => WU (ix3 e d k)) (fun k j => WD (ix3 e k j)) j := by
    intro e
    unfold termV term
    rw [h0, h5, h6, h7, gate_apply V0 r e lo hi va w h2 h3 h4 h1]
    simp only [word_eq_iff _ l e hl, word_eq_iff _ h e hh]
  rw [Finset.sum_congr rfl fun e _ => e1 e]
  by_cases hv : va (ix1 (blockOf r)) = 0#32
  · rw [if_pos hv, if_pos hv, if_pos hv]
    exact Finset.sum_eq_zero fun e _ => by rw [mul_zero, mul_zero, zero_add, zero_mul]
  · rw [if_neg hv, if_neg hv, if_neg hv]
    exact Cert.Kernel2Ideal.Moe.sum_two_gates l h (hlh hv) _ _ _

end Cert.Reference2Ideal.Moe

end
-- ==== Proof.Moe.Value.lean ====
/-
  The expert layer's value over the extended reals: the array the kernel leaves, and the reference's, are one array of
  the arguments.
-/
module

public import proofs.«01_k».proof.Proof.Moe.Blocks
public import proofs.«01_k».proof.Proof.Moe.Frames
public import proofs.«01_k».proof.Proof.Moe.Refer
public import Idealize.ShloMosaic.Lib.Pipeline.Covers

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.ValueIdx
open Idealize.SL.Sem
open Cert.Reference2Ideal.Moe (blockOf)

/-- The expert a word names. -/
def expertOf (v : BitVec 32) : Fin 16 := ⟨v.toNat % 16, Nat.mod_lt _ (by decide)⟩

theorem expertOf_val (v : BitVec 32) (h : v.toNat < 16) : v.toNat = (expertOf v).val := (Nat.mod_eq_of_lt h).symm

/-- The layer's element at a row and a column: nothing where the row's block is empty, else its two experts' outputs,
    weighted and added. -/
def moeAt (T : S77824x1024.Idx → EReal) (w : S77824x2.Idx → EReal) (lo hi va : S152.Idx → BitVec 32)
    (WG WU : S16x1024x256.Idx → EReal) (WD : S16x256x1024.Idx → EReal) (r : Fin 77824) (j : Fin 1024) : EReal :=
  if va (ix1 (blockOf r)) = 0#32 then (0 : EReal)
  else w (ix2 r (0 : Fin 2)) * ffn (fun d => T (ix2 r d)) (fun d k => WG (ix3 (expertOf (lo (ix1 (blockOf r)))) d k))
        (fun d k => WU (ix3 (expertOf (lo (ix1 (blockOf r)))) d k)) (fun k j => WD (ix3 (expertOf (lo (ix1 (blockOf r)))) k j)) j
    + w (ix2 r (1 : Fin 2)) * ffn (fun d => T (ix2 r d)) (fun d k => WG (ix3 (expertOf (hi (ix1 (blockOf r)))) d k))
        (fun d k => WU (ix3 (expertOf (hi (ix1 (blockOf r)))) d k)) (fun k j => WD (ix3 (expertOf (hi (ix1 (blockOf r)))) k j)) j

/-! ## The pieces of a staged row -/

theorem rowsOf_apply (X : S512x1152.Idx → EReal) (y : Fin 512) (d : Fin 1024) :
    rowsOf (F := Ideal) X (ix2 y d) = X (ix2 y (⟨d.val, by have := d.isLt; omega⟩ : Fin 1152)) := by
  refine congrArg X ?_
  funext b
  apply Fin.ext
  match b with
  | ⟨0, _⟩ => show 0 + 1 * y.val = y.val; omega
  | ⟨1, _⟩ => show 0 + 1 * d.val = d.val; omega

theorem wLow_apply (X : S512x1152.Idx → EReal) (y : Fin 512) :
    wLow (F := Ideal) X (ix2 y (0 : Fin 1)) = X (ix2 y (1025 : Fin 1152)) := by
  refine congrArg X ?_
  funext b
  apply Fin.ext
  match b with
  | ⟨0, _⟩ => show 0 + 1 * y.val = y.val; omega
  | ⟨1, _⟩ => rfl

theorem wHigh_apply (X : S512x1152.Idx → EReal) (y : Fin 512) :
    wHigh (F := Ideal) X (ix2 y (0 : Fin 1)) = X (ix2 y (1026 : Fin 1152)) := by
  refine congrArg X ?_
  funext b
  apply Fin.ext
  match b with
  | ⟨0, _⟩ => show 0 + 1 * y.val = y.val; omega
  | ⟨1, _⟩ => rfl

section
variable (m : (ℓ : Loc nD τ sig) → Buf (Elt Ideal) ℓ)

/-- The arguments as arrays over the extended reals. -/
def rowsArg (c : Dev nD) : S77824x1024.Idx → EReal := m ((c : Thread nD τ).loc main_arg0)
def weightArg (c : Dev nD) : S77824x2.Idx → EReal := m ((c : Thread nD τ).loc main_arg1)
def lowArg (c : Dev nD) : S152.Idx → BitVec 32 := m ((c : Thread nD τ).loc main_arg2)
def highArg (c : Dev nD) : S152.Idx → BitVec 32 := m ((c : Thread nD τ).loc main_arg3)
def validArg (c : Dev nD) : S152.Idx → BitVec 32 := m ((c : Thread nD τ).loc main_arg4)
def gateArg (c : Dev nD) : S16x1024x256.Idx → EReal := m ((c : Thread nD τ).loc main_arg5)
def upArg (c : Dev nD) : S16x1024x256.Idx → EReal := m ((c : Thread nD τ).loc main_arg6)
def downArg (c : Dev nD) : S16x256x1024.Idx → EReal := m ((c : Thread nD τ).loc main_arg7)

/-- The layer's array, of the arguments. -/
def moeOut (c : Dev nD) : S77824x1024.Idx → EReal := fun i =>
  moeAt (rowsArg m c) (weightArg m c) (lowArg m c) (highArg m c) (validArg m c) (gateArg m c) (upArg m c) (downArg m c) (i 0) (i 1)

theorem v2_row (c : Dev nD) (r : Fin 77824) (d : Fin 1024) :
    (V m c main_v2 : S77824x1152.Idx → EReal) (ix2 r (⟨d.val, by have := d.isLt; omega⟩ : Fin 1152)) = rowsArg m c (ix2 r d) := by
  refine (congrFun (V_main_v2 m c) _).trans ?_
  exact concatenate_apply_piece (t := S77824x1152) 1 _ _ _ 0 (by exact Nat.succ_pos _) S77824x1024 _ rfl rfl 0 rfl (ix2 r d)
    (fun b hb => by
      match b with
      | ⟨0, _⟩ => rfl
      | ⟨1, _⟩ => exact absurd rfl hb) (Nat.zero_add _)

theorem v2_low (c : Dev nD) (r : Fin 77824) :
    (V m c main_v2 : S77824x1152.Idx → EReal) (ix2 r (1025 : Fin 1152)) = weightArg m c (ix2 r (0 : Fin 2)) := by
  refine (congrFun (V_main_v2 m c) _).trans ?_
  exact concatenate_apply_piece (t := S77824x1152) 1 _ _ _ 2 (by exact (show 2 < 4 by decide)) S77824x2 _ rfl rfl 1025 rfl (ix2 r (0 : Fin 2))
    (fun b hb => by
      match b with
      | ⟨0, _⟩ => rfl
      | ⟨1, _⟩ => exact absurd rfl hb) rfl

theorem v2_high (c : Dev nD) (r : Fin 77824) :
    (V m c main_v2 : S77824x1152.Idx → EReal) (ix2 r (1026 : Fin 1152)) = weightArg m c (ix2 r (1 : Fin 2)) := by
  refine (congrFun (V_main_v2 m c) _).trans ?_
  exact concatenate_apply_piece (t := S77824x1152) 1 _ _ _ 2 (by exact (show 2 < 4 by decide)) S77824x2 _ rfl rfl 1025 rfl (ix2 r (1 : Fin 2))
    (fun b hb => by
      match b with
      | ⟨0, _⟩ => rfl
      | ⟨1, _⟩ => exact absurd rfl hb) rfl

theorem v4_gate (c : Dev nD) (l : Fin 16) (d : Fin 1024) (k : Fin 256) :
    (V m c main_v4 : S16x1024x512.Idx → EReal) (ix3 l d (gcol k)) = gateArg m c (ix3 l d k) := by
  refine (congrFun (V_main_v4 m c) _).trans ?_
  exact concatenate_pair_apply_left (t := S16x1024x512) 2 (gateArg m c) (upArg m c) concatenates_S16x1024x256_S16x1024x256_S16x1024x512_d2 _ rfl (ix3 l d k) fun b => by
    match b with
    | ⟨0, _⟩ => rfl
    | ⟨1, _⟩ => rfl
    | ⟨2, _⟩ => rfl

theorem v4_up (c : Dev nD) (l : Fin 16) (d : Fin 1024) (k : Fin 256) :
    (V m c main_v4 : S16x1024x512.Idx → EReal) (ix3 l d (ucol k)) = upArg m c (ix3 l d k) := by
  refine (congrFun (V_main_v4 m c) _).trans ?_
  exact concatenate_pair_apply_right (t := S16x1024x512) 2 (gateArg m c) (upArg m c) concatenates_S16x1024x256_S16x1024x256_S16x1024x512_d2 _ rfl rfl (ix3 l d k) (fun b hb => by
    match b with
    | ⟨0, _⟩ => rfl
    | ⟨1, _⟩ => rfl
    | ⟨2, _⟩ => exact absurd rfl hb) (Nat.add_comm k.val 256)

theorem v5_down (c : Dev nD) (l : Fin 16) (k : Fin 256) (j : Fin 1024) :
    (V m c main_v5 : S16x256x1024.Idx → EReal) (ix3 l k j) = downArg m c (ix3 l k j) :=
  congrFun (V_main_v5 m c) _

/-! ## The block a point leaves -/

theorem blockOf_rowAt (t : Fin 152) (y : Fin 512) : blockOf (rowAt t y) = t := by
  apply Fin.ext
  show (t.val * 512 + y.val) / 512 = t.val
  have := y.isLt
  omega

variable (a : (pcfg0 (F := Ideal)).Adm)

theorem tileAt_apply (c : Dev nD) (t : Fin 152) (l h : Fin 16) (hl : (a.1 0 (ix1 t) : BitVec 32).toNat = l.val)
    (hh : (a.1 1 (ix1 t) : BitVec 32).toNat = h.val) (hv : (a.1 2 (ix1 t) : BitVec 32) ≠ 0#32) (y : Fin 512) (j : Fin 1024) :
    tileAt m a c t (ix2 y j)
      = weightArg m c (ix2 (rowAt t y) (0 : Fin 2)) * ffn (fun d => rowsArg m c (ix2 (rowAt t y) d)) (fun d k => gateArg m c (ix3 l d k))
          (fun d k => upArg m c (ix3 l d k)) (fun k j => downArg m c (ix3 l k j)) j
        + weightArg m c (ix2 (rowAt t y) (1 : Fin 2)) * ffn (fun d => rowsArg m c (ix2 (rowAt t y) d)) (fun d k => gateArg m c (ix3 h d k))
          (fun d k => upArg m c (ix3 h d k)) (fun k j => downArg m c (ix3 h k j)) j := by
  have hx : (fun d => rowsOf (F := Ideal) (xAt m a c t) (ix2 y d)) = fun d => rowsArg m c (ix2 (rowAt t y) d) :=
    funext fun d => (rowsOf_apply _ y d).trans ((xAt_read m a c t y _).trans (v2_row m c (rowAt t y) d))
  have hw0 := (wLow_apply (xAt m a c t) y).trans ((xAt_read m a c t y _).trans (v2_low m c (rowAt t y)))
  have hw1 := (wHigh_apply (xAt m a c t) y).trans ((xAt_read m a c t y _).trans (v2_high m c (rowAt t y)))
  have hg0 : (fun d k => g0At m a c t (ix3 (0 : Fin 1) d (gcol k))) = fun d k => gateArg m c (ix3 l d k) :=
    funext fun d => funext fun k => (g0At_read m a c t l hl d _).trans (v4_gate m c l d k)
  have hu0 : (fun d k => g0At m a c t (ix3 (0 : Fin 1) d (ucol k))) = fun d k => upArg m c (ix3 l d k) :=
    funext fun d => funext fun k => (g0At_read m a c t l hl d _).trans (v4_up m c l d k)
  have hg1 : (fun d k => g1At m a c t (ix3 (0 : Fin 1) d (gcol k))) = fun d k => gateArg m c (ix3 h d k) :=
    funext fun d => funext fun k => (g1At_read m a c t h hh d _).trans (v4_gate m c h d k)
  have hu1 : (fun d k => g1At m a c t (ix3 (0 : Fin 1) d (ucol k))) = fun d k => upArg m c (ix3 h d k) :=
    funext fun d => funext fun k => (g1At_read m a c t h hh d _).trans (v4_up m c h d k)
  have hd0 : (fun k j => d0At m a c t (ix3 (0 : Fin 1) k j)) = fun k j => downArg m c (ix3 l k j) :=
    funext fun k => funext fun j => (d0At_read m a c t l hl k j).trans (v5_down m c l k j)
  have hd1 : (fun k j => d1At m a c t (ix3 (0 : Fin 1) k j)) = fun k j => downArg m c (ix3 h k j) :=
    funext fun k => funext fun j => (d1At_read m a c t h hh k j).trans (v5_down m c h k j)
  have hvw : wordAt (F := Ideal) a t ≠ 0#32 := fun e => hv ((wordAt_eq a t).symm.trans e)
  refine (tile_apply _ hvw _ _ _ _ _ y j).trans ?_
  rw [hw0, hw1]
  refine congrArg₂ (fun p q : EReal => p + q) (congrArg (fun q : EReal => _ * q) ?_) (congrArg (fun q : EReal => _ * q) ?_)
  · rw [← hx, ← hg0, ← hu0, ← hd0]
  · rw [← hx, ← hg1, ← hu1, ← hd1]

theorem tileAt_empty (c : Dev nD) (t : Fin 152) (hv : (a.1 2 (ix1 t) : BitVec 32) = 0#32) (i : S512x1024.Idx) :
    tileAt m a c t i = (0 : EReal) := by
  have hvw : wordAt (F := Ideal) a t = 0#32 := (wordAt_eq a t).trans hv
  unfold tileAt
  rw [hvw]
  exact tile_zero _ _ _ _ _ i

theorem tileAt_eq (h : PreM m) (c : Dev nD) (t : Fin 152) (y : Fin 512) (j : Fin 1024) :
    tileAt m (adm m h) c t (ix2 y j) = moeOut m c (ix2 (rowAt t y) j) := by
  have hc : c = 0 := Subsingleton.elim _ _
  subst hc
  have e0 : ((adm m h).1 0 (ix1 t) : BitVec 32) = lowArg m 0 (ix1 t) := congrFun (tabs_0 m) _
  have e1 : ((adm m h).1 1 (ix1 t) : BitVec 32) = highArg m 0 (ix1 t) := congrFun (tabs_1 m) _
  have e2 : ((adm m h).1 2 (ix1 t) : BitVec 32) = validArg m 0 (ix1 t) := congrFun (tabs_2 m) _
  have he := experts_of_pre _ _ _ _ _ _ _ _ (h 0) (ix1 t)
  show _ = moeAt _ _ _ _ _ _ _ _ (rowAt t y) j
  unfold moeAt
  rw [blockOf_rowAt]
  by_cases hv : validArg m 0 (ix1 t) = 0#32
  · rw [if_pos hv]
    exact tileAt_empty m _ 0 t (e2.trans hv) _
  · rw [if_neg hv]
    exact tileAt_apply m (adm m h) 0 t _ _ ((congrArg BitVec.toNat e0).trans (expertOf_val _ he.1))
      ((congrArg BitVec.toNat e1).trans (expertOf_val _ he.2.1)) (fun e => hv (e2.symm.trans e)) y j

/-! ## The array -/

theorem nblk_out (b : Fin 2) : ((cfgA a).win (5 : Fin 6)).nblk b = (![152, 1] : Fin 2 → ℕ) b := by
  match b with
  | ⟨0, _⟩ => show (77824 + 512 - 1) / 512 = 152; decide
  | ⟨1, _⟩ => show (1024 + 1024 - 1) / 1024 = 1; decide

/-- A block's grid coordinates. -/
def point (t : Fin 152) : grid0.Coords := fun b => match b with
  | ⟨0, _⟩ => t

/-- The output's blocks cover its array. -/
theorem covers_out : ((cfgA a).win (5 : Fin 6)).Covers :=
  ((cfgA a).win (5 : Fin 6)).covers_of_indexMap_surj rfl
    (fun b => by
      match b with
      | ⟨0, _⟩ => show 0 < 512; decide
      | ⟨1, _⟩ => show 0 < 1024; decide)
    fun β => ⟨point ⟨(β (0 : Fin 2)).val, lt_of_lt_of_eq (β (0 : Fin 2)).isLt (nblk_out a 0)⟩, fun b => by
      match b with
      | ⟨0, _⟩ =>
        show (BitVec.ofNat 32 (β (0 : Fin 2)).val).toNat = (β (0 : Fin 2)).val
        rw [BitVec.toNat_ofNat]
        have : (β (0 : Fin 2)).val < 152 := lt_of_lt_of_eq (β (0 : Fin 2)).isLt (nblk_out a 0)
        omega
      | ⟨1, _⟩ =>
        have : (β (1 : Fin 2)).val < 1 := lt_of_lt_of_eq (β (1 : Fin 2)).isLt (nblk_out a 1)
        show 0 = (β (1 : Fin 2)).val
        omega⟩

theorem arr_out (h : PreM m) (c : Dev nD) :
    (dats m (adm m h) 0 c).arrAt (5 : Fin 6) (cfgA (adm m h)).N = moeOut m c := by
  refine (dats m (adm m h) 0 c).arrAt_eq_of_covers (5 : Fin 6) _ (covers_out (adm m h)) fun t hf y => ?_
  have hy : y = ix2 (y (0 : Fin 2)) (y (1 : Fin 2)) := eq_ix2 y
  refine Eq.trans (b := tileAt m (adm m h) c t (ix2 (y (0 : Fin 2)) (y (1 : Fin 2)))) (congrArg (tileAt m (adm m h) c t) hy) ?_
  refine (tileAt_eq m h c t _ _).trans (congrArg (moeOut m c) ?_)
  funext b
  apply Fin.ext
  refine Eq.trans ?_ (Pipeline.Window.rect_emb_val ((cfgA (adm m h)).win (5 : Fin 6)) t y b).symm
  match b with
  | ⟨0, _⟩ =>
    show t.val * 512 + (y (0 : Fin 2)).val = (BitVec.ofNat 32 (grid0.coords t 0).val).toNat * 512 + (y (0 : Fin 2)).val
    exact congrArg (fun n => n * 512 + (y (0 : Fin 2)).val) (word_coord0 t).symm
  | ⟨1, _⟩ =>
    show (y (1 : Fin 2)).val = 0 * 1024 + (y (1 : Fin 2)).val
    rw [Nat.zero_mul, Nat.zero_add]

/-- The kernel's run leaves that array. -/
theorem run_moe (ρ : Dev nD → PrngReg) (h : PreM m) :
    θ_run (defs (F := Ideal)) (onTc (τ := τ) (main (F := Ideal))) ⟨m, fun _ => 0, ρ⟩ (fun r => ∀ c : Dev nD,
      r.2.mem ((c : Thread nD τ).loc main_v6) = moeOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run (defs (F := Ideal)) _ _).mono (fun _ q c => ⟨(q.1 c).2.trans (arr_out m h c), (q.1 c).1⟩) (run_pre m ρ h)

end

/-! ## The reference -/

section
open Cert.Reference2Ideal in
/-- The reference's element is the layer's. -/
theorem refer_eq (V0 : (b : DevRef Cert.Reference2Ideal.τ Cert.Reference2Ideal.sig) → b.ty.Contents (Elt Ideal))
    (lo hi va : IVec Cert.Reference2Ideal.S152 32) (w : FVec Ideal Cert.Reference2Ideal.S77824x2 .f32)
    (T : FVec Ideal Cert.Reference2Ideal.S77824x1024 .f32) (WG WU : FVec Ideal Cert.Reference2Ideal.S16x1024x256 .f32)
    (WD : FVec Ideal Cert.Reference2Ideal.S16x256x1024 .f32)
    (h0 : V0 (Proc.devRef .tc Cert.Reference2Ideal.main_arg0) = T) (h1 : V0 (Proc.devRef .tc Cert.Reference2Ideal.main_arg1) = w)
    (h2 : V0 (Proc.devRef .tc Cert.Reference2Ideal.main_arg2) = lo) (h3 : V0 (Proc.devRef .tc Cert.Reference2Ideal.main_arg3) = hi)
    (h4 : V0 (Proc.devRef .tc Cert.Reference2Ideal.main_arg4) = va) (h5 : V0 (Proc.devRef .tc Cert.Reference2Ideal.main_arg5) = WG)
    (h6 : V0 (Proc.devRef .tc Cert.Reference2Ideal.main_arg6) = WU) (h7 : V0 (Proc.devRef .tc Cert.Reference2Ideal.main_arg7) = WD)
    (he : ∀ g, (lo g).toNat < 16 ∧ (hi g).toNat < 16 ∧ (va g ≠ 0#32 → (lo g).toNat ≠ (hi g).toNat)) (r : Fin 77824) (j : Fin 1024) :
    ∑ e : Fin 16, Cert.Reference2Ideal.Moe.termV V0 r j e = moeAt T w lo hi va WG WU WD r j := by
  have hg := he (ix1 (blockOf r))
  have hlo := expertOf_val (lo (ix1 (blockOf r))) hg.1
  have hhi := expertOf_val (hi (ix1 (blockOf r))) hg.2.1
  exact Cert.Reference2Ideal.Moe.sum_picked V0 r j _ _ lo hi va (fun hv e => hg.2.2 hv (by
    have := congrArg Fin.val e
    omega)) w T WG WU WD h0 h1 h2 h3 h4 h5 h6 h7 hlo hhi
end

/-- Over the extended reals the kernel's array and the reference's are one. -/
theorem algebraic_moe : Cert.algebraic_Kernel2Ideal_Reference2Ideal := fun m ρ m' ρ' hp ha =>
  ⟨fun c => moeOut m c, run_moe m ρ hp,
    (θ_run Cert.Reference2Ideal.defs _ _).mono (fun _ h c => ⟨(h c).1.trans (funext fun i => by
        have hi : i = ix2 (i (0 : Fin 2)) (i (1 : Fin 2)) := eq_ix2 i
        rw [hi]
        refine (Cert.Reference2Ideal.Moe.result_apply (StableHlo.launchContents m' c) (i (0 : Fin 2)) (i (1 : Fin 2)) _ _ _ rfl rfl rfl).trans ?_
        exact refer_eq (StableHlo.launchContents m' c) (lowArg m c) (highArg m c) (validArg m c) (weightArg m c) (rowsArg m c)
          (gateArg m c) (upArg m c) (downArg m c) (ha c).1 (ha c).2.1 (ha c).2.2.1 (ha c).2.2.2.1 (ha c).2.2.2.2.1 (ha c).2.2.2.2.2.1
          (ha c).2.2.2.2.2.2.1 (ha c).2.2.2.2.2.2.2 (experts_of_pre _ _ _ _ _ _ _ _ (hp c)) _ _), (h c).2⟩)
      (Cert.Reference2Ideal.Value.run (F := Ideal) m' ρ')⟩

end Cert.Kernel2Ideal.Moe

end
-- ==== Proof.Back.Rows.lean ====
/-
  The gather's issue of one row, and what holds before each row: the geometry of the scratch's two slots and of the
  experts' rows, the deliveries of the row copies, and the rule for one row's load, check and copy.
-/
module

public import proofs.«01_k».proof.Proof.Gen.Kernel3Ideal.Frame
public import proofs.«01_k».proof.Proof.Gen.Kernel3Ideal.Skeleton
public import proofs.«01_k».proof.Proof.Gen.Kernel3Ideal.Loops
public import Idealize.ShloMosaic.Lib.Batch
public import Idealize.ShloMosaic.Lib.Ring
public import Idealize.ShloMosaic.Lib.Tactic
public import Idealize.ShloMosaic.Lib.ValueLayout
public import Idealize.ShloMosaic.Lib.Pipeline.ValueKit.Geometry

@[expose] public section

set_option maxRecDepth 16384

noncomputable section

namespace Cert.Kernel3Ideal.Back

open Cert.Kernel3Ideal Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Rows -/

/-- Row `y` of the experts' outputs lies inside them. -/
theorem src_inb (y : Fin 77824) : ∀ a, (![y.val, 0] : Fin 2 → ℕ) a + S1x1024.size a ≤ S77824x1024.size a := by
  have := y.isLt; intro a; fin_cases a
  · show y.val + 1 ≤ 77824; omega
  · show 0 + 1024 ≤ 1024; omega
/-- Row `r` of a slot lies inside it. -/
theorem row_inb (r : Fin 1024) : ∀ a, (![r.val, 0] : Fin 2 → ℕ) a + S1x1024.size a ≤ S1024x1024.size a := by
  have := r.isLt; intro a; fin_cases a
  · show r.val + 1 ≤ 1024; omega
  · show 0 + 1024 ≤ 1024; omega
/-- Slot `s` lies inside the scratch. -/
theorem slot_inb (s : Fin 2) : ∀ a, (![s.val, 0, 0] : Fin 3 → ℕ) a + S1x1024x1024.size a ≤ S2x1024x1024.size a := by
  have := s.isLt; intro a; fin_cases a
  · show s.val + 1 ≤ 2; omega
  · show 0 + 1024 ≤ 1024; omega
  · show 0 + 1024 ≤ 1024; omega
/-- Slot `s` has a semaphore. -/
theorem sem_inb (s : Fin 2) : ∀ a, (![s.val] : Fin 1 → ℕ) a + S1.size a ≤ S2.size a := by
  have := s.isLt; intro a; fin_cases a
  show s.val + 1 ≤ 2; omega
/-- Word `r` of a staged block of positions lies inside it. -/
theorem pos_inb (r : Fin 1024) : ∀ a, (![0, 0, r.val] : Fin 3 → ℕ) a + S1x1x1.size a ≤ S1x1x1024.size a := by
  have := r.isLt; intro a; fin_cases a
  · show 0 + 1 ≤ 1; omega
  · show 0 + 1 ≤ 1; omega
  · show r.val + 1 ≤ 1024; omega

/-- Row `y` of the experts' outputs as a copy's source. -/
def srcM (y : Fin 77824) : Memref sig .tc .hbm S1x1024 .f32 :=
  (Memref.whole main_arg1 : Memref sig .tc .hbm S77824x1024 .f32).slice (Rect.unit (s := S77824x1024) ![y.val, 0] S1x1024.size (src_inb y)) (fun _ => rfl)
/-- A slot of the scratch. -/
def slotM (o : Fin 3 → ℕ) (h : ∀ a, o a + S1x1024x1024.size a ≤ S2x1024x1024.size a) : Memref sig .tc .vmem S1024x1024 .f32 :=
  ((Memref.whole cc0_scratch0 : Memref sig .tc .vmem S2x1024x1024 .f32).slice (Rect.unit (s := S2x1024x1024) o S1x1024x1024.size h) (fun _ => rfl)).squeeze
    S1024x1024 squeezes_S1x1024x1024_S1024x1024
/-- Row `r` of slot `s` as a copy's destination. -/
def dstM (s : Fin 2) (r : Fin 1024) : Memref sig .tc .vmem S1x1024 .f32 :=
  (slotM ![s.val, 0, 0] (slot_inb s)).slice (Rect.unit (s := S1024x1024) ![r.val, 0] S1x1024.size (row_inb r)) (fun _ => rfl)
/-- The semaphore of a slot. -/
def semAt (o : Fin 1 → ℕ) (h : ∀ a, o a + S1.size a ≤ S2.size a) : DmaSem sig :=
  ((cc0_scratch1.slice (Rect.unit (s := S2) o S1.size h)).squeeze S_ squeezes_S1_S_).sem
/-- The cell the copies into slot `s` complete on. -/
def scell (s : Fin 2) : SemLoc sig := .dma (semAt ![s.val] (sem_inb s))

/-- The elements of row `y` of the experts' outputs. -/
abbrev yset (y : Fin 77824) : Finset S77824x1024.Idx := (Rect.unit (s := S77824x1024) ![y.val, 0] S1x1024.size (src_inb y)).set
/-- The elements of row `r` of slot `s`. -/
def dset (s : Fin 2) (r : Fin 1024) : Finset S2x1024x1024.Idx := Finset.univ.filter fun x => (x 0).val = s.val ∧ (x 1).val = r.val
/-- The elements of slot `s`. -/
def slot (s : Fin 2) : Finset S2x1024x1024.Idx := Finset.univ.filter fun x => (x 0).val = s.val

theorem mem_dset (s : Fin 2) (r : Fin 1024) (x : S2x1024x1024.Idx) : x ∈ dset s r ↔ (x 0).val = s.val ∧ (x 1).val = r.val := by
  unfold dset; simp only [Finset.mem_filter, Finset.mem_univ, true_and]
theorem mem_slot (s : Fin 2) (x : S2x1024x1024.Idx) : x ∈ slot s ↔ (x 0).val = s.val := by
  unfold slot; simp only [Finset.mem_filter, Finset.mem_univ, true_and]

theorem dset_disjoint (s : Fin 2) : ∀ r r' : Fin 1024, r ≠ r' → Disjoint (dset s r) (dset s r') := fun r r' hne => by
  rw [Finset.disjoint_left]; intro x hx hx'; rw [mem_dset] at hx hx'; exact hne (Fin.ext (by omega))
theorem dset_cover (s : Fin 2) : Finset.univ.biUnion (dset s) = slot s := by
  ext x
  simp only [Finset.mem_biUnion, Finset.mem_univ, true_and, mem_dset, mem_slot]
  exact ⟨fun ⟨_, h⟩ => h.1, fun h => ⟨x 1, h, rfl⟩⟩
theorem slot_disjoint : ∀ s s' : Fin 2, s ≠ s' → Disjoint (slot s) (slot s') := fun s s' hne => by
  rw [Finset.disjoint_left]; intro x hx hx'; rw [mem_slot] at hx hx'; exact hne (Fin.ext (by omega))
theorem slot_cover : Finset.univ.biUnion slot = Finset.univ := by
  ext x; simp only [Finset.mem_biUnion, Finset.mem_univ, true_and, iff_true]; exact ⟨x 0, (mem_slot _ _).mpr rfl⟩

/-- Where element `y` of row `r` of slot `s` lies. -/
theorem dstM_emb (s : Fin 2) (r : Fin 1024) (y : S1x1024.Idx) : (dstM s r).view.emb y = ix3 s r (y 1) := by
  show (Rect.unit (s := S2x1024x1024) ![s.val, 0, 0] S1x1024x1024.size (slot_inb s)).emb
    (Shape.reshapeEquiv _ ((Rect.unit (s := S1024x1024) ![r.val, 0] S1x1024.size (row_inb r)).emb y)) = _
  have e : (Rect.unit (s := S1024x1024) ![r.val, 0] S1x1024.size (row_inb r)).emb y = ix2 r (y 1) := by
    funext a
    apply Fin.ext
    rw [Idealize.ShloMosaic.ValueKit.rect_emb_unit_val]
    have hy0 : (y 0).val = 0 := by have : (y 0).val < 1 := (y 0).isLt; omega
    fin_cases a
    · show r.val + (y 0).val = r.val; omega
    · show 0 + (y 1).val = (y 1).val; omega
  rw [e]
  refine (congrArg _ (reshapeEquiv_ix2_1ab _ r (y 1))).trans ?_
  funext a
  apply Fin.ext
  refine (Idealize.ShloMosaic.ValueKit.rect_emb_unit_val _ _ _ _ a).trans ?_
  fin_cases a
  · show s.val + 0 = s.val; omega
  · show 0 + r.val = r.val; omega
  · show 0 + (y 1).val = (y 1).val; omega

theorem dstM_set (s : Fin 2) (r : Fin 1024) : (dstM s r).view.set = dset s r := by
  refine Finset.ext fun (x : S2x1024x1024.Idx) => ?_
  refine Iff.trans ?_ (mem_dset s r x).symm
  constructor
  · intro hx
    obtain ⟨y, -, e⟩ := Finset.mem_map.mp hx
    have e' : ix3 s r (y 1) = x := (dstM_emb s r y).symm.trans e
    rw [← e']; exact ⟨rfl, rfl⟩
  · rintro ⟨h0, h1⟩
    refine Finset.mem_map.mpr ⟨ix2 (0 : Fin 1) (x 2 : Fin 1024), Finset.mem_univ _, (dstM_emb s r _).trans ?_⟩
    funext a; apply Fin.ext
    fin_cases a
    · exact h0.symm
    · exact h1.symm
    · rfl
theorem srcM_set (y : Fin 77824) : (srcM y).view.set = yset y := by
  unfold srcM; exact View.set_slice_whole _ _

/-! ## The deliveries -/

/-- The share of the experts' outputs that slot `s` reads them at. -/
def half (s : Fin 2) : PosShare TreeShare := if s = 0 then fullShare.left else fullShare.right

section Deliveries

variable (c : Dev nD) (arg1 : Memref sig .tc .smem S1x1x1024 .i32) (s : Fin 2)
  (P : Fin 1024 → Fin 77824)
  (fp : Buf (Elt F) (arg1.view.loc (c : Thread nD τ)))
  (fy : Buf (Elt F) ((c : Thread nD τ).loc main_arg1))
  (g : Buf (Elt F) ((c : Thread nD τ).loc cc0_scratch0))

/-- Row `r` of slot `s`, held at contents `g`. -/
def rowPt (r : Fin 1024) : sProp 𝕄 := ((c : Thread nD τ).loc cc0_scratch0) ↦[dset s r]{fullShare} g
/-- The experts' outputs, at row `r`'s share. -/
def tokPt (r : Fin 1024) : sProp 𝕄 := ((c : Thread nD τ).loc main_arg1) ↦[Finset.univ]{Transfers.shareTok (half s) 1024 r} fy
/-- Row `P r` of the experts' outputs, at row `r`'s share. -/
def srcPt (r : Fin 1024) : sProp 𝕄 := ((c : Thread nD τ).loc main_arg1) ↦[yset (P r)]{Transfers.shareTok (half s) 1024 r} fy
/-- The other rows of the experts' outputs, at row `r`'s share. -/
def restPt (r : Fin 1024) : sProp 𝕄 := ((c : Thread nD τ).loc main_arg1) ↦[Finset.univ \ yset (P r)]{Transfers.shareTok (half s) 1024 r} fy

theorem tok_split (r : Fin 1024) : (tokPt c s fy r : sProp 𝕄) ⊢ iprop(srcPt c s P fy r ∗ restPt c s P fy r) :=
  (pointsTo_split_subset (Finset.subset_univ _)).1
theorem tok_join (r : Fin 1024) : iprop(srcPt c s P fy r ∗ restPt c s P fy r) ⊢ (tokPt c s fy r : sProp 𝕄) :=
  (pointsTo_split_subset (Finset.subset_univ _)).2

/-- What row `r`'s copy leaves in the scratch: row `r` of the slot overwritten with row `P r` of the experts' outputs. -/
def landed (r : Fin 1024) : Buf (Elt F) ((c : Thread nD τ).loc cc0_scratch0) :=
  (dstM s r).view.write (Elt F) g (ReadAs.same.apply ((srcM (P r)).view.read (Elt F) fy)) Finset.univ

/-- What row `r`'s copy hands back: the slot's row as written, and the experts' row. -/
def deliv (r : Fin 1024) : sProp 𝕄 :=
  iprop((((c : Thread nD τ).loc cc0_scratch0) ↦[dset s r]{fullShare} landed c s P fy g r) ∗ srcPt c s P fy r)

instance deliv_storable (r : Fin 1024) : Storable (upEmb : UEmb _ 𝕄) (deliv c s P fy g r) := by
  unfold deliv srcPt; infer_instance

/-- One row's credit on the copies' semaphore. -/
def rowAmount : ℕ := (dstM 0 0).view.dmaCredit
theorem rowAmount_pos : 0 < rowAmount := View.dmaCredit_pos _ (by decide)

/-- Before row `k`: `k` copies issued and none waited for, the positions' block, the slot's rows and the read shares from
    `k` on, and what the copies issued leave of theirs. -/
def At (k : ℕ) : sProp 𝕄 :=
  iprop(Transfers.Batch (countersEmb (U := Pipeline.UD sig nD τ)) (c : Thread nD τ) (scell s) () rowAmount (deliv c s P fy g) k 0
    ∗ (arg1.view.loc (c : Thread nD τ) ↦[arg1.view.set]{fullShare} fp)
    ∗ bigSep (Ring.rangeSet 1024 k 1024) (rowPt c s g)
    ∗ bigSep (Ring.rangeSet 1024 k 1024) (tokPt c s fy)
    ∗ bigSep (Ring.rangeSet 1024 0 k) (restPt c s P fy))

/-- The word the kernel loads for row `r`. -/
def word (r : Fin 1024) : BitVec 32 :=
  (arg1.access (Rect.unit (s := S1x1x1024) ![0, 0, r.val] S1x1x1.size (pos_inb r))).read (Elt F) fp
    (Shape.Idx.first ((numel1_S1x1x1).symm ▸ Nat.one_pos))

end Deliveries

/-! ## One row -/

/-- The load of a row's position, the check of it, and the row's copy, before the rest `k` of a program. -/
def rowProg {α : Type} (arg1 : Memref sig .tc .smem S1x1x1024 .i32) (arg3 : Memref sig .tc .hbm S77824x1024 .f32)
    (arg8 : Memref sig .tc .vmem S2x1024x1024 .f32) (arg9 : DmaSems sig S2)
    (o1 : Fin 3 → ℕ) (h1 : ∀ a, o1 a + S1x1x1.size a ≤ S1x1x1024.size a)
    (chk : BitVec 32 → Prop) (dec : ∀ v, Decidable (chk v))
    (o2 : Fin 1 → ℕ) (h2 : ∀ a, o2 a + S1.size a ≤ S2.size a)
    (o3 : Fin 3 → ℕ) (h3 : ∀ a, o3 a + S1x1024x1024.size a ≤ S2x1024x1024.size a)
    (o4 : Fin 2 → ℕ) (h4 : ∀ a, o4 a + S1x1024.size a ≤ S1024x1024.size a)
    (o5 : BitVec 32 → Fin 2 → ℕ) (h5 : ∀ v, chk v → ∀ a, o5 v a + S1x1024.size a ≤ S77824x1024.size a)
    (k : Prog (TpuEff nD τ sig (Elt F) Λ₀ .tc) α) : Prog (TpuEff nD τ sig (Elt F) Λ₀ .tc) α :=
  smemLoadElt arg1 (Rect.unit (s := S1x1x1024) o1 S1x1x1.size h1) (View.loads_smem_one rfl numel1_S1x1x1)
    (Shape.Idx.first ((numel1_S1x1x1).symm ▸ Nat.one_pos)) fun v =>
    .op (.assume (chk v) (dec v)) fun hw =>
      .op (.enqueueDma (arg3.slice (Rect.unit (s := S77824x1024) (o5 v) S1x1024.size (h5 v hw.down)) (fun _ => rfl))
        (.here (((arg8.slice (Rect.unit (s := S2x1024x1024) o3 S1x1024x1024.size h3) (fun _ => rfl)).squeeze S1024x1024
          squeezes_S1x1024x1024_S1024x1024).slice (Rect.unit (s := S1024x1024) o4 S1x1024.size h4) (fun _ => rfl)))
        (.dma ((arg9.slice (Rect.unit (s := S2) o2 S1.size h2)).squeeze S_ squeezes_S1_S_).sem)
        (View.wordExact_bits rfl) (View.wordExact_bits rfl) ⟨Or.inl rfl, trivial⟩) fun _ => k

/-- THE COPY OF ONE ROW: issued into row `r` of slot `s` from row `P r` of the experts' outputs, it takes both and leaves
    one more copy in flight. -/
theorem copy_step {α : Type} (𝒱 : Variants) (c : Dev nD) (s : Fin 2)
    (P : Fin 1024 → Fin 77824) (fy : Buf (Elt F) ((c : Thread nD τ).loc main_arg1))
    (g : Buf (Elt F) ((c : Thread nD τ).loc cc0_scratch0)) (r : Fin 1024)
    {o2 : Fin 1 → ℕ} {h2 : ∀ a, o2 a + S1.size a ≤ S2.size a} (ho2 : o2 = ![s.val])
    {o3 : Fin 3 → ℕ} {h3 : ∀ a, o3 a + S1x1024x1024.size a ≤ S2x1024x1024.size a} (ho3 : o3 = ![s.val, 0, 0])
    {o4 : Fin 2 → ℕ} {h4 : ∀ a, o4 a + S1x1024.size a ≤ S1024x1024.size a} (ho4 : o4 = ![r.val, 0])
    {o : Fin 2 → ℕ} {h : ∀ a, o a + S1x1024.size a ≤ S77824x1024.size a} (ho : o = ![(P r).val, 0])
    (k : Prog (TpuEff nD τ sig (Elt F) Λ₀ .tc) α) (Q : α → sProp 𝕄) :
    iprop(srcPt c s P fy r ∗ rowPt c s g r
      ∗ Transfers.Batch (countersEmb (U := Pipeline.UD sig nD τ)) (c : Thread nD τ) (scell s) () rowAmount (deliv c s P fy g) r.val 0)
      ⊢ iprop((Transfers.Batch (countersEmb (U := Pipeline.UD sig nD τ)) (c : Thread nD τ) (scell s) () rowAmount (deliv c s P fy g) (r.val + 1) 0
          -∗ wp frame (wpE (defs₀ (F := F)) 𝒱 (c : Thread nD τ) none) Set.univ k Q)
        -∗ wp frame (wpE (defs₀ (F := F)) 𝒱 (c : Thread nD τ) none) Set.univ
          (.op (.enqueueDma ((Memref.whole main_arg1 : Memref sig .tc .hbm S77824x1024 .f32).slice (Rect.unit (s := S77824x1024) o S1x1024.size h) (fun _ => rfl))
            (.here ((((Memref.whole cc0_scratch0 : Memref sig .tc .vmem S2x1024x1024 .f32).slice (Rect.unit (s := S2x1024x1024) o3 S1x1024x1024.size h3) (fun _ => rfl)).squeeze S1024x1024
              squeezes_S1x1024x1024_S1024x1024).slice (Rect.unit (s := S1024x1024) o4 S1x1024.size h4) (fun _ => rfl)))
            (.dma ((cc0_scratch1.slice (Rect.unit (s := S2) o2 S1.size h2)).squeeze S_ squeezes_S1_S_).sem)
            (View.wordExact_bits rfl) (View.wordExact_bits rfl) ⟨Or.inl rfl, trivial⟩) fun _ => k) Q) := by
  subst ho2 ho3 ho4 ho
  have hs : srcPt c s P fy r = iprop((srcM (P r)).view.loc (c : Thread nD τ) ↦[(srcM (P r)).view.set]{Transfers.shareTok (half s) 1024 r} fy) := by
    unfold srcPt; rw [srcM_set]; rfl
  rw [hs]
  exact Transfers.wp_dmaBatch (countersEmb (U := Pipeline.UD sig nD τ)) 𝒱 (c : Thread nD τ) none (n := 1024)
    (src := srcM (P r)) (dst := dstM s r) (via := ReadAs.same) (sm := scell s) (k := fun _ => k)
    (D := deliv c s P fy g) (j := r.val) (u := 0) (q := Transfers.shareTok (half s) 1024 r) (fs := fy) (Sd := dset s r) (fd := g) () rowAmount rfl
    (dstM_set s r).subset r.isLt (Nat.zero_le _) (by unfold deliv; rw [hs]; exact .rfl)

/-- ONE ROW, from the state before row `r` to the state before row `r + 1`: the word loaded is the row's position, the
    check holds of it, and the copy takes row `r` of the slot and its share of the experts' row. -/
theorem row_step {α : Type} (𝒱 : Variants) (c : Dev nD) (arg1 : Memref sig .tc .smem S1x1x1024 .i32) (s : Fin 2)
    (P : Fin 1024 → Fin 77824)
    (fp : Buf (Elt F) (arg1.view.loc (c : Thread nD τ))) (fy : Buf (Elt F) ((c : Thread nD τ).loc main_arg1))
    (g : Buf (Elt F) ((c : Thread nD τ).loc cc0_scratch0))
    (hP : ∀ r, (word c arg1 fp r).toNat = (P r).val) (a b : ℕ)
    (r : Fin 1024) (ha : a = r.val) (hb : b = r.val + 1) {o1 : Fin 3 → ℕ} {h1 : ∀ a, o1 a + S1x1x1.size a ≤ S1x1x1024.size a} (ho1 : o1 = ![0, 0, r.val])
    {chk : BitVec 32 → Prop} {dec : ∀ v, Decidable (chk v)} (hchk : ∀ v : BitVec 32, v.toNat < 77824 → chk v)
    {o2 : Fin 1 → ℕ} {h2 : ∀ a, o2 a + S1.size a ≤ S2.size a} (ho2 : o2 = ![s.val])
    {o3 : Fin 3 → ℕ} {h3 : ∀ a, o3 a + S1x1024x1024.size a ≤ S2x1024x1024.size a} (ho3 : o3 = ![s.val, 0, 0])
    {o4 : Fin 2 → ℕ} {h4 : ∀ a, o4 a + S1x1024.size a ≤ S1024x1024.size a} (ho4 : o4 = ![r.val, 0])
    {o5 : BitVec 32 → Fin 2 → ℕ} {h5 : ∀ v, chk v → ∀ a, o5 v a + S1x1024.size a ≤ S77824x1024.size a} (ho5 : ∀ v, o5 v = ![v.toNat, 0])
    (k : Prog (TpuEff nD τ sig (Elt F) Λ₀ .tc) α) (Q : α → sProp 𝕄) :
    At c arg1 s P fp fy g a
      ⊢ iprop((At c arg1 s P fp fy g b -∗ wp frame (wpE (defs₀ (F := F)) 𝒱 (c : Thread nD τ) none) Set.univ k Q)
        -∗ wp frame (wpE (defs₀ (F := F)) 𝒱 (c : Thread nD τ) none) Set.univ
          (rowProg arg1 (Memref.whole main_arg1) (Memref.whole cc0_scratch0) cc0_scratch1 o1 h1 chk dec o2 h2 o3 h3 o4 h4 o5 h5 k) Q) := by
  subst ha hb ho1
  unfold At
  rw [Ring.bigSep_rangeSet_head (Φ := rowPt c s g) r.isLt r.isLt, Ring.bigSep_rangeSet_head (Φ := tokPt c s fy) r.isLt r.isLt,
    Ring.bigSep_rangeSet_last (Φ := restPt c s P fy) (lo := 0) (hi := r.val + 1) (by omega) r.isLt]
  unfold rowProg
  iintro ⟨HB, Hp, ⟨Hd, Hds⟩, ⟨Ht, Hts⟩, Hr⟩ Hk
  iapply (wp_smemLoadElt_named 𝒱 (c : Thread nD τ) none Set.univ (m := arg1) (S := arg1.view.set) (View.set_slice_subset _ _)) $$ Hp
  iintro Hp %w %hwd
  have hwr : w.toNat = (P r).val := (congrArg BitVec.toNat hwd).trans (hP r)
  have hw : chk w := hchk _ (by rw [hwr]; exact (P r).isLt)
  rw [wp_assume_of _ _ _ _ (d := dec _) hw]
  have ho : o5 w = ![(P r).val, 0] := by rw [ho5, hwr]
  ihave Ht := (tok_split c s P fy r) $$ Ht
  icases Ht with ⟨Hs, Hq⟩
  iapply (copy_step 𝒱 c s P fy g r ho2 ho3 ho4 ho k Q) $$ [HB Hs Hd]
  · isplitl [Hs]; · iexact Hs
    isplitl [Hd]; · iexact Hd
    iexact HB
  iintro HB
  iapply Hk
  isplitl [HB]; · iexact HB
  isplitl [Hp]; · iexact Hp
  isplitl [Hds]; · iexact Hds
  isplitl [Hts]; · iexact Hts
  isplitl [Hq]; · iexact Hq
  iexact Hr

end Cert.Kernel3Ideal.Back

end
-- ==== Proof.Back.Loops.lean ====
/-
  The gather's loops: a trip of each issue loop (eight rows), the two issue loops, and the loop of waits.
-/
module

public import proofs.«01_k».proof.Proof.Back.Rows
public import proofs.«01_k».proof.Proof.Gen.Kernel3Ideal.Frame
public import proofs.«01_k».proof.Proof.Gen.Kernel3Ideal.Skeleton
public import proofs.«01_k».proof.Proof.Gen.Kernel3Ideal.Loops
public import Idealize.ShloMosaic.Lib.Batch
public import Idealize.ShloMosaic.Lib.Ring
public import Idealize.ShloMosaic.Lib.Tactic
public import Idealize.ShloMosaic.Lib.ValueLayout
public import Idealize.ShloMosaic.Lib.Pipeline.ValueKit.Geometry

@[expose] public section

set_option maxRecDepth 16384

noncomputable section

namespace Cert.Kernel3Ideal.Back

open Cert.Kernel3Ideal Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The slots and the offsets of a trip's rows -/

/-- The slot a grid point computes on. -/
def here (i : grid0.Coords) : Fin 2 := ⟨(i 0).val % 2, Nat.mod_lt _ (by decide)⟩
/-- The slot the next grid point computes on. -/
def next (i : grid0.Coords) : Fin 2 := ⟨1 - (i 0).val % 2, by omega⟩

/-- A trip's row `j` is one of the 1024. -/
def rowOf (t : Fin k0_t1_loop.trips) (j : Fin 8) : Fin 1024 :=
  ⟨8 * t.val + j.val, by have h : t.val < 128 := t.isLt; omega⟩
/-- A trip's row `j` is one of the 1024, in the second issue loop. -/
def rowOf2 (t : Fin k0_t2_loop.trips) (j : Fin 8) : Fin 1024 :=
  ⟨8 * t.val + j.val, by have h : t.val < 128 := t.isLt; omega⟩

theorem off1_eq : ∀ t : Fin k0_t1_loop.trips, k0_off1 t = ![0, 0, (rowOf t 0).val] := by decide +kernel
theorem off2_eq : ∀ i : grid0.Coords, k0_off2 i = ![(here i).val] := by decide +kernel
theorem off3_eq : ∀ i : grid0.Coords, k0_off3 i = ![(here i).val, 0, 0] := by decide +kernel
theorem off4_eq : ∀ t : Fin k0_t1_loop.trips, k0_off4 t = ![(rowOf t 0).val, 0] := by decide +kernel
theorem chk1_of (i : grid0.Coords) : ∀ v : BitVec 32, v.toNat < 77824 → k0_chk1 i v := fun v hv _ => src_inb ⟨v.toNat, hv⟩
theorem off6_eq : ∀ t : Fin k0_t1_loop.trips, k0_off6 t = ![0, 0, (rowOf t 1).val] := by decide +kernel
theorem off7_eq : ∀ i : grid0.Coords, k0_off7 i = ![(here i).val] := by decide +kernel
theorem off8_eq : ∀ i : grid0.Coords, k0_off8 i = ![(here i).val, 0, 0] := by decide +kernel
theorem off9_eq : ∀ t : Fin k0_t1_loop.trips, k0_off9 t = ![(rowOf t 1).val, 0] := by decide +kernel
theorem chk2_of (i : grid0.Coords) : ∀ v : BitVec 32, v.toNat < 77824 → k0_chk2 i v := fun v hv _ => src_inb ⟨v.toNat, hv⟩
theorem off11_eq : ∀ t : Fin k0_t1_loop.trips, k0_off11 t = ![0, 0, (rowOf t 2).val] := by decide +kernel
theorem off12_eq : ∀ i : grid0.Coords, k0_off12 i = ![(here i).val] := by decide +kernel
theorem off13_eq : ∀ i : grid0.Coords, k0_off13 i = ![(here i).val, 0, 0] := by decide +kernel
theorem off14_eq : ∀ t : Fin k0_t1_loop.trips, k0_off14 t = ![(rowOf t 2).val, 0] := by decide +kernel
theorem chk3_of (i : grid0.Coords) : ∀ v : BitVec 32, v.toNat < 77824 → k0_chk3 i v := fun v hv _ => src_inb ⟨v.toNat, hv⟩
theorem off16_eq : ∀ t : Fin k0_t1_loop.trips, k0_off16 t = ![0, 0, (rowOf t 3).val] := by decide +kernel
theorem off17_eq : ∀ i : grid0.Coords, k0_off17 i = ![(here i).val] := by decide +kernel
theorem off18_eq : ∀ i : grid0.Coords, k0_off18 i = ![(here i).val, 0, 0] := by decide +kernel
theorem off19_eq : ∀ t : Fin k0_t1_loop.trips, k0_off19 t = ![(rowOf t 3).val, 0] := by decide +kernel
theorem chk4_of (i : grid0.Coords) : ∀ v : BitVec 32, v.toNat < 77824 → k0_chk4 i v := fun v hv _ => src_inb ⟨v.toNat, hv⟩
theorem off21_eq : ∀ t : Fin k0_t1_loop.trips, k0_off21 t = ![0, 0, (rowOf t 4).val] := by decide +kernel
theorem off22_eq : ∀ i : grid0.Coords, k0_off22 i = ![(here i).val] := by decide +kernel
theorem off23_eq : ∀ i : grid0.Coords, k0_off23 i = ![(here i).val, 0, 0] := by decide +kernel
theorem off24_eq : ∀ t : Fin k0_t1_loop.trips, k0_off24 t = ![(rowOf t 4).val, 0] := by decide +kernel
theorem chk5_of (i : grid0.Coords) : ∀ v : BitVec 32, v.toNat < 77824 → k0_chk5 i v := fun v hv _ => src_inb ⟨v.toNat, hv⟩
theorem off26_eq : ∀ t : Fin k0_t1_loop.trips, k0_off26 t = ![0, 0, (rowOf t 5).val] := by decide +kernel
theorem off27_eq : ∀ i : grid0.Coords, k0_off27 i = ![(here i).val] := by decide +kernel
theorem off28_eq : ∀ i : grid0.Coords, k0_off28 i = ![(here i).val, 0, 0] := by decide +kernel
theorem off29_eq : ∀ t : Fin k0_t1_loop.trips, k0_off29 t = ![(rowOf t 5).val, 0] := by decide +kernel
theorem chk6_of (i : grid0.Coords) : ∀ v : BitVec 32, v.toNat < 77824 → k0_chk6 i v := fun v hv _ => src_inb ⟨v.toNat, hv⟩
theorem off31_eq : ∀ t : Fin k0_t1_loop.trips, k0_off31 t = ![0, 0, (rowOf t 6).val] := by decide +kernel
theorem off32_eq : ∀ i : grid0.Coords, k0_off32 i = ![(here i).val] := by decide +kernel
theorem off33_eq : ∀ i : grid0.Coords, k0_off33 i = ![(here i).val, 0, 0] := by decide +kernel
theorem off34_eq : ∀ t : Fin k0_t1_loop.trips, k0_off34 t = ![(rowOf t 6).val, 0] := by decide +kernel
theorem chk7_of (i : grid0.Coords) : ∀ v : BitVec 32, v.toNat < 77824 → k0_chk7 i v := fun v hv _ => src_inb ⟨v.toNat, hv⟩
theorem off36_eq : ∀ t : Fin k0_t1_loop.trips, k0_off36 t = ![0, 0, (rowOf t 7).val] := by decide +kernel
theorem off37_eq : ∀ i : grid0.Coords, k0_off37 i = ![(here i).val] := by decide +kernel
theorem off38_eq : ∀ i : grid0.Coords, k0_off38 i = ![(here i).val, 0, 0] := by decide +kernel
theorem off39_eq : ∀ t : Fin k0_t1_loop.trips, k0_off39 t = ![(rowOf t 7).val, 0] := by decide +kernel
theorem chk8_of (i : grid0.Coords) : ∀ v : BitVec 32, v.toNat < 77824 → k0_chk8 i v := fun v hv _ => src_inb ⟨v.toNat, hv⟩
theorem off41_eq : ∀ t : Fin k0_t2_loop.trips, k0_off41 t = ![0, 0, (rowOf2 t 0).val] := by decide +kernel
theorem off42_eq : ∀ i : grid0.Coords, k0_off42 i = ![(next i).val] := by decide +kernel
theorem off43_eq : ∀ i : grid0.Coords, k0_off43 i = ![(next i).val, 0, 0] := by decide +kernel
theorem off44_eq : ∀ t : Fin k0_t2_loop.trips, k0_off44 t = ![(rowOf2 t 0).val, 0] := by decide +kernel
theorem chk9_of (i : grid0.Coords) : ∀ v : BitVec 32, v.toNat < 77824 → k0_chk9 i v := fun v hv _ => src_inb ⟨v.toNat, hv⟩
theorem off46_eq : ∀ t : Fin k0_t2_loop.trips, k0_off46 t = ![0, 0, (rowOf2 t 1).val] := by decide +kernel
theorem off47_eq : ∀ i : grid0.Coords, k0_off47 i = ![(next i).val] := by decide +kernel
theorem off48_eq : ∀ i : grid0.Coords, k0_off48 i = ![(next i).val, 0, 0] := by decide +kernel
theorem off49_eq : ∀ t : Fin k0_t2_loop.trips, k0_off49 t = ![(rowOf2 t 1).val, 0] := by decide +kernel
theorem chk10_of (i : grid0.Coords) : ∀ v : BitVec 32, v.toNat < 77824 → k0_chk10 i v := fun v hv _ => src_inb ⟨v.toNat, hv⟩
theorem off51_eq : ∀ t : Fin k0_t2_loop.trips, k0_off51 t = ![0, 0, (rowOf2 t 2).val] := by decide +kernel
theorem off52_eq : ∀ i : grid0.Coords, k0_off52 i = ![(next i).val] := by decide +kernel
theorem off53_eq : ∀ i : grid0.Coords, k0_off53 i = ![(next i).val, 0, 0] := by decide +kernel
theorem off54_eq : ∀ t : Fin k0_t2_loop.trips, k0_off54 t = ![(rowOf2 t 2).val, 0] := by decide +kernel
theorem chk11_of (i : grid0.Coords) : ∀ v : BitVec 32, v.toNat < 77824 → k0_chk11 i v := fun v hv _ => src_inb ⟨v.toNat, hv⟩
theorem off56_eq : ∀ t : Fin k0_t2_loop.trips, k0_off56 t = ![0, 0, (rowOf2 t 3).val] := by decide +kernel
theorem off57_eq : ∀ i : grid0.Coords, k0_off57 i = ![(next i).val] := by decide +kernel
theorem off58_eq : ∀ i : grid0.Coords, k0_off58 i = ![(next i).val, 0, 0] := by decide +kernel
theorem off59_eq : ∀ t : Fin k0_t2_loop.trips, k0_off59 t = ![(rowOf2 t 3).val, 0] := by decide +kernel
theorem chk12_of (i : grid0.Coords) : ∀ v : BitVec 32, v.toNat < 77824 → k0_chk12 i v := fun v hv _ => src_inb ⟨v.toNat, hv⟩
theorem off61_eq : ∀ t : Fin k0_t2_loop.trips, k0_off61 t = ![0, 0, (rowOf2 t 4).val] := by decide +kernel
theorem off62_eq : ∀ i : grid0.Coords, k0_off62 i = ![(next i).val] := by decide +kernel
theorem off63_eq : ∀ i : grid0.Coords, k0_off63 i = ![(next i).val, 0, 0] := by decide +kernel
theorem off64_eq : ∀ t : Fin k0_t2_loop.trips, k0_off64 t = ![(rowOf2 t 4).val, 0] := by decide +kernel
theorem chk13_of (i : grid0.Coords) : ∀ v : BitVec 32, v.toNat < 77824 → k0_chk13 i v := fun v hv _ => src_inb ⟨v.toNat, hv⟩
theorem off66_eq : ∀ t : Fin k0_t2_loop.trips, k0_off66 t = ![0, 0, (rowOf2 t 5).val] := by decide +kernel
theorem off67_eq : ∀ i : grid0.Coords, k0_off67 i = ![(next i).val] := by decide +kernel
theorem off68_eq : ∀ i : grid0.Coords, k0_off68 i = ![(next i).val, 0, 0] := by decide +kernel
theorem off69_eq : ∀ t : Fin k0_t2_loop.trips, k0_off69 t = ![(rowOf2 t 5).val, 0] := by decide +kernel
theorem chk14_of (i : grid0.Coords) : ∀ v : BitVec 32, v.toNat < 77824 → k0_chk14 i v := fun v hv _ => src_inb ⟨v.toNat, hv⟩
theorem off71_eq : ∀ t : Fin k0_t2_loop.trips, k0_off71 t = ![0, 0, (rowOf2 t 6).val] := by decide +kernel
theorem off72_eq : ∀ i : grid0.Coords, k0_off72 i = ![(next i).val] := by decide +kernel
theorem off73_eq : ∀ i : grid0.Coords, k0_off73 i = ![(next i).val, 0, 0] := by decide +kernel
theorem off74_eq : ∀ t : Fin k0_t2_loop.trips, k0_off74 t = ![(rowOf2 t 6).val, 0] := by decide +kernel
theorem chk15_of (i : grid0.Coords) : ∀ v : BitVec 32, v.toNat < 77824 → k0_chk15 i v := fun v hv _ => src_inb ⟨v.toNat, hv⟩
theorem off76_eq : ∀ t : Fin k0_t2_loop.trips, k0_off76 t = ![0, 0, (rowOf2 t 7).val] := by decide +kernel
theorem off77_eq : ∀ i : grid0.Coords, k0_off77 i = ![(next i).val] := by decide +kernel
theorem off78_eq : ∀ i : grid0.Coords, k0_off78 i = ![(next i).val, 0, 0] := by decide +kernel
theorem off79_eq : ∀ t : Fin k0_t2_loop.trips, k0_off79 t = ![(rowOf2 t 7).val, 0] := by decide +kernel
theorem chk16_of (i : grid0.Coords) : ∀ v : BitVec 32, v.toNat < 77824 → k0_chk16 i v := fun v hv _ => src_inb ⟨v.toNat, hv⟩
theorem off81_eq : ∀ i : grid0.Coords, k0_off81 i = ![(here i).val] := by decide +kernel
theorem off82_eq : ∀ i : grid0.Coords, k0_off82 i = ![(here i).val, 0, 0] := by decide +kernel
theorem off83_eq : ∀ i : grid0.Coords, k0_off83 i = ![(here i).val, 0, 0] := by decide +kernel

/-! ## The issue loops -/

section Issue

variable (i : grid0.Coords) (arg1 : Memref sig .tc .smem S1x1x1024 .i32) (harg1 : arg1.IsWhole) (arg2 : Memref sig .tc .smem S1x1x1024 .i32) (harg2 : arg2.IsWhole)
  (harg3 : (Memref.whole main_arg1 : Memref sig .tc .hbm S77824x1024 .f32).IsWhole) (arg4 : Memref sig .tc .vmem S1024x1024 .f32) (harg4 : arg4.IsWhole)
  (arg5 : Memref sig .tc .vmem S1x6x1024 .f32) (harg5 : arg5.IsWhole) (arg6 : Memref sig .tc .vmem S1x1024 .f32) (harg6 : arg6.IsWhole)
  (arg7 : Memref sig .tc .vmem S1024x1024 .f32) (harg7 : arg7.IsWhole) (harg8 : (Memref.whole cc0_scratch0 : Memref sig .tc .vmem S2x1024x1024 .f32).IsWhole)

/-- A trip's region is eight rows one after another. -/
theorem t1_body_eq (h : k0_cond1 i = 1#1) (t : Fin k0_t1_loop.trips) (x : Unit) :
    k0_t1_body (F := F) i arg1 harg1 arg2 harg2 (Memref.whole main_arg1) harg3 arg4 harg4 arg5 harg5 arg6 harg6 arg7 harg7 (Memref.whole cc0_scratch0) harg8 cc0_scratch1 h t x =
      (rowProg arg1 (Memref.whole main_arg1) (Memref.whole cc0_scratch0) cc0_scratch1 (k0_off1 t) (k0_off1_inb i t h) (k0_chk1 i) (k0_chk1.dec i)
        (k0_off2 i) (k0_off2_inb i h) (k0_off3 i) (k0_off3_inb i h) (k0_off4 t) (k0_off4_inb i t h) k0_off5 (fun v hw => k0_off5_inb i v hw h)
      (rowProg arg1 (Memref.whole main_arg1) (Memref.whole cc0_scratch0) cc0_scratch1 (k0_off6 t) (k0_off6_inb i t h) (k0_chk2 i) (k0_chk2.dec i)
        (k0_off7 i) (k0_off7_inb i h) (k0_off8 i) (k0_off8_inb i h) (k0_off9 t) (k0_off9_inb i t h) k0_off10 (fun v hw => k0_off10_inb i v hw h)
      (rowProg arg1 (Memref.whole main_arg1) (Memref.whole cc0_scratch0) cc0_scratch1 (k0_off11 t) (k0_off11_inb i t h) (k0_chk3 i) (k0_chk3.dec i)
        (k0_off12 i) (k0_off12_inb i h) (k0_off13 i) (k0_off13_inb i h) (k0_off14 t) (k0_off14_inb i t h) k0_off15 (fun v hw => k0_off15_inb i v hw h)
      (rowProg arg1 (Memref.whole main_arg1) (Memref.whole cc0_scratch0) cc0_scratch1 (k0_off16 t) (k0_off16_inb i t h) (k0_chk4 i) (k0_chk4.dec i)
        (k0_off17 i) (k0_off17_inb i h) (k0_off18 i) (k0_off18_inb i h) (k0_off19 t) (k0_off19_inb i t h) k0_off20 (fun v hw => k0_off20_inb i v hw h)
      (rowProg arg1 (Memref.whole main_arg1) (Memref.whole cc0_scratch0) cc0_scratch1 (k0_off21 t) (k0_off21_inb i t h) (k0_chk5 i) (k0_chk5.dec i)
        (k0_off22 i) (k0_off22_inb i h) (k0_off23 i) (k0_off23_inb i h) (k0_off24 t) (k0_off24_inb i t h) k0_off25 (fun v hw => k0_off25_inb i v hw h)
      (rowProg arg1 (Memref.whole main_arg1) (Memref.whole cc0_scratch0) cc0_scratch1 (k0_off26 t) (k0_off26_inb i t h) (k0_chk6 i) (k0_chk6.dec i)
        (k0_off27 i) (k0_off27_inb i h) (k0_off28 i) (k0_off28_inb i h) (k0_off29 t) (k0_off29_inb i t h) k0_off30 (fun v hw => k0_off30_inb i v hw h)
      (rowProg arg1 (Memref.whole main_arg1) (Memref.whole cc0_scratch0) cc0_scratch1 (k0_off31 t) (k0_off31_inb i t h) (k0_chk7 i) (k0_chk7.dec i)
        (k0_off32 i) (k0_off32_inb i h) (k0_off33 i) (k0_off33_inb i h) (k0_off34 t) (k0_off34_inb i t h) k0_off35 (fun v hw => k0_off35_inb i v hw h)
      (rowProg arg1 (Memref.whole main_arg1) (Memref.whole cc0_scratch0) cc0_scratch1 (k0_off36 t) (k0_off36_inb i t h) (k0_chk8 i) (k0_chk8.dec i)
        (k0_off37 i) (k0_off37_inb i h) (k0_off38 i) (k0_off38_inb i h) (k0_off39 t) (k0_off39_inb i t h) k0_off40 (fun v hw => k0_off40_inb i v hw h)
      (pure ⟨⟩))))))))) := rfl

/-- ONE TRIP of the issue loop: from the state before row `8 t` to the state before row `8 (t + 1)`. -/
theorem t1_step (𝒱 : Variants) (c : Dev nD) (h : k0_cond1 i = 1#1) (P : Fin 1024 → Fin 77824)
    (fp : Buf (Elt F) (arg1.view.loc (c : Thread nD τ))) (fy : Buf (Elt F) ((c : Thread nD τ).loc main_arg1))
    (g : Buf (Elt F) ((c : Thread nD τ).loc cc0_scratch0))
    (hP : ∀ r, (word c arg1 fp r).toNat = (P r).val) (t : Fin k0_t1_loop.trips) (x : Unit) :
    At c arg1 (here i) P fp fy g (8 * t.val)
      ⊢ wp frame (wpE (defs₀ (F := F)) 𝒱 (c : Thread nD τ) none) Set.univ
          (k0_t1_body i arg1 harg1 arg2 harg2 (Memref.whole main_arg1) harg3 arg4 harg4 arg5 harg5 arg6 harg6 arg7 harg7 (Memref.whole cc0_scratch0) harg8 cc0_scratch1 h t x)
          (fun _ => At c arg1 (here i) P fp fy g (8 * (t.val + 1))) := by
  rw [t1_body_eq]
  iintro H
  iapply (row_step 𝒱 c arg1 (here i) P fp fy g hP (8 * t.val) (8 * t.val + 1) (rowOf t 0) rfl rfl (off1_eq t) (chk1_of i) (off2_eq i) (off3_eq i) (off4_eq t) (fun _ => rfl) _ _) $$ H
  iintro H
  iapply (row_step 𝒱 c arg1 (here i) P fp fy g hP (8 * t.val + 1) (8 * t.val + 2) (rowOf t 1) rfl rfl (off6_eq t) (chk2_of i) (off7_eq i) (off8_eq i) (off9_eq t) (fun _ => rfl) _ _) $$ H
  iintro H
  iapply (row_step 𝒱 c arg1 (here i) P fp fy g hP (8 * t.val + 2) (8 * t.val + 3) (rowOf t 2) rfl rfl (off11_eq t) (chk3_of i) (off12_eq i) (off13_eq i) (off14_eq t) (fun _ => rfl) _ _) $$ H
  iintro H
  iapply (row_step 𝒱 c arg1 (here i) P fp fy g hP (8 * t.val + 3) (8 * t.val + 4) (rowOf t 3) rfl rfl (off16_eq t) (chk4_of i) (off17_eq i) (off18_eq i) (off19_eq t) (fun _ => rfl) _ _) $$ H
  iintro H
  iapply (row_step 𝒱 c arg1 (here i) P fp fy g hP (8 * t.val + 4) (8 * t.val + 5) (rowOf t 4) rfl rfl (off21_eq t) (chk5_of i) (off22_eq i) (off23_eq i) (off24_eq t) (fun _ => rfl) _ _) $$ H
  iintro H
  iapply (row_step 𝒱 c arg1 (here i) P fp fy g hP (8 * t.val + 5) (8 * t.val + 6) (rowOf t 5) rfl rfl (off26_eq t) (chk6_of i) (off27_eq i) (off28_eq i) (off29_eq t) (fun _ => rfl) _ _) $$ H
  iintro H
  iapply (row_step 𝒱 c arg1 (here i) P fp fy g hP (8 * t.val + 6) (8 * t.val + 7) (rowOf t 6) rfl rfl (off31_eq t) (chk7_of i) (off32_eq i) (off33_eq i) (off34_eq t) (fun _ => rfl) _ _) $$ H
  iintro H
  iapply (row_step 𝒱 c arg1 (here i) P fp fy g hP (8 * t.val + 7) (8 * (t.val + 1)) (rowOf t 7) rfl rfl (off36_eq t) (chk8_of i) (off37_eq i) (off38_eq i) (off39_eq t) (fun _ => rfl) _ _) $$ H
  iintro H
  rw [show (pure ⟨⟩ : Prog (TpuEff nD τ sig (Elt F) Λ₀ .tc) Unit) = .ret ⟨⟩ from rfl, wp_ret]
  imodintro
  iexact H

/-- THE ISSUE LOOP: all 1024 copies in flight. -/
theorem t1_loop {α : Type} (𝒱 : Variants) (c : Dev nD) (h : k0_cond1 i = 1#1) (P : Fin 1024 → Fin 77824)
    (fp : Buf (Elt F) (arg1.view.loc (c : Thread nD τ))) (fy : Buf (Elt F) ((c : Thread nD τ).loc main_arg1))
    (g : Buf (Elt F) ((c : Thread nD τ).loc cc0_scratch0))
    (hP : ∀ r, (word c arg1 fp r).toNat = (P r).val)
    (kk : Unit → Prog (TpuEff nD τ sig (Elt F) Λ₀ .tc) α) (Q : α → sProp 𝕄) :
    At c arg1 (here i) P fp fy g 0
      ⊢ iprop((At c arg1 (here i) P fp fy g 1024 -∗ wp frame (wpE (defs₀ (F := F)) 𝒱 (c : Thread nD τ) none) Set.univ (kk ⟨⟩) Q)
        -∗ wp frame (wpE (defs₀ (F := F)) 𝒱 (c : Thread nD τ) none) Set.univ
          (Scf.Loop.for k0_t1_loop (k0_t1_ok i h) ⟨⟩ (k0_t1_body i arg1 harg1 arg2 harg2 (Memref.whole main_arg1) harg3 arg4 harg4 arg5 harg5 arg6 harg6 arg7 harg7 (Memref.whole cc0_scratch0) harg8 cc0_scratch1 h) >>= kk) Q) := by
  iintro H Hk
  iapply (Scf.wp_for_bind frame (wpE (defs₀ (F := F)) 𝒱 (c : Thread nD τ) none) Set.univ k0_t1_loop.lb k0_t1_loop.ub k0_t1_loop.st (k0_t1_ok i h) ()
    (k0_t1_body i arg1 harg1 arg2 harg2 (Memref.whole main_arg1) harg3 arg4 harg4 arg5 harg5 arg6 harg6 arg7 harg7 (Memref.whole cc0_scratch0) harg8 cc0_scratch1 h)
    (fun k _ => At c arg1 (here i) P fp fy g (8 * k))
    (fun t x => t1_step i arg1 harg1 arg2 harg2 harg3 arg4 harg4 arg5 harg5 arg6 harg6 arg7 harg7 harg8 𝒱 c h P fp fy g hP t x)) $$ H
  iintro %x H
  iapply Hk
  iexact H

/-- A trip's region is eight rows one after another. -/
theorem t2_body_eq (h : k0_cond2 i = 1#1) (t : Fin k0_t2_loop.trips) (x : Unit) :
    k0_t2_body (F := F) i arg1 harg1 arg2 harg2 (Memref.whole main_arg1) harg3 arg4 harg4 arg5 harg5 arg6 harg6 arg7 harg7 (Memref.whole cc0_scratch0) harg8 cc0_scratch1 h t x =
      (rowProg arg2 (Memref.whole main_arg1) (Memref.whole cc0_scratch0) cc0_scratch1 (k0_off41 t) (k0_off41_inb i t h) (k0_chk9 i) (k0_chk9.dec i)
        (k0_off42 i) (k0_off42_inb i h) (k0_off43 i) (k0_off43_inb i h) (k0_off44 t) (k0_off44_inb i t h) k0_off45 (fun v hw => k0_off45_inb i v hw h)
      (rowProg arg2 (Memref.whole main_arg1) (Memref.whole cc0_scratch0) cc0_scratch1 (k0_off46 t) (k0_off46_inb i t h) (k0_chk10 i) (k0_chk10.dec i)
        (k0_off47 i) (k0_off47_inb i h) (k0_off48 i) (k0_off48_inb i h) (k0_off49 t) (k0_off49_inb i t h) k0_off50 (fun v hw => k0_off50_inb i v hw h)
      (rowProg arg2 (Memref.whole main_arg1) (Memref.whole cc0_scratch0) cc0_scratch1 (k0_off51 t) (k0_off51_inb i t h) (k0_chk11 i) (k0_chk11.dec i)
        (k0_off52 i) (k0_off52_inb i h) (k0_off53 i) (k0_off53_inb i h) (k0_off54 t) (k0_off54_inb i t h) k0_off55 (fun v hw => k0_off55_inb i v hw h)
      (rowProg arg2 (Memref.whole main_arg1) (Memref.whole cc0_scratch0) cc0_scratch1 (k0_off56 t) (k0_off56_inb i t h) (k0_chk12 i) (k0_chk12.dec i)
        (k0_off57 i) (k0_off57_inb i h) (k0_off58 i) (k0_off58_inb i h) (k0_off59 t) (k0_off59_inb i t h) k0_off60 (fun v hw => k0_off60_inb i v hw h)
      (rowProg arg2 (Memref.whole main_arg1) (Memref.whole cc0_scratch0) cc0_scratch1 (k0_off61 t) (k0_off61_inb i t h) (k0_chk13 i) (k0_chk13.dec i)
        (k0_off62 i) (k0_off62_inb i h) (k0_off63 i) (k0_off63_inb i h) (k0_off64 t) (k0_off64_inb i t h) k0_off65 (fun v hw => k0_off65_inb i v hw h)
      (rowProg arg2 (Memref.whole main_arg1) (Memref.whole cc0_scratch0) cc0_scratch1 (k0_off66 t) (k0_off66_inb i t h) (k0_chk14 i) (k0_chk14.dec i)
        (k0_off67 i) (k0_off67_inb i h) (k0_off68 i) (k0_off68_inb i h) (k0_off69 t) (k0_off69_inb i t h) k0_off70 (fun v hw => k0_off70_inb i v hw h)
      (rowProg arg2 (Memref.whole main_arg1) (Memref.whole cc0_scratch0) cc0_scratch1 (k0_off71 t) (k0_off71_inb i t h) (k0_chk15 i) (k0_chk15.dec i)
        (k0_off72 i) (k0_off72_inb i h) (k0_off73 i) (k0_off73_inb i h) (k0_off74 t) (k0_off74_inb i t h) k0_off75 (fun v hw => k0_off75_inb i v hw h)
      (rowProg arg2 (Memref.whole main_arg1) (Memref.whole cc0_scratch0) cc0_scratch1 (k0_off76 t) (k0_off76_inb i t h) (k0_chk16 i) (k0_chk16.dec i)
        (k0_off77 i) (k0_off77_inb i h) (k0_off78 i) (k0_off78_inb i h) (k0_off79 t) (k0_off79_inb i t h) k0_off80 (fun v hw => k0_off80_inb i v hw h)
      (pure ⟨⟩))))))))) := rfl

/-- ONE TRIP of the issue loop: from the state before row `8 t` to the state before row `8 (t + 1)`. -/
theorem t2_step (𝒱 : Variants) (c : Dev nD) (h : k0_cond2 i = 1#1) (P : Fin 1024 → Fin 77824)
    (fp : Buf (Elt F) (arg2.view.loc (c : Thread nD τ))) (fy : Buf (Elt F) ((c : Thread nD τ).loc main_arg1))
    (g : Buf (Elt F) ((c : Thread nD τ).loc cc0_scratch0))
    (hP : ∀ r, (word c arg2 fp r).toNat = (P r).val) (t : Fin k0_t2_loop.trips) (x : Unit) :
    At c arg2 (next i) P fp fy g (8 * t.val)
      ⊢ wp frame (wpE (defs₀ (F := F)) 𝒱 (c : Thread nD τ) none) Set.univ
          (k0_t2_body i arg1 harg1 arg2 harg2 (Memref.whole main_arg1) harg3 arg4 harg4 arg5 harg5 arg6 harg6 arg7 harg7 (Memref.whole cc0_scratch0) harg8 cc0_scratch1 h t x)
          (fun _ => At c arg2 (next i) P fp fy g (8 * (t.val + 1))) := by
  rw [t2_body_eq]
  iintro H
  iapply (row_step 𝒱 c arg2 (next i) P fp fy g hP (8 * t.val) (8 * t.val + 1) (rowOf2 t 0) rfl rfl (off41_eq t) (chk9_of i) (off42_eq i) (off43_eq i) (off44_eq t) (fun _ => rfl) _ _) $$ H
  iintro H
  iapply (row_step 𝒱 c arg2 (next i) P fp fy g hP (8 * t.val + 1) (8 * t.val + 2) (rowOf2 t 1) rfl rfl (off46_eq t) (chk10_of i) (off47_eq i) (off48_eq i) (off49_eq t) (fun _ => rfl) _ _) $$ H
  iintro H
  iapply (row_step 𝒱 c arg2 (next i) P fp fy g hP (8 * t.val + 2) (8 * t.val + 3) (rowOf2 t 2) rfl rfl (off51_eq t) (chk11_of i) (off52_eq i) (off53_eq i) (off54_eq t) (fun _ => rfl) _ _) $$ H
  iintro H
  iapply (row_step 𝒱 c arg2 (next i) P fp fy g hP (8 * t.val + 3) (8 * t.val + 4) (rowOf2 t 3) rfl rfl (off56_eq t) (chk12_of i) (off57_eq i) (off58_eq i) (off59_eq t) (fun _ => rfl) _ _) $$ H
  iintro H
  iapply (row_step 𝒱 c arg2 (next i) P fp fy g hP (8 * t.val + 4) (8 * t.val + 5) (rowOf2 t 4) rfl rfl (off61_eq t) (chk13_of i) (off62_eq i) (off63_eq i) (off64_eq t) (fun _ => rfl) _ _) $$ H
  iintro H
  iapply (row_step 𝒱 c arg2 (next i) P fp fy g hP (8 * t.val + 5) (8 * t.val + 6) (rowOf2 t 5) rfl rfl (off66_eq t) (chk14_of i) (off67_eq i) (off68_eq i) (off69_eq t) (fun _ => rfl) _ _) $$ H
  iintro H
  iapply (row_step 𝒱 c arg2 (next i) P fp fy g hP (8 * t.val + 6) (8 * t.val + 7) (rowOf2 t 6) rfl rfl (off71_eq t) (chk15_of i) (off72_eq i) (off73_eq i) (off74_eq t) (fun _ => rfl) _ _) $$ H
  iintro H
  iapply (row_step 𝒱 c arg2 (next i) P fp fy g hP (8 * t.val + 7) (8 * (t.val + 1)) (rowOf2 t 7) rfl rfl (off76_eq t) (chk16_of i) (off77_eq i) (off78_eq i) (off79_eq t) (fun _ => rfl) _ _) $$ H
  iintro H
  rw [show (pure ⟨⟩ : Prog (TpuEff nD τ sig (Elt F) Λ₀ .tc) Unit) = .ret ⟨⟩ from rfl, wp_ret]
  imodintro
  iexact H

/-- THE ISSUE LOOP: all 1024 copies in flight. -/
theorem t2_loop {α : Type} (𝒱 : Variants) (c : Dev nD) (h : k0_cond2 i = 1#1) (P : Fin 1024 → Fin 77824)
    (fp : Buf (Elt F) (arg2.view.loc (c : Thread nD τ))) (fy : Buf (Elt F) ((c : Thread nD τ).loc main_arg1))
    (g : Buf (Elt F) ((c : Thread nD τ).loc cc0_scratch0))
    (hP : ∀ r, (word c arg2 fp r).toNat = (P r).val)
    (kk : Unit → Prog (TpuEff nD τ sig (Elt F) Λ₀ .tc) α) (Q : α → sProp 𝕄) :
    At c arg2 (next i) P fp fy g 0
      ⊢ iprop((At c arg2 (next i) P fp fy g 1024 -∗ wp frame (wpE (defs₀ (F := F)) 𝒱 (c : Thread nD τ) none) Set.univ (kk ⟨⟩) Q)
        -∗ wp frame (wpE (defs₀ (F := F)) 𝒱 (c : Thread nD τ) none) Set.univ
          (Scf.Loop.for k0_t2_loop (k0_t2_ok i h) ⟨⟩ (k0_t2_body i arg1 harg1 arg2 harg2 (Memref.whole main_arg1) harg3 arg4 harg4 arg5 harg5 arg6 harg6 arg7 harg7 (Memref.whole cc0_scratch0) harg8 cc0_scratch1 h) >>= kk) Q) := by
  iintro H Hk
  iapply (Scf.wp_for_bind frame (wpE (defs₀ (F := F)) 𝒱 (c : Thread nD τ) none) Set.univ k0_t2_loop.lb k0_t2_loop.ub k0_t2_loop.st (k0_t2_ok i h) ()
    (k0_t2_body i arg1 harg1 arg2 harg2 (Memref.whole main_arg1) harg3 arg4 harg4 arg5 harg5 arg6 harg6 arg7 harg7 (Memref.whole cc0_scratch0) harg8 cc0_scratch1 h)
    (fun k _ => At c arg2 (next i) P fp fy g (8 * k))
    (fun t x => t2_step i arg1 harg1 arg2 harg2 harg3 arg4 harg4 arg5 harg5 arg6 harg6 arg7 harg7 harg8 𝒱 c h P fp fy g hP t x)) $$ H
  iintro %x H
  iapply Hk
  iexact H

/-! ## The loop of waits -/

/-- Before wait `k`: `k` rows' credit consumed of the 1024 issued. -/
def Drain (c : Dev nD) (s : Fin 2) (P : Fin 1024 → Fin 77824) (fy : Buf (Elt F) ((c : Thread nD τ).loc main_arg1))
    (g : Buf (Elt F) ((c : Thread nD τ).loc cc0_scratch0)) (k : ℕ) : sProp 𝕄 :=
  iprop(Transfers.Batch (countersEmb (U := Pipeline.UD sig nD τ)) (c : Thread nD τ) (scell s) () rowAmount (deliv c s P fy g) 1024 (k * rowAmount)
    ∗ ∃ W, owes (c : Thread nD τ) 0 W)

/-- The loop of waits has 1024 trips. -/
theorem t3_trips : Scf.trips k0_t3_loop.lb k0_t3_loop.ub k0_t3_loop.st = 1024 := by decide +kernel
theorem t3_lt (t : Fin k0_t3_loop.trips) : t.val < 1024 := lt_of_lt_of_eq t.isLt t3_trips
/-- A wait's credit is one row's. -/
theorem wait_amount (s : Fin 2) : (dstM s 0).view.dmaCredit = 1 * rowAmount := by rw [Nat.one_mul]; rfl

/-- One wait before the rest of a program. -/
theorem wait_step {α : Type} (𝒱 : Variants) (c : Dev nD) (s : Fin 2)
    (P : Fin 1024 → Fin 77824) (fy : Buf (Elt F) ((c : Thread nD τ).loc main_arg1))
    (g : Buf (Elt F) ((c : Thread nD τ).loc cc0_scratch0)) (n : ℕ) (hn : n < 1024)
    {o2 : Fin 1 → ℕ} {h2 : ∀ a, o2 a + S1.size a ≤ S2.size a} (ho2 : o2 = ![s.val])
    {o3 : Fin 3 → ℕ} {h3 : ∀ a, o3 a + S1x1024x1024.size a ≤ S2x1024x1024.size a} (ho3 : o3 = ![s.val, 0, 0])
    (k : Prog (TpuEff nD τ sig (Elt F) Λ₀ .tc) α) (Q : α → sProp 𝕄) :
    Drain c s P fy g n
      ⊢ iprop((Drain c s P fy g (n + 1) -∗ wp frame (wpE (defs₀ (F := F)) 𝒱 (c : Thread nD τ) none) Set.univ k Q)
        -∗ wp frame (wpE (defs₀ (F := F)) 𝒱 (c : Thread nD τ) none) Set.univ
          (.op (.waitDma2 ((cc0_scratch1.slice (Rect.unit (s := S2) o2 S1.size h2)).squeeze S_ squeezes_S1_S_).sem
            ((Memref.whole main_arg1 : Memref sig .tc .hbm S77824x1024 .f32).slice (Rect.unit (s := S77824x1024) ![0, 0] S1x1024.size inb_S77824x1024_S1x1024_0_0) (fun _ => rfl))
            ((((Memref.whole cc0_scratch0 : Memref sig .tc .vmem S2x1024x1024 .f32).slice (Rect.unit (s := S2x1024x1024) o3 S1x1024x1024.size h3) (fun _ => rfl)).squeeze S1024x1024
              squeezes_S1x1024x1024_S1024x1024).slice (Rect.unit (s := S1024x1024) ![0, 0] S1x1024.size inb_S1024x1024_S1x1024_0_0) (fun _ => rfl))
            (View.wordExact_bits rfl) (View.wordExact_bits rfl)) fun _ => k) Q) := by
  subst ho2 ho3
  have hle : n * rowAmount + 1 * rowAmount ≤ rowAmount * 1024 := by
    rw [← Nat.add_mul, Nat.mul_comm rowAmount]; exact Nat.mul_le_mul_right _ (by omega)
  unfold Drain
  iintro ⟨HB, %W, HO⟩ Hk
  ihave H := (Transfers.wp_waitBatchMul (countersEmb (U := Pipeline.UD sig nD τ)) 𝒱 (c : Thread nD τ) none (n := 1024)
    (srcw := srcM 0) (dstw := dstM s 0) (sem := semAt ![s.val] (sem_inb s)) (N := rowAmount) (D := deliv c s P fy g) (j := 1024) (u := n * rowAmount)
    (hsrc := View.wordExact_bits rfl) (hdst := View.wordExact_bits rfl) (Q := Q)
    (k := fun _ => k) () 1 (wait_amount s) hle (W := W)) $$ [HB HO]
  · isplitl [HB]; · iexact HB
    iexact HO
  iapply H
  rw [← Nat.add_mul]
  iintro ⟨HB, HO⟩
  iapply Hk
  isplitl [HB]; · iexact HB
  iexists _; iexact HO

/-- ONE WAIT. -/
theorem t3_step (𝒱 : Variants) (c : Dev nD) (P : Fin 1024 → Fin 77824)
    (fy : Buf (Elt F) ((c : Thread nD τ).loc main_arg1)) (g : Buf (Elt F) ((c : Thread nD τ).loc cc0_scratch0))
    (t : Fin k0_t3_loop.trips) (x : Unit) :
    Drain c (here i) P fy g t.val
      ⊢ wp frame (wpE (defs₀ (F := F)) 𝒱 (c : Thread nD τ) none) Set.univ
          (k0_t3_body i arg1 harg1 arg2 harg2 (Memref.whole main_arg1) harg3 arg4 harg4 arg5 harg5 arg6 harg6 arg7 harg7 (Memref.whole cc0_scratch0) harg8 cc0_scratch1 t x)
          (fun _ => Drain c (here i) P fy g (t.val + 1)) := by
  have ht : t.val < 1024 := t3_lt t
  exact (wait_step 𝒱 c (here i) P fy g t.val ht (h2 := k0_off81_inb i) (off81_eq i) (h3 := k0_off82_inb i) (off82_eq i) (.ret PUnit.unit)
    (fun _ => Drain c (here i) P fy g (t.val + 1))).trans (by
    rw [wp_ret]
    iintro H
    iapply H
    iintro H
    imodintro
    iexact H)

/-- THE LOOP OF WAITS: the deliveries of all the copies, and the slot's semaphore back at zero. -/
theorem t3_loop {α : Type} (𝒱 : Variants) (c : Dev nD) (P : Fin 1024 → Fin 77824)
    (fy : Buf (Elt F) ((c : Thread nD τ).loc main_arg1)) (g : Buf (Elt F) ((c : Thread nD τ).loc cc0_scratch0))
    (kk : Unit → Prog (TpuEff nD τ sig (Elt F) Λ₀ .tc) α) (Q : α → sProp 𝕄) :
    Drain c (here i) P fy g 0
      ⊢ iprop((iprop(bigSep Finset.univ (deliv c (here i) P fy g) ∗ semVal ((c : Thread nD τ), scell (here i)) 0 ∗ (∃ W, owes (c : Thread nD τ) 0 W))
          -∗ wp frame (wpE (defs₀ (F := F)) 𝒱 (c : Thread nD τ) none) Set.univ (kk ⟨⟩) Q)
        -∗ wp frame (wpE (defs₀ (F := F)) 𝒱 (c : Thread nD τ) none) Set.univ
          (Scf.Loop.for k0_t3_loop k0_t3_ok ⟨⟩ (k0_t3_body i arg1 harg1 arg2 harg2 (Memref.whole main_arg1) harg3 arg4 harg4 arg5 harg5 arg6 harg6 arg7 harg7 (Memref.whole cc0_scratch0) harg8 cc0_scratch1) >>= kk) Q) := by
  iintro H Hk
  iapply (Scf.wp_for_bind frame (wpE (defs₀ (F := F)) 𝒱 (c : Thread nD τ) none) Set.univ k0_t3_loop.lb k0_t3_loop.ub k0_t3_loop.st k0_t3_ok ()
    (k0_t3_body i arg1 harg1 arg2 harg2 (Memref.whole main_arg1) harg3 arg4 harg4 arg5 harg5 arg6 harg6 arg7 harg7 (Memref.whole cc0_scratch0) harg8 cc0_scratch1)
    (fun k _ => Drain c (here i) P fy g k)
    (fun t x => t3_step i arg1 harg1 arg2 harg2 harg3 arg4 harg4 arg5 harg5 arg6 harg6 arg7 harg7 harg8 𝒱 c P fy g t x)) $$ H
  iintro %x H
  ihave H' := (show Drain c (here i) P fy g (Scf.trips k0_t3_loop.lb k0_t3_loop.ub k0_t3_loop.st) ⊢ iprop(Transfers.Batch (countersEmb (U := Pipeline.UD sig nD τ)) (c : Thread nD τ) (scell (here i)) () rowAmount (deliv c (here i) P fy g) 1024 (rowAmount * 1024)
    ∗ ∃ W, owes (c : Thread nD τ) 0 W) from by rw [t3_trips]; unfold Drain; rw [Nat.mul_comm]) $$ H
  icases H' with ⟨HB, HO⟩
  imod (Transfers.batch_collect' (countersEmb (U := Pipeline.UD sig nD τ)) (c : Thread nD τ) rowAmount_pos) $$ HB with ⟨HD, Hv⟩
  iapply Hk
  isplitl [HD]; · iexact HD
  isplitl [Hv]; · iexact Hv
  iexact HO

end Issue

end Cert.Kernel3Ideal.Back

end
-- ==== Proof.Back.Body.lean ====
/-
  The gather's body at a grid point: the state of a slot with nothing in flight and with a block's rows in flight, and the
  body from the one to the other.
-/
module

public import proofs.«01_k».proof.Proof.Back.Loops
public import proofs.«01_k».proof.Proof.Gen.Kernel3Ideal.Frame
public import proofs.«01_k».proof.Proof.Gen.Kernel3Ideal.Skeleton
public import proofs.«01_k».proof.Proof.Gen.Kernel3Ideal.Loops
public import Idealize.ShloMosaic.Lib.Batch
public import Idealize.ShloMosaic.Lib.Ring
public import Idealize.ShloMosaic.Lib.Tactic
public import Idealize.ShloMosaic.Lib.ValueLayout
public import Idealize.ShloMosaic.Lib.Pipeline.ValueKit.Geometry

@[expose] public section

set_option maxRecDepth 16384

noncomputable section

namespace Cert.Kernel3Ideal.Back

open Cert.Kernel3Ideal Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The states of a slot -/

/-- Word `r` of a block of positions. -/
def posIx (r : Fin 1024) : S1x1x1024.Idx := ix3 (0 : Fin 1) (0 : Fin 1) r

/-- The rows the positions `P` name, as a slot's contents. -/
def filled (c : Dev nD) (P : Fin 1024 → Fin 77824) (fy : Buf (Elt F) ((c : Thread nD τ).loc main_arg1)) : Buf (Elt F) ((c : Thread nD τ).loc cc0_scratch0) :=
  fun (x : S2x1024x1024.Idx) => fy (ix2 (P (x 1)) (x 2 : Fin 1024))
/-- The rows the positions `P` name, as a loaded slot. -/
def rows3 (c : Dev nD) (P : Fin 1024 → Fin 77824) (fy : Buf (Elt F) ((c : Thread nD τ).loc main_arg1)) : S1x1024x1024.Idx → Elt F .f32 :=
  fun j => fy (ix2 (P (j 1)) (j 2 : Fin 1024))

section States

variable (c : Dev nD) (s : Fin 2) (P : Fin 1024 → Fin 77824) (fy : Buf (Elt F) ((c : Thread nD τ).loc main_arg1))

/-- A slot with nothing in flight. -/
def Idle : sProp 𝕄 :=
  iprop((∃ g : Buf (Elt F) ((c : Thread nD τ).loc cc0_scratch0), ((c : Thread nD τ).loc cc0_scratch0) ↦[slot s]{fullShare} g)
    ∗ semVal ((c : Thread nD τ), scell s) 0
    ∗ (((c : Thread nD τ).loc main_arg1) ↦[Finset.univ]{half s} fy))
/-- A slot with the rows of positions `P` in flight. -/
def Flying : sProp 𝕄 :=
  iprop(∃ g : Buf (Elt F) ((c : Thread nD τ).loc cc0_scratch0),
    Transfers.Batch (countersEmb (U := Pipeline.UD sig nD τ)) (c : Thread nD τ) (scell s) () rowAmount (deliv c s P fy g) 1024 0
    ∗ bigSep Finset.univ (restPt c s P fy)
    ∗ (((c : Thread nD τ).loc main_arg1) ↦[Finset.univ]{Transfers.shareDrop (half s) 1024} fy))

/-- A slot held is its rows held. -/
theorem slot_rows (g : Buf (Elt F) ((c : Thread nD τ).loc cc0_scratch0)) :
    (((c : Thread nD τ).loc cc0_scratch0) ↦[slot s]{fullShare} g : sProp 𝕄) = bigSep Finset.univ (rowPt c s g) := by
  have h := pointsTo_biUnion (nD := nD) (τ := τ) (sig := sig) (Ix := Unit) (Val := Elt F) (Name := ℕ) (U := Pipeline.UD sig nD τ) (Lvl := ℕ)
    (ℓ := (c : Thread nD τ).loc cc0_scratch0) (q := fullShare) (f := g) Finset.univ (fun r => dset s r) (fun r _ r' _ h => dset_disjoint s r r' h)
  rw [← dset_cover s]; exact h

/-- On row `r` of the slot, what row `r`'s copy leaves is row `P r` of the experts' outputs. -/
theorem landed_eq (g : Buf (Elt F) ((c : Thread nD τ).loc cc0_scratch0)) (r : Fin 1024) (x : S2x1024x1024.Idx) (hx : x ∈ dset s r) :
    landed c s P fy g r x = filled c P fy x := by
  obtain ⟨h0, h1⟩ := (mem_dset s r x).mp hx
  have hs : (x 0 : Fin 2) = s := Fin.ext h0
  have hr : (x 1 : Fin 1024) = r := Fin.ext h1
  obtain ⟨y, rfl⟩ : ∃ y, (dstM s r).view.emb y = x := by
    refine ⟨ix2 (0 : Fin 1) (x 2 : Fin 1024), (dstM_emb s r _).trans ?_⟩
    funext a; apply Fin.ext
    fin_cases a
    · exact h0.symm
    · exact h1.symm
    · rfl
  unfold landed
  refine (View.write_emb_of_mem (v := (dstM s r).view) g _ (Finset.mem_univ y)).trans ?_
  have e := dstM_emb s r y
  show fy ((Rect.unit (s := S77824x1024) ![(P r).val, 0] S1x1024.size (src_inb (P r))).emb y) = filled c P fy ((dstM s r).view.emb y)
  rw [e]
  show _ = fy (ix2 (P r) (y 1 : Fin 1024))
  congr 1
  funext a
  apply Fin.ext
  rw [Idealize.ShloMosaic.ValueKit.rect_emb_unit_val]
  have hy0 : (y 0).val = 0 := by have : (y 0).val < 1 := (y 0).isLt; omega
  fin_cases a
  · show (P r).val + (y 0).val = (P r).val; omega
  · show 0 + (y 1).val = (y 1).val; omega

/-- The deliveries of all the copies, and what the copies left of their shares, are the slot filled and the share whole. -/
theorem collected (g : Buf (Elt F) ((c : Thread nD τ).loc cc0_scratch0)) :
    iprop(bigSep Finset.univ (deliv c s P fy g) ∗ bigSep Finset.univ (restPt c s P fy)
        ∗ (((c : Thread nD τ).loc main_arg1) ↦[Finset.univ]{Transfers.shareDrop (half s) 1024} fy))
      ⊢ (iprop((((c : Thread nD τ).loc cc0_scratch0) ↦[slot s]{fullShare} filled c P fy)
        ∗ (((c : Thread nD τ).loc main_arg1) ↦[Finset.univ]{half s} fy)) : sProp 𝕄) := by
  have h1 : bigSep Finset.univ (deliv c s P fy g) = (iprop(bigSep Finset.univ (rowPt c s (filled c P fy)) ∗ bigSep Finset.univ (srcPt c s P fy)) : sProp 𝕄) := by
    rw [← bigSep_sep']
    refine bigSep_congr fun r _ => ?_
    unfold deliv rowPt
    rw [pointsTo_congr fun x hx => landed_eq c s P fy g r x hx]
  have h2 : iprop(bigSep Finset.univ (srcPt c s P fy) ∗ bigSep Finset.univ (restPt c s P fy)) ⊢ (bigSep Finset.univ (tokPt c s fy) : sProp 𝕄) := by
    rw [← bigSep_sep']
    exact bigSep_mono fun r _ => tok_join c s P fy r
  rw [h1, slot_rows]
  iintro ⟨⟨Hd, Hs⟩, Hr, Ht⟩
  isplitl [Hd]; · iexact Hd
  iapply (Transfers.pointsTo_toks_join (half s) 1024)
  isplitl [Ht]; · iexact Ht
  iapply h2
  isplitl [Hs]; · iexact Hs
  iexact Hr

/-- What a slot with nothing in flight holds, as the first row's copy finds it. -/
theorem idle_open : (Idle c s fy : sProp 𝕄) ⊢ iprop(∃ g : Buf (Elt F) ((c : Thread nD τ).loc cc0_scratch0), semVal ((c : Thread nD τ), scell s) 0
    ∗ bigSep Finset.univ (rowPt c s g) ∗ bigSep Finset.univ (tokPt c s fy)
    ∗ (((c : Thread nD τ).loc main_arg1) ↦[Finset.univ]{Transfers.shareDrop (half s) 1024} fy)) := by
  unfold Idle
  iintro ⟨⟨%g, Hg⟩, Hs, Hy⟩
  iexists g
  ihave Hy := (Transfers.pointsTo_toks_split (half s) 1024) $$ Hy
  icases Hy with ⟨Hd, Ht⟩
  isplitl [Hs]; · iexact Hs
  isplitl [Hg]
  · iapply (Entails.of_eq (slot_rows c s g)) $$ Hg
  isplitl [Ht]; · iexact Ht
  iexact Hd

end States

/-- The word loaded for row `r` is the block's word `r`. -/
theorem word_eq (c : Dev nD) (arg1 : Memref sig .tc .smem S1x1x1024 .i32) (fp : Buf (Elt F) (arg1.view.loc (c : Thread nD τ))) (r : Fin 1024) :
    word c arg1 fp r = arg1.view.read (Elt F) fp (posIx r) := by
  unfold word
  show arg1.view.read (Elt F) fp ((Rect.unit (s := S1x1x1024) ![0, 0, r.val] S1x1x1.size (pos_inb r)).emb _) = _
  congr 1
  funext a
  apply Fin.ext
  rw [Idealize.ShloMosaic.ValueKit.rect_emb_unit_val]
  fin_cases a
  · rfl
  · rfl
  · rfl

/-! ## Reading and writing a held buffer -/

/-- A load through a rectangle of a held buffer reads its contents there. -/
theorem owns_load (𝒱 : Variants) (c : Dev nD) {s : Shape} {e : EltTy} (M : Memref sig .tc .vmem s e) (X : s.Idx → Elt F e) (r : Rect s)
    (hl : M.view.LoadsAt r.toLoadRect) {α : Type} (k : (r.shape.Idx → Elt F e) → Prog (TpuEff nD τ sig (Elt F) Λ₀ .tc) α)
    (Q : α → sProp 𝕄) :
    (owns (c : Thread nD τ) M fullShare X : sProp 𝕄)
      ⊢ iprop((owns (c : Thread nD τ) M fullShare X
          -∗ wp Idealize.ShloMosaic.frame (wpE (defs₀ (F := F)) 𝒱 (c : Thread nD τ) none) Set.univ (k fun j => X (r.emb j)) Q)
        -∗ wp Idealize.ShloMosaic.frame (wpE (defs₀ (F := F)) 𝒱 (c : Thread nD τ) none) Set.univ (.op (.load M r.toLoadRect hl) k) Q) := by
  unfold owns
  iintro Hm Hk
  icases Hm with ⟨%f, %hf, H⟩
  iapply (wp_load_rect 𝒱 (c : Thread nD τ) none Set.univ (m := M) (r := r) (hl := hl) (k := k) (Q := Q) (S := M.view.set)
    (q := fullShare) (f := f) (View.set_slice_subset _ _)) $$ H
  iintro H
  have e : (M.access r).read (Elt F) f = fun j => X (r.emb j) := by
    funext j; exact congrFun hf (r.emb j)
  rw [e]
  iapply Hk
  iexists f
  isplitr [H]
  · ipureintro; exact hf
  · iexact H

/-- Reading the whole of a value is the value. -/
theorem whole3 {s : Shape} {off : Fin s.rank → ℕ} {inb : ∀ a, off a + s.size a ≤ s.size a} {α : Type} (X : s.Idx → α) :
    (fun j : s.Idx => X ((Rect.unit (s := s) off s.size inb).emb j)) = X := by
  funext y
  congr 1
  funext a; apply Fin.ext
  have h0 := inb a
  show off a + 1 * (y a).val = (y a).val
  omega

/-- A load of the whole of a held buffer reads its contents. -/
theorem owns_load_whole (𝒱 : Variants) (c : Dev nD) {s : Shape} {e : EltTy} (M : Memref sig .tc .vmem s e) (X : s.Idx → Elt F e) (off : Fin s.rank → ℕ)
    (inb : ∀ a, off a + s.size a ≤ s.size a)
    (hl : M.view.LoadsAt (Rect.unit (s := s) off s.size inb).toLoadRect) {α : Type}
    (k : (s.Idx → Elt F e) → Prog (TpuEff nD τ sig (Elt F) Λ₀ .tc) α) (Q : α → sProp 𝕄) :
    (owns (c : Thread nD τ) M fullShare X : sProp 𝕄)
      ⊢ iprop((owns (c : Thread nD τ) M fullShare X -∗ wp Idealize.ShloMosaic.frame (wpE (defs₀ (F := F)) 𝒱 (c : Thread nD τ) none) Set.univ (k X) Q)
        -∗ wp Idealize.ShloMosaic.frame (wpE (defs₀ (F := F)) 𝒱 (c : Thread nD τ) none) Set.univ (.op (.load M (Rect.unit (s := s) off s.size inb).toLoadRect hl) k) Q) := by
  have h := owns_load (F := F) 𝒱 c M X (Rect.unit (s := s) off s.size inb) hl k Q
  have e2 : (fun j => X ((Rect.unit (s := s) off s.size inb).emb j)) = X := whole3 X
  rw [e2] at h
  exact h

/-- A store over the whole of a held buffer leaves it at what is stored. -/
theorem owns_store (𝒱 : Variants) (c : Dev nD) {s : Shape} {e : EltTy} (M : Memref sig .tc .vmem s e) (X : s.Idx → Elt F e) (off : Fin s.rank → ℕ)
    (inb : ∀ a, off a + s.size a ≤ s.size a) (w : s.Idx → Elt F e)
    (hx : (M.access (Rect.unit (s := s) off s.size inb)).Stores Finset.univ)
    (hm : Finset.univ = Finset.univ ∨ ∀ a, (Rect.unit (s := s) off s.size inb).stride a = 1)
    {α : Type} (k : PUnit.{1} → Prog (TpuEff nD τ sig (Elt F) Λ₀ .tc) α) (Q : α → sProp 𝕄) :
    (owns (c : Thread nD τ) M fullShare X : sProp 𝕄)
      ⊢ iprop((owns (c : Thread nD τ) M fullShare w
          -∗ wp Idealize.ShloMosaic.frame (wpE (defs₀ (F := F)) 𝒱 (c : Thread nD τ) none) Set.univ (k ⟨⟩) Q)
        -∗ wp Idealize.ShloMosaic.frame (wpE (defs₀ (F := F)) 𝒱 (c : Thread nD τ) none) Set.univ
            (.op (.store M (Rect.unit (s := s) off s.size inb) w Finset.univ hx hm) k) Q) := by
  unfold owns
  iintro Hm Hk
  icases Hm with ⟨%f, %hf, H⟩
  iapply (wp_store_writes₀ 𝒱 (c : Thread nD τ) none Set.univ (m := M) (r := Rect.unit (s := s) off s.size inb) (w := w) (hx := hx) (hm := hm)
    (k := k) (Q := Q) (S := M.view.set) (f := f) (View.set_slice_subset _ _)) $$ H
  iintro H
  iapply Hk
  iexists _
  isplitr [H]
  · ipureintro
    funext y
    have e : (Rect.unit (s := s) off s.size inb).emb y = y := by
      funext a; apply Fin.ext
      have h0 := inb a
      show off a + 1 * (y a).val = (y a).val
      omega
    have h := View.read_writes_cons_emb M.view f (Rect.unit (s := s) off s.size inb) w [] y
    rw [e] at h
    exact h
  · iexact H

/-- A load of a filled slot reads the rows. -/
theorem slot_load (𝒱 : Variants) (c : Dev nD) (s : Fin 2) (P : Fin 1024 → Fin 77824) (fy : Buf (Elt F) ((c : Thread nD τ).loc main_arg1))
    {o : Fin 3 → ℕ} {inb : ∀ a, o a + S1x1024x1024.size a ≤ S2x1024x1024.size a} (ho : o = ![s.val, 0, 0])
    (hl : (Memref.whole cc0_scratch0 : Memref sig .tc .vmem S2x1024x1024 .f32).view.LoadsAt (Rect.unit (s := S2x1024x1024) o S1x1024x1024.size inb).toLoadRect)
    {α : Type} (k : (S1x1024x1024.Idx → Elt F .f32) → Prog (TpuEff nD τ sig (Elt F) Λ₀ .tc) α) (Q : α → sProp 𝕄) :
    (((c : Thread nD τ).loc cc0_scratch0) ↦[slot s]{fullShare} filled c P fy : sProp 𝕄)
      ⊢ iprop(((((c : Thread nD τ).loc cc0_scratch0) ↦[slot s]{fullShare} filled c P fy)
          -∗ wp Idealize.ShloMosaic.frame (wpE (defs₀ (F := F)) 𝒱 (c : Thread nD τ) none) Set.univ (k (rows3 c P fy)) Q)
        -∗ wp Idealize.ShloMosaic.frame (wpE (defs₀ (F := F)) 𝒱 (c : Thread nD τ) none) Set.univ
          (.op (.load (Memref.whole cc0_scratch0 : Memref sig .tc .vmem S2x1024x1024 .f32) (Rect.unit (s := S2x1024x1024) o S1x1024x1024.size inb).toLoadRect hl) k) Q) := by
  subst ho
  have hS : ((Memref.whole cc0_scratch0 : Memref sig .tc .vmem S2x1024x1024 .f32).access (Rect.unit (s := S2x1024x1024) ![s.val, 0, 0] S1x1024x1024.size inb)).set ⊆ slot s := by
    intro x hx
    obtain ⟨y, -, e⟩ := Finset.mem_map.mp hx
    refine (mem_slot s x).mpr ?_
    rw [← e]
    have hy0 : (y 0).val = 0 := by have : (y 0).val < 1 := (y 0).isLt; omega
    show s.val + 1 * (y 0).val = s.val
    omega
  have e : ((Memref.whole cc0_scratch0 : Memref sig .tc .vmem S2x1024x1024 .f32).access (Rect.unit (s := S2x1024x1024) ![s.val, 0, 0] S1x1024x1024.size inb)).read (Elt F) (filled c P fy)
      = rows3 c P fy := by
    funext y
    show fy (ix2 (P _) _) = fy (ix2 (P _) _)
    have e1 : ((Rect.unit (s := S2x1024x1024) ![s.val, 0, 0] S1x1024x1024.size inb).emb y 1 : Fin 1024) = y 1 := Fin.ext (by
      show 0 + 1 * (y 1).val = (y 1).val; omega)
    have e2 : ((Rect.unit (s := S2x1024x1024) ![s.val, 0, 0] S1x1024x1024.size inb).emb y 2 : Fin 1024) = y 2 := Fin.ext (by
      show 0 + 1 * (y 2).val = (y 2).val; omega)
    exact congrArg fy (congrArg₂ (fun (a b : Fin 1024) => ix2 (P a) b) e1 e2)
  iintro H Hk
  iapply (wp_load_rect 𝒱 (c : Thread nD τ) none Set.univ (m := (Memref.whole cc0_scratch0 : Memref sig .tc .vmem S2x1024x1024 .f32))
    (r := Rect.unit (s := S2x1024x1024) ![s.val, 0, 0] S1x1024x1024.size inb) (hl := hl) (k := k) (Q := Q) (S := slot s)
    (q := fullShare) (f := filled c P fy) hS) $$ H
  rw [e]
  iintro H
  iapply Hk $$ H

/-! ## The body -/

/-- The modulation's row the block is scaled by. -/
def gate (M : S1x6x1024.Idx → Elt F .f32) : S1x1x1024.Idx → Elt F .f32 :=
  fun j => M ((Rect.unit (s := S1x6x1024) ![0, 5, 0] S1x1x1024.size inb_S1x6x1024_S1x1x1024_0_5_0).emb j)

/-- The output block: the residual stream plus the gated rows, normalised and scaled. -/
def outBlock (X : S1024x1024.Idx → Elt F .f32) (M : S1x6x1024.Idx → Elt F .f32) (Y : S1x1024x1024.Idx → Elt F .f32) (G : S1x1024.Idx → Elt F .f32) :
    S1024x1024.Idx → Elt F .f32 :=
  k0_pay1 (k0_pay2 X (gate M) Y) (k0_pay3 G) (k0_pay4 X (gate M) Y)

section Body

variable (i : grid0.Coords) (arg1 : Memref sig .tc .smem S1x1x1024 .i32) (harg1 : arg1.IsWhole) (arg2 : Memref sig .tc .smem S1x1x1024 .i32) (harg2 : arg2.IsWhole)
  (harg3 : (Memref.whole main_arg1 : Memref sig .tc .hbm S77824x1024 .f32).IsWhole) (arg4 : Memref sig .tc .vmem S1024x1024 .f32) (harg4 : arg4.IsWhole)
  (arg5 : Memref sig .tc .vmem S1x6x1024 .f32) (harg5 : arg5.IsWhole) (arg6 : Memref sig .tc .vmem S1x1024 .f32) (harg6 : arg6.IsWhole)
  (arg7 : Memref sig .tc .vmem S1024x1024 .f32) (harg7 : arg7.IsWhole) (harg8 : (Memref.whole cc0_scratch0 : Memref sig .tc .vmem S2x1024x1024 .f32).IsWhole)

/-- The waits and the loads of a point. -/
def last : Prog (TpuEff nD τ sig (Elt F) Λ₀ .tc) (Σ' (v27 : FVec F S1024x1024 .f32) (v29 : FVec F S1x1024 .f32), FVec F S1024 .f32) := do
  Scf.Loop.for k0_t3_loop k0_t3_ok ⟨⟩ (k0_t3_body i arg1 harg1 arg2 harg2 (Memref.whole main_arg1) harg3 arg4 harg4 arg5 harg5 arg6 harg6 arg7 harg7 (Memref.whole cc0_scratch0) harg8 cc0_scratch1)
  let v18 : Vec F S1024x1024 .f32 ← Prog.lift (.load arg4 (Rect.unit (s := S1024x1024) ![0, 0] S1024x1024.size inb_S1024x1024_S1024x1024_0_0).toLoadRect (View.loadsAt_vmem h_S1024x1024))
  let v20 : Vec F S1x1x1024 .f32 ← Prog.lift (.load arg5 (Rect.unit (s := S1x6x1024) ![0, 5, 0] S1x1x1024.size inb_S1x6x1024_S1x1x1024_0_5_0).toLoadRect (View.loadsAt_vmem h_S1x1x1024))
  let v23 : Vec F S1x1024x1024 .f32 ← Prog.lift (.load (Memref.whole cc0_scratch0 : Memref sig .tc .vmem S2x1024x1024 .f32) (Rect.unit (s := S2x1024x1024) (k0_off83 i) S1x1024x1024.size (k0_off83_inb i)).toLoadRect (View.loadsAt_vmem h_S1x1024x1024))
  let v28 : Vec F S1x1024 .f32 ← Prog.lift (.load arg6 (Rect.unit (s := S1x1024) ![0, 0] S1x1024.size inb_S1x1024_S1x1024_0_0).toLoadRect (View.loadsAt_vmem h_S1x1024))
  pure ⟨k0_pay2 v18 v20 v23, k0_pay3 v28, k0_pay4 v18 v20 v23⟩
/-- The next point's copies, then the rest. -/
def second : Prog (TpuEff nD τ sig (Elt F) Λ₀ .tc) (Σ' (v27 : FVec F S1024x1024 .f32) (v29 : FVec F S1x1024 .f32), FVec F S1024 .f32) :=
  if h : k0_cond2 i = 1#1 then
    Scf.Loop.for k0_t2_loop (k0_t2_ok i h) ⟨⟩ (k0_t2_body i arg1 harg1 arg2 harg2 (Memref.whole main_arg1) harg3 arg4 harg4 arg5 harg5 arg6 harg6 arg7 harg7 (Memref.whole cc0_scratch0) harg8 cc0_scratch1 h) >>= fun _ => last i arg1 harg1 arg2 harg2 harg3 arg4 harg4 arg5 harg5 arg6 harg6 arg7 harg7 harg8
  else last i arg1 harg1 arg2 harg2 harg3 arg4 harg4 arg5 harg5 arg6 harg6 arg7 harg7 harg8
/-- The first point's own copies, then the rest. -/
def first : Prog (TpuEff nD τ sig (Elt F) Λ₀ .tc) (Σ' (v27 : FVec F S1024x1024 .f32) (v29 : FVec F S1x1024 .f32), FVec F S1024 .f32) :=
  if h : k0_cond1 i = 1#1 then
    Scf.Loop.for k0_t1_loop (k0_t1_ok i h) ⟨⟩ (k0_t1_body i arg1 harg1 arg2 harg2 (Memref.whole main_arg1) harg3 arg4 harg4 arg5 harg5 arg6 harg6 arg7 harg7 (Memref.whole cc0_scratch0) harg8 cc0_scratch1 h) >>= fun _ => second i arg1 harg1 arg2 harg2 harg3 arg4 harg4 arg5 harg5 arg6 harg6 arg7 harg7 harg8
  else second i arg1 harg1 arg2 harg2 harg3 arg4 harg4 arg5 harg5 arg6 harg6 arg7 harg7 harg8

theorem part5_eq : k0_part5 (F := F) i arg1 harg1 arg2 harg2 (Memref.whole main_arg1) harg3 arg4 harg4 arg5 harg5 arg6 harg6 arg7 harg7 (Memref.whole cc0_scratch0) harg8 cc0_scratch1 = first i arg1 harg1 arg2 harg2 harg3 arg4 harg4 arg5 harg5 arg6 harg6 arg7 harg7 harg8 := by
  rw [k0_part5_eq_skeleton]; rfl

/-- The waits and the loads: the slot's rows land, and the block is read. -/
theorem last_step (𝒱 : Variants) (c : Dev nD) (P : Fin 1024 → Fin 77824) (fy : Buf (Elt F) ((c : Thread nD τ).loc main_arg1))
    (X : S1024x1024.Idx → Elt F .f32) (M : S1x6x1024.Idx → Elt F .f32) (G : S1x1024.Idx → Elt F .f32)
    (Q : (Σ' (v27 : FVec F S1024x1024 .f32) (v29 : FVec F S1x1024 .f32), FVec F S1024 .f32) → sProp 𝕄) :
    iprop(Flying c (here i) P fy ∗ (∃ W, owes (c : Thread nD τ) 0 W)
        ∗ owns (c : Thread nD τ) arg4 fullShare X ∗ owns (c : Thread nD τ) arg5 fullShare M ∗ owns (c : Thread nD τ) arg6 fullShare G)
      ⊢ iprop((Idle c (here i) fy ∗ (∃ W, owes (c : Thread nD τ) 0 W)
        ∗ owns (c : Thread nD τ) arg4 fullShare X ∗ owns (c : Thread nD τ) arg5 fullShare M ∗ owns (c : Thread nD τ) arg6 fullShare G
          -∗ Q ⟨k0_pay2 X (gate M) (rows3 c P fy), k0_pay3 G, k0_pay4 X (gate M) (rows3 c P fy)⟩)
        -∗ wp frame (wpE (defs₀ (F := F)) 𝒱 (c : Thread nD τ) none) Set.univ (last i arg1 harg1 arg2 harg2 harg3 arg4 harg4 arg5 harg5 arg6 harg6 arg7 harg7 harg8) Q) := by
  unfold last Flying
  iintro ⟨⟨%g, HB, Hr, Hd⟩, HO, H4, H5, H6⟩ Hk
  iapply (t3_loop i arg1 harg1 arg2 harg2 harg3 arg4 harg4 arg5 harg5 arg6 harg6 arg7 harg7 harg8 𝒱 c P fy g _ _) $$ [HB HO]
  · unfold Drain
    rw [Nat.zero_mul]
    isplitl [HB]; · iexact HB
    iexact HO
  iintro ⟨HD, Hsem, HO⟩
  ihave HJ := (collected c (here i) P fy g) $$ [HD Hr Hd]
  · isplitl [HD]; · iexact HD
    isplitl [Hr]; · iexact Hr
    iexact Hd
  icases HJ with ⟨Hg, Hy⟩
  iapply (owns_load_whole (F := F) 𝒱 c arg4 X ![0, 0] inb_S1024x1024_S1024x1024_0_0 (View.loadsAt_vmem h_S1024x1024) _ Q) $$ H4
  iintro H4
  iapply (owns_load (F := F) 𝒱 c arg5 M (Rect.unit (s := S1x6x1024) ![0, 5, 0] S1x1x1024.size inb_S1x6x1024_S1x1x1024_0_5_0) (View.loadsAt_vmem h_S1x1x1024) _ Q) $$ H5
  iintro H5
  iapply (slot_load (F := F) 𝒱 c (here i) P fy (off83_eq i) (View.loadsAt_vmem h_S1x1024x1024) _ Q) $$ Hg
  iintro Hg
  iapply (owns_load_whole (F := F) 𝒱 c arg6 G ![0, 0] inb_S1x1024_S1x1024_0_0 (View.loadsAt_vmem h_S1x1024)
    (fun v28 => .ret ⟨k0_pay2 X (gate M) (rows3 c P fy), k0_pay3 v28, k0_pay4 X (gate M) (rows3 c P fy)⟩) Q) $$ H6
  iintro H6
  rw [wp_ret]
  imodintro
  iapply Hk
  isplitl [Hg Hsem Hy]
  · unfold Idle
    isplitl [Hg]; · iexists _; iexact Hg
    isplitl [Hsem]; · iexact Hsem
    iexact Hy
  isplitl [HO]; · iexact HO
  isplitl [H4]; · iexact H4
  isplitl [H5]; · iexact H5
  iexact H6

/-- The next point's copies, where there is a next point. -/
theorem second_step (𝒱 : Variants) (c : Dev nD) (P : Fin 1024 → Fin 77824) (fy : Buf (Elt F) ((c : Thread nD τ).loc main_arg1))
    (X : S1x1x1024.Idx → BitVec 32) (hP : k0_cond2 i = 1#1 → ∀ r, (X (posIx r)).toNat = (P r).val)
    (Q : (Σ' (v27 : FVec F S1024x1024 .f32) (v29 : FVec F S1x1024 .f32), FVec F S1024 .f32) → sProp 𝕄) :
    iprop(Idle c (next i) fy ∗ owns (Val := Elt F) (c : Thread nD τ) arg2 fullShare X)
      ⊢ iprop(((if k0_cond2 i = 1#1 then Flying c (next i) P fy else Idle c (next i) fy) ∗ owns (Val := Elt F) (c : Thread nD τ) arg2 fullShare X
          -∗ wp frame (wpE (defs₀ (F := F)) 𝒱 (c : Thread nD τ) none) Set.univ (last i arg1 harg1 arg2 harg2 harg3 arg4 harg4 arg5 harg5 arg6 harg6 arg7 harg7 harg8) Q)
        -∗ wp frame (wpE (defs₀ (F := F)) 𝒱 (c : Thread nD τ) none) Set.univ (second i arg1 harg1 arg2 harg2 harg3 arg4 harg4 arg5 harg5 arg6 harg6 arg7 harg7 harg8) Q) := by
  unfold second
  by_cases h : k0_cond2 i = 1#1
  · rw [dif_pos h, if_pos h]
    unfold owns
    iintro ⟨HI, ⟨%fp, %hfp, Hp⟩⟩ Hk
    have hPw : ∀ r, (word c arg2 fp r).toNat = (P r).val := fun r => by rw [word_eq, hfp]; exact hP h r
    ihave HI := (idle_open c (next i) fy) $$ HI
    icases HI with ⟨%g, Hsem, Hg, Ht, Hd⟩
    imod (Transfers.batch_alloc' (countersEmb (U := Pipeline.UD sig nD τ)) (c : Thread nD τ) (sm := scell (next i)) () rowAmount (deliv c (next i) P fy g) (E := Set.univ)) $$ Hsem with HB
    iapply (t2_loop i arg1 harg1 arg2 harg2 harg3 arg4 harg4 arg5 harg5 arg6 harg6 arg7 harg7 harg8 𝒱 c h P fp fy g hPw _ _) $$ [HB Hp Hg Ht]
    · unfold At
      rw [Ring.rangeSet_univ, Ring.bigSep_rangeSet_empty (le_refl _)]
      isplitl [HB]; · iexact HB
      isplitl [Hp]; · iexact Hp
      isplitl [Hg]; · iexact Hg
      isplitl [Ht]; · iexact Ht
      iempintro
    iintro H
    ihave H' := (show At c arg2 (next i) P fp fy g 1024 ⊢ iprop(Transfers.Batch (countersEmb (U := Pipeline.UD sig nD τ)) (c : Thread nD τ) (scell (next i)) () rowAmount (deliv c (next i) P fy g) 1024 0
      ∗ (arg2.view.loc (c : Thread nD τ) ↦[arg2.view.set]{fullShare} fp)
      ∗ bigSep Finset.univ (restPt c (next i) P fy)) from by
        unfold At; rw [Ring.rangeSet_univ]; iintro ⟨H1, H2, -, -, H5⟩
        isplitl [H1]; · iexact H1
        isplitl [H2]; · iexact H2
        iexact H5) $$ H
    icases H' with ⟨HB, Hp, Hr⟩
    iapply Hk
    isplitl [HB Hr Hd]
    · unfold Flying
      iexists g
      isplitl [HB]; · iexact HB
      isplitl [Hr]; · iexact Hr
      iexact Hd
    iexists fp
    isplitr; · ipureintro; exact hfp
    iexact Hp
  · rw [dif_neg h, if_neg h]
    iintro H Hk
    iapply Hk $$ H

/-- The first point's own copies, at the first point. -/
theorem first_step (𝒱 : Variants) (c : Dev nD) (P : Fin 1024 → Fin 77824) (fy : Buf (Elt F) ((c : Thread nD τ).loc main_arg1))
    (X : S1x1x1024.Idx → BitVec 32) (hP : k0_cond1 i = 1#1 → ∀ r, (X (posIx r)).toNat = (P r).val)
    (Q : (Σ' (v27 : FVec F S1024x1024 .f32) (v29 : FVec F S1x1024 .f32), FVec F S1024 .f32) → sProp 𝕄) :
    iprop((if k0_cond1 i = 1#1 then Idle c (here i) fy else Flying c (here i) P fy) ∗ owns (Val := Elt F) (c : Thread nD τ) arg1 fullShare X)
      ⊢ iprop((Flying c (here i) P fy ∗ owns (Val := Elt F) (c : Thread nD τ) arg1 fullShare X
          -∗ wp frame (wpE (defs₀ (F := F)) 𝒱 (c : Thread nD τ) none) Set.univ (second i arg1 harg1 arg2 harg2 harg3 arg4 harg4 arg5 harg5 arg6 harg6 arg7 harg7 harg8) Q)
        -∗ wp frame (wpE (defs₀ (F := F)) 𝒱 (c : Thread nD τ) none) Set.univ (first i arg1 harg1 arg2 harg2 harg3 arg4 harg4 arg5 harg5 arg6 harg6 arg7 harg7 harg8) Q) := by
  unfold first
  by_cases h : k0_cond1 i = 1#1
  · rw [dif_pos h, if_pos h]
    unfold owns
    iintro ⟨HI, ⟨%fp, %hfp, Hp⟩⟩ Hk
    have hPw : ∀ r, (word c arg1 fp r).toNat = (P r).val := fun r => by rw [word_eq, hfp]; exact hP h r
    ihave HI := (idle_open c (here i) fy) $$ HI
    icases HI with ⟨%g, Hsem, Hg, Ht, Hd⟩
    imod (Transfers.batch_alloc' (countersEmb (U := Pipeline.UD sig nD τ)) (c : Thread nD τ) (sm := scell (here i)) () rowAmount (deliv c (here i) P fy g) (E := Set.univ)) $$ Hsem with HB
    iapply (t1_loop i arg1 harg1 arg2 harg2 harg3 arg4 harg4 arg5 harg5 arg6 harg6 arg7 harg7 harg8 𝒱 c h P fp fy g hPw _ _) $$ [HB Hp Hg Ht]
    · unfold At
      rw [Ring.rangeSet_univ, Ring.bigSep_rangeSet_empty (le_refl _)]
      isplitl [HB]; · iexact HB
      isplitl [Hp]; · iexact Hp
      isplitl [Hg]; · iexact Hg
      isplitl [Ht]; · iexact Ht
      iempintro
    iintro H
    ihave H' := (show At c arg1 (here i) P fp fy g 1024 ⊢ iprop(Transfers.Batch (countersEmb (U := Pipeline.UD sig nD τ)) (c : Thread nD τ) (scell (here i)) () rowAmount (deliv c (here i) P fy g) 1024 0
      ∗ (arg1.view.loc (c : Thread nD τ) ↦[arg1.view.set]{fullShare} fp)
      ∗ bigSep Finset.univ (restPt c (here i) P fy)) from by
        unfold At; rw [Ring.rangeSet_univ]; iintro ⟨H1, H2, -, -, H5⟩
        isplitl [H1]; · iexact H1
        isplitl [H2]; · iexact H2
        iexact H5) $$ H
    icases H' with ⟨HB, Hp, Hr⟩
    iapply Hk
    isplitl [HB Hr Hd]
    · unfold Flying
      iexists g
      isplitl [HB]; · iexact HB
      isplitl [Hr]; · iexact Hr
      iexact Hd
    iexists fp
    isplitr; · ipureintro; exact hfp
    iexact Hp
  · rw [dif_neg h, if_neg h]
    iintro H Hk
    iapply Hk $$ H

/-- The store of the output block. -/
def tail : (Σ' (v27 : FVec F S1024x1024 .f32) (v29 : FVec F S1x1024 .f32), FVec F S1024 .f32) → Prog (TpuEff nD τ sig (Elt F) Λ₀ .tc) PUnit.{1} := fun r => do
  let _v42 : Vec F S1024x1024 .f32 ← Prog.lift (.load arg7 (Rect.unit (s := S1024x1024) ![0, 0] S1024x1024.size inb_S1024x1024_S1024x1024_0_0).toLoadRect (View.loadsAt_vmem h_S1024x1024))
  Prog.lift (.store arg7 (Rect.unit (s := S1024x1024) ![0, 0] S1024x1024.size inb_S1024x1024_S1024x1024_0_0) (k0_pay1 r.1 r.2.1 r.2.2) Finset.univ (View.stores_vmem_bits_univ h_S1024x1024 rfl) (.inl rfl))
  pure ⟨⟩

theorem body_eq : cc0_moe_unsort_residual (F := F) i arg1 harg1 arg2 harg2 (Memref.whole main_arg1) harg3 arg4 harg4 arg5 harg5 arg6 harg6 arg7 harg7 (Memref.whole cc0_scratch0) harg8 cc0_scratch1
    = (k0_part5 i arg1 harg1 arg2 harg2 (Memref.whole main_arg1) harg3 arg4 harg4 arg5 harg5 arg6 harg6 arg7 harg7 (Memref.whole cc0_scratch0) harg8 cc0_scratch1 >>= tail arg7) := by
  rw [cc0_moe_unsort_residual_eq_skeleton]; rfl

theorem store_step (𝒱 : Variants) (c : Dev nD) (w : S1024x1024.Idx → Elt F .f32) (Y : S1024x1024.Idx → Elt F .f32) (hl hx hm)
    {α : Type} (k : PUnit.{1} → Prog (TpuEff nD τ sig (Elt F) Λ₀ .tc) α) (Q : α → sProp 𝕄) :
    (owns (c : Thread nD τ) arg7 fullShare Y : sProp 𝕄)
      ⊢ iprop((owns (c : Thread nD τ) arg7 fullShare w -∗ wp frame (wpE (defs₀ (F := F)) 𝒱 (c : Thread nD τ) none) Set.univ (k ⟨⟩) Q)
        -∗ wp frame (wpE (defs₀ (F := F)) 𝒱 (c : Thread nD τ) none) Set.univ (do
          let _v42 : Vec F S1024x1024 .f32 ← Prog.lift (.load arg7 (Rect.unit (s := S1024x1024) ![0, 0] S1024x1024.size inb_S1024x1024_S1024x1024_0_0).toLoadRect hl)
          Prog.lift (.store arg7 (Rect.unit (s := S1024x1024) ![0, 0] S1024x1024.size inb_S1024x1024_S1024x1024_0_0) w Finset.univ hx hm)
          k ⟨⟩) Q) := by
  iintro H7 Hk
  iapply (owns_load_whole (F := F) 𝒱 c arg7 Y ![0, 0] inb_S1024x1024_S1024x1024_0_0 hl _ Q) $$ H7
  iintro H7
  iapply (owns_store (F := F) 𝒱 c arg7 Y ![0, 0] inb_S1024x1024_S1024x1024_0_0 w hx hm k Q) $$ H7
  iintro H7
  iapply Hk $$ H7

theorem tail_step (𝒱 : Variants) (c : Dev nD) (r : (Σ' (v27 : FVec F S1024x1024 .f32) (v29 : FVec F S1x1024 .f32), FVec F S1024 .f32)) (Y : S1024x1024.Idx → Elt F .f32) (Q : PUnit.{1} → sProp 𝕄) :
    (owns (c : Thread nD τ) arg7 fullShare Y : sProp 𝕄)
      ⊢ iprop((owns (c : Thread nD τ) arg7 fullShare (k0_pay1 r.1 r.2.1 r.2.2) -∗ Q ⟨⟩)
        -∗ wp frame (wpE (defs₀ (F := F)) 𝒱 (c : Thread nD τ) none) Set.univ (tail arg7 r) Q) := by
  unfold tail
  generalize k0_pay1 r.1 r.2.1 r.2.2 = w
  iintro H7 Hk
  iapply (store_step arg7 𝒱 c w Y _ _ _ (fun _ => .ret ⟨⟩) Q) $$ H7
  rw [wp_ret]
  iintro H7
  imodintro
  iapply Hk $$ H7

/-- THE BODY at a grid point: the point's rows land, the next point's are put in flight, and the output block is the
    residual stream plus the gated rows, normalised and scaled. -/
theorem body_wp (𝒱 : Variants) (c : Dev nD) (P P' : Fin 1024 → Fin 77824) (fy : Buf (Elt F) ((c : Thread nD τ).loc main_arg1))
    (X1 X2 : S1x1x1024.Idx → BitVec 32) (hP : k0_cond1 i = 1#1 → ∀ r, (X1 (posIx r)).toNat = (P r).val)
    (hP' : k0_cond2 i = 1#1 → ∀ r, (X2 (posIx r)).toNat = (P' r).val)
    (X : S1024x1024.Idx → Elt F .f32) (M : S1x6x1024.Idx → Elt F .f32) (G : S1x1024.Idx → Elt F .f32) (Y : S1024x1024.Idx → Elt F .f32) :
    (iprop((if k0_cond1 i = 1#1 then Idle c (here i) fy else Flying c (here i) P fy) ∗ Idle c (next i) fy ∗ (∃ W, owes (c : Thread nD τ) 0 W)
        ∗ owns (Val := Elt F) (c : Thread nD τ) arg1 fullShare X1 ∗ owns (Val := Elt F) (c : Thread nD τ) arg2 fullShare X2
        ∗ owns (c : Thread nD τ) arg4 fullShare X ∗ owns (c : Thread nD τ) arg5 fullShare M ∗ owns (c : Thread nD τ) arg6 fullShare G
        ∗ owns (c : Thread nD τ) arg7 fullShare Y) : sProp 𝕄)
      ⊢ wp frame (wpE (defs₀ (F := F)) 𝒱 (c : Thread nD τ) none) Set.univ (cc0_moe_unsort_residual i arg1 harg1 arg2 harg2 (Memref.whole main_arg1) harg3 arg4 harg4 arg5 harg5 arg6 harg6 arg7 harg7 (Memref.whole cc0_scratch0) harg8 cc0_scratch1)
          (fun _ => iprop(Idle c (here i) fy ∗ (if k0_cond2 i = 1#1 then Flying c (next i) P' fy else Idle c (next i) fy) ∗ (∃ W, owes (c : Thread nD τ) 0 W)
        ∗ owns (Val := Elt F) (c : Thread nD τ) arg1 fullShare X1 ∗ owns (Val := Elt F) (c : Thread nD τ) arg2 fullShare X2
        ∗ owns (c : Thread nD τ) arg4 fullShare X ∗ owns (c : Thread nD τ) arg5 fullShare M ∗ owns (c : Thread nD τ) arg6 fullShare G
        ∗ owns (c : Thread nD τ) arg7 fullShare (outBlock X M (rows3 c P fy) G))) := by
  rw [body_eq, part5_eq, wp_bind]
  iintro ⟨HA, HI, HO, H1, H2, H4, H5, H6, H7⟩
  iapply (first_step i arg1 harg1 arg2 harg2 harg3 arg4 harg4 arg5 harg5 arg6 harg6 arg7 harg7 harg8 𝒱 c P fy X1 hP _) $$ [HA H1]
  · isplitl [HA]; · iexact HA
    iexact H1
  iintro ⟨HA, H1⟩
  iapply (second_step i arg1 harg1 arg2 harg2 harg3 arg4 harg4 arg5 harg5 arg6 harg6 arg7 harg7 harg8 𝒱 c P' fy X2 hP' _) $$ [HI H2]
  · isplitl [HI]; · iexact HI
    iexact H2
  iintro ⟨HI, H2⟩
  iapply (last_step i arg1 harg1 arg2 harg2 harg3 arg4 harg4 arg5 harg5 arg6 harg6 arg7 harg7 harg8 𝒱 c P fy X M G _) $$ [HA HO H4 H5 H6]
  · isplitl [HA]; · iexact HA
    isplitl [HO]; · iexact HO
    isplitl [H4]; · iexact H4
    isplitl [H5]; · iexact H5
    iexact H6
  iintro ⟨HA, HO, H4, H5, H6⟩
  iapply (tail_step arg7 𝒱 c _ Y _) $$ H7
  iintro H7
  isplitl [HA]; · iexact HA
  isplitl [HI]; · iexact HI
  isplitl [HO]; · iexact HO
  isplitl [H1]; · iexact H1
  isplitl [H2]; · iexact H2
  isplitl [H4]; · iexact H4
  isplitl [H5]; · iexact H5
  isplitl [H6]; · iexact H6
  iexact H7

end Body

end Cert.Kernel3Ideal.Back

end
-- ==== Proof.Back.Run.lean ====
/-
  The gather's run: the positions of each block, the pipeline's proof data, the body's obligation, and the run of the whole
  program.
-/
module

public import proofs.«01_k».proof.Proof.Back.Body
public import proofs.«01_k».proof.Proof.Gen.Kernel3Ideal.Frame
public import proofs.«01_k».proof.Proof.Gen.Kernel3Ideal.Skeleton
public import proofs.«01_k».proof.Proof.Gen.Kernel3Ideal.Loops
public import Idealize.ShloMosaic.Lib.Batch
public import Idealize.ShloMosaic.Lib.Ring
public import Idealize.ShloMosaic.Lib.Tactic
public import Idealize.ShloMosaic.Lib.ValueLayout
public import Idealize.ShloMosaic.Lib.Pipeline.ValueKit.Geometry

@[expose] public section

set_option maxRecDepth 16384

noncomputable section

namespace Cert.Kernel3Ideal.Back

open Cert.Kernel3Ideal Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev 𝒱₀ : Variants := Variants.none

/-! ## The grid -/

/-- The grid's point `k`. -/
def point (k : Fin 64) : grid0.Coords := fun b => match b with
  | ⟨0, _⟩ => k

theorem eq_point (i : grid0.Coords) : i = point (i 0) := funext fun b => match b with
  | ⟨0, _⟩ => rfl

theorem first_iff (i : grid0.Coords) : k0_cond1 i = 1#1 ↔ (i 0).val = 0 := by
  have h : ∀ k : Fin 64, k0_cond1 (point k) = 1#1 ↔ k.val = 0 := by decide +kernel
  rw [eq_point i]; exact h (i 0)
theorem second_iff (i : grid0.Coords) : k0_cond2 i = 1#1 ↔ (i 0).val + 1 < 64 := by
  have h : ∀ k : Fin 64, k0_cond2 (point k) = 1#1 ↔ k.val + 1 < 64 := by decide +kernel
  rw [eq_point i]; exact h (i 0)

theorem coord0 (t : Fin cfg0.N) : (grid0.coords t 0).val = t.val := by
  have h := Pipeline.Grid.coords_val (G := grid0) t 0 (S := 1) (B := 64) (by decide) rfl
  have hN : cfg0.N = 64 := rfl
  have := t.isLt
  omega

theorem word_coord0 (t : Fin cfg0.N) : (BitVec.ofNat 32 (grid0.coords t 0).val).toNat = t.val := by
  rw [coord0, BitVec.toNat_ofNat]
  have hN : cfg0.N = 64 := rfl
  have := t.isLt
  omega

/-! ## What a point stages -/

/-- The positions point `t` stages. -/
def posAt (c : Dev nD) (t : Fin cfg0.N) : S1x1x1024.Idx → BitVec 32 := iblk m c 0 t
/-- The next block's positions, as point `t` stages them. -/
def nextAt (c : Dev nD) (t : Fin cfg0.N) : S1x1x1024.Idx → BitVec 32 := iblk m c 1 t
/-- The rows of the residual stream point `t` stages. -/
def resAt (c : Dev nD) (t : Fin cfg0.N) : S1024x1024.Idx → Elt F .f32 := iblk m c 2 t
/-- The modulation point `t` stages. -/
def modAt (c : Dev nD) (t : Fin cfg0.N) : S1x6x1024.Idx → Elt F .f32 := iblk m c 3 t
/-- The normalisation's scale, as point `t` stages it. -/
def scaleAt (c : Dev nD) (t : Fin cfg0.N) : S1x1024.Idx → Elt F .f32 := iblk m c 4 t

/-- The positions as launched. -/
def posArg (c : Dev nD) : S64x1x1024.Idx → BitVec 32 := m ((c : Thread nD τ).loc main_arg0)

/-- The row of the experts' outputs that position `r` of block `n` names. -/
def posOf (c : Dev nD) (n : ℕ) (r : Fin 1024) : Fin 77824 :=
  ⟨(posArg m c (ix3 (⟨n % 64, Nat.mod_lt _ (by decide)⟩ : Fin 64) (0 : Fin 1) r)).toNat % 77824, Nat.mod_lt _ (by decide)⟩

/-- What is asked of the launch memory: every position names a row of the experts' outputs. -/
def PreOK : Prop := ∀ (c : Dev nD) (i : S64x1x1024.Idx), (posArg m c i).toNat < 77824

theorem posAt_read (c : Dev nD) (t : Fin cfg0.N) (r : Fin 1024) :
    posAt m c t (posIx r) = posArg m c (ix3 (⟨t.val, t.isLt⟩ : Fin 64) (0 : Fin 1) r) := by
  unfold posAt iblk posArg
  rw [View.read_apply, V_main_arg0 m c]
  refine congrArg (m ((c : Thread nD τ).loc main_arg0)) ?_
  funext a
  apply Fin.ext
  refine (Pipeline.Window.rect_emb_val (cfg0.win 0) t (posIx r) a).trans ?_
  match a with
  | ⟨0, _⟩ =>
    show (BitVec.ofNat 32 (grid0.coords t 0).val).toNat * 1 + 0 = t.val
    rw [word_coord0]; omega
  | ⟨1, _⟩ => rfl
  | ⟨2, _⟩ => show 0 * 1024 + r.val = r.val; omega

theorem next_word (i : grid0.Coords) (h : (i 0).val + 1 < 64) : cc0_transform_1 i 0 = (i 0).val + 1 := by
  have hk : ∀ k : Fin 64, k.val + 1 < 64 → cc0_transform_1 (point k) 0 = k.val + 1 := by decide +kernel
  rw [eq_point i]; exact hk (i 0) h

theorem nextAt_read (c : Dev nD) (t : Fin cfg0.N) (h : t.val + 1 < 64) (r : Fin 1024) :
    nextAt m c t (posIx r) = posArg m c (ix3 (⟨t.val + 1, h⟩ : Fin 64) (0 : Fin 1) r) := by
  unfold nextAt iblk posArg
  rw [View.read_apply, V_main_arg0 m c]
  refine congrArg (m ((c : Thread nD τ).loc main_arg0)) ?_
  funext a
  apply Fin.ext
  refine (Pipeline.Window.rect_emb_val (cfg0.win 1) t (posIx r) a).trans ?_
  match a with
  | ⟨0, _⟩ =>
    show cc0_transform_1 (grid0.coords t) 0 * 1 + 0 = t.val + 1
    rw [next_word _ (by rw [coord0]; exact h), coord0]; omega
  | ⟨1, _⟩ => rfl
  | ⟨2, _⟩ => show 0 * 1024 + r.val = r.val; omega

theorem posAt_val (hpre : PreOK m) (c : Dev nD) (t : Fin cfg0.N) (r : Fin 1024) : (posAt m c t (posIx r)).toNat = (posOf m c t.val r).val := by
  have hN : cfg0.N = 64 := rfl
  have ht : t.val % 64 = t.val := Nat.mod_eq_of_lt (lt_of_lt_of_eq t.isLt hN)
  rw [posAt_read]
  unfold posOf
  simp only [ht]
  exact (Nat.mod_eq_of_lt (hpre c _)).symm

theorem nextAt_val (hpre : PreOK m) (c : Dev nD) (t : Fin cfg0.N) (h : t.val + 1 < 64) (r : Fin 1024) :
    (nextAt m c t (posIx r)).toNat = (posOf m c (t.val + 1) r).val := by
  have ht : (t.val + 1) % 64 = t.val + 1 := Nat.mod_eq_of_lt h
  rw [nextAt_read m c t h]
  unfold posOf
  simp only [ht]
  exact (Nat.mod_eq_of_lt (hpre c _)).symm

/-! ## The pipeline's proof data -/

/-- The experts' outputs as the call finds them. -/
def outs (c : Dev nD) : Buf (Elt F) ((c : Thread nD τ).loc main_arg1) := V m c main_arg1

/-- The output block point `t` leaves. -/
def blockAt (c : Dev nD) (t : Fin cfg0.N) : S1024x1024.Idx → Elt F .f32 :=
  outBlock (resAt m c t) (modAt m c t) (rows3 c (posOf m c t.val) (outs m c)) (scaleAt m c t)

/-- Before point `n`, the two slots: block `n`'s rows in flight in the one, nothing in the other; at the ends nothing in
    either. -/
def slots (c : Dev nD) (n : ℕ) : sProp 𝕄 :=
  if n = 0 ∨ 64 ≤ n then iprop(Idle c 0 (outs m c) ∗ Idle c 1 (outs m c))
  else iprop(Flying c (⟨n % 2, Nat.mod_lt _ (by decide)⟩ : Fin 2) (posOf m c n) (outs m c) ∗ Idle c (⟨1 - n % 2, by omega⟩ : Fin 2) (outs m c))

/-- Before point `n`: the slots, and the generator's register. -/
def held (c : Dev nD) (n : ℕ) : sProp 𝕄 := iprop(slots m c n ∗ (∃ r, prngReg c r))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockAt m c t
  Φ t := held m c t.val
  q w := Pipeline.shareOf spec0 w
  owed _ := 0

theorem before_0 (c : Dev nD) (t : Fin cfg0.N) (d) : (dats m 0 c).before 0 t d = iblk m c 0 t :=
  ((dats m 0 c).before_in_eq_fetched 0 rfl (fun _ => rfl) (fun _ _ _ => rfl) (fun t => by
    rw [show (dats m 0 c).after 0 t = iblk m c 0 t from rfl]; unfold Dat.blockOf iblk; rw [show (dats m 0 c).A 0 = V m c (Pipeline.arrRef spec0 0) from rfl]; try rfl) t d).trans
    (by unfold Dat.fetched Dat.blockOf iblk; rw [show (dats m 0 c).A 0 = V m c (Pipeline.arrRef spec0 0) from rfl]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by
    rw [show (dats m 0 c).after 1 t = iblk m c 1 t from rfl]; unfold Dat.blockOf iblk; rw [show (dats m 0 c).A 1 = V m c (Pipeline.arrRef spec0 1) from rfl]; try rfl) t d).trans
    (by unfold Dat.fetched Dat.blockOf iblk; rw [show (dats m 0 c).A 1 = V m c (Pipeline.arrRef spec0 1) from rfl]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by
    rw [show (dats m 0 c).after 2 t = iblk m c 2 t from rfl]; unfold Dat.blockOf iblk; rw [show (dats m 0 c).A 2 = V m c (Pipeline.arrRef spec0 2) from rfl]; try rfl) t d).trans
    (by unfold Dat.fetched Dat.blockOf iblk; rw [show (dats m 0 c).A 2 = V m c (Pipeline.arrRef spec0 2) from rfl]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by
    rw [show (dats m 0 c).after 3 t = iblk m c 3 t from rfl]; unfold Dat.blockOf iblk; rw [show (dats m 0 c).A 3 = V m c (Pipeline.arrRef spec0 3) from rfl]; try rfl) t d).trans
    (by unfold Dat.fetched Dat.blockOf iblk; rw [show (dats m 0 c).A 3 = V m c (Pipeline.arrRef spec0 3) from rfl]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by
    rw [show (dats m 0 c).after 4 t = iblk m c 4 t from rfl]; unfold Dat.blockOf iblk; rw [show (dats m 0 c).A 4 = V m c (Pipeline.arrRef spec0 4) from rfl]; try rfl) t d).trans
    (by unfold Dat.fetched Dat.blockOf iblk; rw [show (dats m 0 c).A 4 = V m c (Pipeline.arrRef spec0 4) from rfl]; try rfl)

/-! ## The body's obligation -/

theorem slots_open (c : Dev nD) (t : Fin cfg0.N) :
    (slots m c t.val : sProp 𝕄) ⊢ iprop((if k0_cond1 (grid0.coords t) = 1#1 then Idle c (here (grid0.coords t)) (outs m c)
      else Flying c (here (grid0.coords t)) (posOf m c t.val) (outs m c)) ∗ Idle c (next (grid0.coords t)) (outs m c)) := by
  have hN : cfg0.N = 64 := rfl
  have ht := t.isLt
  unfold slots
  by_cases h : t.val = 0
  · rw [if_pos (Or.inl h), if_pos ((first_iff _).mpr ((coord0 t).trans h)),
      show here (grid0.coords t) = 0 from Fin.ext (by show (grid0.coords t 0).val % 2 = 0; rw [coord0, h]),
      show next (grid0.coords t) = 1 from Fin.ext (by show 1 - (grid0.coords t 0).val % 2 = 1; rw [coord0, h])]
  · rw [if_neg (by omega), if_neg (fun e => h ((coord0 t).symm.trans ((first_iff _).mp e))),
      show here (grid0.coords t) = (⟨t.val % 2, Nat.mod_lt _ (by decide)⟩ : Fin 2) from Fin.ext (by show (grid0.coords t 0).val % 2 = _; rw [coord0]),
      show next (grid0.coords t) = (⟨1 - t.val % 2, by omega⟩ : Fin 2) from Fin.ext (by show 1 - (grid0.coords t 0).val % 2 = _; rw [coord0])]

theorem slots_close (c : Dev nD) (t : Fin cfg0.N) :
    iprop(Idle c (here (grid0.coords t)) (outs m c) ∗ (if k0_cond2 (grid0.coords t) = 1#1 then Flying c (next (grid0.coords t)) (posOf m c (t.val + 1)) (outs m c)
      else Idle c (next (grid0.coords t)) (outs m c))) ⊢ (slots m c (t.val + 1) : sProp 𝕄) := by
  have hN : cfg0.N = 64 := rfl
  have ht := t.isLt
  unfold slots
  by_cases h : t.val + 1 < 64
  · rw [if_neg (show ¬(t.val + 1 = 0 ∨ 64 ≤ t.val + 1) by omega), if_pos ((second_iff _).mpr (by rw [coord0]; exact h)),
      show here (grid0.coords t) = (⟨1 - (t.val + 1) % 2, by omega⟩ : Fin 2) from Fin.ext (by show (grid0.coords t 0).val % 2 = 1 - (t.val + 1) % 2; rw [coord0]; omega),
      show next (grid0.coords t) = (⟨(t.val + 1) % 2, Nat.mod_lt _ (by decide)⟩ : Fin 2) from Fin.ext (by show 1 - (grid0.coords t 0).val % 2 = (t.val + 1) % 2; rw [coord0]; omega)]
    iintro ⟨H, H'⟩
    isplitl [H']; · iexact H'
    iexact H
  · have h63 : t.val = 63 := by omega
    rw [if_pos (show t.val + 1 = 0 ∨ 64 ≤ t.val + 1 by omega), if_neg (fun e => h (by have := (second_iff _).mp e; rw [coord0] at this; exact this)),
      show here (grid0.coords t) = 1 from Fin.ext (by show (grid0.coords t 0).val % 2 = 1; rw [coord0, h63]),
      show next (grid0.coords t) = 0 from Fin.ext (by show 1 - (grid0.coords t 0).val % 2 = 0; rw [coord0, h63])]
    iintro ⟨H, H'⟩
    isplitl [H']; · iexact H'
    iexact H

/-- The waits recorded, within no bound. -/
theorem owes_in (c : Dev nD) (B : Set (SemLoc sig × Unit)) :
    (Pipeline.owesWithin c 0 B : sProp 𝕄) ⊢ iprop(∃ W, owes (c : Thread nD τ) 0 W) := by
  iintro ⟨%W, -, H⟩; iexists W; iexact H
theorem owes_out (c : Dev nD) (B : Set (SemLoc sig × Unit)) (hB : B = Set.univ) :
    iprop(∃ W, owes (c : Thread nD τ) 0 W) ⊢ (Pipeline.owesWithin c 0 B : sProp 𝕄) := by
  iintro ⟨%W, H⟩; iexists W
  isplitr; · ipureintro; subst hB; exact Set.subset_univ _
  iexact H

/-- The body's step on what the pipeline's invariant holds. -/
theorem body_held (hpre : PreOK m) (c : Dev nD) (t : Fin cfg0.N) (Y : S1024x1024.Idx → Elt F .f32) :
    iprop(held m c t.val ∗ (∃ W, owes (c : Thread nD τ) 0 W) ∗ owns (Val := Elt F) (c : Thread nD τ) (st0_0 t) fullShare (posAt m c t) ∗ owns (Val := Elt F) (c : Thread nD τ) (st0_1 t) fullShare (nextAt m c t) ∗ owns (Val := Elt F) (c : Thread nD τ) (st0_2 t) fullShare (resAt m c t) ∗ owns (Val := Elt F) (c : Thread nD τ) (st0_3 t) fullShare (modAt m c t) ∗ owns (Val := Elt F) (c : Thread nD τ) (st0_4 t) fullShare (scaleAt m c t) ∗ owns (Val := Elt F) (c : Thread nD τ) (st0_5 t) fullShare (Y))
      ⊢ (wp frame (wpE (defs₀ (F := F)) 𝒱₀ (c : Thread nD τ) none) Set.univ (bodyAt0 t) (fun _ =>
        iprop(held m c (t.val + 1) ∗ (∃ W, owes (c : Thread nD τ) 0 W) ∗ owns (Val := Elt F) (c : Thread nD τ) (st0_0 t) fullShare (posAt m c t) ∗ owns (Val := Elt F) (c : Thread nD τ) (st0_1 t) fullShare (nextAt m c t) ∗ owns (Val := Elt F) (c : Thread nD τ) (st0_2 t) fullShare (resAt m c t) ∗ owns (Val := Elt F) (c : Thread nD τ) (st0_3 t) fullShare (modAt m c t) ∗ owns (Val := Elt F) (c : Thread nD τ) (st0_4 t) fullShare (scaleAt m c t) ∗ owns (Val := Elt F) (c : Thread nD τ) (st0_5 t) fullShare (blockAt m c t))) : sProp 𝕄) := by
  unfold held
  iintro ⟨⟨HS, HR⟩, HO, H1, H2, H4, H5, H6, H7⟩
  ihave HS := (slots_open m c t) $$ HS
  icases HS with ⟨HA, HB⟩
  iapply (wp_wand Idealize.ShloMosaic.frame (wpE (defs₀ (F := F)) 𝒱₀ (c : Thread nD τ) none) Set.univ) $$ [HA HB HO H1 H2 H4 H5 H6 H7]
  · iapply (body_wp (grid0.coords t)
      (win0_0.stage (cfg0.slots t 0)) (hstage0_0 ((cfg0.slots t 0).cast nbuf0_0))
      (win0_1.stage (cfg0.slots t 1)) (hstage0_1 ((cfg0.slots t 1).cast nbuf0_1)) (Memref.isWhole_whole _)
      (win0_2.stage (cfg0.slots t 2)) (hstage0_2 ((cfg0.slots t 2).cast nbuf0_2))
      (win0_3.stage (cfg0.slots t 3)) (hstage0_3 ((cfg0.slots t 3).cast nbuf0_3))
      (win0_4.stage (cfg0.slots t 4)) (hstage0_4 ((cfg0.slots t 4).cast nbuf0_4))
      (win0_5.stage (cfg0.slots t 5)) (hstage0_5 ((cfg0.slots t 5).cast nbuf0_5))
      (Memref.isWhole_whole _) 𝒱₀ c (posOf m c t.val) (posOf m c (t.val + 1)) (outs m c) (posAt m c t) (nextAt m c t)
      (fun _ r => posAt_val m hpre c t r)
      (fun e r => nextAt_val m hpre c t (by have := (second_iff _).mp e; rw [coord0] at this; exact this) r)
      (resAt m c t) (modAt m c t) (scaleAt m c t) Y)
    isplitl [HA]; · iexact HA
    isplitl [HB]; · iexact HB
    isplitl [HO]; · iexact HO
    isplitl [H1]; · iexact H1
    isplitl [H2]; · iexact H2
    isplitl [H4]; · iexact H4
    isplitl [H5]; · iexact H5
    isplitl [H6]; · iexact H6
    iexact H7
  · iintro %u ⟨HA, HB, HO, H1, H2, H4, H5, H6, H7⟩
    isplitl [HA HB HR]
    · isplitl [HA HB]
      · iapply (slots_close m c t)
        isplitl [HA]; · iexact HA
        iexact HB
      iexact HR
    isplitl [HO]; · iexact HO
    isplitl [H1]; · iexact H1
    isplitl [H2]; · iexact H2
    isplitl [H4]; · iexact H4
    isplitl [H5]; · iexact H5
    isplitl [H6]; · iexact H6
    iexact H7

/-- The library's body obligation on core `c`. -/
theorem body_obligation (hpre : PreOK m) (c : Dev nD) :
    Pipeline.BodyObligationLoose (dats (F := F) m 0 c) (defs₀ (F := F)) 𝒱₀ () Set.univ := fun t => by
  rw [bigSep_W0, bigSep_W0]
  have hΦ : (dats (F := F) m 0 c).Φ t.castSucc = held m c t.val := Pipeline.Dat.Φ_castSucc (fun n _ => held m c n) t
  rw [hΦ, show (dats (F := F) m 0 c).Φ t.succ = held m c (t.val + 1) from rfl]
  simp only [before_0, before_1, before_2, before_3, before_4]
  show iprop(held m c t.val ∗ (Pipeline.owesWithin c 0 ((dats (F := F) m 0 c).bound () t.castSucc)) ∗ (∃ d : _, owns (Val := Elt F) (c : Thread nD τ) (st0_0 t) fullShare (posAt m c t)) ∗ (∃ d : _, owns (Val := Elt F) (c : Thread nD τ) (st0_1 t) fullShare (nextAt m c t)) ∗ (∃ d : _, owns (Val := Elt F) (c : Thread nD τ) (st0_2 t) fullShare (resAt m c t)) ∗ (∃ d : _, owns (Val := Elt F) (c : Thread nD τ) (st0_3 t) fullShare (modAt m c t)) ∗ (∃ d : _, owns (Val := Elt F) (c : Thread nD τ) (st0_4 t) fullShare (scaleAt m c t)) ∗ (∃ d, owns (Val := Elt F) (c : Thread nD τ) (st0_5 t) fullShare ((dats (F := F) m 0 c).before 5 t d)))
    ⊢ (wp frame (wpE (defs₀ (F := F)) 𝒱₀ (c : Thread nD τ) none) Set.univ (bodyAt0 t) (fun _ =>
        iprop(held m c (t.val + 1) ∗ (Pipeline.owesWithin c 0 ((dats (F := F) m 0 c).bound () t.succ)) ∗ owns (Val := Elt F) (c : Thread nD τ) (st0_0 t) fullShare (posAt m c t) ∗ owns (Val := Elt F) (c : Thread nD τ) (st0_1 t) fullShare (nextAt m c t) ∗ owns (Val := Elt F) (c : Thread nD τ) (st0_2 t) fullShare (resAt m c t) ∗ owns (Val := Elt F) (c : Thread nD τ) (st0_3 t) fullShare (modAt m c t) ∗ owns (Val := Elt F) (c : Thread nD τ) (st0_4 t) fullShare (scaleAt m c t) ∗ owns (Val := Elt F) (c : Thread nD τ) (st0_5 t) fullShare (blockAt m c t))) : sProp 𝕄)
  iintro ⟨Hh, HO, ⟨%d0, H1⟩, ⟨%d1, H2⟩, ⟨%d2, H4⟩, ⟨%d3, H5⟩, ⟨%d4, H6⟩, ⟨%d5, H7⟩⟩
  ihave HO := (owes_in c _) $$ HO
  iapply (wp_wand Idealize.ShloMosaic.frame (wpE (defs₀ (F := F)) 𝒱₀ (c : Thread nD τ) none) Set.univ) $$ [Hh HO H1 H2 H4 H5 H6 H7]
  · iapply (body_held m hpre c t ((dats (F := F) m 0 c).before 5 t d5))
    isplitl [Hh]; · iexact Hh
    isplitl [HO]; · iexact HO
    isplitl [H1]; · iexact H1
    isplitl [H2]; · iexact H2
    isplitl [H4]; · iexact H4
    isplitl [H5]; · iexact H5
    isplitl [H6]; · iexact H6
    iexact H7
  · iintro %u ⟨Hh, HO, H1, H2, H4, H5, H6, H7⟩
    ihave HO := (owes_out c _ (Set.univ_union _)) $$ HO
    isplitl [Hh]; · iexact Hh
    isplitl [HO]; · iexact HO
    isplitl [H1]; · iexact H1
    isplitl [H2]; · iexact H2
    isplitl [H4]; · iexact H4
    isplitl [H5]; · iexact H5
    isplitl [H6]; · iexact H6
    iexact H7

/-! ## The run -/

/-- The kernel's own semaphores. -/
def osem : Fin 2 → SemLoc sig := scell
theorem ownSemFacts : Pipeline.OwnSemFacts spec0 osem := by decide

theorem ownSems0_two (c : Dev nD) : (Pipeline.ownSems0 (Ix := Unit) (Name := ℕ) (U := Pipeline.UD sig nD τ) (Lvl := ℕ) (Val := Elt F) (τ := τ) osem c : sProp 𝕄)
    = iprop(semVal ((c : Thread nD τ), scell 0) 0 ∗ semVal ((c : Thread nD τ), scell 1) 0) :=
  Pipeline.ownSems0_eq_of_list c osem [0, 1] (by decide) (by decide)

set_option maxHeartbeats 800000 in
/-- @main up to the call. -/
theorem hmain_back : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The two slots held apart are the scratch held. -/
theorem scratch_split (c : Dev nD) (g : Buf (Elt F) ((c : Thread nD τ).loc cc0_scratch0)) :
    ((((c : Thread nD τ).loc cc0_scratch0) ↦{fullShare} g) : sProp 𝕄)
      = iprop((((c : Thread nD τ).loc cc0_scratch0) ↦[slot 0]{fullShare} g) ∗ (((c : Thread nD τ).loc cc0_scratch0) ↦[slot 1]{fullShare} g)) := by
  rw [Ring.pointsTo_blocks slot slot_disjoint slot_cover g]
  exact bigSep_univ_eq_bigSepL [(0 : Fin 2), (1 : Fin 2)] (by decide) (by decide) _
theorem scratch_join (c : Dev nD) (g g' : Buf (Elt F) ((c : Thread nD τ).loc cc0_scratch0)) :
    iprop((((c : Thread nD τ).loc cc0_scratch0) ↦[slot 0]{fullShare} g) ∗ (((c : Thread nD τ).loc cc0_scratch0) ↦[slot 1]{fullShare} g'))
      ⊢ (iprop(∃ f : Buf (Elt F) ((c : Thread nD τ).loc cc0_scratch0), ((c : Thread nD τ).loc cc0_scratch0) ↦{fullShare} f) : sProp 𝕄) := by
  refine Entails.trans (Entails.of_eq ?_) (Ring.pointsTo_blocks_join slot slot_disjoint slot_cover (fun s : Fin 2 => if s = 0 then g else g') g)
  exact (bigSep_univ_eq_bigSepL [(0 : Fin 2), (1 : Fin 2)] (by decide) (by decide)
    (fun s : Fin 2 => (((c : Thread nD τ).loc cc0_scratch0) ↦[slot s]{fullShare} (if s = 0 then g else g') : sProp 𝕄))).symm

/-- What the launch hands over is both slots idle. -/
theorem slots_in (c : Dev nD) :
    (Pipeline.ΦD osem spec0 {main_arg1} (V m) c : sProp 𝕄) ⊢ held m c 0 := by
  rw [Pipeline.ΦD_eq, scopedRest0_eq, ownSems0_two, bigSep_singleton]
  unfold held slots
  rw [if_pos (Or.inl rfl)]
  unfold Idle
  iintro ⟨⟨%g, Hg⟩, HR, ⟨Hs0, Hs1⟩, Hy⟩
  ihave Hg := (Entails.of_eq (scratch_split c g)) $$ Hg
  icases Hg with ⟨Hg0, Hg1⟩
  ihave Hy := (pointsTo_share (PosShare.mem_left_op_right fullShare)).1 $$ Hy
  icases Hy with ⟨Hy0, Hy1⟩
  isplitl [Hg0 Hg1 Hs0 Hs1 Hy0 Hy1]
  · isplitl [Hg0 Hs0 Hy0]
    · isplitl [Hg0]; · iexists g; iexact Hg0
      isplitl [Hs0]; · iexact Hs0
      iexact Hy0
    · isplitl [Hg1]; · iexists g; iexact Hg1
      isplitl [Hs1]; · iexact Hs1
      iexact Hy1
  iexact HR

/-- Both slots idle are what the launch takes back. -/
theorem slots_out (c : Dev nD) :
    (held m c 64 : sProp 𝕄) ⊢ Pipeline.ΦD osem spec0 {main_arg1} (V m) c := by
  rw [Pipeline.ΦD_eq, scopedRest0_eq, ownSems0_two, bigSep_singleton]
  unfold held slots
  rw [if_pos (Or.inr le_rfl)]
  unfold Idle
  iintro ⟨⟨⟨⟨%g, Hg0⟩, Hs0, Hy0⟩, ⟨%g', Hg1⟩, Hs1, Hy1⟩, HR⟩
  isplitl [Hg0 Hg1]
  · iapply (scratch_join c g g')
    isplitl [Hg0]; · iexact Hg0
    iexact Hg1
  isplitl [HR]; · iexact HR
  isplitl [Hs0 Hs1]
  · isplitl [Hs0]; · iexact Hs0
    iexact Hs1
  iapply (pointsTo_share (PosShare.mem_left_op_right fullShare)).2
  isplitl [Hy0]; · iexact Hy0
  iexact Hy1

/-- What every final state holds: the arguments as launched and the result as the points left it. -/
def QC (s : MemSt nD τ sig (Elt F)) : Prop :=
  ∀ c : Dev nD, (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4))
    ∧ s.mem ((c : Thread nD τ).loc main_v3) = (dats m 0 c).arrAt (5 : Fin 6) cfg0.N

/-- THE RUN: from positions in range, every execution ends, the arguments as launched, the result as the points left it,
    every counter zero. -/
theorem run_main (hpre : PreOK m) : θ_run defs (onTc (τ := τ) (main (F := F))) (s₀ m ρ) (fun r => QC m r.2 ∧ r.2.sem = fun _ => 0) :=
  Pipeline.θ_run_frame_dma_shared cfgs (dats m) 0 launch₀0 osem defs₀ 𝒱₀ ownSemFacts {main_arg1} (by decide) m ρ main
    (hbody := body_obligation m hpre) (hq := fun _ _ _ => rfl) (howed := fun _ _ => rfl) (V := V m) (hmain := hmain_back m)
    (hA := fun _ _ => rfl) (hin := slots_in m) (hout := slots_out m) (Q' := _)
    (hQ' := fun r h => ⟨fun c => ⟨⟨((h.1 c).1 (0 : Fin 6)).trans (((dats m 0 c).arrAt_in 0 rfl _).trans (V_main_arg0 m c)),
      ((h.1 c).2 main_arg1 (Pipeline.mem_restRefs_of main_arg1 rfl (show ∀ w : Fin 6, (spec0 w).arr.view.ref ≠ main_arg1 by decide))).trans (V_main_arg1 m c), ((h.1 c).2 main_arg2 (Pipeline.mem_restRefs_of main_arg2 rfl (show ∀ w : Fin 6, (spec0 w).arr.view.ref ≠ main_arg2 by decide))).trans (V_main_arg2 m c), ((h.1 c).2 main_arg3 (Pipeline.mem_restRefs_of main_arg3 rfl (show ∀ w : Fin 6, (spec0 w).arr.view.ref ≠ main_arg3 by decide))).trans (V_main_arg3 m c), ((h.1 c).2 main_arg4 (Pipeline.mem_restRefs_of main_arg4 rfl (show ∀ w : Fin 6, (spec0 w).arr.view.ref ≠ main_arg4 by decide))).trans (V_main_arg4 m c)⟩, (h.1 c).1 (5 : Fin 6)⟩, h.2⟩)

end Cert.Kernel3Ideal.Back

end
-- ==== Proof.Back.Frames.lean ====
/-
  The frames of the gather: the run over any instance read at the extended reals, and at the device's floats for the
  program as printed, whose definitions are the same; and what the precondition asks, word by word.
-/
module

public import proofs.«01_k».proof.Defs
public import proofs.«01_k».proof.Proof.Back.Run
public import proofs.«01_k».proof.Proof.Gen.Kernel3
public import proofs.«01_k».proof.Proof.Gen.Reference3Ideal
public import proofs.«01_k».proof.Proof.Gen.Reference3Ideal.Run
public import proofs.«01_k».proof.Proof.Gen.Pre_rows_in_range

@[expose] public section

set_option maxRecDepth 16384

namespace Cert.Kernel3Ideal.Back

open Idealize.ShloMosaic Idealize.ShloMosaic.TcCoe Idealize.SL.Sem Idealize.ShloMosaic.ValueIdx

/-- The precondition: every position names a row. -/
theorem range_of_pre {F : FTy → Type} [FloatOps F] (p : S64x1x1024.Idx → BitVec 32) (ys : S77824x1024.Idx → Elt F .f32)
    (x : S32x2048x1024.Idx → Elt F .f32) (md : S32x6144.Idx → Elt F .f32) (g : S1024.Idx → Elt F .f32)
    (h : Cert.Pre_rows_in_range.fn (F := F) p ys x md g = fun _ => 1#1) (i : S64x1x1024.Idx) : (p i).toNat < 77824 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e : IntOp.andi (IntOp.cmpi .sge (p i) 0#32) (IntOp.cmpi .slt (p i) 77824#32) = 1#1 := congrFun h i
  simp only [IntOp.cmpi, andi_ofBool, ofBool_eq_one, Bool.and_eq_true] at e
  obtain ⟨h0, h1⟩ := e
  simp only [BitVec.sle, BitVec.slt, decide_eq_true_eq] at h0 h1
  generalize p i = a at *
  have := BitVec.toInt_eq_toNat_cond a
  have h3 : (77824#32 : BitVec 32).toInt = 77824 := by decide
  have h4 : (0#32 : BitVec 32).toInt = 0 := by decide
  rw [h3] at h1; rw [h4] at h0
  split at this <;> omega

/-- The frame over any instance. -/
theorem frame_back {F : FTy → Type} [FloatOps F] (m : (ℓ : Loc nD τ sig) → Buf (Elt F) ℓ) (ρ : Dev nD → PrngReg) (h : PreOK m) :
    θ_run defs (onTc (τ := τ) (main (F := F))) ⟨m, fun _ => 0, ρ⟩ (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ q => ⟨fun c => (q.1 c).1, q.2⟩) (run_main m ρ h)

/-- The two printed programs run the same body. -/
theorem defs₀_eq : Cert.Kernel3.defs₀ (F := Bits) = Cert.Kernel3Ideal.defs₀ (F := Bits) := by
  funext p l a
  cases p with
  | tc => match l, a with
    | ⟨0, _⟩, (t, s) => rfl
  | _ => rfl

theorem defs_eq : Cert.Kernel3.defs (F := Bits) = Cert.Kernel3Ideal.defs (F := Bits) :=
  congrArg (fun d => Pipeline.defs (Cert.Kernel3Ideal.pcfgs (F := Bits)) d) defs₀_eq

theorem main_eq : Cert.Kernel3.main (F := Bits) = Cert.Kernel3Ideal.main (F := Bits) := by
  unfold Cert.Kernel3.main Cert.Kernel3Ideal.main
  rfl

theorem frame_kernel3 : Cert.quiescent_Kernel3 := by
  unfold Cert.quiescent_Kernel3
  rw [defs_eq, main_eq]
  exact fun m ρ hp => frame_back (F := Bits) m ρ fun c i => range_of_pre _ _ _ _ _ (hp c) i

theorem frame_kernel3Ideal : Cert.quiescent_Kernel3Ideal := fun m ρ hp =>
  frame_back (F := Ideal) m ρ fun c i => range_of_pre _ _ _ _ _ (hp c) i

theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_reference3Ideal_pre : Cert.quiescent_Reference3Ideal_pre_rows_in_range := fun m ρ _ =>
  frame_reference3Ideal m ρ trivial

end Cert.Kernel3Ideal.Back

end
-- ==== Proof.Back.Math.lean ====
/-
  The gather's result as an array of its arguments over the extended reals: the residual stream with each token's expert
  output added through its gate, normalised by its root mean square and scaled.
-/
module

public import Idealize.ShloMosaic.Lib.ValueIdx
public import Idealize.ShloMosaic.PureOps.Ideal

@[expose] public section

noncomputable section

namespace Cert.Back

open Idealize.ShloMosaic Idealize.ShloMosaic.ValueIdx

/-- A token's sequence. -/
def seqOf (r : Fin 65536) : Fin 32 := ⟨r.val / 2048, by have := r.isLt; omega⟩
/-- A token's place in its sequence. -/
def placeOf (r : Fin 65536) : Fin 2048 := ⟨r.val % 2048, Nat.mod_lt _ (by decide)⟩
/-- A token's block of positions. -/
def blockOf (r : Fin 65536) : Fin 64 := ⟨r.val / 1024, by have := r.isLt; omega⟩
/-- A token's place in its block. -/
def slotOf (r : Fin 65536) : Fin 1024 := ⟨r.val % 1024, Nat.mod_lt _ (by decide)⟩
/-- The gate's column in a sequence's modulation: the last of its six parts. -/
def gateCol (d : Fin 1024) : Fin 6144 := ⟨5120 + d.val, by have := d.isLt; omega⟩
/-- The row a word names. -/
def rowNamed (v : BitVec 32) : Fin 77824 := ⟨v.toNat % 77824, Nat.mod_lt _ (by decide)⟩

section
variable (p : (⟨3, ![64, 1, 1024]⟩ : Shape).Idx → BitVec 32) (ys : (⟨2, ![77824, 1024]⟩ : Shape).Idx → EReal)
  (x : (⟨3, ![32, 2048, 1024]⟩ : Shape).Idx → EReal) (md : (⟨2, ![32, 6144]⟩ : Shape).Idx → EReal) (g : (⟨1, ![1024]⟩ : Shape).Idx → EReal)

/-- The residual stream after the experts. -/
def streamAt (r : Fin 65536) (d : Fin 1024) : EReal :=
  x (ix3 (seqOf r) (placeOf r) d) + md (ix2 (seqOf r) (gateCol d)) * ys (ix2 (rowNamed (p (ix3 (blockOf r) (0 : Fin 1) (slotOf r)))) d)

/-- A row `h` normalised by its root mean square, scaled by `g`. -/
def normAt (h : Fin 1024 → EReal) (j : Fin 1024) : EReal :=
  h j * Ideal.rsqrt (Ideal.div (∑ d : Fin 1024, h d * h d) (Ideal.ofBits .f32 0x44800000#32) + Ideal.ofBits .f32 0x358637BD#32) * g (ix1 j)

/-- The result. -/
def backOut : (⟨2, ![65536, 1024]⟩ : Shape).Idx → EReal := fun i => normAt g (streamAt p ys x md (i 0)) (i 1)
end

end Cert.Back

end
-- ==== Proof.Back.Squares.lean ====
/-
  The reference's sum over a row: at a sequence and a place, the sum of the row's elements.
-/
module

public import Idealize.ShloMosaic.Lib.ValueIdx
public import Idealize.ShloMosaic.PureOps.Ideal
import Idealize.ShloMosaic.Lib.Pointwise.Reduce
import Idealize.ShloMosaic.PureOps.Ideal.Laws

@[expose] public section

namespace Cert.Back

open Idealize.ShloMosaic

/-- A sum over the last of three axes, from nothing. -/
theorem sum_row {a b n : ℕ} (h : (⟨3, ![a, b, n]⟩ : Shape).ReducesTo [2] ⟨2, ![a, b]⟩) (X : (⟨3, ![a, b, n]⟩ : Shape).Idx → EReal)
    (r : Fin a) (s : Fin b) :
    Ideal.hostReduceAdd h X (Ideal.ofBits .f32 0x00000000#32) (ValueIdx.ix2 r s) = ∑ d : Fin n, X (ValueIdx.ix3 r s d) := by
  refine (Ideal.hostReduceAdd_r3_a2 h X _ (ValueIdx.ix2 r s)).trans ?_
  rw [Ideal.ofBits_zero_f32, zero_add]
  rfl

end Cert.Back
-- ==== Proof.Back.Refer.lean ====
/-
  The reference over the extended reals, read at a row and a column.
-/
module

public import proofs.«01_k».proof.Proof.Back.Math
public import proofs.«01_k».proof.Proof.Back.Squares
public import proofs.«01_k».proof.Proof.Gen.Reference3Ideal.Run
public import Idealize.ShloMosaic.Lib.Pipeline.Value
public import Idealize.ShloMosaic.Lib.IdealHost
public import Idealize.ShloMosaic.Lib.Routing.Ops
public import Idealize.ShloMosaic.PureOps.Ideal.Laws

@[expose] public section

set_option maxRecDepth 16384

noncomputable section

namespace Cert.Reference3Ideal.Back

open Cert.Reference3Ideal Cert.Reference3Ideal.Gen
open Idealize.ShloMosaic Idealize.ShloMosaic.ValueIdx Idealize.ShloMosaic.TcCoe
open Cert.Back

/-! ## The positions -/

/-- The positions as one list. -/
theorem pos_apply (p : IVec S64x1x1024 32) (h : S64x1x1024.ShapeCasts S65536) (r : Fin 65536) :
    shapeCast S65536 p h (ix1 r) = p (ix3 (blockOf r) (0 : Fin 1) (slotOf r)) := by
  refine shapeCast_apply p h _ _ ?_
  rw [Shape.rowMajor_val_three, Shape.rowMajor_val_one]
  show (r.val / 1024 * 1 + 0) * 1024 + r.val % 1024 = r.val
  omega

/-- A position that names a row is not negative, and stays as it is. -/
theorem wrap_apply (v : BitVec 32) (h : v.toNat < 77824) :
    (if IntOp.cmpi .slt v 0#32 = 1#1 then IntOp.addi v 77824#32 else v) = BitVec.ofNat 32 (rowNamed v).val := by
  have hn : ¬ IntOp.cmpi .slt v 0#32 = 1#1 := by
    have ofBool_eq_one (p : Bool) : (BitVec.ofBool p = 1#1) ↔ p = true := by cases p <;> decide
    simp only [IntOp.cmpi, ofBool_eq_one, BitVec.slt, decide_eq_true_eq]
    have := BitVec.toInt_eq_toNat_cond v
    have h4 : (0#32 : BitVec 32).toInt = 0 := by decide
    rw [h4]
    split at this <;> omega
  rw [if_neg hn]
  apply BitVec.eq_of_toNat_eq
  rw [BitVec.toNat_ofNat]
  show v.toNat = v.toNat % 77824 % 2 ^ 32
  omega

/-- The gathered rows. -/
theorem rows_apply (p : IVec S64x1x1024 32) (hp : ∀ i, (p i).toNat < 77824) (ys : FVec Ideal S77824x1024 .f32)
    (h : S64x1x1024.ShapeCasts S65536) (r : Fin 65536) (d : Fin 1024) :
    Host.gather gather_S77824x1024_S65536x1_S65536x1024_1_0_n_n_0_1_11024 ys
      (broadcastInDim S65536x1 ![0] bcast_S65536_S65536x1_0
        (select (cmpi .slt (shapeCast S65536 p h) (broadcastInDim S65536 ![] bcast_S_S65536 (constantI S_ 32 0#32)))
          (addi (shapeCast S65536 p h) (broadcastInDim S65536 ![] bcast_S_S65536 (constantI S_ 32 77824#32))) (shapeCast S65536 p h))) (ix2 r d)
      = ys (ix2 (rowNamed (p (ix3 (blockOf r) (0 : Fin 1) (slotOf r)))) d) := by
  refine Routing.gather_row _ rfl rfl rfl rfl rfl ys _ r d _ ?_ (by decide)
  refine (broadcastInDim_apply _ _ _ _ (ix1 r) (fun ax => by
    match ax with
    | ⟨0, _⟩ => rfl)).trans ?_
  refine Eq.trans ?_ (wrap_apply _ (hp _))
  rw [← pos_apply p h r]
  rfl

/-! ## The residual stream -/

/-- The gate, over every place of a sequence. -/
theorem gate_apply (md : FVec Ideal S32x6144 .f32) (b : Fin 32) (s : Fin 2048) (d : Fin 1024) :
    broadcastInDim S32x2048x1024 ![0, 1, 2] bcast_S32x1x1024_S32x2048x1024_0_1_2 (extractStridedSlice S32x1x1024 ![0, 0, 5120]
      (broadcastInDim S32x1x6144 ![0, 2] bcast_S32x6144_S32x1x6144_0_2 md) slices_S32x1x6144_S32x1x1024_0_0_5120) (ix3 b s d)
      = md (ix2 b (gateCol d)) := by
  refine (broadcastInDim_apply _ _ _ _ (ix3 b (0 : Fin 1) d) (fun ax => by
    match ax with
    | ⟨0, _⟩ => rfl
    | ⟨1, _⟩ => rfl
    | ⟨2, _⟩ => rfl)).trans ?_
  refine (extractStridedSlice_apply _ _ _ _ (ix3 b (0 : Fin 1) (gateCol d)) (fun ax => by
    match ax with
    | ⟨0, _⟩ => exact (Nat.zero_add _).symm
    | ⟨1, _⟩ => rfl
    | ⟨2, _⟩ => rfl)).trans ?_
  exact broadcastInDim_apply _ _ _ _ (ix2 b (gateCol d)) (fun ax => by
    match ax with
    | ⟨0, _⟩ => rfl
    | ⟨1, _⟩ => rfl)

/-- A list of rows as sequences. -/
theorem seqs_apply (Y : FVec Ideal S65536x1024 .f32) (h : S65536x1024.ShapeCasts S32x2048x1024) (r : Fin 65536) (d : Fin 1024) :
    shapeCast S32x2048x1024 Y h (ix3 (seqOf r) (placeOf r) d) = Y (ix2 r d) := by
  refine shapeCast_apply Y h _ _ ?_
  rw [Shape.rowMajor_val_two, Shape.rowMajor_val_three]
  show r.val * 1024 + d.val = (r.val / 2048 * 2048 + r.val % 2048) * 1024 + d.val
  rw [Nat.div_add_mod']

/-! ## The normalisation -/

/-- The sum of a row's squares. -/
theorem squares_apply (S : FVec Ideal S32x2048x1024 .f32) (b : Fin 32) (s : Fin 2048) :
    Host.reduceAdd (mulf S S) (constant S_ .f32 0x00000000#32) reducesTo_S32x2048x1024_S32x2048_d2 h_S_ (ix2 b s)
      = ∑ d : Fin 1024, S (ix3 b s d) * S (ix3 b s d) :=
  sum_row reducesTo_S32x2048x1024_S32x2048_d2 (mulf S S) b s

/-- The reciprocal root mean square, over every column. -/
theorem scale_apply (S : FVec Ideal S32x2048x1024 .f32) (b : Fin 32) (s : Fin 2048) (d : Fin 1024) :
    broadcastInDim S32x2048x1024 ![0, 1, 2] bcast_S32x2048x1_S32x2048x1024_0_1_2 (Host.rsqrt (addf (Host.divf
      (broadcastInDim S32x2048x1 ![0, 1] bcast_S32x2048_S32x2048x1_0_1
        (Host.reduceAdd (mulf S S) (constant S_ .f32 0x00000000#32) reducesTo_S32x2048x1024_S32x2048_d2 h_S_))
      (broadcastInDim S32x2048x1 ![] bcast_S_S32x2048x1 (constant S_ .f32 0x44800000#32)))
      (broadcastInDim S32x2048x1 ![] bcast_S_S32x2048x1 (constant S_ .f32 0x358637BD#32)))) (ix3 b s d)
      = Ideal.rsqrt (Ideal.div (∑ d : Fin 1024, S (ix3 b s d) * S (ix3 b s d)) (Ideal.ofBits .f32 0x44800000#32) + Ideal.ofBits .f32 0x358637BD#32) := by
  refine (broadcastInDim_apply _ _ _ _ (ix3 b s (0 : Fin 1)) (fun ax => by
    match ax with
    | ⟨0, _⟩ => rfl
    | ⟨1, _⟩ => rfl
    | ⟨2, _⟩ => rfl)).trans ?_
  have e : broadcastInDim S32x2048x1 ![0, 1] bcast_S32x2048_S32x2048x1_0_1
      (Host.reduceAdd (mulf S S) (constant S_ .f32 0x00000000#32) reducesTo_S32x2048x1024_S32x2048_d2 h_S_) (ix3 b s (0 : Fin 1))
      = ∑ d : Fin 1024, S (ix3 b s d) * S (ix3 b s d) :=
    (broadcastInDim_apply _ _ _ _ (ix2 b s) (fun ax => by
      match ax with
      | ⟨0, _⟩ => rfl
      | ⟨1, _⟩ => rfl)).trans (squares_apply S b s)
  rw [← e]
  rfl

/-- The scale, over every place. -/
theorem weight_apply (g : FVec Ideal S1024 .f32) (b : Fin 32) (s : Fin 2048) (d : Fin 1024) :
    broadcastInDim S32x2048x1024 ![0, 1, 2] bcast_S1x1x1024_S32x2048x1024_0_1_2 (broadcastInDim S1x1x1024 ![2] bcast_S1024_S1x1x1024_2 g) (ix3 b s d)
      = g (ix1 d) := by
  refine (broadcastInDim_apply _ _ _ _ (ix3 (0 : Fin 1) (0 : Fin 1) d) (fun ax => by
    match ax with
    | ⟨0, _⟩ => rfl
    | ⟨1, _⟩ => rfl
    | ⟨2, _⟩ => rfl)).trans ?_
  exact broadcastInDim_apply _ _ _ _ (ix1 d) (fun ax => by
    match ax with
    | ⟨0, _⟩ => rfl)

/-- The normalised rows, listed. -/
theorem norm_apply (S : FVec Ideal S32x2048x1024 .f32) (g : FVec Ideal S1024 .f32) (r : Fin 65536) (j : Fin 1024) :
    shapeCast S65536x1024 (mulf (mulf S (broadcastInDim S32x2048x1024 ![0, 1, 2] bcast_S32x2048x1_S32x2048x1024_0_1_2 (Host.rsqrt (addf (Host.divf
      (broadcastInDim S32x2048x1 ![0, 1] bcast_S32x2048_S32x2048x1_0_1
        (Host.reduceAdd (mulf S S) (constant S_ .f32 0x00000000#32) reducesTo_S32x2048x1024_S32x2048_d2 h_S_))
      (broadcastInDim S32x2048x1 ![] bcast_S_S32x2048x1 (constant S_ .f32 0x44800000#32)))
      (broadcastInDim S32x2048x1 ![] bcast_S_S32x2048x1 (constant S_ .f32 0x358637BD#32))))))
      (broadcastInDim S32x2048x1024 ![0, 1, 2] bcast_S1x1x1024_S32x2048x1024_0_1_2 (broadcastInDim S1x1x1024 ![2] bcast_S1024_S1x1x1024_2 g)))
      shapeCasts_S32x2048x1024_S65536x1024 (ix2 r j)
      = normAt g (fun d => S (ix3 (seqOf r) (placeOf r) d)) j := by
  refine (shapeCast_apply _ _ _ (ix3 (seqOf r) (placeOf r) j) ?_).trans ?_
  · rw [Shape.rowMajor_val_two, Shape.rowMajor_val_three]
    show (r.val / 2048 * 2048 + r.val % 2048) * 1024 + j.val = r.val * 1024 + j.val
    rw [Nat.div_add_mod']
  · refine (congrArg₂ (· * ·) (congrArg (S (ix3 (seqOf r) (placeOf r) j) * ·) (scale_apply S (seqOf r) (placeOf r) j))
      (weight_apply g (seqOf r) (placeOf r) j) : _ = _).trans ?_
    rfl

/-- The reference's stream. -/
theorem stream_apply (p : IVec S64x1x1024 32) (hp : ∀ i, (p i).toNat < 77824) (ys : FVec Ideal S77824x1024 .f32)
    (x : FVec Ideal S32x2048x1024 .f32) (md : FVec Ideal S32x6144 .f32) (r : Fin 65536) (d : Fin 1024) :
    addf x (mulf (broadcastInDim S32x2048x1024 ![0, 1, 2] bcast_S32x1x1024_S32x2048x1024_0_1_2 (extractStridedSlice S32x1x1024 ![0, 0, 5120]
      (broadcastInDim S32x1x6144 ![0, 2] bcast_S32x6144_S32x1x6144_0_2 md) slices_S32x1x6144_S32x1x1024_0_0_5120))
      (shapeCast S32x2048x1024 (Host.gather gather_S77824x1024_S65536x1_S65536x1024_1_0_n_n_0_1_11024 ys
      (broadcastInDim S65536x1 ![0] bcast_S65536_S65536x1_0
        (select (cmpi .slt (shapeCast S65536 p shapeCasts_S64x1x1024_S65536) (broadcastInDim S65536 ![] bcast_S_S65536 (constantI S_ 32 0#32)))
          (addi (shapeCast S65536 p shapeCasts_S64x1x1024_S65536) (broadcastInDim S65536 ![] bcast_S_S65536 (constantI S_ 32 77824#32)))
          (shapeCast S65536 p shapeCasts_S64x1x1024_S65536)))) shapeCasts_S65536x1024_S32x2048x1024)) (ix3 (seqOf r) (placeOf r) d)
      = streamAt p ys x md r d := by
  unfold streamAt
  refine congrArg (x (ix3 (seqOf r) (placeOf r) d) + ·) (congrArg₂ (· * ·) (gate_apply md (seqOf r) (placeOf r) d) ?_)
  exact (seqs_apply _ _ r d).trans (rows_apply p hp ys _ r d)

end Cert.Reference3Ideal.Back

end
-- ==== Proof.Back.Tile.lean ====
/-
  An output block of the gather over the extended reals, read at a row and a column.
-/
module

public import proofs.«01_k».proof.Proof.Back.Math
public import proofs.«01_k».proof.Proof.Back.Body
public import Idealize.ShloMosaic.Lib.Pipeline.Value
public import Idealize.ShloMosaic.PureOps.Ideal.Laws

@[expose] public section

set_option maxRecDepth 16384

noncomputable section

namespace Cert.Kernel3Ideal.Back

open Cert.Kernel3Ideal Cert.Kernel3Ideal.Gen
open Idealize.ShloMosaic Idealize.ShloMosaic.ValueIdx Idealize.ShloMosaic.TcCoe
open Cert.Back

/-- The gate's row out of the modulation. -/
theorem gate_at (M : S1x6x1024.Idx → EReal) (d : Fin 1024) :
    gate (F := Ideal) M (ix3 (0 : Fin 1) (0 : Fin 1) d) = M (ix3 (0 : Fin 1) (5 : Fin 6) d) := by
  refine congrArg M ?_
  funext b
  apply Fin.ext
  match b with
  | ⟨0, _⟩ => rfl
  | ⟨1, _⟩ => rfl
  | ⟨2, _⟩ => show 0 + 1 * d.val = d.val; omega

/-- The block's stream. -/
theorem stream_at (X : FVec Ideal S1024x1024 .f32) (M : FVec Ideal S1x1x1024 .f32) (Y : FVec Ideal S1x1024x1024 .f32) (y d : Fin 1024) :
    k0_pay2 (F := Ideal) X M Y (ix2 y d) = X (ix2 y d) + M (ix3 (0 : Fin 1) (0 : Fin 1) d) * Y (ix3 (0 : Fin 1) y d) := by
  have e1 : shapeCast S1024x1024 X shapeCasts_S1024x1024_S1024x1024 (ix2 y d) = X (ix2 y d) := shapeCast_apply X _ _ _ rfl
  have e2 : broadcastTo S1024x1024 (shapeCast S1x1024 M shapeCasts_S1x1x1024_S1x1024) broadcasts_S1x1024_S1024x1024 (ix2 y d)
      = M (ix3 (0 : Fin 1) (0 : Fin 1) d) := by
    refine (broadcastTo_apply _ _ _ (ix2 (0 : Fin 1) d) (fun a => by
      match a with
      | ⟨0, _⟩ => rfl
      | ⟨1, _⟩ => rfl)).trans (shapeCast_apply M _ _ _ ?_)
    rw [Shape.rowMajor_val_two, Shape.rowMajor_val_three]
    show (0 * 1 + 0) * 1024 + d.val = 0 * 1024 + d.val
    omega
  have e3 : shapeCast S1024x1024 Y shapeCasts_S1x1024x1024_S1024x1024 (ix2 y d) = Y (ix3 (0 : Fin 1) y d) := by
    refine shapeCast_apply Y _ _ _ ?_
    rw [Shape.rowMajor_val_two, Shape.rowMajor_val_three]
    show (0 * 1024 + y.val) * 1024 + d.val = y.val * 1024 + d.val
    omega
  exact congrArg₂ (· + ·) e1 (congrArg₂ (· * ·) e2 e3)

/-- The sum of a row's squares. -/
theorem squares_at (X : FVec Ideal S1024x1024 .f32) (M : FVec Ideal S1x1x1024 .f32) (Y : FVec Ideal S1x1024x1024 .f32) (y : Fin 1024) :
    k0_pay4 (F := Ideal) X M Y (ix1 y) = ∑ d : Fin 1024, k0_pay2 (F := Ideal) X M Y (ix2 y d) * k0_pay2 (F := Ideal) X M Y (ix2 y d) := by
  unfold k0_pay4
  generalize k0_pay2 (F := Ideal) X M Y = H
  refine (Ideal.multiReduction_add_single (mulf H H) _ reduces_S1024x1024_S1024 _ _ (ix1 y)).trans ?_
  refine Finset.sum_congr rfl fun d _ => ?_
  have e : reduces_S1024x1024_S1024.lift (ix1 y) d = ix2 y d := by
    funext b
    apply Fin.ext
    match b with
    | ⟨0, _⟩ => rfl
    | ⟨1, _⟩ => rfl
  rw [e]
  rfl

/-- A row normalised and scaled. -/
theorem norm_at (H : FVec Ideal S1024x1024 .f32) (G : FVec Ideal S1x1024 .f32) (Q : FVec Ideal S1024 .f32) (y j : Fin 1024) :
    k0_pay1 (F := Ideal) H (k0_pay3 (F := Ideal) G) Q (ix2 y j)
      = H (ix2 y j) * Ideal.rsqrt (Ideal.div (Q (ix1 y)) (Ideal.ofBits .f32 0x44800000#32) + Ideal.ofBits .f32 0x358637BD#32) * G (ix2 (0 : Fin 1) j) := by
  have e1 : shapeCast S1024x1 Q shapeCasts_S1024_S1024x1 (ix2 y (0 : Fin 1)) = Q (ix1 y) := by
    refine shapeCast_apply Q _ _ _ ?_
    rw [Shape.rowMajor_val_two, Shape.rowMajor_val_one]
    show y.val = y.val * 1 + 0
    omega
  have e2 (R : FVec Ideal S1024x1 .f32) : broadcastTo S1024x1024 R broadcasts_S1024x1_S1024x1024 (ix2 y j) = R (ix2 y (0 : Fin 1)) :=
    broadcastTo_apply R _ _ _ (fun a => by
      match a with
      | ⟨0, _⟩ => rfl
      | ⟨1, _⟩ => rfl)
  have e3 : broadcastTo S1024x1024 (k0_pay3 (F := Ideal) G) broadcasts_S1x1024_S1024x1024 (ix2 y j) = G (ix2 (0 : Fin 1) j) :=
    (broadcastTo_apply _ _ _ (ix2 (0 : Fin 1) j) (fun a => by
      match a with
      | ⟨0, _⟩ => rfl
      | ⟨1, _⟩ => rfl)).trans (shapeCast_apply G _ _ _ rfl)
  unfold k0_pay1
  rw [← e1]
  exact congrArg₂ (· * ·) (congrArg (H (ix2 y j) * ·) (e2 _)) e3

/-- An output block's element. -/
theorem block_at (X : FVec Ideal S1024x1024 .f32) (M : FVec Ideal S1x6x1024 .f32) (Y : FVec Ideal S1x1024x1024 .f32) (G : FVec Ideal S1x1024 .f32)
    (g : (⟨1, ![1024]⟩ : Shape).Idx → EReal) (h : Fin 1024 → EReal) (y j : Fin 1024)
    (hh : ∀ d, X (ix2 y d) + M (ix3 (0 : Fin 1) (5 : Fin 6) d) * Y (ix3 (0 : Fin 1) y d) = h d) (hg : G (ix2 (0 : Fin 1) j) = g (ix1 j)) :
    outBlock (F := Ideal) X M Y G (ix2 y j) = normAt g h j := by
  have hs : ∀ d, k0_pay2 (F := Ideal) X (gate (F := Ideal) M) Y (ix2 y d) = h d := fun d =>
    (stream_at X _ Y y d).trans ((congrArg (fun z => X (ix2 y d) + z * Y (ix3 (0 : Fin 1) y d)) (gate_at M d)).trans (hh d))
  unfold outBlock
  refine (norm_at _ G _ y j).trans ?_
  rw [squares_at, hg]
  simp only [hs]
  rfl

end Cert.Kernel3Ideal.Back

end
-- ==== Proof.Back.Value.lean ====
/-
  The gather's value over the extended reals: the array the kernel leaves, and the reference's, are one array of the
  arguments.
-/
module

public import proofs.«01_k».proof.Proof.Back.Frames
public import proofs.«01_k».proof.Proof.Back.Refer
public import proofs.«01_k».proof.Proof.Back.Tile
public import Idealize.ShloMosaic.Lib.Pipeline.Covers

@[expose] public section

set_option maxRecDepth 16384

noncomputable section

namespace Cert.Kernel3Ideal.Back

open Cert.Kernel3Ideal Cert.Kernel3Ideal.Gen
open Idealize.ShloMosaic Idealize.ShloMosaic.TcCoe Idealize.ShloMosaic.ValueIdx Idealize.ShloMosaic.StableHlo
open Idealize.SL.Sem
open Cert.Back

section
variable (m : (ℓ : Loc nD τ sig) → Buf (Elt Ideal) ℓ)

/-- The arguments as arrays over the extended reals. -/
def outArg (c : Dev nD) : S77824x1024.Idx → EReal := m ((c : Thread nD τ).loc main_arg1)
def resArg (c : Dev nD) : S32x2048x1024.Idx → EReal := m ((c : Thread nD τ).loc main_arg2)
def modArg (c : Dev nD) : S32x6144.Idx → EReal := m ((c : Thread nD τ).loc main_arg3)
def scaleArg (c : Dev nD) : S1024.Idx → EReal := m ((c : Thread nD τ).loc main_arg4)

/-- The result, of the arguments. -/
def backArr (c : Dev nD) : S65536x1024.Idx → EReal :=
  backOut (posArg m c) (outArg m c) (resArg m c) (modArg m c) (scaleArg m c)

/-! ## The prepared arrays -/

theorem V_main_v0 (c : Dev nD) : V m c main_v0 = shapeCast S65536x1024 (resArg m c) shapeCasts_S32x2048x1024_S65536x1024 := by
  unfold V hostOps0; after_results; rfl
theorem V_main_v1 (c : Dev nD) : V m c main_v1 = shapeCast S32x6x1024 (modArg m c) shapeCasts_S32x6144_S32x6x1024 := by
  unfold V hostOps0; after_results; rfl
theorem V_main_v2 (c : Dev nD) : V m c main_v2 = shapeCast S1x1024 (scaleArg m c) shapeCasts_S1024_S1x1024 := by
  unfold V hostOps0; after_results; rfl

/-- Row `y` of block `t`, among all rows. -/
def tokenOf (t : Fin cfg0.N) (y : Fin 1024) : Fin 65536 :=
  ⟨t.val * 1024 + y.val, by have hN : cfg0.N = 64 := rfl; have := t.isLt; have := y.isLt; omega⟩

theorem mod_word (i : grid0.Coords) : cc0_transform_4 i 0 = (i 0).val / 2 := by
  have hk : ∀ k : Fin 64, cc0_transform_4 (point k) 0 = k.val / 2 := by decide +kernel
  rw [eq_point i]; exact hk (i 0)

/-! ## What a point stages, of the arguments -/

theorem resAt_read (c : Dev nD) (t : Fin cfg0.N) (y d : Fin 1024) :
    resAt m c t (ix2 y d) = resArg m c (ix3 (seqOf (tokenOf t y)) (placeOf (tokenOf t y)) d) := by
  unfold resAt iblk
  rw [View.read_apply]
  refine Eq.trans (b := (V m c main_v0 : S65536x1024.Idx → EReal) (ix2 (tokenOf t y) d)) (congrArg (V m c main_v0) ?_) ?_
  · funext a
    apply Fin.ext
    refine (Pipeline.Window.rect_emb_val (cfg0.win 2) t (ix2 y d) a).trans ?_
    match a with
    | ⟨0, _⟩ =>
      show (BitVec.ofNat 32 (grid0.coords t 0).val).toNat * 1024 + y.val = t.val * 1024 + y.val
      rw [word_coord0]
    | ⟨1, _⟩ => show 0 * 1024 + d.val = d.val; omega
  · rw [V_main_v0]
    refine shapeCast_apply (resArg m c) _ _ _ ?_
    rw [Shape.rowMajor_val_two, Shape.rowMajor_val_three]
    generalize tokenOf t y = r
    show (r.val / 2048 * 2048 + r.val % 2048) * 1024 + d.val = r.val * 1024 + d.val
    rw [Nat.div_add_mod']

theorem modAt_read (c : Dev nD) (t : Fin cfg0.N) (y d : Fin 1024) :
    modAt m c t (ix3 (0 : Fin 1) (5 : Fin 6) d) = modArg m c (ix2 (seqOf (tokenOf t y)) (gateCol d)) := by
  have hr : (seqOf (tokenOf t y)).val = t.val / 2 := by
    show (t.val * 1024 + y.val) / 2048 = t.val / 2
    have := y.isLt
    omega
  unfold modAt iblk
  rw [View.read_apply]
  refine Eq.trans (b := (V m c main_v1 : S32x6x1024.Idx → EReal) (ix3 (seqOf (tokenOf t y)) (5 : Fin 6) d)) (congrArg (V m c main_v1) ?_) ?_
  · funext a
    apply Fin.ext
    refine (Pipeline.Window.rect_emb_val (cfg0.win 3) t (ix3 (0 : Fin 1) (5 : Fin 6) d) a).trans ?_
    match a with
    | ⟨0, _⟩ =>
      show cc0_transform_4 (grid0.coords t) 0 * 1 + 0 = (seqOf (tokenOf t y)).val
      rw [mod_word, coord0, hr]; omega
    | ⟨1, _⟩ => rfl
    | ⟨2, _⟩ => show 0 * 1024 + d.val = d.val; omega
  · rw [V_main_v1]
    refine shapeCast_apply (modArg m c) _ _ _ ?_
    rw [Shape.rowMajor_val_two, Shape.rowMajor_val_three]
    generalize seqOf (tokenOf t y) = b
    show b.val * 6144 + (5120 + d.val) = (b.val * 6 + 5) * 1024 + d.val
    omega

theorem scaleAt_read (c : Dev nD) (t : Fin cfg0.N) (d : Fin 1024) :
    scaleAt m c t (ix2 (0 : Fin 1) d) = scaleArg m c (ix1 d) := by
  unfold scaleAt iblk
  rw [View.read_apply]
  refine Eq.trans (b := (V m c main_v2 : S1x1024.Idx → EReal) (ix2 (0 : Fin 1) d)) (congrArg (V m c main_v2) ?_) ?_
  · funext a
    apply Fin.ext
    refine (Pipeline.Window.rect_emb_val (cfg0.win 4) t (ix2 (0 : Fin 1) d) a).trans ?_
    match a with
    | ⟨0, _⟩ => rfl
    | ⟨1, _⟩ => show 0 * 1024 + d.val = d.val; omega
  · rw [V_main_v2]
    refine shapeCast_apply (scaleArg m c) _ _ _ ?_
    rw [Shape.rowMajor_val_two, Shape.rowMajor_val_one]
    show d.val = 0 * 1024 + d.val
    omega

theorem rows_read (c : Dev nD) (t : Fin cfg0.N) (y d : Fin 1024) :
    rows3 c (posOf m c t.val) (outs m c) (ix3 (0 : Fin 1) y d)
      = outArg m c (ix2 (rowNamed (posArg m c (ix3 (blockOf (tokenOf t y)) (0 : Fin 1) (slotOf (tokenOf t y))))) d) := by
  have hN : cfg0.N = 64 := rfl
  have ht := t.isLt
  have hy := y.isLt
  have h1 : blockOf (tokenOf t y) = (⟨t.val % 64, Nat.mod_lt _ (by decide)⟩ : Fin 64) :=
    Fin.ext (by show (t.val * 1024 + y.val) / 1024 = t.val % 64; omega)
  have h2 : slotOf (tokenOf t y) = y := Fin.ext (by show (t.val * 1024 + y.val) % 1024 = y.val; omega)
  rw [h1, h2]
  unfold rows3 outs
  rw [V_main_arg1 m c]
  rfl

/-- A block's element. -/
theorem blockAt_eq (c : Dev nD) (t : Fin cfg0.N) (y j : Fin 1024) : blockAt m c t (ix2 y j) = backArr m c (ix2 (tokenOf t y) j) := by
  unfold blockAt
  refine block_at (resAt m c t) (modAt m c t) (rows3 c (posOf m c t.val) (outs m c)) (scaleAt m c t) (scaleArg m c)
    (streamAt (posArg m c) (outArg m c) (resArg m c) (modArg m c) (tokenOf t y)) y j (fun d => ?_) (scaleAt_read m c t j)
  rw [resAt_read m c t y d, modAt_read m c t y d, rows_read m c t y d]
  rfl

/-! ## The whole array -/

theorem nblk_out (b : Fin 2) : (cfg0.win (5 : Fin 6)).nblk b = (![64, 1] : Fin 2 → ℕ) b := by
  match b with
  | ⟨0, _⟩ => show (65536 + 1024 - 1) / 1024 = 64; decide
  | ⟨1, _⟩ => show (1024 + 1024 - 1) / 1024 = 1; decide

/-- The output's blocks cover its array. -/
theorem covers_out : (cfg0.win (5 : Fin 6)).Covers :=
  (cfg0.win (5 : Fin 6)).covers_of_indexMap_surj rfl
    (fun b => by
      match b with
      | ⟨0, _⟩ => show 0 < 1024; decide
      | ⟨1, _⟩ => show 0 < 1024; decide)
    fun β => ⟨point ⟨(β (0 : Fin 2)).val, lt_of_lt_of_eq (β (0 : Fin 2)).isLt (nblk_out 0)⟩, fun b => by
      match b with
      | ⟨0, _⟩ =>
        show (BitVec.ofNat 32 (β (0 : Fin 2)).val).toNat = (β (0 : Fin 2)).val
        rw [BitVec.toNat_ofNat]
        have : (β (0 : Fin 2)).val < 64 := lt_of_lt_of_eq (β (0 : Fin 2)).isLt (nblk_out 0)
        omega
      | ⟨1, _⟩ =>
        have : (β (1 : Fin 2)).val < 1 := lt_of_lt_of_eq (β (1 : Fin 2)).isLt (nblk_out 1)
        show 0 = (β (1 : Fin 2)).val
        omega⟩

theorem arr_out (c : Dev nD) : (dats m 0 c).arrAt (5 : Fin 6) cfg0.N = backArr m c := by
  refine (dats m 0 c).arrAt_eq_of_covers (5 : Fin 6) _ covers_out fun t hf y => ?_
  have hy : y = ix2 (y (0 : Fin 2)) (y (1 : Fin 2)) := eq_ix2 y
  refine Eq.trans (b := blockAt m c t (ix2 (y (0 : Fin 2)) (y (1 : Fin 2)))) (congrArg (blockAt m c t) hy) ?_
  refine (blockAt_eq m c t _ _).trans (congrArg (backArr m c) ?_)
  funext b
  apply Fin.ext
  refine Eq.trans ?_ (Pipeline.Window.rect_emb_val (cfg0.win (5 : Fin 6)) t y b).symm
  match b with
  | ⟨0, _⟩ =>
    show t.val * 1024 + (y (0 : Fin 2)).val = (BitVec.ofNat 32 (grid0.coords t 0).val).toNat * 1024 + (y (0 : Fin 2)).val
    exact congrArg (fun n => n * 1024 + (y (0 : Fin 2)).val) (word_coord0 t).symm
  | ⟨1, _⟩ =>
    show (y (1 : Fin 2)).val = 0 * 1024 + (y (1 : Fin 2)).val
    rw [Nat.zero_mul, Nat.zero_add]

/-- The kernel's run leaves that array. -/
theorem run_back (ρ : Dev nD → PrngReg) (h : PreOK m) :
    θ_run (defs (F := Ideal)) (onTc (τ := τ) (main (F := Ideal))) ⟨m, fun _ => 0, ρ⟩ (fun r => ∀ c : Dev nD,
      r.2.mem ((c : Thread nD τ).loc main_v3) = backArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run (defs (F := Ideal)) _ _).mono (fun _ q c => ⟨(q.1 c).2.trans (arr_out m c), (q.1 c).1⟩) (run_main m ρ h)

end

/-- Over the extended reals the kernel's array and the reference's are one. -/
theorem algebraic_back : Cert.algebraic_Kernel3Ideal_Reference3Ideal := fun m ρ m' ρ' hp ha =>
  have hr : PreOK m := fun c i => range_of_pre _ _ _ _ _ (hp c) i
  ⟨fun c => backArr m c, run_back m ρ hr,
    (θ_run Cert.Reference3Ideal.defs _ _).mono (fun _ h c => ⟨(h c).1.trans (funext fun (i : S65536x1024.Idx) => by
        rw [(ha c).1, (ha c).2.1, (ha c).2.2.1, (ha c).2.2.2.1, (ha c).2.2.2.2]
        have hi : i = ix2 (i (0 : Fin 2)) (i (1 : Fin 2)) := eq_ix2 i
        rw [hi]
        refine (Cert.Reference3Ideal.Back.norm_apply _ (scaleArg m c) (i (0 : Fin 2)) (i (1 : Fin 2))).trans ?_
        exact congrArg (fun s => normAt (scaleArg m c) s (i (1 : Fin 2))) (funext fun d =>
          Cert.Reference3Ideal.Back.stream_apply (posArg m c) (hr c) (outArg m c) (resArg m c) (modArg m c) (i (0 : Fin 2)) d)), (h c).2⟩)
      (Cert.Reference3Ideal.Value.run (F := Ideal) m' ρ')⟩

end Cert.Kernel3Ideal.Back

end
-- ==== Proof.Ada.Value.lean ====
/-
  The modulation call over the extended reals: at a layer, a sequence and a column, the activated conditioning times the
  layer's matrix, plus its bias; and the reference's the same.
-/
module

public import proofs.«01_k».proof.Defs
public import proofs.«01_k».proof.Proof.Moe.Math
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import Idealize.ShloMosaic.Lib.MatmulPlain
public import Idealize.ShloMosaic.Lib.StackMember
public import Idealize.ShloMosaic.Lib.Pipeline.Value
public import Idealize.ShloMosaic.Lib.Pipeline.ValueKit.Basic
public import Idealize.ShloMosaic.Lib.Pipeline.Covers
public import Idealize.ShloMosaic.PureOps.Ideal.Laws

@[expose] public section

set_option maxRecDepth 16384

noncomputable section

namespace Cert.Ada

open Idealize.ShloMosaic Idealize.ShloMosaic.ValueIdx
open Cert.Kernel2Ideal.Moe (proj silu)

/-- The modulation at a layer, a sequence and a column. -/
def adaAt (x : (⟨2, ![32, 1024]⟩ : Shape).Idx → EReal) (w : (⟨3, ![2, 1024, 6144]⟩ : Shape).Idx → EReal)
    (b : (⟨2, ![2, 6144]⟩ : Shape).Idx → EReal) (l : Fin 2) (r : Fin 32) (n : Fin 6144) : EReal :=
  (∑ d : Fin 1024, silu (x (ix2 r d)) * w (ix3 l d n)) + b (ix2 l n)

end Cert.Ada

namespace Cert.Kernel4Ideal.Ada

open Cert.Kernel4Ideal Cert.Kernel4Ideal.Gen
open Idealize.ShloMosaic Idealize.ShloMosaic.TcCoe Idealize.ShloMosaic.ValueIdx Idealize.ShloMosaic.StableHlo
open Idealize.SL.Sem
open Cert.Ada
open Cert.Kernel2Ideal.Moe (silu silu_div)

theorem dot_eq : dot_S32x1024_S1024x1024_S32x1024_1_0_0_1_n_n = DotDims.plain 32 1024 1024 := rfl

theorem mm (X : FVec Ideal S32x1024 .bf16) (W : FVec Ideal S1024x1024 .bf16) (r : Fin 32) (n : Fin 1024) :
    matmul dot_S32x1024_S1024x1024_S32x1024_1_0_0_1_n_n none X W (constant S32x1024 .f32 0x00000000#32) (ix2 r n)
      = ∑ d : Fin 1024, X (ix2 r d) * W (ix2 d n) := by
  rw [dot_eq]
  refine (Ideal.matmul_plain_apply none X W _ r n).trans ?_
  show Ideal.ofBits .f32 0x00000000#32 + _ = _
  rw [Ideal.ofBits_zero_f32, zero_add]

/-- Dropping a leading axis of one. -/
theorem drop3 {a b : ℕ} {α : Type} (W : (⟨3, ![1, a, b]⟩ : Shape).Idx → α) (h : (⟨3, ![1, a, b]⟩ : Shape).ShapeCasts ⟨2, ![a, b]⟩)
    (i : Fin a) (j : Fin b) : shapeCast ⟨2, ![a, b]⟩ W h (ix2 i j) = W (ix3 (0 : Fin 1) i j) :=
  shapeCast_apply W h _ _ (by
    rw [Shape.rowMajor_val_three, Shape.rowMajor_val_two]
    show (0 * a + i.val) * b + j.val = i.val * b + j.val
    rw [Nat.zero_mul, Nat.zero_add])

/-- The stored block's element. -/
theorem pay_apply (X : Vec Ideal S32x1024 .f32) (W : Vec Ideal S1x1024x1024 .f32) (B : Vec Ideal S1x1x1024 .f32) (r : Fin 32) (n : Fin 1024) :
    k0_pay1 X W B (ix3 (0 : Fin 1) r n)
      = (∑ d : Fin 1024, silu (X (ix2 r d)) * W (ix3 (0 : Fin 1) d n)) + B (ix3 (0 : Fin 1) (0 : Fin 1) n) := by
  have e : k0_pay1 X W B = shapeCast S1x32x1024 (addf (matmul dot_S32x1024_S1024x1024_S32x1024_1_0_0_1_n_n none
      (truncf .bf16 (divf X (addf (broadcast S32x1024 (Scalar.ofBits .f32 0x3F800000#32))
        (exp (subf (broadcast S32x1024 (Scalar.ofBits .f32 0x00000000#32)) X)))) bitsLt_bf16_f32)
      (truncf .bf16 (shapeCast S1024x1024 W shapeCasts_S1x1024x1024_S1024x1024 : FVec Ideal S1024x1024 .f32) bitsLt_bf16_f32) (constant S32x1024 .f32 0x00000000#32))
      (broadcastTo S32x1024 (shapeCast S1x1024 B shapeCasts_S1x1x1024_S1x1024) broadcasts_S1x1024_S32x1024) : FVec Ideal S32x1024 .f32)
      shapeCasts_S32x1024_S1x32x1024 := rfl
  rw [e]
  refine (shapeCast_apply _ shapeCasts_S32x1024_S1x32x1024 _ (ix2 r n) ?_).trans ?_
  · rw [Shape.rowMajor_val_three, Shape.rowMajor_val_two]
    show r.val * 1024 + n.val = (0 * 32 + r.val) * 1024 + n.val
    omega
  refine congrArg₂ (fun p q : EReal => p + q) ?_ ?_
  · refine (mm _ _ r n).trans ?_
    refine Finset.sum_congr rfl fun d _ => congrArg₂ (fun p q : EReal => p * q) ?_ (drop3 W _ d n)
    show Ideal.div (X (ix2 r d)) (Ideal.ofBits .f32 0x3F800000#32 + Ideal.exp (Ideal.ofBits .f32 0x00000000#32 - X (ix2 r d))) = _
    rw [Ideal.ofBits_one_f32, Ideal.ofBits_zero_f32, silu_div]
  · refine (broadcastTo_apply _ broadcasts_S1x1024_S32x1024 _ (ix2 (0 : Fin 1) n) (fun a => by
      match a with
      | ⟨0, _⟩ => rfl
      | ⟨1, _⟩ => rfl)).trans ?_
    exact drop3 B _ (0 : Fin 1) n

section
variable (m : (ℓ : Loc nD τ sig) → Buf (Elt Ideal) ℓ)

/-- The arguments as arrays over the extended reals. -/
def condArg (c : Dev nD) : S32x1024.Idx → EReal := m ((c : Thread nD τ).loc main_arg0)
def matArg (c : Dev nD) : S2x1024x6144.Idx → EReal := m ((c : Thread nD τ).loc main_arg1)
def biasArg (c : Dev nD) : S2x6144.Idx → EReal := m ((c : Thread nD τ).loc main_arg2)

/-- The result, of the arguments. -/
def adaArr (c : Dev nD) : S2x32x6144.Idx → EReal := fun i =>
  adaAt (condArg m c) (matArg m c) (biasArg m c) (i 0) (i 1) (i 2)

theorem V_main_v0 (c : Dev nD) : V m c main_v0 = shapeCast S2x1x6144 (biasArg m c) shapeCasts_S2x6144_S2x1x6144 := by
  unfold V hostOps0; after_results; rfl

/-! ## Where a point's blocks lie -/

theorem words (t : Fin cfg0.N) : (cc0_transform_1 (grid0.coords t) 0 = t.val / 6 ∧ cc0_transform_1 (grid0.coords t) 2 = t.val % 6)
    ∧ (cc0_transform_2 (grid0.coords t) 0 = t.val / 6 ∧ cc0_transform_2 (grid0.coords t) 2 = t.val % 6)
    ∧ (cc0_transform_3 (grid0.coords t) 0 = t.val / 6 ∧ cc0_transform_3 (grid0.coords t) 2 = t.val % 6) := by
  have h : ∀ t : Fin grid0.N, (cc0_transform_1 (grid0.coords t) 0 = t.val / 6 ∧ cc0_transform_1 (grid0.coords t) 2 = t.val % 6)
    ∧ (cc0_transform_2 (grid0.coords t) 0 = t.val / 6 ∧ cc0_transform_2 (grid0.coords t) 2 = t.val % 6)
    ∧ (cc0_transform_3 (grid0.coords t) 0 = t.val / 6 ∧ cc0_transform_3 (grid0.coords t) 2 = t.val % 6) := by decide +kernel
  exact h t

/-- A point's layer, and its column `n` among all. -/
def layer (t : Fin cfg0.N) : Fin 2 := ⟨t.val / 6, by have hN : cfg0.N = 12 := rfl; have := t.isLt; omega⟩
def column (t : Fin cfg0.N) (n : Fin 1024) : Fin 6144 := ⟨t.val % 6 * 1024 + n.val, by have := n.isLt; omega⟩

theorem cond_read (c : Dev nD) (t : Fin cfg0.N) (r : Fin 32) (d : Fin 1024) :
    (iblk m c 0 t : S32x1024.Idx → EReal) (ix2 r d) = condArg m c (ix2 r d) := by
  unfold iblk
  rw [View.read_apply]
  refine Eq.trans (b := (V m c main_arg0 : S32x1024.Idx → EReal) (ix2 r d)) (congrArg (V m c main_arg0) ?_) (congrFun (V_main_arg0 m c) _)
  funext a
  apply Fin.ext
  refine (Pipeline.Window.rect_emb_val (cfg0.win 0) t (ix2 r d) a).trans ?_
  match a with
  | ⟨0, _⟩ => show 0 * 32 + r.val = r.val; omega
  | ⟨1, _⟩ => show 0 * 1024 + d.val = d.val; omega

theorem mat_read (c : Dev nD) (t : Fin cfg0.N) (d n : Fin 1024) :
    (iblk m c 1 t : S1x1024x1024.Idx → EReal) (ix3 (0 : Fin 1) d n) = matArg m c (ix3 (layer t) d (column t n)) := by
  unfold iblk
  rw [View.read_apply]
  refine Eq.trans (b := (V m c main_arg1 : S2x1024x6144.Idx → EReal) (ix3 (layer t) d (column t n))) (congrArg (V m c main_arg1) ?_)
    (congrFun (V_main_arg1 m c) _)
  funext a
  apply Fin.ext
  refine (Pipeline.Window.rect_emb_val (cfg0.win 1) t (ix3 (0 : Fin 1) d n) a).trans ?_
  match a with
  | ⟨0, _⟩ =>
    show cc0_transform_1 (grid0.coords t) 0 * 1 + 0 = t.val / 6
    rw [(words t).1.1]; omega
  | ⟨1, _⟩ => show 0 * 1024 + d.val = d.val; omega
  | ⟨2, _⟩ =>
    show cc0_transform_1 (grid0.coords t) 2 * 1024 + n.val = t.val % 6 * 1024 + n.val
    rw [(words t).1.2]

theorem bias_read (c : Dev nD) (t : Fin cfg0.N) (n : Fin 1024) :
    (iblk m c 2 t : S1x1x1024.Idx → EReal) (ix3 (0 : Fin 1) (0 : Fin 1) n) = biasArg m c (ix2 (layer t) (column t n)) := by
  unfold iblk
  rw [View.read_apply]
  refine Eq.trans (b := (V m c main_v0 : S2x1x6144.Idx → EReal) (ix3 (layer t) (0 : Fin 1) (column t n))) (congrArg (V m c main_v0) ?_) ?_
  · funext a
    apply Fin.ext
    refine (Pipeline.Window.rect_emb_val (cfg0.win 2) t (ix3 (0 : Fin 1) (0 : Fin 1) n) a).trans ?_
    match a with
    | ⟨0, _⟩ =>
      show cc0_transform_2 (grid0.coords t) 0 * 1 + 0 = t.val / 6
      rw [(words t).2.1.1]; omega
    | ⟨1, _⟩ => rfl
    | ⟨2, _⟩ =>
      show cc0_transform_2 (grid0.coords t) 2 * 1024 + n.val = t.val % 6 * 1024 + n.val
      rw [(words t).2.1.2]
  · rw [V_main_v0]
    refine shapeCast_apply (biasArg m c) _ _ _ ?_
    rw [Shape.rowMajor_val_two, Shape.rowMajor_val_three]
    generalize layer t = l
    generalize column t n = k
    show l.val * 6144 + k.val = (l.val * 1 + 0) * 6144 + k.val
    omega

theorem zero2 : (![0, 0] : Fin 2 → ℕ) = fun _ => 0 := by decide
theorem zero3 : (![0, 0, 0] : Fin 3 → ℕ) = fun _ => 0 := by decide

theorem first_val (y : S1x32x1024.Idx) : (y (0 : Fin 3)).val = 0 := by
  have : (y (0 : Fin 3)).val < 1 := (y (0 : Fin 3)).isLt
  omega
theorem eq_first (y : S1x32x1024.Idx) : y = ix3 (0 : Fin 1) (y (1 : Fin 3)) (y (2 : Fin 3)) := by
  funext a
  apply Fin.ext
  match a with
  | ⟨0, _⟩ => exact first_val y
  | ⟨1, _⟩ => rfl
  | ⟨2, _⟩ => rfl

/-- A block's element. -/
theorem block_apply (c : Dev nD) (t : Fin cfg0.N) (r : Fin 32) (n : Fin 1024) :
    ((dats m 0 c).after 3 t : S1x32x1024.Idx → EReal) (ix3 (0 : Fin 1) r n)
      = adaAt (condArg m c) (matArg m c) (biasArg m c) (layer t) r (column t n) := by
  rw [after0_3]
  unfold out0_3
  rw [View.canon_cons_unit_zero zero3, View.ld_unit_zero zero2, View.ld_unit_zero zero3, View.ld_unit_zero zero3]
  refine (pay_apply _ _ _ r n).trans ?_
  unfold adaAt
  rw [bias_read m c t n]
  exact congrArg (· + _) (Finset.sum_congr rfl fun d _ => by rw [cond_read m c t r d, mat_read m c t d n])

/-! ## The whole array -/

theorem nblk_out (b : Fin 3) : (cfg0.win (3 : Fin 4)).nblk b = (![2, 1, 6] : Fin 3 → ℕ) b := by
  match b with
  | ⟨0, _⟩ => show (2 + 1 - 1) / 1 = 2; decide
  | ⟨1, _⟩ => show (32 + 32 - 1) / 32 = 1; decide
  | ⟨2, _⟩ => show (6144 + 1024 - 1) / 1024 = 6; decide

/-- The grid's point at a layer and a block of columns. -/
def point (l : Fin 2) (k : Fin 6) : grid0.Coords := fun b => match b with
  | ⟨0, _⟩ => l
  | ⟨1, _⟩ => k

/-- The output's blocks cover its array. -/
theorem covers_out : (cfg0.win (3 : Fin 4)).Covers :=
  (cfg0.win (3 : Fin 4)).covers_of_indexMap_surj rfl
    (fun b => by
      match b with
      | ⟨0, _⟩ => show 0 < 1; decide
      | ⟨1, _⟩ => show 0 < 32; decide
      | ⟨2, _⟩ => show 0 < 1024; decide)
    fun β => ⟨point ⟨(β (0 : Fin 3)).val, lt_of_lt_of_eq (β (0 : Fin 3)).isLt (nblk_out 0)⟩
        ⟨(β (2 : Fin 3)).val, lt_of_lt_of_eq (β (2 : Fin 3)).isLt (nblk_out 2)⟩, fun b => by
      match b with
      | ⟨0, _⟩ =>
        show (BitVec.ofNat 32 (β (0 : Fin 3)).val).toNat = (β (0 : Fin 3)).val
        rw [BitVec.toNat_ofNat]
        have : (β (0 : Fin 3)).val < 2 := lt_of_lt_of_eq (β (0 : Fin 3)).isLt (nblk_out 0)
        omega
      | ⟨1, _⟩ =>
        have : (β (1 : Fin 3)).val < 1 := lt_of_lt_of_eq (β (1 : Fin 3)).isLt (nblk_out 1)
        show 0 = (β (1 : Fin 3)).val
        omega
      | ⟨2, _⟩ =>
        show (BitVec.ofNat 32 (β (2 : Fin 3)).val).toNat = (β (2 : Fin 3)).val
        rw [BitVec.toNat_ofNat]
        have : (β (2 : Fin 3)).val < 6 := lt_of_lt_of_eq (β (2 : Fin 3)).isLt (nblk_out 2)
        omega⟩

theorem arr_out (c : Dev nD) : (dats m 0 c).arrAt (3 : Fin 4) cfg0.N = adaArr m c := by
  refine (dats m 0 c).arrAt_eq_of_covers (3 : Fin 4) _ covers_out fun t hf y => ?_
  have hy : y = ix3 (0 : Fin 1) (y (1 : Fin 3)) (y (2 : Fin 3)) := eq_first y
  refine (congrArg ((dats m 0 c).after 3 t : S1x32x1024.Idx → EReal) hy).trans ?_
  refine (block_apply m c t _ _).trans ?_
  refine Eq.trans (b := adaArr m c (ix3 (layer t) (y (1 : Fin 3)) (column t (y (2 : Fin 3))))) rfl (congrArg (adaArr m c) ?_)
  funext b
  apply Fin.ext
  refine Eq.trans ?_ (Pipeline.Window.rect_emb_val (cfg0.win (3 : Fin 4)) t y b).symm
  match b with
  | ⟨0, _⟩ =>
    have h1 : (y (0 : Fin 3)).val = 0 := first_val y
    show t.val / 6 = cc0_transform_3 (grid0.coords t) 0 * 1 + (y (0 : Fin 3)).val
    rw [(words t).2.2.1, h1]; omega
  | ⟨1, _⟩ => show (y (1 : Fin 3)).val = 0 * 32 + (y (1 : Fin 3)).val; omega
  | ⟨2, _⟩ =>
    show t.val % 6 * 1024 + (y (2 : Fin 3)).val = cc0_transform_3 (grid0.coords t) 2 * 1024 + (y (2 : Fin 3)).val
    rw [(words t).2.2.2]

/-- The kernel's run leaves that array. -/
theorem run_ada (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = adaArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ q c => ⟨((q.2 c).1 (3 : Fin 4)).trans (arr_out m c), q.1 c⟩)
    (θ_run_and (unchanged m ρ) (run_main m ρ))

end

end Cert.Kernel4Ideal.Ada

namespace Cert.Reference4Ideal.Ada

open Cert.Reference4Ideal Cert.Reference4Ideal.Gen
open Idealize.ShloMosaic Idealize.ShloMosaic.TcCoe Idealize.ShloMosaic.ValueIdx
open Cert.Ada
open Cert.Kernel2Ideal.Moe (silu)

theorem dot_eq : dot_S32x1024_S1024x6144_S32x6144_1_0_0_1_n_n = DotDims.plain 32 1024 6144 := rfl

/-- A layer of the reference. -/
theorem layer_apply (o : ℕ) (ho : o < 2) (X : FVec Ideal S32x1024 .f32) (W : FVec Ideal S2x1024x6144 .f32) (B : FVec Ideal S2x6144 .f32)
    (hw : S2x1024x6144.Slices ![o, 0, 0] S1x1024x6144) (hb : S2x6144.Slices ![o, 0] S1x6144) (q : Fin 1) (r : Fin 32) (n : Fin 6144) :
    broadcastInDim S1x32x6144 ![1, 2] bcast_S32x6144_S1x32x6144_1_2
      (addf (Host.dotGeneral dot_S32x1024_S1024x6144_S32x6144_1_0_0_1_n_n none
          (mulf X (Host.divf (broadcastInDim S32x1024 ![] bcast_S_S32x1024 (constant (F := Ideal) S_ .f32 0x3F800000#32))
            (addf (broadcastInDim S32x1024 ![] bcast_S_S32x1024 (constant (F := Ideal) S_ .f32 0x3F800000#32)) (Host.exp (Host.negf X)))))
          (shapeCast S1024x6144 (extractStridedSlice S1x1024x6144 ![o, 0, 0] W hw) shapeCasts_S1x1024x6144_S1024x6144 : FVec Ideal S1024x6144 .f32))
        (broadcastInDim S32x6144 ![0, 1] bcast_S1x6144_S32x6144_0_1 (broadcastInDim S1x6144 ![1] bcast_S6144_S1x6144_1
          (shapeCast S6144 (extractStridedSlice S1x6144 ![o, 0] B hb) shapeCasts_S1x6144_S6144 : FVec Ideal S6144 .f32)))) (ix3 q r n)
      = adaAt X W B ⟨o, ho⟩ r n := by
  refine (broadcastInDim_apply _ _ _ _ (ix2 r n) (fun ax => by
    match ax with
    | ⟨0, _⟩ => rfl
    | ⟨1, _⟩ => rfl)).trans ?_
  refine congrArg₂ (fun p q : EReal => p + q) ?_ ?_
  · rw [dot_eq]
    refine (StackMember.dotGeneral_plain_apply none _ _ r n).trans ?_
    refine Finset.sum_congr rfl fun d _ => congrArg₂ (fun p q : EReal => p * q) ?_ ?_
    · show X (ix2 r d) * Ideal.div (Ideal.ofBits .f32 0x3F800000#32) (Ideal.ofBits .f32 0x3F800000#32 + Ideal.exp (-(X (ix2 r d)))) = _
      rw [Ideal.ofBits_one_f32]
      rfl
    · refine (shapeCast_apply _ _ _ (ix3 (0 : Fin 1) d n) ?_).trans ?_
      · rw [Shape.rowMajor_val_three, Shape.rowMajor_val_two]
        show (0 * 1024 + d.val) * 6144 + n.val = d.val * 6144 + n.val
        omega
      · refine extractStridedSlice_apply _ W hw _ _ (fun ax => ?_)
        match ax with
        | ⟨0, _⟩ => rfl
        | ⟨1, _⟩ => exact (Nat.zero_add _).symm
        | ⟨2, _⟩ => exact (Nat.zero_add _).symm
  · refine (broadcastInDim_apply _ _ _ _ (ix2 (0 : Fin 1) n) (fun ax => by
      match ax with
      | ⟨0, _⟩ => rfl
      | ⟨1, _⟩ => rfl)).trans ?_
    refine (broadcastInDim_apply _ _ _ _ (ix1 n) (fun ax => by
      match ax with
      | ⟨0, _⟩ => rfl)).trans ?_
    refine (shapeCast_apply _ _ _ (ix2 (0 : Fin 1) n) ?_).trans ?_
    · rw [Shape.rowMajor_val_two, Shape.rowMajor_val_one]
      show 0 * 6144 + n.val = n.val
      omega
    · refine extractStridedSlice_apply _ B hb _ _ (fun ax => ?_)
      match ax with
      | ⟨0, _⟩ => rfl
      | ⟨1, _⟩ => exact (Nat.zero_add _).symm

/-- Two layers stacked. -/
theorem stack_apply (A B : S1x32x6144.Idx → EReal) (f : Fin 2 → Fin 32 → Fin 6144 → EReal)
    (hA : ∀ r n, A (ix3 (0 : Fin 1) r n) = f 0 r n) (hB : ∀ r n, B (ix3 (0 : Fin 1) r n) = f 1 r n) (l : Fin 2) (r : Fin 32) (n : Fin 6144) :
    concatenate S2x32x6144 0 [⟨S1x32x6144, A⟩, ⟨S1x32x6144, B⟩] concatenates_S1x32x6144_S1x32x6144_S2x32x6144_d0 (ix3 l r n) = f l r n := by
  match l with
  | ⟨0, _⟩ =>
    refine (concatenate_pair_apply_left (t := S2x32x6144) 0 A B _ _ rfl (ix3 (0 : Fin 1) r n) (fun b => by
      match b with
      | ⟨0, _⟩ => rfl
      | ⟨1, _⟩ => rfl
      | ⟨2, _⟩ => rfl)).trans (hA r n)
  | ⟨1, _⟩ =>
    refine (concatenate_pair_apply_right (t := S2x32x6144) 0 A B _ _ rfl rfl (ix3 (0 : Fin 1) r n) (fun b hb => by
      match b with
      | ⟨0, _⟩ => exact absurd rfl hb
      | ⟨1, _⟩ => rfl
      | ⟨2, _⟩ => rfl) rfl).trans (hB r n)

end Cert.Reference4Ideal.Ada

namespace Cert.Kernel4Ideal.Ada

open Idealize.ShloMosaic Idealize.ShloMosaic.TcCoe Idealize.ShloMosaic.ValueIdx
open Idealize.SL.Sem

theorem frame_reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Over the extended reals the kernel's array and the reference's are one. -/
theorem algebraic_ada : Cert.algebraic_Kernel4Ideal_Reference4Ideal := fun m ρ m' ρ' _ ha =>
  ⟨fun c => adaArr m c, run_ada m ρ,
    (θ_run Cert.Reference4Ideal.defs _ _).mono (fun _ h c => ⟨(h c).1.trans (funext fun (i : S2x32x6144.Idx) => by
        rw [(ha c).1, (ha c).2.1, (ha c).2.2]
        have hi : i = ix3 (i (0 : Fin 3)) (i (1 : Fin 3)) (i (2 : Fin 3)) := eq_ix3 i
        rw [hi]
        exact Cert.Reference4Ideal.Ada.stack_apply _ _ (Cert.Ada.adaAt (condArg m c) (matArg m c) (biasArg m c))
          (fun r n => Cert.Reference4Ideal.Ada.layer_apply 0 (by decide) (condArg m c) (matArg m c) (biasArg m c) _ _ _ r n)
          (fun r n => Cert.Reference4Ideal.Ada.layer_apply 1 (by decide) (condArg m c) (matArg m c) (biasArg m c) _ _ _ r n) _ _ _), (h c).2⟩)
      (Cert.Reference4Ideal.Value.run (F := Ideal) m' ρ')⟩

end Cert.Kernel4Ideal.Ada

end
-- ==== Proof.Out.Math.lean ====
/-
  The output projection's results, of the arguments: the residual stream plus the gated projection of the merged mixers,
  and that stream normalised, scaled and shifted.
-/
module

public import proofs.«01_k».proof.Proof.Back.Math
public import Idealize.ShloMosaic.Lib.Pipeline.Value
public import Idealize.ShloMosaic.PureOps.Ideal

@[expose] public section

noncomputable section

namespace Cert.Out

open Idealize.ShloMosaic Idealize.ShloMosaic.ValueIdx
open Cert.Back (seqOf placeOf normAt)

/-- Four arrays of 256 columns side by side, at a row and a column. -/
def mergedAt {R : ℕ} {α : Type} (a b c e : (⟨2, ![R, 256]⟩ : Shape).Idx → α) (r : Fin R) (k : Fin 1024) : α :=
  (![a, b, c, e] ⟨k.val / 256, by have := k.isLt; omega⟩) (ix2 r ⟨k.val % 256, Nat.mod_lt _ (by decide)⟩)

/-- The concatenation of four such arrays. -/
theorem merged_apply {R : ℕ} {α : Type} (a b c e : (⟨2, ![R, 256]⟩ : Shape).Idx → α)
    (h : Shape.Concatenates (([⟨⟨2, ![R, 256]⟩, a⟩, ⟨⟨2, ![R, 256]⟩, b⟩, ⟨⟨2, ![R, 256]⟩, c⟩, ⟨⟨2, ![R, 256]⟩, e⟩] :
      List ((s : Shape) × (s.Idx → α))).map (·.1)) (⟨2, ![R, 1024]⟩ : Shape) 1) (r : Fin R) (k : Fin 1024) :
    concatenate (⟨2, ![R, 1024]⟩ : Shape) 1 [⟨⟨2, ![R, 256]⟩, a⟩, ⟨⟨2, ![R, 256]⟩, b⟩, ⟨⟨2, ![R, 256]⟩, c⟩, ⟨⟨2, ![R, 256]⟩, e⟩] h (ix2 r k)
      = mergedAt a b c e r k := by
  have key : ∀ (q : Fin 4) (s : Fin 256), q.val * 256 + s.val = k.val →
      concatenate (⟨2, ![R, 1024]⟩ : Shape) 1 [⟨⟨2, ![R, 256]⟩, a⟩, ⟨⟨2, ![R, 256]⟩, b⟩, ⟨⟨2, ![R, 256]⟩, c⟩, ⟨⟨2, ![R, 256]⟩, e⟩] h (ix2 r k)
        = (![a, b, c, e] q) (ix2 r s) := by
    intro q s hs
    have other : ∀ b : Fin 2, b ≠ 1 → (ix2 r s b).val = (ix2 r k b).val := fun b hb => by
      match b with
      | ⟨0, _⟩ => rfl
      | ⟨1, _⟩ => exact absurd rfl hb
    match q with
    | ⟨0, _⟩ => exact concatenate_apply_piece (t := (⟨2, ![R, 1024]⟩ : Shape)) 1 _ h _ 0 (by exact (show 0 < 4 by decide)) ⟨2, ![R, 256]⟩ a rfl rfl 0 rfl (ix2 r s) other hs
    | ⟨1, _⟩ => exact concatenate_apply_piece (t := (⟨2, ![R, 1024]⟩ : Shape)) 1 _ h _ 1 (by exact (show 1 < 4 by decide)) ⟨2, ![R, 256]⟩ b rfl rfl 256 rfl (ix2 r s) other hs
    | ⟨2, _⟩ => exact concatenate_apply_piece (t := (⟨2, ![R, 1024]⟩ : Shape)) 1 _ h _ 2 (by exact (show 2 < 4 by decide)) ⟨2, ![R, 256]⟩ c rfl rfl 512 rfl (ix2 r s) other hs
    | ⟨3, _⟩ => exact concatenate_apply_piece (t := (⟨2, ![R, 1024]⟩ : Shape)) 1 _ h _ 3 (by exact (show 3 < 4 by decide)) ⟨2, ![R, 256]⟩ e rfl rfl 768 rfl (ix2 r s) other hs
  exact key ⟨k.val / 256, by have := k.isLt; omega⟩ ⟨k.val % 256, Nat.mod_lt _ (by decide)⟩ (Nat.div_add_mod' _ _)

/-- Equal rows merge to equal rows. -/
theorem merged_congr {R R' : ℕ} {α : Type} (a b c e : (⟨2, ![R, 256]⟩ : Shape).Idx → α) (a' b' c' e' : (⟨2, ![R', 256]⟩ : Shape).Idx → α)
    (r : Fin R) (r' : Fin R') (ha : ∀ s, a (ix2 r s) = a' (ix2 r' s)) (hb : ∀ s, b (ix2 r s) = b' (ix2 r' s))
    (hc : ∀ s, c (ix2 r s) = c' (ix2 r' s)) (he : ∀ s, e (ix2 r s) = e' (ix2 r' s)) (k : Fin 1024) :
    mergedAt a b c e r k = mergedAt a' b' c' e' r' k := by
  unfold mergedAt
  generalize (⟨k.val % 256, Nat.mod_lt _ (by decide)⟩ : Fin 256) = s
  generalize (⟨k.val / 256, by have := k.isLt; omega⟩ : Fin 4) = q
  match q with
  | ⟨0, _⟩ => exact ha s
  | ⟨1, _⟩ => exact hb s
  | ⟨2, _⟩ => exact hc s
  | ⟨3, _⟩ => exact he s

/-- A column of one of the six parts of a sequence's modulation. -/
def partCol (o : Fin 6) (d : Fin 1024) : Fin 6144 := ⟨o.val * 1024 + d.val, by have := o.isLt; have := d.isLt; omega⟩

section
variable (x : (⟨3, ![32, 2048, 1024]⟩ : Shape).Idx → EReal) (oa ob oc od : (⟨2, ![65536, 256]⟩ : Shape).Idx → EReal)
  (w : (⟨2, ![1024, 1024]⟩ : Shape).Idx → EReal) (md : (⟨2, ![32, 6144]⟩ : Shape).Idx → EReal) (g : (⟨1, ![1024]⟩ : Shape).Idx → EReal)

/-- The residual stream after the mixers. -/
def mixedAt (r : Fin 65536) (d : Fin 1024) : EReal :=
  x (ix3 (seqOf r) (placeOf r) d) + md (ix2 (seqOf r) (partCol 2 d)) * ∑ k : Fin 1024, mergedAt oa ob oc od r k * w (ix2 k d)

/-- That stream normalised, scaled and shifted: what the experts read. -/
def hiddenAt (r : Fin 65536) (j : Fin 1024) : EReal :=
  normAt g (mixedAt x oa ob oc od w md r) j * (1 + md (ix2 (seqOf r) (partCol 4 j))) + md (ix2 (seqOf r) (partCol 3 j))

/-- The two results. -/
def mixedOut : (⟨2, ![65536, 1024]⟩ : Shape).Idx → EReal := fun i => mixedAt x oa ob oc od w md (i 0) (i 1)
def hiddenOut : (⟨2, ![65536, 1024]⟩ : Shape).Idx → EReal := fun i => hiddenAt x oa ob oc od w md g (i 0) (i 1)
end

end Cert.Out

end
-- ==== Proof.Out.Tile.lean ====
/-
  The output projection's blocks over the extended reals, read at a row and a column.
-/
module

public import proofs.«01_k».proof.Proof.Out.Math
public import proofs.«01_k».proof.Proof.Gen.Kernel5Ideal.Skeleton
public import Idealize.ShloMosaic.Lib.IdealHost
public import Idealize.ShloMosaic.Lib.MatmulPlain
public import Idealize.ShloMosaic.Lib.Pipeline.Value
public import Idealize.ShloMosaic.PureOps.Ideal.Laws

@[expose] public section

set_option maxRecDepth 16384

noncomputable section

namespace Cert.Kernel5Ideal.Out

open Cert.Kernel5Ideal Cert.Kernel5Ideal.Gen
open Idealize.ShloMosaic Idealize.ShloMosaic.ValueIdx Idealize.ShloMosaic.TcCoe
open Cert.Back (normAt)
open Cert.Out

theorem dot_eq : dot_S1024x1024_S1024x1024_S1024x1024_1_0_0_1_n_n = DotDims.plain 1024 1024 1024 := rfl

theorem mm (X W : FVec Ideal S1024x1024 .bf16) (r n : Fin 1024) :
    matmul dot_S1024x1024_S1024x1024_S1024x1024_1_0_0_1_n_n none X W (constant S1024x1024 .f32 0x00000000#32) (ix2 r n)
      = ∑ d : Fin 1024, X (ix2 r d) * W (ix2 d n) := by
  rw [dot_eq]
  refine (Ideal.matmul_plain_apply none X W _ r n).trans ?_
  show Ideal.ofBits .f32 0x00000000#32 + _ = _
  rw [Ideal.ofBits_zero_f32, zero_add]

/-- A row of the modulation, over every row. -/
theorem row_at (M : FVec Ideal S1x1024 .f32) (y d : Fin 1024) :
    broadcastTo S1024x1024 M broadcasts_S1x1024_S1024x1024 (ix2 y d) = M (ix2 (0 : Fin 1) d) :=
  broadcastTo_apply _ _ _ (ix2 (0 : Fin 1) d) (fun a => by
    match a with
    | ⟨0, _⟩ => rfl
    | ⟨1, _⟩ => rfl)

theorem flat_at (M : FVec Ideal S1x1x1024 .f32) (d : Fin 1024) :
    shapeCast S1x1024 M shapeCasts_S1x1x1024_S1x1024 (ix2 (0 : Fin 1) d) = M (ix3 (0 : Fin 1) (0 : Fin 1) d) := by
  refine shapeCast_apply M _ _ _ ?_
  rw [Shape.rowMajor_val_two, Shape.rowMajor_val_three]
  show (0 * 1 + 0) * 1024 + d.val = 0 * 1024 + d.val
  omega

/-- The block's stream. -/
theorem stream_at (A B C E : FVec Ideal S1024x256 .bf16) (W : FVec Ideal S1024x1024 .bf16) (X : FVec Ideal S1024x1024 .f32)
    (M : FVec Ideal S1x1x1024 .f32) (y d : Fin 1024) :
    k0_pay2 (F := Ideal) A B C E W X M (ix2 y d)
      = X (ix2 y d) + M (ix3 (0 : Fin 1) (0 : Fin 1) d) * ∑ k : Fin 1024, mergedAt A B C E y k * W (ix2 k d) := by
  have e : k0_pay2 (F := Ideal) A B C E W X M = addf (shapeCast S1024x1024 X shapeCasts_S1024x1024_S1024x1024 : FVec Ideal S1024x1024 .f32)
      (mulf (broadcastTo S1024x1024 (shapeCast S1x1024 M shapeCasts_S1x1x1024_S1x1024) broadcasts_S1x1024_S1024x1024)
        (matmul dot_S1024x1024_S1024x1024_S1024x1024_1_0_0_1_n_n none
          (concatenate S1024x1024 1 [⟨S1024x256, A⟩, ⟨S1024x256, B⟩, ⟨S1024x256, C⟩, ⟨S1024x256, E⟩]
            concatenates_S1024x256_S1024x256_S1024x256_S1024x256_S1024x1024_d1 : FVec Ideal S1024x1024 .bf16)
          (shapeCast S1024x1024 W shapeCasts_S1024x1024_S1024x1024 : FVec Ideal S1024x1024 .bf16) (constant S1024x1024 .f32 0x00000000#32))) := rfl
  rw [e]
  refine congrArg₂ (fun p q : EReal => p + q) (shapeCast_apply X _ _ _ rfl) (congrArg₂ (fun p q : EReal => p * q) ?_ ?_)
  · exact (row_at _ y d).trans (flat_at M d)
  · refine (mm _ _ y d).trans ?_
    exact Finset.sum_congr rfl fun k _ => congrArg₂ (fun p q : EReal => p * q) (merged_apply A B C E _ y k) (shapeCast_apply W _ _ _ rfl)

/-- A block normalised and scaled by a row. -/
def normed (H : FVec Ideal S1024x1024 .f32) (G : FVec Ideal S1x1024 .f32) : FVec Ideal S1024x1024 .f32 :=
  mulf (mulf H (broadcastTo S1024x1024 (rsqrt (addf (divf (shapeCast S1024x1 (multiReduction .add [1] S1024 (mulf H H) 0x00000000#32 reduces_S1024x1024_S1024 (.inl rfl) rfl)
    shapeCasts_S1024_S1024x1) (broadcast S1024x1 (Scalar.ofBits .f32 0x44800000#32))) (broadcast S1024x1 (Scalar.ofBits .f32 0x358637BD#32))))
    broadcasts_S1024x1_S1024x1024)) (broadcastTo S1024x1024 (shapeCast S1x1024 G shapeCasts_S1x1024_S1x1024) broadcasts_S1x1024_S1024x1024)

theorem normed_at (H : FVec Ideal S1024x1024 .f32) (G : FVec Ideal S1x1024 .f32) (g : (⟨1, ![1024]⟩ : Shape).Idx → EReal) (y j : Fin 1024)
    (hg : G (ix2 (0 : Fin 1) j) = g (ix1 j)) : normed H G (ix2 y j) = normAt g (fun d => H (ix2 y d)) j := by
  have q : multiReduction .add [1] S1024 (mulf H H) 0x00000000#32 reduces_S1024x1024_S1024 (.inl rfl) rfl (ix1 y)
      = ∑ d : Fin 1024, H (ix2 y d) * H (ix2 y d) := by
    refine (Ideal.multiReduction_add_single (mulf H H) _ reduces_S1024x1024_S1024 _ _ (ix1 y)).trans ?_
    refine Finset.sum_congr rfl fun d _ => ?_
    have e : reduces_S1024x1024_S1024.lift (ix1 y) d = ix2 y d := by
      funext b
      apply Fin.ext
      match b with
      | ⟨0, _⟩ => rfl
      | ⟨1, _⟩ => rfl
    rw [e]
    rfl
  have e1 : shapeCast S1024x1 (multiReduction .add [1] S1024 (mulf H H) 0x00000000#32 reduces_S1024x1024_S1024 (.inl rfl) rfl) shapeCasts_S1024_S1024x1
      (ix2 y (0 : Fin 1)) = ∑ d : Fin 1024, H (ix2 y d) * H (ix2 y d) := by
    refine (shapeCast_apply _ _ _ (ix1 y) ?_).trans q
    rw [Shape.rowMajor_val_two, Shape.rowMajor_val_one]
    show y.val = y.val * 1 + 0
    omega
  have e2 (R : FVec Ideal S1024x1 .f32) : broadcastTo S1024x1024 R broadcasts_S1024x1_S1024x1024 (ix2 y j) = R (ix2 y (0 : Fin 1)) :=
    broadcastTo_apply R _ _ _ (fun a => by
      match a with
      | ⟨0, _⟩ => rfl
      | ⟨1, _⟩ => rfl)
  unfold normed normAt
  rw [← e1, ← hg]
  exact congrArg₂ (fun p q : EReal => p * q) (congrArg (H (ix2 y j) * ·) (e2 _)) ((row_at _ y j).trans (shapeCast_apply G _ _ _ rfl))

theorem pay3_eq (A B C E : FVec Ideal S1024x256 .bf16) (W : FVec Ideal S1024x1024 .bf16) (X : FVec Ideal S1024x1024 .f32)
    (M : FVec Ideal S1x1x1024 .f32) (G : FVec Ideal S1x1024 .f32) :
    k0_pay3 (F := Ideal) A B C E W X M G = normed (k0_pay2 (F := Ideal) A B C E W X M) G := rfl

/-- A block scaled and shifted. -/
theorem shifted_at (H : FVec Ideal S1024x1024 .f32) (P Q : FVec Ideal S1x1x1024 .f32) (y j : Fin 1024) :
    k0_pay5 (F := Ideal) H (k0_pay4 (F := Ideal) P) Q (ix2 y j)
      = H (ix2 y j) * (1 + P (ix3 (0 : Fin 1) (0 : Fin 1) j)) + Q (ix3 (0 : Fin 1) (0 : Fin 1) j) := by
  have e : k0_pay5 (F := Ideal) H (k0_pay4 (F := Ideal) P) Q = addf (mulf H (broadcastTo S1024x1024
      (addf (broadcast S1x1024 (Scalar.ofBits .f32 0x3F800000#32)) (shapeCast S1x1024 P shapeCasts_S1x1x1024_S1x1024) : FVec Ideal S1x1024 .f32)
      broadcasts_S1x1024_S1024x1024)) (broadcastTo S1024x1024 (shapeCast S1x1024 Q shapeCasts_S1x1x1024_S1x1024) broadcasts_S1x1024_S1024x1024) := rfl
  rw [e]
  refine congrArg₂ (fun p q : EReal => p + q) (congrArg (H (ix2 y j) * ·) ?_) ((row_at _ y j).trans (flat_at Q j))
  refine (row_at _ y j).trans (congrArg₂ (fun p q : EReal => p + q) ?_ (flat_at P j))
  exact Ideal.ofBits_one_f32

end Cert.Kernel5Ideal.Out

end
-- ==== Proof.Out.Refer.lean ====
/-
  The reference of the output projection over the extended reals, read at a row and a column.
-/
module

public import proofs.«01_k».proof.Proof.Out.Math
public import proofs.«01_k».proof.Proof.Back.Squares
public import proofs.«01_k».proof.Proof.Gen.Reference5Ideal.Run
public import Idealize.ShloMosaic.Lib.Pipeline.Value
public import Idealize.ShloMosaic.Lib.IdealHost
public import Idealize.ShloMosaic.Lib.StackMember
public import Idealize.ShloMosaic.PureOps.Ideal.Laws

@[expose] public section

set_option maxRecDepth 16384

noncomputable section

namespace Cert.Reference5Ideal.Out

open Cert.Reference5Ideal Cert.Reference5Ideal.Gen
open Idealize.ShloMosaic Idealize.ShloMosaic.ValueIdx Idealize.ShloMosaic.TcCoe
open Cert.Back (seqOf placeOf normAt sum_row)
open Cert.Out

/-! ## The modulation -/

/-- One part of the modulation, at a sequence. -/
theorem part_apply (o : Fin 6) (n : ℕ) (hn : n = o.val * 1024) (md : FVec Ideal S32x6144 .f32) (h : S32x1x6144.Slices ![0, 0, n] S32x1x1024)
    (b : Fin 32) (d : Fin 1024) :
    extractStridedSlice S32x1x1024 ![0, 0, n] (broadcastInDim S32x1x6144 ![0, 2] bcast_S32x6144_S32x1x6144_0_2 md) h (ix3 b (0 : Fin 1) d)
      = md (ix2 b (partCol o d)) := by
  subst hn
  refine (extractStridedSlice_apply _ _ _ _ (ix3 b (0 : Fin 1) (partCol o d)) (fun ax => by
    match ax with
    | ⟨0, _⟩ => exact (Nat.zero_add _).symm
    | ⟨1, _⟩ => rfl
    | ⟨2, _⟩ => rfl)).trans ?_
  exact broadcastInDim_apply _ _ _ _ (ix2 b (partCol o d)) (fun ax => by
    match ax with
    | ⟨0, _⟩ => rfl
    | ⟨1, _⟩ => rfl)

/-- A sequence's row, over every place. -/
theorem over_apply (M : FVec Ideal S32x1x1024 .f32) (b : Fin 32) (s : Fin 2048) (d : Fin 1024) :
    broadcastInDim S32x2048x1024 ![0, 1, 2] bcast_S32x1x1024_S32x2048x1024_0_1_2 M (ix3 b s d) = M (ix3 b (0 : Fin 1) d) :=
  broadcastInDim_apply _ _ _ _ (ix3 b (0 : Fin 1) d) (fun ax => by
    match ax with
    | ⟨0, _⟩ => rfl
    | ⟨1, _⟩ => rfl
    | ⟨2, _⟩ => rfl)

/-! ## The projection -/

theorem dot_eq : dot_S65536x1024_S1024x1024_S65536x1024_1_0_0_1_n_n = DotDims.plain 65536 1024 1024 := rfl

/-- The merged mixers times the matrix, as sequences. -/
theorem project_apply (A B C E : FVec Ideal S65536x256 .bf16) (W : FVec Ideal S1024x1024 .f32) (r : Fin 65536) (d : Fin 1024) :
    shapeCast S32x2048x1024 (Host.dotGeneral dot_S65536x1024_S1024x1024_S65536x1024_1_0_0_1_n_n none
      (extf .f32 ((concatenate S65536x1024 1 [⟨S65536x256, A⟩, ⟨S65536x256, B⟩, ⟨S65536x256, C⟩, ⟨S65536x256, E⟩]
        concatenates_S65536x256_S65536x256_S65536x256_S65536x256_S65536x1024_d1 : FVec Ideal S65536x1024 .bf16)) bitsLt_bf16_f32) W)
      shapeCasts_S65536x1024_S32x2048x1024 (ix3 (seqOf r) (placeOf r) d)
      = ∑ k : Fin 1024, mergedAt A B C E r k * W (ix2 k d) := by
  refine (shapeCast_apply _ _ _ (ix2 r d) ?_).trans ?_
  · rw [Shape.rowMajor_val_two, Shape.rowMajor_val_three]
    show r.val * 1024 + d.val = (r.val / 2048 * 2048 + r.val % 2048) * 1024 + d.val
    rw [Nat.div_add_mod']
  · rw [dot_eq]
    refine (StackMember.dotGeneral_plain_apply none _ _ r d).trans ?_
    exact Finset.sum_congr rfl fun k _ => congrArg (· * W (ix2 k d)) (merged_apply A B C E concatenates_S65536x256_S65536x256_S65536x256_S65536x256_S65536x1024_d1 r k)

/-- The stream, as sequences. -/
def stream (x : FVec Ideal S32x2048x1024 .f32) (A B C E : FVec Ideal S65536x256 .bf16) (W : FVec Ideal S1024x1024 .f32) (md : FVec Ideal S32x6144 .f32) :
    FVec Ideal S32x2048x1024 .f32 :=
  addf x (mulf (broadcastInDim S32x2048x1024 ![0, 1, 2] bcast_S32x1x1024_S32x2048x1024_0_1_2 (extractStridedSlice S32x1x1024 ![0, 0, 2048]
    (broadcastInDim S32x1x6144 ![0, 2] bcast_S32x6144_S32x1x6144_0_2 md) slices_S32x1x6144_S32x1x1024_0_0_2048))
    (shapeCast S32x2048x1024 (Host.dotGeneral dot_S65536x1024_S1024x1024_S65536x1024_1_0_0_1_n_n none
      (extf .f32 ((concatenate S65536x1024 1 [⟨S65536x256, A⟩, ⟨S65536x256, B⟩, ⟨S65536x256, C⟩, ⟨S65536x256, E⟩]
        concatenates_S65536x256_S65536x256_S65536x256_S65536x256_S65536x1024_d1 : FVec Ideal S65536x1024 .bf16)) bitsLt_bf16_f32) W)
      shapeCasts_S65536x1024_S32x2048x1024))

theorem stream_apply (x : FVec Ideal S32x2048x1024 .f32) (A B C E : FVec Ideal S65536x256 .bf16) (W : FVec Ideal S1024x1024 .f32)
    (md : FVec Ideal S32x6144 .f32) (r : Fin 65536) (d : Fin 1024) :
    stream x A B C E W md (ix3 (seqOf r) (placeOf r) d) = mixedAt x A B C E W md r d := by
  unfold mixedAt
  refine congrArg (x (ix3 (seqOf r) (placeOf r) d) + ·) (congrArg₂ (fun p q : EReal => p * q) ?_ (project_apply A B C E W r d))
  exact (over_apply _ _ _ _).trans (part_apply 2 2048 rfl md _ _ _)

/-- Sequences listed. -/
theorem list_apply (S : FVec Ideal S32x2048x1024 .f32) (r : Fin 65536) (j : Fin 1024) :
    shapeCast S65536x1024 S shapeCasts_S32x2048x1024_S65536x1024 (ix2 r j) = S (ix3 (seqOf r) (placeOf r) j) := by
  refine shapeCast_apply _ _ _ _ ?_
  rw [Shape.rowMajor_val_two, Shape.rowMajor_val_three]
  show (r.val / 2048 * 2048 + r.val % 2048) * 1024 + j.val = r.val * 1024 + j.val
  rw [Nat.div_add_mod']

/-! ## The normalisation -/

/-- The reciprocal root mean square, over every column. -/
theorem scale_apply (S : FVec Ideal S32x2048x1024 .f32) (b : Fin 32) (s : Fin 2048) (d : Fin 1024) :
    broadcastInDim S32x2048x1024 ![0, 1, 2] bcast_S32x2048x1_S32x2048x1024_0_1_2 (Host.rsqrt (addf (Host.divf
      (broadcastInDim S32x2048x1 ![0, 1] bcast_S32x2048_S32x2048x1_0_1
        (Host.reduceAdd (mulf S S) (constant S_ .f32 0x00000000#32) reducesTo_S32x2048x1024_S32x2048_d2 h_S_))
      (broadcastInDim S32x2048x1 ![] bcast_S_S32x2048x1 (constant S_ .f32 0x44800000#32)))
      (broadcastInDim S32x2048x1 ![] bcast_S_S32x2048x1 (constant S_ .f32 0x358637BD#32)))) (ix3 b s d)
      = Ideal.rsqrt (Ideal.div (∑ d : Fin 1024, S (ix3 b s d) * S (ix3 b s d)) (Ideal.ofBits .f32 0x44800000#32) + Ideal.ofBits .f32 0x358637BD#32) := by
  refine (broadcastInDim_apply _ _ _ _ (ix3 b s (0 : Fin 1)) (fun ax => by
    match ax with
    | ⟨0, _⟩ => rfl
    | ⟨1, _⟩ => rfl
    | ⟨2, _⟩ => rfl)).trans ?_
  have e : broadcastInDim S32x2048x1 ![0, 1] bcast_S32x2048_S32x2048x1_0_1
      (Host.reduceAdd (mulf S S) (constant S_ .f32 0x00000000#32) reducesTo_S32x2048x1024_S32x2048_d2 h_S_) (ix3 b s (0 : Fin 1))
      = ∑ d : Fin 1024, S (ix3 b s d) * S (ix3 b s d) :=
    (broadcastInDim_apply _ _ _ _ (ix2 b s) (fun ax => by
      match ax with
      | ⟨0, _⟩ => rfl
      | ⟨1, _⟩ => rfl)).trans (sum_row reducesTo_S32x2048x1024_S32x2048_d2 (mulf S S) b s)
  rw [← e]
  rfl

/-- The scale, over every place. -/
theorem weight_apply (g : FVec Ideal S1024 .f32) (b : Fin 32) (s : Fin 2048) (d : Fin 1024) :
    broadcastInDim S32x2048x1024 ![0, 1, 2] bcast_S1x1x1024_S32x2048x1024_0_1_2 (broadcastInDim S1x1x1024 ![2] bcast_S1024_S1x1x1024_2 g) (ix3 b s d)
      = g (ix1 d) := by
  refine (broadcastInDim_apply _ _ _ _ (ix3 (0 : Fin 1) (0 : Fin 1) d) (fun ax => by
    match ax with
    | ⟨0, _⟩ => rfl
    | ⟨1, _⟩ => rfl
    | ⟨2, _⟩ => rfl)).trans ?_
  exact broadcastInDim_apply _ _ _ _ (ix1 d) (fun ax => by
    match ax with
    | ⟨0, _⟩ => rfl)

/-- The normalised stream, scaled and shifted, at a sequence and a place. -/
theorem hidden_apply (S : FVec Ideal S32x2048x1024 .f32) (g : FVec Ideal S1024 .f32) (md : FVec Ideal S32x6144 .f32) (b : Fin 32) (s : Fin 2048)
    (j : Fin 1024) :
    addf (mulf (mulf (mulf S (broadcastInDim S32x2048x1024 ![0, 1, 2] bcast_S32x2048x1_S32x2048x1024_0_1_2 (Host.rsqrt (addf (Host.divf
      (broadcastInDim S32x2048x1 ![0, 1] bcast_S32x2048_S32x2048x1_0_1
        (Host.reduceAdd (mulf S S) (constant S_ .f32 0x00000000#32) reducesTo_S32x2048x1024_S32x2048_d2 h_S_))
      (broadcastInDim S32x2048x1 ![] bcast_S_S32x2048x1 (constant S_ .f32 0x44800000#32)))
      (broadcastInDim S32x2048x1 ![] bcast_S_S32x2048x1 (constant S_ .f32 0x358637BD#32))))))
      (broadcastInDim S32x2048x1024 ![0, 1, 2] bcast_S1x1x1024_S32x2048x1024_0_1_2 (broadcastInDim S1x1x1024 ![2] bcast_S1024_S1x1x1024_2 g)))
      (broadcastInDim S32x2048x1024 ![0, 1, 2] bcast_S32x1x1024_S32x2048x1024_0_1_2 (addf (broadcastInDim S32x1x1024 ![] bcast_S_S32x1x1024
        (constant S_ .f32 0x3F800000#32)) (extractStridedSlice S32x1x1024 ![0, 0, 4096]
        (broadcastInDim S32x1x6144 ![0, 2] bcast_S32x6144_S32x1x6144_0_2 md) slices_S32x1x6144_S32x1x1024_0_0_4096))))
      (broadcastInDim S32x2048x1024 ![0, 1, 2] bcast_S32x1x1024_S32x2048x1024_0_1_2 (extractStridedSlice S32x1x1024 ![0, 0, 3072]
        (broadcastInDim S32x1x6144 ![0, 2] bcast_S32x6144_S32x1x6144_0_2 md) slices_S32x1x6144_S32x1x1024_0_0_3072)) (ix3 b s j)
      = normAt g (fun d => S (ix3 b s d)) j * (1 + md (ix2 b (partCol 4 j))) + md (ix2 b (partCol 3 j)) := by
  refine congrArg₂ (fun p q : EReal => p + q) (congrArg₂ (fun p q : EReal => p * q) (congrArg₂ (fun p q : EReal => p * q)
    (congrArg (S (ix3 b s j) * ·) (scale_apply S b s j)) (weight_apply g b s j)) ?_) ?_
  · refine (over_apply _ b s j).trans (congrArg₂ (fun p q : EReal => p + q) ?_ (part_apply 4 4096 rfl md _ b j))
    exact Ideal.ofBits_one_f32
  · exact (over_apply _ b s j).trans (part_apply 3 3072 rfl md _ b j)

section
variable (m : (ℓ : Loc nD τ sig) → Buf (Elt Ideal) ℓ)

/-- The second result at a row and a column, of the arguments. -/
theorem second_apply (c : Dev nD) (x : FVec Ideal S32x2048x1024 .f32) (A B C E : FVec Ideal S65536x256 .bf16) (W : FVec Ideal S1024x1024 .f32)
    (md : FVec Ideal S32x6144 .f32) (g : FVec Ideal S1024 .f32)
    (h0 : m ((c.tc : Thread nD τ).loc main_arg0) = x) (h1 : m ((c.tc : Thread nD τ).loc main_arg1) = A)
    (h2 : m ((c.tc : Thread nD τ).loc main_arg2) = B) (h3 : m ((c.tc : Thread nD τ).loc main_arg3) = C)
    (h4 : m ((c.tc : Thread nD τ).loc main_arg4) = E) (h5 : m ((c.tc : Thread nD τ).loc main_arg5) = W)
    (h6 : m ((c.tc : Thread nD τ).loc main_arg6) = md) (h7 : m ((c.tc : Thread nD τ).loc main_arg7) = g) (r : Fin 65536) (j : Fin 1024) :
    (Value.res_main_v34 m c : S65536x1024.Idx → EReal) (ix2 r j) = hiddenAt x A B C E W md g r j := by
  unfold Value.res_main_v34
  rw [h0, h1, h2, h3, h4, h5, h6, h7]
  refine (list_apply _ r j).trans ?_
  refine (hidden_apply (stream x A B C E W md) g md (seqOf r) (placeOf r) j).trans ?_
  unfold hiddenAt
  exact congrArg (fun f => normAt g f j * (1 + md (ix2 (seqOf r) (partCol 4 j))) + md (ix2 (seqOf r) (partCol 3 j)))
    (funext fun d => stream_apply x A B C E W md r d)

end

end Cert.Reference5Ideal.Out

end
-- ==== Proof.Out.Value.lean ====
/-
  The output projection's value over the extended reals: the two arrays the kernel leaves, and the reference's, are the
  same two arrays of the arguments.
-/
module

public import proofs.«01_k».proof.Defs
public import proofs.«01_k».proof.Proof.Out.Tile
public import proofs.«01_k».proof.Proof.Out.Refer
public import proofs.«01_k».proof.Proof.Gen.Kernel5Ideal
public import proofs.«01_k».proof.Proof.Gen.Kernel5Ideal.Frame
public import proofs.«01_k».proof.Proof.Gen.Reference5Ideal
public import Idealize.ShloMosaic.Lib.WritesUnit
public import Idealize.ShloMosaic.Lib.Pipeline.Covers

@[expose] public section

set_option maxRecDepth 16384

noncomputable section

namespace Cert.Kernel5Ideal.Out

open Cert.Kernel5Ideal Cert.Kernel5Ideal.Gen
open Idealize.ShloMosaic Idealize.ShloMosaic.TcCoe Idealize.ShloMosaic.ValueIdx Idealize.ShloMosaic.StableHlo
open Idealize.SL.Sem
open Cert.Back (seqOf placeOf normAt)
open Cert.Out

section
variable (m : (ℓ : Loc nD τ sig) → Buf (Elt Ideal) ℓ)

/-- The arguments as arrays over the extended reals. -/
def resArg (c : Dev nD) : S32x2048x1024.Idx → EReal := m ((c : Thread nD τ).loc main_arg0)
def oaArg (c : Dev nD) : S65536x256.Idx → EReal := m ((c : Thread nD τ).loc main_arg1)
def obArg (c : Dev nD) : S65536x256.Idx → EReal := m ((c : Thread nD τ).loc main_arg2)
def ocArg (c : Dev nD) : S65536x256.Idx → EReal := m ((c : Thread nD τ).loc main_arg3)
def odArg (c : Dev nD) : S65536x256.Idx → EReal := m ((c : Thread nD τ).loc main_arg4)
def matArg (c : Dev nD) : S1024x1024.Idx → EReal := m ((c : Thread nD τ).loc main_arg5)
def modArg (c : Dev nD) : S32x6144.Idx → EReal := m ((c : Thread nD τ).loc main_arg6)
def scaleArg (c : Dev nD) : S1024.Idx → EReal := m ((c : Thread nD τ).loc main_arg7)

/-- The results, of the arguments. -/
def mixedArr (c : Dev nD) : S65536x1024.Idx → EReal :=
  mixedOut (resArg m c) (oaArg m c) (obArg m c) (ocArg m c) (odArg m c) (matArg m c) (modArg m c)
def hiddenArr (c : Dev nD) : S65536x1024.Idx → EReal :=
  hiddenOut (resArg m c) (oaArg m c) (obArg m c) (ocArg m c) (odArg m c) (matArg m c) (modArg m c) (scaleArg m c)

/-! ## The prepared arrays -/

theorem V_main_v9 (c : Dev nD) : V m c main_v9 = shapeCast S65536x1024 (resArg m c) shapeCasts_S32x2048x1024_S65536x1024 := by
  unfold V V0 hostOps0; after_results; rfl
theorem V_main_v10 (c : Dev nD) : (V m c main_v10 : S1024x1024.Idx → EReal) = matArg m c := by
  unfold V V0 hostOps0; after_results; rfl
theorem V_main_v11 (c : Dev nD) : V m c main_v11 = shapeCast S32x6x1024 (modArg m c) shapeCasts_S32x6144_S32x6x1024 := by
  unfold V V0 hostOps0; after_results; rfl
theorem V_main_v12 (c : Dev nD) : V m c main_v12 = shapeCast S1x1024 (scaleArg m c) shapeCasts_S1024_S1x1024 := by
  unfold V V0 hostOps0; after_results; rfl

/-! ## Where a point's blocks lie -/

/-- Row `y` of block `t`, among all rows. -/
def tokenOf (t : Fin cfg0.N) (y : Fin 1024) : Fin 65536 :=
  ⟨t.val * 1024 + y.val, by have hN : cfg0.N = 64 := rfl; have := t.isLt; have := y.isLt; omega⟩

/-- The grid's point `k`. -/
def point (k : Fin 64) : grid0.Coords := fun b => match b with
  | ⟨0, _⟩ => k

theorem eq_point (i : grid0.Coords) : i = point (i 0) := funext fun b => match b with
  | ⟨0, _⟩ => rfl

theorem coord0 (t : Fin cfg0.N) : (grid0.coords t 0).val = t.val := by
  have h := Pipeline.Grid.coords_val (G := grid0) t 0 (S := 1) (B := 64) (by decide) rfl
  have hN : cfg0.N = 64 := rfl
  have := t.isLt
  omega

theorem word_coord0 (t : Fin cfg0.N) : (BitVec.ofNat 32 (grid0.coords t 0).val).toNat = t.val := by
  rw [coord0, BitVec.toNat_ofNat]
  have hN : cfg0.N = 64 := rfl
  have := t.isLt
  omega

theorem mod_word (i : grid0.Coords) : cc0_transform_6 i 0 = (i 0).val / 2 := by
  have hk : ∀ k : Fin 64, cc0_transform_6 (point k) 0 = k.val / 2 := by decide +kernel
  rw [eq_point i]; exact hk (i 0)

/-! ## What a point stages, of the arguments -/

theorem res_read (c : Dev nD) (t : Fin cfg0.N) (y d : Fin 1024) :
    (iblk m c 0 t : S1024x1024.Idx → EReal) (ix2 y d) = resArg m c (ix3 (seqOf (tokenOf t y)) (placeOf (tokenOf t y)) d) := by
  unfold iblk
  rw [View.read_apply]
  refine Eq.trans (b := (V m c main_v9 : S65536x1024.Idx → EReal) (ix2 (tokenOf t y) d)) (congrArg (V m c main_v9) ?_) ?_
  · funext a
    apply Fin.ext
    refine (Pipeline.Window.rect_emb_val (cfg0.win 0) t (ix2 y d) a).trans ?_
    match a with
    | ⟨0, _⟩ =>
      show (BitVec.ofNat 32 (grid0.coords t 0).val).toNat * 1024 + y.val = t.val * 1024 + y.val
      rw [word_coord0]
    | ⟨1, _⟩ => show 0 * 1024 + d.val = d.val; omega
  · rw [V_main_v9]
    refine shapeCast_apply (resArg m c) _ _ _ ?_
    rw [Shape.rowMajor_val_two, Shape.rowMajor_val_three]
    generalize tokenOf t y = r
    show (r.val / 2048 * 2048 + r.val % 2048) * 1024 + d.val = r.val * 1024 + d.val
    rw [Nat.div_add_mod']

theorem oa_read (c : Dev nD) (t : Fin cfg0.N) (y : Fin 1024) (d : Fin 256) :
    (iblk m c 1 t : S1024x256.Idx → EReal) (ix2 y d) = oaArg m c (ix2 (tokenOf t y) d) := by
  unfold iblk
  rw [View.read_apply]
  refine Eq.trans (b := (V m c main_arg1 : S65536x256.Idx → EReal) (ix2 (tokenOf t y) d)) (congrArg (V m c main_arg1) ?_) (congrFun (V_main_arg1 m c) _)
  funext a
  apply Fin.ext
  refine (Pipeline.Window.rect_emb_val (cfg0.win 1) t (ix2 y d) a).trans ?_
  match a with
  | ⟨0, _⟩ =>
    show (BitVec.ofNat 32 (grid0.coords t 0).val).toNat * 1024 + y.val = t.val * 1024 + y.val
    rw [word_coord0]
  | ⟨1, _⟩ => show 0 * 256 + d.val = d.val; omega

theorem ob_read (c : Dev nD) (t : Fin cfg0.N) (y : Fin 1024) (d : Fin 256) :
    (iblk m c 2 t : S1024x256.Idx → EReal) (ix2 y d) = obArg m c (ix2 (tokenOf t y) d) := by
  unfold iblk
  rw [View.read_apply]
  refine Eq.trans (b := (V m c main_arg2 : S65536x256.Idx → EReal) (ix2 (tokenOf t y) d)) (congrArg (V m c main_arg2) ?_) (congrFun (V_main_arg2 m c) _)
  funext a
  apply Fin.ext
  refine (Pipeline.Window.rect_emb_val (cfg0.win 2) t (ix2 y d) a).trans ?_
  match a with
  | ⟨0, _⟩ =>
    show (BitVec.ofNat 32 (grid0.coords t 0).val).toNat * 1024 + y.val = t.val * 1024 + y.val
    rw [word_coord0]
  | ⟨1, _⟩ => show 0 * 256 + d.val = d.val; omega

theorem oc_read (c : Dev nD) (t : Fin cfg0.N) (y : Fin 1024) (d : Fin 256) :
    (iblk m c 3 t : S1024x256.Idx → EReal) (ix2 y d) = ocArg m c (ix2 (tokenOf t y) d) := by
  unfold iblk
  rw [View.read_apply]
  refine Eq.trans (b := (V m c main_arg3 : S65536x256.Idx → EReal) (ix2 (tokenOf t y) d)) (congrArg (V m c main_arg3) ?_) (congrFun (V_main_arg3 m c) _)
  funext a
  apply Fin.ext
  refine (Pipeline.Window.rect_emb_val (cfg0.win 3) t (ix2 y d) a).trans ?_
  match a with
  | ⟨0, _⟩ =>
    show (BitVec.ofNat 32 (grid0.coords t 0).val).toNat * 1024 + y.val = t.val * 1024 + y.val
    rw [word_coord0]
  | ⟨1, _⟩ => show 0 * 256 + d.val = d.val; omega

theorem od_read (c : Dev nD) (t : Fin cfg0.N) (y : Fin 1024) (d : Fin 256) :
    (iblk m c 4 t : S1024x256.Idx → EReal) (ix2 y d) = odArg m c (ix2 (tokenOf t y) d) := by
  unfold iblk
  rw [View.read_apply]
  refine Eq.trans (b := (V m c main_arg4 : S65536x256.Idx → EReal) (ix2 (tokenOf t y) d)) (congrArg (V m c main_arg4) ?_) (congrFun (V_main_arg4 m c) _)
  funext a
  apply Fin.ext
  refine (Pipeline.Window.rect_emb_val (cfg0.win 4) t (ix2 y d) a).trans ?_
  match a with
  | ⟨0, _⟩ =>
    show (BitVec.ofNat 32 (grid0.coords t 0).val).toNat * 1024 + y.val = t.val * 1024 + y.val
    rw [word_coord0]
  | ⟨1, _⟩ => show 0 * 256 + d.val = d.val; omega

theorem mat_read (c : Dev nD) (t : Fin cfg0.N) (k d : Fin 1024) :
    (iblk m c 5 t : S1024x1024.Idx → EReal) (ix2 k d) = matArg m c (ix2 k d) := by
  unfold iblk
  rw [View.read_apply]
  refine Eq.trans (b := (V m c main_v10 : S1024x1024.Idx → EReal) (ix2 k d)) (congrArg (V m c main_v10) ?_) (congrFun (V_main_v10 m c) _)
  funext a
  apply Fin.ext
  refine (Pipeline.Window.rect_emb_val (cfg0.win 5) t (ix2 k d) a).trans ?_
  match a with
  | ⟨0, _⟩ => show 0 * 1024 + k.val = k.val; omega
  | ⟨1, _⟩ => show 0 * 1024 + d.val = d.val; omega

theorem mod_read (c : Dev nD) (t : Fin cfg0.N) (y : Fin 1024) (o : Fin 6) (d : Fin 1024) :
    (iblk m c 6 t : S1x6x1024.Idx → EReal) (ix3 (0 : Fin 1) o d) = modArg m c (ix2 (seqOf (tokenOf t y)) (partCol o d)) := by
  have hr : (seqOf (tokenOf t y)).val = t.val / 2 := by
    show (t.val * 1024 + y.val) / 2048 = t.val / 2
    have := y.isLt
    omega
  unfold iblk
  rw [View.read_apply]
  refine Eq.trans (b := (V m c main_v11 : S32x6x1024.Idx → EReal) (ix3 (seqOf (tokenOf t y)) o d)) (congrArg (V m c main_v11) ?_) ?_
  · funext a
    apply Fin.ext
    refine (Pipeline.Window.rect_emb_val (cfg0.win 6) t (ix3 (0 : Fin 1) o d) a).trans ?_
    match a with
    | ⟨0, _⟩ =>
      show cc0_transform_6 (grid0.coords t) 0 * 1 + 0 = (seqOf (tokenOf t y)).val
      rw [mod_word, coord0, hr]; omega
    | ⟨1, _⟩ => show 0 * 6 + o.val = o.val; omega
    | ⟨2, _⟩ => show 0 * 1024 + d.val = d.val; omega
  · rw [V_main_v11]
    refine shapeCast_apply (modArg m c) _ _ _ ?_
    rw [Shape.rowMajor_val_two, Shape.rowMajor_val_three]
    generalize seqOf (tokenOf t y) = b
    show b.val * 6144 + (o.val * 1024 + d.val) = (b.val * 6 + o.val) * 1024 + d.val
    omega

theorem scale_read (c : Dev nD) (t : Fin cfg0.N) (d : Fin 1024) :
    (iblk m c 7 t : S1x1024.Idx → EReal) (ix2 (0 : Fin 1) d) = scaleArg m c (ix1 d) := by
  unfold iblk
  rw [View.read_apply]
  refine Eq.trans (b := (V m c main_v12 : S1x1024.Idx → EReal) (ix2 (0 : Fin 1) d)) (congrArg (V m c main_v12) ?_) ?_
  · funext a
    apply Fin.ext
    refine (Pipeline.Window.rect_emb_val (cfg0.win 7) t (ix2 (0 : Fin 1) d) a).trans ?_
    match a with
    | ⟨0, _⟩ => rfl
    | ⟨1, _⟩ => show 0 * 1024 + d.val = d.val; omega
  · rw [V_main_v12]
    refine shapeCast_apply (scaleArg m c) _ _ _ ?_
    rw [Shape.rowMajor_val_two, Shape.rowMajor_val_one]
    show d.val = 0 * 1024 + d.val
    omega

/-! ## What a body leaves -/

theorem zero2 : (![0, 0] : Fin 2 → ℕ) = fun _ => 0 := by decide

/-- A load of a whole staged block reads the block. -/
theorem load_whole {s : Shape} {e : EltTy} {M : Memref sig .tc .vmem s e} (h : M.IsWhole) (X : s.Idx → Elt Ideal e) {off : Fin s.rank → ℕ}
    (hz : off = fun _ => 0) (inb : ∀ a, off a + s.size a ≤ s.size a) :
    View.readAt (Elt Ideal) M.view (Rect.unit off s.size inb).toLoadRect (h.unread X) = X := by
  refine (View.readAt_eq_ld M.view _ _).trans ?_
  rw [h.read_unread]
  exact View.ld_unit_zero hz inb X

/-- A load of one row of the staged modulation. -/
theorem load_row {M : Memref sig .tc .vmem S1x6x1024 .f32} (h : M.IsWhole) (X : S1x6x1024.Idx → EReal) (o : Fin 6) (n : ℕ) (hn : n = o.val)
    (inb : ∀ a, (![0, n, 0] : Fin 3 → ℕ) a + (![1, 1, 1024] : Fin 3 → ℕ) a ≤ S1x6x1024.size a) (d : Fin 1024) :
    View.readAt (Elt Ideal) M.view (Rect.unit (s := S1x6x1024) ![0, n, 0] ![1, 1, 1024] inb).toLoadRect (h.unread (Val := Elt Ideal) X) (ix3 (0 : Fin 1) (0 : Fin 1) d)
      = X (ix3 (0 : Fin 1) o d) := by
  subst hn
  refine (congrFun (View.readAt_eq_ld M.view _ _) _).trans ?_
  rw [h.read_unread]
  refine congrArg X ?_
  funext a
  apply Fin.ext
  match a with
  | ⟨0, _⟩ => rfl
  | ⟨1, _⟩ => show o.val + 1 * 0 = o.val; omega
  | ⟨2, _⟩ => show 0 + 1 * d.val = d.val; omega

/-- The stream of a point's block, as the body computes it from what it loads. -/
def streamAt (c : Dev nD) (t : Fin cfg0.N) : FVec Ideal S1024x1024 .f32 :=
  k0_pay2 (F := Ideal) (View.readAt (Elt Ideal) (ms0_1 t).view (Rect.unit (s := S1024x256) ![0, 0] ![1024, 256] inb_S1024x256_S1024x256_0_0).toLoadRect ((hs0_1 t).unread (iblk m c 1 t)))
      (View.readAt (Elt Ideal) (ms0_2 t).view (Rect.unit (s := S1024x256) ![0, 0] ![1024, 256] inb_S1024x256_S1024x256_0_0).toLoadRect ((hs0_2 t).unread (iblk m c 2 t)))
      (View.readAt (Elt Ideal) (ms0_3 t).view (Rect.unit (s := S1024x256) ![0, 0] ![1024, 256] inb_S1024x256_S1024x256_0_0).toLoadRect ((hs0_3 t).unread (iblk m c 3 t)))
      (View.readAt (Elt Ideal) (ms0_4 t).view (Rect.unit (s := S1024x256) ![0, 0] ![1024, 256] inb_S1024x256_S1024x256_0_0).toLoadRect ((hs0_4 t).unread (iblk m c 4 t)))
      (View.readAt (Elt Ideal) (ms0_5 t).view (Rect.unit (s := S1024x1024) ![0, 0] ![1024, 1024] inb_S1024x1024_S1024x1024_0_0).toLoadRect ((hs0_5 t).unread (iblk m c 5 t)))
      (View.readAt (Elt Ideal) (ms0_0 t).view (Rect.unit (s := S1024x1024) ![0, 0] ![1024, 1024] inb_S1024x1024_S1024x1024_0_0).toLoadRect ((hs0_0 t).unread (iblk m c 0 t)))
      (View.readAt (Elt Ideal) (ms0_6 t).view (Rect.unit (s := S1x6x1024) ![0, 2, 0] ![1, 1, 1024] inb_S1x6x1024_S1x1x1024_0_2_0).toLoadRect ((hs0_6 t).unread (iblk m c 6 t)))

theorem streamAt_apply (c : Dev nD) (t : Fin cfg0.N) (y j : Fin 1024) :
    streamAt m c t (ix2 y j) = mixedArr m c (ix2 (tokenOf t y) j) := by
  unfold streamAt
  refine (stream_at _ _ _ _ _ _ _ y j).trans ?_
  rw [load_row (hs0_6 t) _ 2 2 rfl]
  rw [load_whole (hs0_0 t) _ zero2, load_whole (hs0_1 t) _ zero2, load_whole (hs0_2 t) _ zero2, load_whole (hs0_3 t) _ zero2,
    load_whole (hs0_4 t) _ zero2, load_whole (hs0_5 t) _ zero2]
  rw [res_read m c t y j, mod_read m c t y 2 j]
  refine congrArg (fun z : EReal => resArg m c (ix3 (seqOf (tokenOf t y)) (placeOf (tokenOf t y)) j)
    + modArg m c (ix2 (seqOf (tokenOf t y)) (partCol 2 j)) * z) (Finset.sum_congr rfl fun k _ => ?_)
  exact congrArg₂ (fun p q : EReal => p * q)
    (merged_congr _ _ _ _ _ _ _ _ y (tokenOf t y) (oa_read m c t y) (ob_read m c t y) (oc_read m c t y) (od_read m c t y) k) (mat_read m c t k j)

/-- The normalised, scaled and shifted stream of a point's block. -/
def shiftedAt (c : Dev nD) (t : Fin cfg0.N) : FVec Ideal S1024x1024 .f32 :=
  k0_pay5 (F := Ideal) (normed (streamAt m c t) (View.readAt (Elt Ideal) (ms0_7 t).view (Rect.unit (s := S1x1024) ![0, 0] ![1, 1024] inb_S1x1024_S1x1024_0_0).toLoadRect ((hs0_7 t).unread (iblk m c 7 t))))
    (k0_pay4 (F := Ideal) (View.readAt (Elt Ideal) (ms0_6 t).view (Rect.unit (s := S1x6x1024) ![0, 4, 0] ![1, 1, 1024] inb_S1x6x1024_S1x1x1024_0_4_0).toLoadRect ((hs0_6 t).unread (iblk m c 6 t))))
    (View.readAt (Elt Ideal) (ms0_6 t).view (Rect.unit (s := S1x6x1024) ![0, 3, 0] ![1, 1, 1024] inb_S1x6x1024_S1x1x1024_0_3_0).toLoadRect ((hs0_6 t).unread (iblk m c 6 t)))

theorem shiftedAt_apply (c : Dev nD) (t : Fin cfg0.N) (y j : Fin 1024) :
    shiftedAt m c t (ix2 y j) = hiddenArr m c (ix2 (tokenOf t y) j) := by
  unfold shiftedAt
  refine (shifted_at _ _ _ y j).trans ?_
  rw [load_row (hs0_6 t) _ 4 4 rfl, load_row (hs0_6 t) _ 3 3 rfl, load_whole (hs0_7 t) _ zero2,
    normed_at _ _ (scaleArg m c) y j (scale_read m c t j), mod_read m c t y 4 j, mod_read m c t y 3 j]
  simp only [streamAt_apply m c t]
  rfl

/-- The stores of a body's run, of what it loads: the first output's, -/
theorem run_first (c : Dev nD) (i : grid0.Coords)
    (arg1 : Memref sig .tc .vmem S1024x1024 .f32) (harg1 : arg1.IsWhole)
    (arg2 : Memref sig .tc .vmem S1024x256 .bf16) (harg2 : arg2.IsWhole)
    (arg3 : Memref sig .tc .vmem S1024x256 .bf16) (harg3 : arg3.IsWhole)
    (arg4 : Memref sig .tc .vmem S1024x256 .bf16) (harg4 : arg4.IsWhole)
    (arg5 : Memref sig .tc .vmem S1024x256 .bf16) (harg5 : arg5.IsWhole)
    (arg6 : Memref sig .tc .vmem S1024x1024 .bf16) (harg6 : arg6.IsWhole)
    (arg7 : Memref sig .tc .vmem S1x6x1024 .f32) (harg7 : arg7.IsWhole)
    (arg8 : Memref sig .tc .vmem S1x1024 .f32) (harg8 : arg8.IsWhole)
    (arg9 : Memref sig .tc .vmem S2x16x1024 .bf16) (harg9 : arg9.IsWhole)
    (arg10 : Memref sig .tc .vmem S16x1 .f32) (harg10 : arg10.IsWhole)
    (arg11 : Memref sig .tc .vmem S1024x1024 .f32) (harg11 : arg11.IsWhole)
    (arg12 : Memref sig .tc .vmem S1024x1152 .f32) (harg12 : arg12.IsWhole)
    (arg13 : Memref sig .tc .vmem S8x1024 .f32) (harg13 : arg13.IsWhole)
    (x0 : Vec Ideal S1024x1024 .f32) (x1 : Vec Ideal S1024x256 .bf16) (x2 : Vec Ideal S1024x256 .bf16) (x3 : Vec Ideal S1024x256 .bf16) (x4 : Vec Ideal S1024x256 .bf16) (x5 : Vec Ideal S1024x1024 .bf16) (x6 : Vec Ideal S1x6x1024 .f32) (x7 : Vec Ideal S1x1024 .f32) (x8 : Vec Ideal S2x16x1024 .bf16) (x9 : Vec Ideal S16x1 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1 = [⟨Rect.unit (s := S1024x1024) ![0, 0] ![1024, 1024] inb_S1024x1024_S1024x1024_0_0,
      (k0_pay2 (F := Ideal) (View.readAt (Elt Ideal) arg2.view (Rect.unit (s := S1024x256) ![0, 0] ![1024, 256] inb_S1024x256_S1024x256_0_0).toLoadRect (harg2.unread x1))
        (View.readAt (Elt Ideal) arg3.view (Rect.unit (s := S1024x256) ![0, 0] ![1024, 256] inb_S1024x256_S1024x256_0_0).toLoadRect (harg3.unread x2))
        (View.readAt (Elt Ideal) arg4.view (Rect.unit (s := S1024x256) ![0, 0] ![1024, 256] inb_S1024x256_S1024x256_0_0).toLoadRect (harg4.unread x3))
        (View.readAt (Elt Ideal) arg5.view (Rect.unit (s := S1024x256) ![0, 0] ![1024, 256] inb_S1024x256_S1024x256_0_0).toLoadRect (harg5.unread x4))
        (View.readAt (Elt Ideal) arg6.view (Rect.unit (s := S1024x1024) ![0, 0] ![1024, 1024] inb_S1024x1024_S1024x1024_0_0).toLoadRect (harg6.unread x5))
        (View.readAt (Elt Ideal) arg1.view (Rect.unit (s := S1024x1024) ![0, 0] ![1024, 1024] inb_S1024x1024_S1024x1024_0_0).toLoadRect (harg1.unread x0))
        (View.readAt (Elt Ideal) arg7.view (Rect.unit (s := S1x6x1024) ![0, 2, 0] ![1, 1, 1024] inb_S1x6x1024_S1x1x1024_0_2_0).toLoadRect (harg7.unread x6)))⟩] := by
  unfold kernelRun0_A
  rfl

/-- and the second's. -/
theorem run_second (c : Dev nD) (i : grid0.Coords)
    (arg1 : Memref sig .tc .vmem S1024x1024 .f32) (harg1 : arg1.IsWhole)
    (arg2 : Memref sig .tc .vmem S1024x256 .bf16) (harg2 : arg2.IsWhole)
    (arg3 : Memref sig .tc .vmem S1024x256 .bf16) (harg3 : arg3.IsWhole)
    (arg4 : Memref sig .tc .vmem S1024x256 .bf16) (harg4 : arg4.IsWhole)
    (arg5 : Memref sig .tc .vmem S1024x256 .bf16) (harg5 : arg5.IsWhole)
    (arg6 : Memref sig .tc .vmem S1024x1024 .bf16) (harg6 : arg6.IsWhole)
    (arg7 : Memref sig .tc .vmem S1x6x1024 .f32) (harg7 : arg7.IsWhole)
    (arg8 : Memref sig .tc .vmem S1x1024 .f32) (harg8 : arg8.IsWhole)
    (arg9 : Memref sig .tc .vmem S2x16x1024 .bf16) (harg9 : arg9.IsWhole)
    (arg10 : Memref sig .tc .vmem S16x1 .f32) (harg10 : arg10.IsWhole)
    (arg11 : Memref sig .tc .vmem S1024x1024 .f32) (harg11 : arg11.IsWhole)
    (arg12 : Memref sig .tc .vmem S1024x1152 .f32) (harg12 : arg12.IsWhole)
    (arg13 : Memref sig .tc .vmem S8x1024 .f32) (harg13 : arg13.IsWhole)
    (x0 : Vec Ideal S1024x1024 .f32) (x1 : Vec Ideal S1024x256 .bf16) (x2 : Vec Ideal S1024x256 .bf16) (x3 : Vec Ideal S1024x256 .bf16) (x4 : Vec Ideal S1024x256 .bf16) (x5 : Vec Ideal S1024x1024 .bf16) (x6 : Vec Ideal S1x6x1024 .f32) (x7 : Vec Ideal S1x1024 .f32) (x8 : Vec Ideal S2x16x1024 .bf16) (x9 : Vec Ideal S16x1 .f32) :
    ∃ w, (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).2.1 = [⟨Rect.unit (s := S1024x1152) ![0, 1024] ![1024, 128] inb_S1024x1152_S1024x128_0_1024, w⟩,
      ⟨Rect.unit (s := S1024x1152) ![0, 0] ![1024, 1024] inb_S1024x1152_S1024x1024_0_0,
        k0_pay5 (F := Ideal) (k0_pay3 (F := Ideal) (View.readAt (Elt Ideal) arg2.view (Rect.unit (s := S1024x256) ![0, 0] ![1024, 256] inb_S1024x256_S1024x256_0_0).toLoadRect (harg2.unread x1))
        (View.readAt (Elt Ideal) arg3.view (Rect.unit (s := S1024x256) ![0, 0] ![1024, 256] inb_S1024x256_S1024x256_0_0).toLoadRect (harg3.unread x2))
        (View.readAt (Elt Ideal) arg4.view (Rect.unit (s := S1024x256) ![0, 0] ![1024, 256] inb_S1024x256_S1024x256_0_0).toLoadRect (harg4.unread x3))
        (View.readAt (Elt Ideal) arg5.view (Rect.unit (s := S1024x256) ![0, 0] ![1024, 256] inb_S1024x256_S1024x256_0_0).toLoadRect (harg5.unread x4))
        (View.readAt (Elt Ideal) arg6.view (Rect.unit (s := S1024x1024) ![0, 0] ![1024, 1024] inb_S1024x1024_S1024x1024_0_0).toLoadRect (harg6.unread x5))
        (View.readAt (Elt Ideal) arg1.view (Rect.unit (s := S1024x1024) ![0, 0] ![1024, 1024] inb_S1024x1024_S1024x1024_0_0).toLoadRect (harg1.unread x0))
        (View.readAt (Elt Ideal) arg7.view (Rect.unit (s := S1x6x1024) ![0, 2, 0] ![1, 1, 1024] inb_S1x6x1024_S1x1x1024_0_2_0).toLoadRect (harg7.unread x6))
        (View.readAt (Elt Ideal) arg8.view (Rect.unit (s := S1x1024) ![0, 0] ![1, 1024] inb_S1x1024_S1x1024_0_0).toLoadRect (harg8.unread x7)))
        (k0_pay4 (F := Ideal) (View.readAt (Elt Ideal) arg7.view (Rect.unit (s := S1x6x1024) ![0, 4, 0] ![1, 1, 1024] inb_S1x6x1024_S1x1x1024_0_4_0).toLoadRect (harg7.unread x6)))
        (View.readAt (Elt Ideal) arg7.view (Rect.unit (s := S1x6x1024) ![0, 3, 0] ![1, 1, 1024] inb_S1x6x1024_S1x1x1024_0_3_0).toLoadRect (harg7.unread x6))⟩] := by
  unfold kernelRun0_A
  exact ⟨_, rfl⟩

/-- What the body's stores leave in the first output's block, -/
theorem stores_first (c : Dev nD) (t : Fin cfg0.N) : (outsAt0 m c t).1 = VO0_10.read (Elt Ideal) (VO0_10.writes (Elt Ideal) VO0_10.junk
    [⟨Rect.unit (s := S1024x1024) ![0, 0] ![1024, 1024] inb_S1024x1024_S1024x1024_0_0, streamAt m c t⟩]) := by
  unfold outsAt0 out0_A_10
  dsimp only
  rw [run_first]
  rfl

/-- and in the second's: the routing's columns last, over the stream's. -/
theorem stores_second (c : Dev nD) (t : Fin cfg0.N) : ∃ w, (outsAt0 m c t).2.1 = VO0_11.read (Elt Ideal) (VO0_11.writes (Elt Ideal) VO0_11.junk
    [⟨Rect.unit (s := S1024x1152) ![0, 1024] ![1024, 128] inb_S1024x1152_S1024x128_0_1024, w⟩,
      ⟨Rect.unit (s := S1024x1152) ![0, 0] ![1024, 1024] inb_S1024x1152_S1024x1024_0_0, shiftedAt m c t⟩]) := by
  obtain ⟨w, hw⟩ := run_second c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (iblk m c 0 t) (iblk m c 1 t) (iblk m c 2 t) (iblk m c 3 t) (iblk m c 4 t) (iblk m c 5 t) (iblk m c 6 t) (iblk m c 7 t)
    (iblk m c 8 t) (iblk m c 9 t)
  refine ⟨w, ?_⟩
  unfold outsAt0 out0_A_11
  dsimp only
  rw [hw]
  rfl

/-- A store at the leading columns, last, is what those columns are read back as. -/
theorem read_leading {κ : Kind} {sp : Space} {A B C : ℕ} {Val : EltTy → Type} {e : EltTy} (v : View sig κ sp ⟨2, ![A, C]⟩ e) (f : v.ty.Contents Val)
    (inb : ∀ a, (![0, 0] : Fin 2 → ℕ) a + (![A, B] : Fin 2 → ℕ) a ≤ (⟨2, ![A, C]⟩ : Shape).size a) (w : (⟨2, ![A, B]⟩ : Shape).Idx → Val e)
    (L : List (View.Piece Val ⟨2, ![A, C]⟩ e)) (y : Fin A) (j : Fin B) (k : Fin C) (hk : k.val = j.val) :
    v.read Val (v.writes Val f (⟨Rect.unit (s := ⟨2, ![A, C]⟩) ![0, 0] ![A, B] inb, w⟩ :: L)) (ix2 y k) = w (ix2 y j) :=
  View.read_writes_cons_unit_of_mem v f inb w L (ix2 y k) (ix2 y j) rfl (fun a => by
    match a with
    | ⟨0, _⟩ => exact (Nat.zero_add _).symm
    | ⟨1, _⟩ => exact hk.trans (Nat.zero_add _).symm)

/-- A store at the columns after them does not change it. -/
theorem read_past {κ : Kind} {sp : Space} {A B C D : ℕ} {Val : EltTy → Type} {e : EltTy} (v : View sig κ sp ⟨2, ![A, C]⟩ e) (f : v.ty.Contents Val)
    (inb : ∀ a, (![0, B] : Fin 2 → ℕ) a + (![A, D] : Fin 2 → ℕ) a ≤ (⟨2, ![A, C]⟩ : Shape).size a) (u : (⟨2, ![A, D]⟩ : Shape).Idx → Val e)
    (L : List (View.Piece Val ⟨2, ![A, C]⟩ e)) (y : Fin A) (k : Fin C) (hk : k.val < B) :
    v.read Val (v.writes Val f (⟨Rect.unit (s := ⟨2, ![A, C]⟩) ![0, B] ![A, D] inb, u⟩ :: L)) (ix2 y k) = v.read Val (v.writes Val f L) (ix2 y k) :=
  View.read_writes_cons_unit_of_not_mem v f inb u L (ix2 y k) rfl (1 : Fin 2) (Or.inl hk)

/-- A column of the stream among the second output's. -/
def wide (j : Fin 1024) : Fin 1152 := ⟨j.val, by have := j.isLt; omega⟩

/-- The first output's stores, read back through any view. -/
theorem first_read (v : View sig .tc .vmem S1024x1024 .f32) (f : v.ty.Contents (Elt Ideal)) (w : FVec Ideal S1024x1024 .f32) (y j : Fin 1024) :
    v.read (Elt Ideal) (v.writes (Elt Ideal) f [⟨Rect.unit (s := S1024x1024) ![0, 0] ![1024, 1024] inb_S1024x1024_S1024x1024_0_0, w⟩]) (ix2 y j) = w (ix2 y j) :=
  read_leading v f inb_S1024x1024_S1024x1024_0_0 w [] y j j rfl

/-- The second's, at the stream's columns. -/
theorem second_read (v : View sig .tc .vmem S1024x1152 .f32) (f : v.ty.Contents (Elt Ideal)) (u : S1024x128.Idx → EReal) (w : FVec Ideal S1024x1024 .f32)
    (y j : Fin 1024) :
    v.read (Elt Ideal) (v.writes (Elt Ideal) f [⟨Rect.unit (s := S1024x1152) ![0, 1024] ![1024, 128] inb_S1024x1152_S1024x128_0_1024, u⟩,
      ⟨Rect.unit (s := S1024x1152) ![0, 0] ![1024, 1024] inb_S1024x1152_S1024x1024_0_0, w⟩]) (ix2 y (wide j)) = w (ix2 y j) :=
  (read_past v f inb_S1024x1152_S1024x128_0_1024 u _ y (wide j) j.isLt).trans
    (read_leading v f inb_S1024x1152_S1024x1024_0_0 w [] y j (wide j) rfl)

/-- The first output's block, -/
theorem first_at (c : Dev nD) (t : Fin cfg0.N) (y j : Fin 1024) :
    (outsAt0 m c t).1 (ix2 y j) = mixedArr m c (ix2 (tokenOf t y) j) := by
  rw [stores_first m c t, ← streamAt_apply m c t y j]
  generalize streamAt m c t = w
  exact first_read VO0_10 VO0_10.junk w y j

/-- and the second's, at the stream's columns. -/
theorem second_at (c : Dev nD) (t : Fin cfg0.N) (y j : Fin 1024) :
    (outsAt0 m c t).2.1 (ix2 y (wide j)) = hiddenArr m c (ix2 (tokenOf t y) j) := by
  obtain ⟨w, hw⟩ := stores_second m c t
  rw [hw, ← shiftedAt_apply m c t y j]
  generalize shiftedAt m c t = u
  exact second_read VO0_11 VO0_11.junk w u y j

/-- The first output's block after the point, -/
theorem mixed_block (c : Dev nD) (t : Fin cfg0.N) (y j : Fin 1024) :
    ((dats m 0 c).after 10 t : S1024x1024.Idx → EReal) (ix2 y j) = mixedArr m c (ix2 (tokenOf t y) j) := by
  rw [after0_10 m c t]
  exact first_at m c t y j

/-- and the second's, at the stream's columns. -/
theorem hidden_block (c : Dev nD) (t : Fin cfg0.N) (y j : Fin 1024) :
    ((dats m 0 c).after 11 t : S1024x1152.Idx → EReal) (ix2 y (wide j)) = hiddenArr m c (ix2 (tokenOf t y) j) := by
  rw [after0_11 m c t]
  exact second_at m c t y j

/-! ## The whole arrays -/

theorem nblk_first (b : Fin 2) : (cfg0.win (10 : Fin 13)).nblk b = (![64, 1] : Fin 2 → ℕ) b := by
  match b with
  | ⟨0, _⟩ => show (65536 + 1024 - 1) / 1024 = 64; decide
  | ⟨1, _⟩ => show (1024 + 1024 - 1) / 1024 = 1; decide

theorem nblk_second (b : Fin 2) : (cfg0.win (11 : Fin 13)).nblk b = (![64, 1] : Fin 2 → ℕ) b := by
  match b with
  | ⟨0, _⟩ => show (65536 + 1024 - 1) / 1024 = 64; decide
  | ⟨1, _⟩ => show (1152 + 1152 - 1) / 1152 = 1; decide

/-- The outputs' blocks cover their arrays. -/
theorem covers_first : (cfg0.win (10 : Fin 13)).Covers :=
  (cfg0.win (10 : Fin 13)).covers_of_indexMap_surj rfl
    (fun b => by
      match b with
      | ⟨0, _⟩ => show 0 < 1024; decide
      | ⟨1, _⟩ => show 0 < 1024; decide)
    fun β => ⟨point ⟨(β (0 : Fin 2)).val, lt_of_lt_of_eq (β (0 : Fin 2)).isLt (nblk_first 0)⟩, fun b => by
      match b with
      | ⟨0, _⟩ =>
        show (BitVec.ofNat 32 (β (0 : Fin 2)).val).toNat = (β (0 : Fin 2)).val
        rw [BitVec.toNat_ofNat]
        have : (β (0 : Fin 2)).val < 64 := lt_of_lt_of_eq (β (0 : Fin 2)).isLt (nblk_first 0)
        omega
      | ⟨1, _⟩ =>
        have : (β (1 : Fin 2)).val < 1 := lt_of_lt_of_eq (β (1 : Fin 2)).isLt (nblk_first 1)
        show 0 = (β (1 : Fin 2)).val
        omega⟩

theorem covers_second : (cfg0.win (11 : Fin 13)).Covers :=
  (cfg0.win (11 : Fin 13)).covers_of_indexMap_surj rfl
    (fun b => by
      match b with
      | ⟨0, _⟩ => show 0 < 1024; decide
      | ⟨1, _⟩ => show 0 < 1152; decide)
    fun β => ⟨point ⟨(β (0 : Fin 2)).val, lt_of_lt_of_eq (β (0 : Fin 2)).isLt (nblk_second 0)⟩, fun b => by
      match b with
      | ⟨0, _⟩ =>
        show (BitVec.ofNat 32 (β (0 : Fin 2)).val).toNat = (β (0 : Fin 2)).val
        rw [BitVec.toNat_ofNat]
        have : (β (0 : Fin 2)).val < 64 := lt_of_lt_of_eq (β (0 : Fin 2)).isLt (nblk_second 0)
        omega
      | ⟨1, _⟩ =>
        have : (β (1 : Fin 2)).val < 1 := lt_of_lt_of_eq (β (1 : Fin 2)).isLt (nblk_second 1)
        show 0 = (β (1 : Fin 2)).val
        omega⟩

theorem arr_first (c : Dev nD) : (dats m 0 c).arrAt (10 : Fin 13) cfg0.N = mixedArr m c := by
  refine (dats m 0 c).arrAt_eq_of_covers (10 : Fin 13) _ covers_first fun t hf y => ?_
  have hy : y = ix2 (y (0 : Fin 2)) (y (1 : Fin 2)) := eq_ix2 y
  refine (congrArg ((dats m 0 c).after 10 t : S1024x1024.Idx → EReal) hy).trans ?_
  refine (mixed_block m c t _ _).trans (congrArg (mixedArr m c) ?_)
  funext b
  apply Fin.ext
  refine Eq.trans ?_ (Pipeline.Window.rect_emb_val (cfg0.win (10 : Fin 13)) t y b).symm
  match b with
  | ⟨0, _⟩ =>
    show t.val * 1024 + (y (0 : Fin 2)).val = (BitVec.ofNat 32 (grid0.coords t 0).val).toNat * 1024 + (y (0 : Fin 2)).val
    exact congrArg (fun n => n * 1024 + (y (0 : Fin 2)).val) (word_coord0 t).symm
  | ⟨1, _⟩ =>
    show (y (1 : Fin 2)).val = 0 * 1024 + (y (1 : Fin 2)).val
    rw [Nat.zero_mul, Nat.zero_add]

/-- The point whose block holds row `r`, and the row's place in it. -/
def pointOf (r : Fin 65536) : Fin cfg0.N := ⟨r.val / 1024, by have hN : cfg0.N = 64 := rfl; have := r.isLt; omega⟩
def placeIn (r : Fin 65536) : Fin 1024 := ⟨r.val % 1024, Nat.mod_lt _ (by decide)⟩

theorem token_place (r : Fin 65536) : tokenOf (pointOf r) (placeIn r) = r := Fin.ext (Nat.div_add_mod' _ _)
theorem point_token (t : Fin cfg0.N) (y : Fin 1024) : pointOf (tokenOf t y) = t :=
  Fin.ext (by show (t.val * 1024 + y.val) / 1024 = t.val; have := y.isLt; omega)
theorem place_token (t : Fin cfg0.N) (y : Fin 1024) : placeIn (tokenOf t y) = y :=
  Fin.ext (by show (t.val * 1024 + y.val) % 1024 = y.val; have := y.isLt; omega)

/-- The second output's whole array: at a row, what the row's point leaves. -/
def wholeSecond (c : Dev nD) : S65536x1152.Idx → EReal := fun i =>
  ((dats m 0 c).after 11 (pointOf (i (0 : Fin 2))) : S1024x1152.Idx → EReal) (ix2 (placeIn (i (0 : Fin 2))) (i (1 : Fin 2)))

theorem wholeSecond_at (c : Dev nD) (t : Fin cfg0.N) (y : Fin 1024) (k : Fin 1152) :
    wholeSecond m c (ix2 (tokenOf t y) k) = ((dats m 0 c).after 11 t : S1024x1152.Idx → EReal) (ix2 y k) := by
  show ((dats m 0 c).after 11 (pointOf (tokenOf t y)) : S1024x1152.Idx → EReal) (ix2 (placeIn (tokenOf t y)) k) = _
  rw [point_token, place_token]

theorem arr_second (c : Dev nD) : (dats m 0 c).arrAt (11 : Fin 13) cfg0.N = wholeSecond m c := by
  refine (dats m 0 c).arrAt_eq_of_covers (11 : Fin 13) _ covers_second fun t hf y => ?_
  have hy : y = ix2 (y (0 : Fin 2)) (y (1 : Fin 2)) := eq_ix2 y
  refine (congrArg ((dats m 0 c).after 11 t : S1024x1152.Idx → EReal) hy).trans ?_
  refine (wholeSecond_at m c t _ _).symm.trans (congrArg (wholeSecond m c) ?_)
  funext b
  apply Fin.ext
  refine Eq.trans ?_ (Pipeline.Window.rect_emb_val (cfg0.win (11 : Fin 13)) t y b).symm
  match b with
  | ⟨0, _⟩ =>
    show t.val * 1024 + (y (0 : Fin 2)).val = (BitVec.ofNat 32 (grid0.coords t 0).val).toNat * 1024 + (y (0 : Fin 2)).val
    exact congrArg (fun n => n * 1024 + (y (0 : Fin 2)).val) (word_coord0 t).symm
  | ⟨1, _⟩ =>
    show (y (1 : Fin 2)).val = 0 * 1152 + (y (1 : Fin 2)).val
    rw [Nat.zero_mul, Nat.zero_add]

/-- Its leading columns are the normalised stream. -/
theorem slice_second (c : Dev nD) : extractStridedSlice S65536x1024 ![0, 0] (wholeSecond m c) slices_S65536x1152_S65536x1024_0_0 = hiddenArr m c := by
  funext (i : S65536x1024.Idx)
  have hi : i = ix2 (i (0 : Fin 2)) (i (1 : Fin 2)) := eq_ix2 i
  rw [hi]
  generalize (i (0 : Fin 2) : Fin 65536) = r
  generalize (i (1 : Fin 2) : Fin 1024) = j
  refine (extractStridedSlice_apply _ _ _ _ (ix2 r (wide j)) (fun ax => by
    match ax with
    | ⟨0, _⟩ => exact (Nat.zero_add _).symm
    | ⟨1, _⟩ => exact (Nat.zero_add _).symm)).trans ?_
  have h := hidden_block m c (pointOf r) (placeIn r) j
  exact h.trans (congrArg (fun q : Fin 65536 => hiddenArr m c (ix2 q j)) (token_place r))

/-- The arrays the windows are over are all different. -/
theorem arrays_inj : Function.Injective (Pipeline.arrRef spec0) := by
  have h : ∀ w w' : Fin 13, Pipeline.arrRef spec0 w = Pipeline.arrRef spec0 w' → w = w' := by decide
  exact fun w w' => h w w'

/-- What the slice after the region leaves. -/
theorem tail_second (c : Dev nD) : Pipeline.afterTail₀ cfgs (dats m) 0 (V0 m) [hostOps1] c main_v15 = hiddenArr m c := by
  refine Eq.trans ?_ (slice_second m c)
  rw [← arr_second m c]
  unfold Pipeline.afterTail₀
  simp only [List.flatten_cons, List.flatten_nil, List.append_nil]
  unfold hostOps1
  after_results
  exact congrArg (fun X : S65536x1152.Idx → EReal => extractStridedSlice S65536x1024 ![0, 0] X slices_S65536x1152_S65536x1024_0_0)
    (Pipeline.withArrays_arr spec0 arrays_inj c (V0 m c) (fun w => (dats m 0 c).arrAt w cfg0.N) (11 : Fin 13))

/-- The kernel's run leaves the two arrays. -/
theorem run_out (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14_0) = mixedArr m c
      ∧ r.2.mem ((c.tc : Thread nD τ).loc main_v15) = hiddenArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono (fun _ q c => ⟨((q.2 c).1 (10 : Fin 13)).trans (arr_first m c),
      ((q.2 c).2 main_v15 (Pipeline.mem_restRefs_of main_v15 (by decide) (by decide))).trans (tail_second m c), q.1 c⟩)
    (θ_run_and (unchanged m ρ) (run_main m ρ))

end

theorem frame_reference5Ideal : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- Over the extended reals the kernel's two arrays and the reference's are the same. -/
theorem algebraic_out : Cert.algebraic_Kernel5Ideal_Reference5Ideal := fun m ρ m' ρ' _ ha =>
  ⟨fun c => mixedArr m c, fun c => hiddenArr m c, run_out m ρ,
    (θ_run Cert.Reference5Ideal.defs _ _).mono (fun _ h c => ⟨(h c).1.trans (funext fun (i : S65536x1024.Idx) => by
        rw [(ha c).1, (ha c).2.1, (ha c).2.2.1, (ha c).2.2.2.1, (ha c).2.2.2.2.1, (ha c).2.2.2.2.2.1, (ha c).2.2.2.2.2.2.1]
        have hi : i = ix2 (i (0 : Fin 2)) (i (1 : Fin 2)) := eq_ix2 i
        rw [hi]
        refine (Cert.Reference5Ideal.Out.list_apply _ (i (0 : Fin 2)) (i (1 : Fin 2))).trans ?_
        exact Cert.Reference5Ideal.Out.stream_apply (resArg m c) (oaArg m c) (obArg m c) (ocArg m c) (odArg m c) (matArg m c) (modArg m c)
          (i (0 : Fin 2)) (i (1 : Fin 2))),
      (h c).2.1.trans (funext fun (i : S65536x1024.Idx) => by
        have hi : i = ix2 (i (0 : Fin 2)) (i (1 : Fin 2)) := eq_ix2 i
        rw [hi]
        exact Cert.Reference5Ideal.Out.second_apply m' c (resArg m c) (oaArg m c) (obArg m c) (ocArg m c) (odArg m c) (matArg m c) (modArg m c)
          (scaleArg m c) (ha c).1 (ha c).2.1 (ha c).2.2.1 (ha c).2.2.2.1 (ha c).2.2.2.2.1 (ha c).2.2.2.2.2.1 (ha c).2.2.2.2.2.2.1
          (ha c).2.2.2.2.2.2.2.1 (i (0 : Fin 2)) (i (1 : Fin 2))), (h c).2.2⟩)
      (Cert.Reference5Ideal.Value.run (F := Ideal) m' ρ')⟩

end Cert.Kernel5Ideal.Out

end
-- ==== Proof.Front.Math.lean ====
/-
  The input projection's first result, of the arguments: the normalised, scaled and shifted stream times the leading
  columns of the projection matrix, the queries' columns scaled.
-/
module

public import proofs.«01_k».proof.Proof.Back.Math
public import proofs.«01_k».proof.Proof.Out.Math
public import Idealize.ShloMosaic.Lib.Pipeline.Value
public import Idealize.ShloMosaic.PureOps.Ideal

@[expose] public section

noncomputable section

namespace Cert.Front

open Idealize.ShloMosaic Idealize.ShloMosaic.ValueIdx
open Cert.Back (seqOf placeOf normAt)
open Cert.Out (partCol)

/-- The queries' scale: one eighth, the reciprocal root of a head's width. -/
def eighth : EReal := Ideal.ofBits .f32 0x3E000000#32
/-- The base change of the exponential: the word nearest the binary logarithm of `e`. -/
def log2e : EReal := Ideal.ofBits .f32 0x3FB8AA3B#32

theorem eighth_eq : eighth = (((1 : ℝ) / 8 : ℝ) : EReal) := by
  unfold eighth
  simp [Ideal.ofBits, Ideal.ieee, -EReal.coe_mul]; norm_num

theorem eighth_nonneg : 0 ≤ eighth := by
  rw [eighth_eq]
  exact EReal.coe_nonneg.mpr (by norm_num)

theorem eighth_ne_top : eighth ≠ ⊤ := by
  rw [eighth_eq]
  exact EReal.coe_ne_top _

/-- A sum of products whose second factors all carry a real factor that is not negative. -/
theorem sum_scaled {K : ℕ} (f w : Fin K → EReal) (a : EReal) (h0 : 0 ≤ a) (ht : a ≠ ⊤) :
    ∑ d : Fin K, f d * (w d * a) = (∑ d : Fin K, f d * w d) * a := by
  have h : ∀ s : Finset (Fin K), ∑ d ∈ s, f d * (w d * a) = (∑ d ∈ s, f d * w d) * a := by
    intro s
    induction s using Finset.induction_on with
    | empty => rw [Finset.sum_empty, Finset.sum_empty, zero_mul]
    | insert b s hb ih =>
      rw [Finset.sum_insert hb, Finset.sum_insert hb, ih, EReal.right_distrib_of_nonneg_of_ne_top h0 ht, mul_assoc]
  exact h Finset.univ

/-- A leading column among the matrix's. -/
def colOf (n : Fin 768) : Fin 2380 := ⟨n.val, by have := n.isLt; omega⟩

section
variable (x : (⟨3, ![32, 2048, 1024]⟩ : Shape).Idx → EReal) (md : (⟨2, ![32, 6144]⟩ : Shape).Idx → EReal)
  (g : (⟨1, ![1024]⟩ : Shape).Idx → EReal) (w : (⟨2, ![1024, 2380]⟩ : Shape).Idx → EReal)

/-- The stream normalised, scaled and shifted. -/
def hiddenAt (r : Fin 65536) (j : Fin 1024) : EReal :=
  normAt g (fun d => x (ix3 (seqOf r) (placeOf r) d)) j * (1 + md (ix2 (seqOf r) (partCol 1 j))) + md (ix2 (seqOf r) (partCol 0 j))

/-- A column of its projection. -/
def projAt (r : Fin 65536) (n : Fin 2380) : EReal := ∑ d : Fin 1024, hiddenAt x md g r d * w (ix2 d n)

/-- The result: queries, scaled; keys and values, as they are. -/
def headsAt (r : Fin 65536) (n : Fin 768) : EReal :=
  if n.val < 256 then projAt x md g w r (colOf n) * eighth * log2e else projAt x md g w r (colOf n)

def headsOut : (⟨2, ![65536, 768]⟩ : Shape).Idx → EReal := fun i => headsAt x md g w (i 0) (i 1)
end

end Cert.Front

end
-- ==== Proof.Front.Tile.lean ====
/-
  The input projection's blocks over the extended reals, read at a row and a column.
-/
module

public import proofs.«01_k».proof.Proof.Front.Math
public import proofs.«01_k».proof.Proof.Gen.Kernel6Ideal.Skeleton
public import Idealize.ShloMosaic.Lib.IdealHost
public import Idealize.ShloMosaic.Lib.MatmulPlain
public import Idealize.ShloMosaic.Lib.Pipeline.Value
public import Idealize.ShloMosaic.PureOps.Ideal.Laws

@[expose] public section

set_option maxRecDepth 16384

noncomputable section

namespace Cert.Kernel6Ideal.Front

open Cert.Kernel6Ideal Cert.Kernel6Ideal.Gen
open Idealize.ShloMosaic Idealize.ShloMosaic.ValueIdx Idealize.ShloMosaic.TcCoe
open Cert.Back (normAt)
open Cert.Front

theorem dot_eq : dot_S1024x1024_S1024x768_S1024x768_1_0_0_1_n_n = DotDims.plain 1024 1024 768 := rfl

/-- A row of the modulation, over every row. -/
theorem row_at (M : FVec Ideal S1x1024 .f32) (y d : Fin 1024) :
    broadcastTo S1024x1024 M broadcasts_S1x1024_S1024x1024 (ix2 y d) = M (ix2 (0 : Fin 1) d) :=
  broadcastTo_apply _ _ _ (ix2 (0 : Fin 1) d) (fun a => by
    match a with
    | ⟨0, _⟩ => rfl
    | ⟨1, _⟩ => rfl)

theorem flat_at (M : FVec Ideal S1x1x1024 .f32) (d : Fin 1024) :
    shapeCast S1x1024 M shapeCasts_S1x1x1024_S1x1024 (ix2 (0 : Fin 1) d) = M (ix3 (0 : Fin 1) (0 : Fin 1) d) := by
  refine shapeCast_apply M _ _ _ ?_
  rw [Shape.rowMajor_val_two, Shape.rowMajor_val_three]
  show (0 * 1 + 0) * 1024 + d.val = 0 * 1024 + d.val
  omega

/-- A block normalised and scaled by a row. -/
def normed (H : FVec Ideal S1024x1024 .f32) (G : FVec Ideal S1x1024 .f32) : FVec Ideal S1024x1024 .f32 :=
  mulf (mulf H (broadcastTo S1024x1024 (rsqrt (addf (divf (shapeCast S1024x1 (multiReduction .add [1] S1024 (mulf H H) 0x00000000#32 reduces_S1024x1024_S1024 (.inl rfl) rfl)
    shapeCasts_S1024_S1024x1) (broadcast S1024x1 (Scalar.ofBits .f32 0x44800000#32))) (broadcast S1024x1 (Scalar.ofBits .f32 0x358637BD#32))))
    broadcasts_S1024x1_S1024x1024)) (broadcastTo S1024x1024 (shapeCast S1x1024 G shapeCasts_S1x1024_S1x1024) broadcasts_S1x1024_S1024x1024)

theorem normed_at (H : FVec Ideal S1024x1024 .f32) (G : FVec Ideal S1x1024 .f32) (g : (⟨1, ![1024]⟩ : Shape).Idx → EReal) (y j : Fin 1024)
    (hg : G (ix2 (0 : Fin 1) j) = g (ix1 j)) : normed H G (ix2 y j) = normAt g (fun d => H (ix2 y d)) j := by
  have q : multiReduction .add [1] S1024 (mulf H H) 0x00000000#32 reduces_S1024x1024_S1024 (.inl rfl) rfl (ix1 y)
      = ∑ d : Fin 1024, H (ix2 y d) * H (ix2 y d) := by
    refine (Ideal.multiReduction_add_single (mulf H H) _ reduces_S1024x1024_S1024 _ _ (ix1 y)).trans ?_
    refine Finset.sum_congr rfl fun d _ => ?_
    have e : reduces_S1024x1024_S1024.lift (ix1 y) d = ix2 y d := by
      funext b
      apply Fin.ext
      match b with
      | ⟨0, _⟩ => rfl
      | ⟨1, _⟩ => rfl
    rw [e]
    rfl
  have e1 : shapeCast S1024x1 (multiReduction .add [1] S1024 (mulf H H) 0x00000000#32 reduces_S1024x1024_S1024 (.inl rfl) rfl) shapeCasts_S1024_S1024x1
      (ix2 y (0 : Fin 1)) = ∑ d : Fin 1024, H (ix2 y d) * H (ix2 y d) := by
    refine (shapeCast_apply _ _ _ (ix1 y) ?_).trans q
    rw [Shape.rowMajor_val_two, Shape.rowMajor_val_one]
    show y.val = y.val * 1 + 0
    omega
  have e2 (R : FVec Ideal S1024x1 .f32) : broadcastTo S1024x1024 R broadcasts_S1024x1_S1024x1024 (ix2 y j) = R (ix2 y (0 : Fin 1)) :=
    broadcastTo_apply R _ _ _ (fun a => by
      match a with
      | ⟨0, _⟩ => rfl
      | ⟨1, _⟩ => rfl)
  unfold normed normAt
  rw [← e1, ← hg]
  exact congrArg₂ (fun p q : EReal => p * q) (congrArg (H (ix2 y j) * ·) (e2 _)) ((row_at _ y j).trans (shapeCast_apply G _ _ _ rfl))

/-- A block cast to its own shape is the block. -/
theorem same (X : FVec Ideal S1024x1024 .f32) : shapeCast S1024x1024 X shapeCasts_S1024x1024_S1024x1024 = X :=
  funext fun i => shapeCast_apply X _ _ _ rfl

/-- The normalised, scaled and shifted block. -/
theorem hidden_at (X : FVec Ideal S1024x1024 .f32) (G : FVec Ideal S1x1024 .f32) (P Q : FVec Ideal S1x1x1024 .f32)
    (g : (⟨1, ![1024]⟩ : Shape).Idx → EReal) (y j : Fin 1024) (hg : G (ix2 (0 : Fin 1) j) = g (ix1 j)) :
    (k0_pay4 (F := Ideal) X G P Q : S1024x1024.Idx → EReal) (ix2 y j)
      = normAt g (fun d => X (ix2 y d)) j * (1 + P (ix3 (0 : Fin 1) (0 : Fin 1) j)) + Q (ix3 (0 : Fin 1) (0 : Fin 1) j) := by
  have e : (k0_pay4 (F := Ideal) X G P Q : S1024x1024.Idx → EReal) = addf (mulf (normed (shapeCast S1024x1024 X shapeCasts_S1024x1024_S1024x1024) G) (broadcastTo S1024x1024
      (addf (broadcast S1x1024 (Scalar.ofBits .f32 0x3F800000#32)) (shapeCast S1x1024 P shapeCasts_S1x1x1024_S1x1024) : FVec Ideal S1x1024 .f32)
      broadcasts_S1x1024_S1024x1024)) (broadcastTo S1024x1024 (shapeCast S1x1024 Q shapeCasts_S1x1x1024_S1x1024) broadcasts_S1x1024_S1024x1024) := rfl
  rw [e, same]
  refine congrArg₂ (fun p q : EReal => p + q) (congrArg₂ (fun p q : EReal => p * q) (normed_at X G g y j hg) ?_) ((row_at _ y j).trans (flat_at Q j))
  refine (row_at _ y j).trans (congrArg₂ (fun p q : EReal => p + q) ?_ (flat_at P j))
  exact Ideal.ofBits_one_f32

/-- Its projection. -/
theorem proj_at (X : FVec Ideal S1024x1024 .f32) (G : FVec Ideal S1x1024 .f32) (P Q : FVec Ideal S1x1x1024 .f32) (W : FVec Ideal S1024x768 .bf16)
    (y : Fin 1024) (n : Fin 768) :
    k0_pay6 (F := Ideal) X G P Q W (ix2 y n)
      = ∑ d : Fin 1024, (k0_pay4 (F := Ideal) X G P Q : S1024x1024.Idx → EReal) (ix2 y d) * (W : S1024x768.Idx → EReal) (ix2 d n) := by
  have e : k0_pay6 (F := Ideal) X G P Q W = matmul dot_S1024x1024_S1024x768_S1024x768_1_0_0_1_n_n none (k0_pay4 (F := Ideal) X G P Q)
      (shapeCast S1024x768 W shapeCasts_S1024x768_S1024x768 : FVec Ideal S1024x768 .bf16) (constant S1024x768 .f32 0x00000000#32) := rfl
  rw [e, dot_eq]
  refine (Ideal.matmul_plain_apply none _ _ _ y n).trans ?_
  show Ideal.ofBits .f32 0x00000000#32 + _ = _
  rw [Ideal.ofBits_zero_f32, zero_add]
  exact Finset.sum_congr rfl fun d _ => congrArg (_ * ·) (shapeCast_apply W _ _ _ rfl)

/-- The queries' columns, and the keys' and values'. -/
def early (n : Fin 256) : Fin 768 := ⟨n.val, by have := n.isLt; omega⟩
def late (n : Fin 512) : Fin 768 := ⟨256 + n.val, by have := n.isLt; omega⟩

theorem query_at (X : FVec Ideal S1024x1024 .f32) (G : FVec Ideal S1x1024 .f32) (P Q : FVec Ideal S1x1x1024 .f32) (W : FVec Ideal S1024x768 .bf16)
    (y : Fin 1024) (n : Fin 256) :
    (k0_pay7 (F := Ideal) X G P Q W : S1024x256.Idx → EReal) (ix2 y n) = k0_pay6 (F := Ideal) X G P Q W (ix2 y (early n)) * log2e := by
  have e : (k0_pay7 (F := Ideal) X G P Q W : S1024x256.Idx → EReal)
      = mulf (extractStridedSlice S1024x256 ![0, 0] (k0_pay6 (F := Ideal) X G P Q W) slices_S1024x768_o0_0_S1024x256 : FVec Ideal S1024x256 .f32)
        (broadcast S1024x256 (Scalar.ofBits .f32 0x3FB8AA3B#32)) := rfl
  rw [e]
  generalize k0_pay6 (F := Ideal) X G P Q W = Z
  refine congrArg (fun p : EReal => p * log2e) (extractStridedSlice_apply _ _ _ _ (ix2 y (early n)) (fun ax => by
    match ax with
    | ⟨0, _⟩ => exact (Nat.zero_add _).symm
    | ⟨1, _⟩ => exact (Nat.zero_add _).symm))

theorem rest_at (Z : FVec Ideal S1024x768 .f32) (y : Fin 1024) (n : Fin 512) :
    (k0_pay8 (F := Ideal) Z : S1024x512.Idx → EReal) (ix2 y n) = Z (ix2 y (late n)) := by
  have e : (k0_pay8 (F := Ideal) Z : S1024x512.Idx → EReal)
      = (extractStridedSlice S1024x512 ![0, 256] Z slices_S1024x768_o0_256_S1024x512 : FVec Ideal S1024x512 .f32) := rfl
  rw [e]
  exact extractStridedSlice_apply _ _ _ _ (ix2 y (late n)) (fun ax => by
    match ax with
    | ⟨0, _⟩ => exact (Nat.zero_add _).symm
    | ⟨1, _⟩ => rfl)

end Cert.Kernel6Ideal.Front

end
-- ==== Proof.Front.Refer.lean ====
/-
  The reference of the input projection's first result over the extended reals, read at a row and a column.
-/
module

public import proofs.«01_k».proof.Proof.Front.Math
public import proofs.«01_k».proof.Proof.Back.Squares
public import proofs.«01_k».proof.Proof.Gen.Reference6Ideal.Run
public import Idealize.ShloMosaic.Lib.Pipeline.Value
public import Idealize.ShloMosaic.Lib.IdealHost
public import Idealize.ShloMosaic.Lib.StackMember
public import Idealize.ShloMosaic.PureOps.Ideal.Laws

@[expose] public section

set_option maxRecDepth 16384

noncomputable section

namespace Cert.Reference6Ideal.Front

open Cert.Reference6Ideal Cert.Reference6Ideal.Gen
open Idealize.ShloMosaic Idealize.ShloMosaic.ValueIdx Idealize.ShloMosaic.TcCoe
open Cert.Back (seqOf placeOf normAt sum_row)
open Cert.Out (partCol)
open Cert.Front

/-! ## The normalised, scaled and shifted stream -/

/-- One part of the modulation, at a sequence. -/
theorem part_apply (o : Fin 6) (n : ℕ) (hn : n = o.val * 1024) (md : FVec Ideal S32x6144 .f32) (h : S32x1x6144.Slices ![0, 0, n] S32x1x1024)
    (b : Fin 32) (d : Fin 1024) :
    extractStridedSlice S32x1x1024 ![0, 0, n] (broadcastInDim S32x1x6144 ![0, 2] bcast_S32x6144_S32x1x6144_0_2 md) h (ix3 b (0 : Fin 1) d)
      = md (ix2 b (partCol o d)) := by
  subst hn
  refine (extractStridedSlice_apply _ _ _ _ (ix3 b (0 : Fin 1) (partCol o d)) (fun ax => by
    match ax with
    | ⟨0, _⟩ => exact (Nat.zero_add _).symm
    | ⟨1, _⟩ => rfl
    | ⟨2, _⟩ => rfl)).trans ?_
  exact broadcastInDim_apply _ _ _ _ (ix2 b (partCol o d)) (fun ax => by
    match ax with
    | ⟨0, _⟩ => rfl
    | ⟨1, _⟩ => rfl)

/-- A sequence's row, over every place. -/
theorem over_apply (M : FVec Ideal S32x1x1024 .f32) (b : Fin 32) (s : Fin 2048) (d : Fin 1024) :
    broadcastInDim S32x2048x1024 ![0, 1, 2] bcast_S32x1x1024_S32x2048x1024_0_1_2 M (ix3 b s d) = M (ix3 b (0 : Fin 1) d) :=
  broadcastInDim_apply _ _ _ _ (ix3 b (0 : Fin 1) d) (fun ax => by
    match ax with
    | ⟨0, _⟩ => rfl
    | ⟨1, _⟩ => rfl
    | ⟨2, _⟩ => rfl)

/-- The reciprocal root mean square, over every column. -/
theorem scale_apply (S : FVec Ideal S32x2048x1024 .f32) (b : Fin 32) (s : Fin 2048) (d : Fin 1024) :
    broadcastInDim S32x2048x1024 ![0, 1, 2] bcast_S32x2048x1_S32x2048x1024_0_1_2 (Host.rsqrt (addf (Host.divf
      (broadcastInDim S32x2048x1 ![0, 1] bcast_S32x2048_S32x2048x1_0_1
        (Host.reduceAdd (mulf S S) (constant S_ .f32 0x00000000#32) reducesTo_S32x2048x1024_S32x2048_d2 h_S_))
      (broadcastInDim S32x2048x1 ![] bcast_S_S32x2048x1 (constant S_ .f32 0x44800000#32)))
      (broadcastInDim S32x2048x1 ![] bcast_S_S32x2048x1 (constant S_ .f32 0x358637BD#32)))) (ix3 b s d)
      = Ideal.rsqrt (Ideal.div (∑ d : Fin 1024, S (ix3 b s d) * S (ix3 b s d)) (Ideal.ofBits .f32 0x44800000#32) + Ideal.ofBits .f32 0x358637BD#32) := by
  refine (broadcastInDim_apply _ _ _ _ (ix3 b s (0 : Fin 1)) (fun ax => by
    match ax with
    | ⟨0, _⟩ => rfl
    | ⟨1, _⟩ => rfl
    | ⟨2, _⟩ => rfl)).trans ?_
  have e : broadcastInDim S32x2048x1 ![0, 1] bcast_S32x2048_S32x2048x1_0_1
      (Host.reduceAdd (mulf S S) (constant S_ .f32 0x00000000#32) reducesTo_S32x2048x1024_S32x2048_d2 h_S_) (ix3 b s (0 : Fin 1))
      = ∑ d : Fin 1024, S (ix3 b s d) * S (ix3 b s d) :=
    (broadcastInDim_apply _ _ _ _ (ix2 b s) (fun ax => by
      match ax with
      | ⟨0, _⟩ => rfl
      | ⟨1, _⟩ => rfl)).trans (sum_row reducesTo_S32x2048x1024_S32x2048_d2 (mulf S S) b s)
  rw [← e]
  rfl

/-- The scale, over every place. -/
theorem weight_apply (g : FVec Ideal S1024 .f32) (b : Fin 32) (s : Fin 2048) (d : Fin 1024) :
    broadcastInDim S32x2048x1024 ![0, 1, 2] bcast_S1x1x1024_S32x2048x1024_0_1_2 (broadcastInDim S1x1x1024 ![2] bcast_S1024_S1x1x1024_2 g) (ix3 b s d)
      = g (ix1 d) := by
  refine (broadcastInDim_apply _ _ _ _ (ix3 (0 : Fin 1) (0 : Fin 1) d) (fun ax => by
    match ax with
    | ⟨0, _⟩ => rfl
    | ⟨1, _⟩ => rfl
    | ⟨2, _⟩ => rfl)).trans ?_
  exact broadcastInDim_apply _ _ _ _ (ix1 d) (fun ax => by
    match ax with
    | ⟨0, _⟩ => rfl)

/-- The stream normalised, scaled and shifted, as sequences. -/
def hidden (x : FVec Ideal S32x2048x1024 .f32) (g : FVec Ideal S1024 .f32) (md : FVec Ideal S32x6144 .f32) : FVec Ideal S32x2048x1024 .f32 :=
  addf (mulf (mulf (mulf x (broadcastInDim S32x2048x1024 ![0, 1, 2] bcast_S32x2048x1_S32x2048x1024_0_1_2 (Host.rsqrt (addf (Host.divf
      (broadcastInDim S32x2048x1 ![0, 1] bcast_S32x2048_S32x2048x1_0_1
        (Host.reduceAdd (mulf x x) (constant S_ .f32 0x00000000#32) reducesTo_S32x2048x1024_S32x2048_d2 h_S_))
      (broadcastInDim S32x2048x1 ![] bcast_S_S32x2048x1 (constant S_ .f32 0x44800000#32)))
      (broadcastInDim S32x2048x1 ![] bcast_S_S32x2048x1 (constant S_ .f32 0x358637BD#32))))))
      (broadcastInDim S32x2048x1024 ![0, 1, 2] bcast_S1x1x1024_S32x2048x1024_0_1_2 (broadcastInDim S1x1x1024 ![2] bcast_S1024_S1x1x1024_2 g)))
      (broadcastInDim S32x2048x1024 ![0, 1, 2] bcast_S32x1x1024_S32x2048x1024_0_1_2 (addf (broadcastInDim S32x1x1024 ![] bcast_S_S32x1x1024
        (constant S_ .f32 0x3F800000#32)) (extractStridedSlice S32x1x1024 ![0, 0, 1024]
        (broadcastInDim S32x1x6144 ![0, 2] bcast_S32x6144_S32x1x6144_0_2 md) slices_S32x1x6144_S32x1x1024_0_0_1024))))
      (broadcastInDim S32x2048x1024 ![0, 1, 2] bcast_S32x1x1024_S32x2048x1024_0_1_2 (extractStridedSlice S32x1x1024 ![0, 0, 0]
        (broadcastInDim S32x1x6144 ![0, 2] bcast_S32x6144_S32x1x6144_0_2 md) slices_S32x1x6144_S32x1x1024_0_0_0))

theorem hidden_apply (x : FVec Ideal S32x2048x1024 .f32) (g : FVec Ideal S1024 .f32) (md : FVec Ideal S32x6144 .f32) (r : Fin 65536)
    (j : Fin 1024) : hidden x g md (ix3 (seqOf r) (placeOf r) j) = hiddenAt x md g r j := by
  unfold hidden hiddenAt
  generalize seqOf r = b
  generalize placeOf r = s
  refine congrArg₂ (fun p q : EReal => p + q) (congrArg₂ (fun p q : EReal => p * q) (congrArg₂ (fun p q : EReal => p * q)
    (congrArg (x (ix3 b s j) * ·) (scale_apply x b s j)) (weight_apply g b s j)) ?_) ?_
  · refine (over_apply _ b s j).trans (congrArg₂ (fun p q : EReal => p + q) ?_ (part_apply 1 1024 rfl md _ b j))
    exact Ideal.ofBits_one_f32
  · exact (over_apply _ b s j).trans (part_apply 0 0 rfl md _ b j)

/-! ## The projection -/

/-- The sequences times the matrix. -/
theorem project_apply (H : FVec Ideal S32x2048x1024 .f32) (W : FVec Ideal S1024x2380 .f32) (b : Fin 32) (s : Fin 2048) (n : Fin 2380) :
    Host.dotGeneral dot_S32x2048x1024_S1024x2380_S32x2048x2380_2_0_01_1_n_n none H W (ix3 b s n)
      = ∑ d : Fin 1024, H (ix3 b s d) * W (ix2 d n) := by
  show FloatOps.dotGeneral _ none _ H W (ix3 b s n) = _
  rw [Ideal.dotGeneral_apply, ← Equiv.sum_comp (contrEquiv1 dot_S32x2048x1024_S1024x2380_S32x2048x2380_2_0_01_1_n_n 1024 rfl rfl).symm]
  refine Finset.sum_congr rfl fun d _ => ?_
  have h := contrEquiv1_symm_val dot_S32x2048x1024_S1024x2380_S32x2048x2380_2_0_01_1_n_n 1024 rfl rfl d
  have el : dot_S32x2048x1024_S1024x2380_S32x2048x2380_2_0_01_1_n_n.lhsIdx (ix3 b s n)
      ((contrEquiv1 dot_S32x2048x1024_S1024x2380_S32x2048x2380_2_0_01_1_n_n 1024 rfl rfl).symm d) = ix3 b s d := by
    funext a; apply Fin.ext
    match a with
    | ⟨0, _⟩ => rfl
    | ⟨1, _⟩ => rfl
    | ⟨2, _⟩ => exact h
  have er : dot_S32x2048x1024_S1024x2380_S32x2048x2380_2_0_01_1_n_n.rhsIdx (ix3 b s n)
      ((contrEquiv1 dot_S32x2048x1024_S1024x2380_S32x2048x2380_2_0_01_1_n_n 1024 rfl rfl).symm d) = ix2 d n := by
    funext a; apply Fin.ext
    match a with
    | ⟨0, _⟩ => exact h
    | ⟨1, _⟩ => rfl
  rw [el, er]

/-- The projected sequences. -/
def proj (x : FVec Ideal S32x2048x1024 .f32) (g : FVec Ideal S1024 .f32) (md : FVec Ideal S32x6144 .f32) (W : FVec Ideal S1024x2380 .f32) :
    FVec Ideal S32x2048x2380 .f32 :=
  Host.dotGeneral dot_S32x2048x1024_S1024x2380_S32x2048x2380_2_0_01_1_n_n none (hidden x g md) W

theorem proj_apply (x : FVec Ideal S32x2048x1024 .f32) (g : FVec Ideal S1024 .f32) (md : FVec Ideal S32x6144 .f32) (W : FVec Ideal S1024x2380 .f32)
    (r : Fin 65536) (n : Fin 2380) : proj x g md W (ix3 (seqOf r) (placeOf r) n) = projAt x md g W r n :=
  (project_apply _ W _ _ n).trans (Finset.sum_congr rfl fun d _ => congrArg (· * W (ix2 d n)) (hidden_apply x g md r d))

/-- A third of the leading columns. -/
theorem third_apply (o : ℕ) (Z : FVec Ideal S32x2048x2380 .f32) (h : S32x2048x2380.Slices ![0, 0, o] S32x2048x256) (b : Fin 32) (s : Fin 2048)
    (k : Fin 256) (n : Fin 2380) (hn : n.val = o + k.val) : extractStridedSlice S32x2048x256 ![0, 0, o] Z h (ix3 b s k) = Z (ix3 b s n) :=
  extractStridedSlice_apply _ _ _ _ (ix3 b s n) (fun ax => by
    match ax with
    | ⟨0, _⟩ => exact (Nat.zero_add _).symm
    | ⟨1, _⟩ => exact (Nat.zero_add _).symm
    | ⟨2, _⟩ => exact hn)

/-- Three arrays side by side. -/
theorem beside_apply (A B C : FVec Ideal S32x2048x256 .f32) (b : Fin 32) (s : Fin 2048) (q : Fin 3) (k : Fin 256) (n : Fin 768)
    (hn : q.val * 256 + k.val = n.val)
    (h : Shape.Concatenates (([⟨S32x2048x256, A⟩, ⟨S32x2048x256, B⟩, ⟨S32x2048x256, C⟩] : List ((s : Shape) × (s.Idx → EReal))).map (·.1)) S32x2048x768 2) :
    concatenate S32x2048x768 2 [⟨S32x2048x256, A⟩, ⟨S32x2048x256, B⟩, ⟨S32x2048x256, C⟩] h (ix3 b s n) = (![A, B, C] q) (ix3 b s k) := by
  have other : ∀ a : Fin 3, a ≠ 2 → (ix3 b s k a).val = (ix3 b s n a).val := fun a ha => by
    match a with
    | ⟨0, _⟩ => rfl
    | ⟨1, _⟩ => rfl
    | ⟨2, _⟩ => exact absurd rfl ha
  match q with
  | ⟨0, _⟩ => exact concatenate_apply_piece (t := S32x2048x768) 2 _ h _ 0 (by exact (show 0 < 3 by decide)) S32x2048x256 A rfl rfl 0 rfl (ix3 b s k) other hn
  | ⟨1, _⟩ => exact concatenate_apply_piece (t := S32x2048x768) 2 _ h _ 1 (by exact (show 1 < 3 by decide)) S32x2048x256 B rfl rfl 256 rfl (ix3 b s k) other hn
  | ⟨2, _⟩ => exact concatenate_apply_piece (t := S32x2048x768) 2 _ h _ 2 (by exact (show 2 < 3 by decide)) S32x2048x256 C rfl rfl 512 rfl (ix3 b s k) other hn

/-- Sequences listed. -/
theorem list_apply (S : FVec Ideal S32x2048x768 .f32) (r : Fin 65536) (j : Fin 768) :
    shapeCast S65536x768 S shapeCasts_S32x2048x768_S65536x768 (ix2 r j) = S (ix3 (seqOf r) (placeOf r) j) := by
  refine shapeCast_apply _ _ _ _ ?_
  rw [Shape.rowMajor_val_two, Shape.rowMajor_val_three]
  show (r.val / 2048 * 2048 + r.val % 2048) * 768 + j.val = r.val * 768 + j.val
  rw [Nat.div_add_mod']

/-- The three parts side by side, of the projected sequences. -/
theorem heads_apply (x : FVec Ideal S32x2048x1024 .f32) (g : FVec Ideal S1024 .f32) (md : FVec Ideal S32x6144 .f32) (W : FVec Ideal S1024x2380 .f32)
    (r : Fin 65536) (n : Fin 768) :
    concatenate S32x2048x768 2 [
      ⟨S32x2048x256, (mulf (mulf (extractStridedSlice S32x2048x256 ![0, 0, 0] (proj x g md W) slices_S32x2048x2380_S32x2048x256_0_0_0)
        (broadcastInDim S32x2048x256 ![] bcast_S_S32x2048x256 (constant S_ .f32 0x3E000000#32)))
        (broadcastInDim S32x2048x256 ![] bcast_S_S32x2048x256 (constant S_ .f32 0x3FB8AA3B#32)) : FVec Ideal S32x2048x256 .f32)⟩,
      ⟨S32x2048x256, extractStridedSlice S32x2048x256 ![0, 0, 256] (proj x g md W) slices_S32x2048x2380_S32x2048x256_0_0_256⟩,
      ⟨S32x2048x256, extractStridedSlice S32x2048x256 ![0, 0, 512] (proj x g md W) slices_S32x2048x2380_S32x2048x256_0_0_512⟩]
      concatenates_S32x2048x256_S32x2048x256_S32x2048x256_S32x2048x768_d2 (ix3 (seqOf r) (placeOf r) n) = headsAt x md g W r n := by
  unfold headsAt
  have hn := n.isLt
  by_cases h1 : n.val < 256
  · rw [if_pos h1]
    refine (beside_apply _ _ _ _ _ 0 ⟨n.val, h1⟩ n (by show 0 * 256 + n.val = n.val; omega) concatenates_S32x2048x256_S32x2048x256_S32x2048x256_S32x2048x768_d2).trans ?_
    refine congrArg (fun p : EReal => p * eighth * log2e) ?_
    exact (third_apply 0 _ slices_S32x2048x2380_S32x2048x256_0_0_0 _ _ _ (colOf n) (Nat.zero_add _).symm).trans (proj_apply x g md W r _)
  · rw [if_neg h1]
    by_cases h2 : n.val < 512
    · refine (beside_apply _ _ _ _ _ 1 ⟨n.val - 256, by omega⟩ n (by show 1 * 256 + (n.val - 256) = n.val; omega) concatenates_S32x2048x256_S32x2048x256_S32x2048x256_S32x2048x768_d2).trans ?_
      exact (third_apply 256 _ slices_S32x2048x2380_S32x2048x256_0_0_256 _ _ _ (colOf n) (by show n.val = 256 + (n.val - 256); omega)).trans (proj_apply x g md W r _)
    · refine (beside_apply _ _ _ _ _ 2 ⟨n.val - 512, by omega⟩ n (by show 2 * 256 + (n.val - 512) = n.val; omega) concatenates_S32x2048x256_S32x2048x256_S32x2048x256_S32x2048x768_d2).trans ?_
      exact (third_apply 512 _ slices_S32x2048x2380_S32x2048x256_0_0_512 _ _ _ (colOf n) (by show n.val = 512 + (n.val - 512); omega)).trans (proj_apply x g md W r _)

section
variable (m : (ℓ : Loc nD τ sig) → Buf (Elt Ideal) ℓ)

/-- The result at a row and a column, of the arguments. -/
theorem res_apply (c : Dev nD) (x : FVec Ideal S32x2048x1024 .f32) (md : FVec Ideal S32x6144 .f32) (g : FVec Ideal S1024 .f32)
    (W : FVec Ideal S1024x2380 .f32)
    (h0 : m ((c.tc : Thread nD τ).loc main_arg0) = x) (h1 : m ((c.tc : Thread nD τ).loc main_arg1) = md)
    (h2 : m ((c.tc : Thread nD τ).loc main_arg2) = g) (h3 : m ((c.tc : Thread nD τ).loc main_arg3) = W) (r : Fin 65536) (n : Fin 768) :
    (Value.res_main_v37 m c : S65536x768.Idx → EReal) (ix2 r n) = headsAt x md g W r n := by
  unfold Value.res_main_v37
  rw [h0, h1, h2, h3]
  exact (list_apply _ r n).trans (heads_apply x g md W r n)

end

end Cert.Reference6Ideal.Front

end
-- ==== Proof.Front.Value.lean ====
/-
  The value of the input projection's first result over the extended reals: the array the kernel leaves and the
  reference's are the same array of the arguments.
-/
module

public import proofs.«01_k».proof.Defs
public import proofs.«01_k».proof.Proof.Front.Tile
public import proofs.«01_k».proof.Proof.Front.Refer
public import proofs.«01_k».proof.Proof.Gen.Kernel6Ideal
public import proofs.«01_k».proof.Proof.Gen.Kernel6Ideal.Frame
public import proofs.«01_k».proof.Proof.Gen.Reference6Ideal
public import Idealize.ShloMosaic.Lib.WritesUnit
public import Idealize.ShloMosaic.Lib.Pipeline.Covers

@[expose] public section

set_option maxRecDepth 16384

noncomputable section

namespace Cert.Kernel6Ideal.Front

open Cert.Kernel6Ideal Cert.Kernel6Ideal.Gen
open Idealize.ShloMosaic Idealize.ShloMosaic.TcCoe Idealize.ShloMosaic.ValueIdx Idealize.ShloMosaic.StableHlo
open Idealize.SL.Sem
open Cert.Back (seqOf placeOf normAt)
open Cert.Out (partCol)
open Cert.Front

section
variable (m : (ℓ : Loc nD τ sig) → Buf (Elt Ideal) ℓ)

/-- The arguments as arrays over the extended reals. -/
def streamArg (c : Dev nD) : S32x2048x1024.Idx → EReal := m ((c : Thread nD τ).loc main_arg0)
def modArg (c : Dev nD) : S32x6144.Idx → EReal := m ((c : Thread nD τ).loc main_arg1)
def scaleArg (c : Dev nD) : S1024.Idx → EReal := m ((c : Thread nD τ).loc main_arg2)
def matArg (c : Dev nD) : S1024x2380.Idx → EReal := m ((c : Thread nD τ).loc main_arg3)

/-- The result, of the arguments. -/
def headsArr (c : Dev nD) : S65536x768.Idx → EReal := headsOut (streamArg m c) (modArg m c) (scaleArg m c) (matArg m c)

/-! ## The prepared arrays -/

theorem V_main_v96 (c : Dev nD) : V m c main_v96 = shapeCast S65536x1024 (streamArg m c) shapeCasts_S32x2048x1024_S65536x1024 := by
  unfold V hostOps0; after_results; rfl
theorem V_main_v97 (c : Dev nD) : V m c main_v97 = shapeCast S32x6x1024 (modArg m c) shapeCasts_S32x6144_S32x6x1024 := by
  unfold V hostOps0; after_results; rfl
theorem V_main_v98 (c : Dev nD) : V m c main_v98 = shapeCast S1x1024 (scaleArg m c) shapeCasts_S1024_S1x1024 := by
  unfold V hostOps0; after_results; rfl
/-- The matrix the body multiplies by: the queries' columns scaled, the keys' and the values', then further pieces. -/
theorem V_main_v31 (c : Dev nD) : ∃ (p3 : S1024x256.Idx → EReal) (p4 p5 : S1024x128.Idx → EReal) (p6 p7 : S1024x256.Idx → EReal)
    (p8 p9 : S1024x64.Idx → EReal) (p10 : S1024x128.Idx → EReal) (p11 : S1024x256.Idx → EReal) (p12 : S1024x128.Idx → EReal),
    (V m c main_v31 : S1024x2432.Idx → EReal) = concatenate S1024x2432 1 [
      ⟨S1024x256, (mulf (extractStridedSlice S1024x256 ![0, 0] (matArg m c) slices_S1024x2380_S1024x256_0_0 : FVec Ideal S1024x256 .f32)
        (broadcastInDim S1024x256 ![] bcast_S_S1024x256 (constant S_ .f32 0x3E000000#32) : FVec Ideal S1024x256 .f32) : S1024x256.Idx → EReal)⟩,
      ⟨S1024x256, extractStridedSlice S1024x256 ![0, 256] (matArg m c) slices_S1024x2380_S1024x256_0_256⟩,
      ⟨S1024x256, extractStridedSlice S1024x256 ![0, 512] (matArg m c) slices_S1024x2380_S1024x256_0_512⟩,
      ⟨S1024x256, p3⟩, ⟨S1024x128, p4⟩, ⟨S1024x128, p5⟩, ⟨S1024x256, p6⟩, ⟨S1024x256, p7⟩, ⟨S1024x64, p8⟩, ⟨S1024x64, p9⟩,
      ⟨S1024x128, p10⟩, ⟨S1024x256, p11⟩, ⟨S1024x128, p12⟩]
      concatenates_S1024x256_S1024x256_S1024x256_S1024x256_S1024x128_S1024x128_S1024x256_S1024x256_S1024x64_S1024x64_S1024x128_S1024x256_S1024x128_S1024x2432_d1 := by
  refine ⟨V m c main_v27, V m c main_v8, V m c main_v9, V m c main_v29, V m c main_v13, V m c main_v11, V m c main_v12, V m c main_v23, V m c main_v4, V m c main_v5, ?_⟩
  unfold V hostOps0; after_results; rfl

/-- A leading column among the prepared matrix's. -/
def wide (n : Fin 768) : Fin 2432 := ⟨n.val, by have := n.isLt; omega⟩

/-- One of the first three pieces of the prepared matrix, at a row and a column. -/
theorem piece_apply (A B C p3 : S1024x256.Idx → EReal) (p4 p5 : S1024x128.Idx → EReal) (p6 p7 : S1024x256.Idx → EReal)
    (p8 p9 : S1024x64.Idx → EReal) (p10 : S1024x128.Idx → EReal) (p11 : S1024x256.Idx → EReal) (p12 : S1024x128.Idx → EReal)
    (d : Fin 1024) (q : Fin 3) (k : Fin 256) (n : Fin 768) (hn : q.val * 256 + k.val = n.val)
    (h : Shape.Concatenates (([⟨S1024x256, A⟩, ⟨S1024x256, B⟩, ⟨S1024x256, C⟩, ⟨S1024x256, p3⟩, ⟨S1024x128, p4⟩, ⟨S1024x128, p5⟩,
      ⟨S1024x256, p6⟩, ⟨S1024x256, p7⟩, ⟨S1024x64, p8⟩, ⟨S1024x64, p9⟩, ⟨S1024x128, p10⟩, ⟨S1024x256, p11⟩, ⟨S1024x128, p12⟩] :
      List ((s : Shape) × (s.Idx → EReal))).map (·.1)) S1024x2432 1) :
    concatenate S1024x2432 1 [⟨S1024x256, A⟩, ⟨S1024x256, B⟩, ⟨S1024x256, C⟩, ⟨S1024x256, p3⟩, ⟨S1024x128, p4⟩, ⟨S1024x128, p5⟩,
      ⟨S1024x256, p6⟩, ⟨S1024x256, p7⟩, ⟨S1024x64, p8⟩, ⟨S1024x64, p9⟩, ⟨S1024x128, p10⟩, ⟨S1024x256, p11⟩, ⟨S1024x128, p12⟩] h (ix2 d (wide n))
      = (![A, B, C] q) (ix2 d k) := by
  have other : ∀ a : Fin 2, a ≠ 1 → (ix2 d k a).val = (ix2 d (wide n) a).val := fun a ha => by
    match a with
    | ⟨0, _⟩ => rfl
    | ⟨1, _⟩ => exact absurd rfl ha
  match q with
  | ⟨0, _⟩ => exact concatenate_apply_piece (t := S1024x2432) 1 _ h _ 0 (by exact (show 0 < 13 by decide)) S1024x256 A rfl rfl 0 rfl (ix2 d k) other hn
  | ⟨1, _⟩ => exact concatenate_apply_piece (t := S1024x2432) 1 _ h _ 1 (by exact (show 1 < 13 by decide)) S1024x256 B rfl rfl 256 rfl (ix2 d k) other hn
  | ⟨2, _⟩ => exact concatenate_apply_piece (t := S1024x2432) 1 _ h _ 2 (by exact (show 2 < 13 by decide)) S1024x256 C rfl rfl 512 rfl (ix2 d k) other hn

/-- Columns of the argument matrix. -/
theorem cols_apply (o : ℕ) (W : FVec Ideal S1024x2380 .f32) (h : S1024x2380.Slices ![0, o] S1024x256) (d : Fin 1024) (k : Fin 256) (n : Fin 2380)
    (hn : n.val = o + k.val) : extractStridedSlice S1024x256 ![0, o] W h (ix2 d k) = W (ix2 d n) :=
  extractStridedSlice_apply _ _ _ _ (ix2 d n) (fun ax => by
    match ax with
    | ⟨0, _⟩ => exact (Nat.zero_add _).symm
    | ⟨1, _⟩ => exact hn)

/-- The prepared matrix's leading columns, of the argument. -/
theorem wall_apply (c : Dev nD) (d : Fin 1024) (n : Fin 768) : (V m c main_v31 : S1024x2432.Idx → EReal) (ix2 d (wide n))
    = if n.val < 256 then matArg m c (ix2 d (colOf n)) * eighth else matArg m c (ix2 d (colOf n)) := by
  obtain ⟨p3, p4, p5, p6, p7, p8, p9, p10, p11, p12, h⟩ := V_main_v31 m c
  rw [h]
  have hn := n.isLt
  by_cases h1 : n.val < 256
  · rw [if_pos h1]
    refine (piece_apply _ _ _ p3 p4 p5 p6 p7 p8 p9 p10 p11 p12 d 0 ⟨n.val, h1⟩ n (by show 0 * 256 + n.val = n.val; omega) _).trans ?_
    exact congrArg (fun p : EReal => p * eighth) (cols_apply 0 (matArg m c) slices_S1024x2380_S1024x256_0_0 d _ (colOf n) (Nat.zero_add _).symm)
  · rw [if_neg h1]
    by_cases h2 : n.val < 512
    · refine (piece_apply _ _ _ p3 p4 p5 p6 p7 p8 p9 p10 p11 p12 d 1 ⟨n.val - 256, by omega⟩ n (by show 1 * 256 + (n.val - 256) = n.val; omega) _).trans ?_
      exact cols_apply 256 (matArg m c) slices_S1024x2380_S1024x256_0_256 d _ (colOf n) (by show n.val = 256 + (n.val - 256); omega)
    · refine (piece_apply _ _ _ p3 p4 p5 p6 p7 p8 p9 p10 p11 p12 d 2 ⟨n.val - 512, by omega⟩ n (by show 2 * 256 + (n.val - 512) = n.val; omega) _).trans ?_
      exact cols_apply 512 (matArg m c) slices_S1024x2380_S1024x256_0_512 d _ (colOf n) (by show n.val = 512 + (n.val - 512); omega)

/-! ## Where a point's blocks lie -/

/-- Row `y` of block `t`, among all rows. -/
def tokenOf (t : Fin cfg0.N) (y : Fin 1024) : Fin 65536 :=
  ⟨t.val * 1024 + y.val, by have hN : cfg0.N = 64 := rfl; have := t.isLt; have := y.isLt; omega⟩

/-- The grid's point `k`. -/
def point (k : Fin 64) : grid0.Coords := fun b => match b with
  | ⟨0, _⟩ => k

theorem eq_point (i : grid0.Coords) : i = point (i 0) := funext fun b => match b with
  | ⟨0, _⟩ => rfl

theorem coord0 (t : Fin cfg0.N) : (grid0.coords t 0).val = t.val := by
  have h := Pipeline.Grid.coords_val (G := grid0) t 0 (S := 1) (B := 64) (by decide) rfl
  have hN : cfg0.N = 64 := rfl
  have := t.isLt
  omega

theorem word_coord0 (t : Fin cfg0.N) : (BitVec.ofNat 32 (grid0.coords t 0).val).toNat = t.val := by
  rw [coord0, BitVec.toNat_ofNat]
  have hN : cfg0.N = 64 := rfl
  have := t.isLt
  omega

theorem mod_word (i : grid0.Coords) : cc0_transform_1 i 0 = (i 0).val / 2 := by
  have hk : ∀ k : Fin 64, cc0_transform_1 (point k) 0 = k.val / 2 := by decide +kernel
  rw [eq_point i]; exact hk (i 0)

/-! ## What a point stages, of the arguments -/

theorem stream_read (c : Dev nD) (t : Fin cfg0.N) (y d : Fin 1024) :
    (iblk m c 0 t : S1024x1024.Idx → EReal) (ix2 y d) = streamArg m c (ix3 (seqOf (tokenOf t y)) (placeOf (tokenOf t y)) d) := by
  unfold iblk
  rw [View.read_apply]
  refine Eq.trans (b := (V m c main_v96 : S65536x1024.Idx → EReal) (ix2 (tokenOf t y) d)) (congrArg (V m c main_v96) ?_) ?_
  · funext a
    apply Fin.ext
    refine (Pipeline.Window.rect_emb_val (cfg0.win 0) t (ix2 y d) a).trans ?_
    match a with
    | ⟨0, _⟩ =>
      show (BitVec.ofNat 32 (grid0.coords t 0).val).toNat * 1024 + y.val = t.val * 1024 + y.val
      rw [word_coord0]
    | ⟨1, _⟩ => show 0 * 1024 + d.val = d.val; omega
  · rw [V_main_v96]
    refine shapeCast_apply (streamArg m c) _ _ _ ?_
    rw [Shape.rowMajor_val_two, Shape.rowMajor_val_three]
    generalize tokenOf t y = r
    show (r.val / 2048 * 2048 + r.val % 2048) * 1024 + d.val = r.val * 1024 + d.val
    rw [Nat.div_add_mod']

theorem mod_read (c : Dev nD) (t : Fin cfg0.N) (y : Fin 1024) (o : Fin 6) (d : Fin 1024) :
    (iblk m c 1 t : S1x6x1024.Idx → EReal) (ix3 (0 : Fin 1) o d) = modArg m c (ix2 (seqOf (tokenOf t y)) (partCol o d)) := by
  have hr : (seqOf (tokenOf t y)).val = t.val / 2 := by
    show (t.val * 1024 + y.val) / 2048 = t.val / 2
    have := y.isLt
    omega
  unfold iblk
  rw [View.read_apply]
  refine Eq.trans (b := (V m c main_v97 : S32x6x1024.Idx → EReal) (ix3 (seqOf (tokenOf t y)) o d)) (congrArg (V m c main_v97) ?_) ?_
  · funext a
    apply Fin.ext
    refine (Pipeline.Window.rect_emb_val (cfg0.win 1) t (ix3 (0 : Fin 1) o d) a).trans ?_
    match a with
    | ⟨0, _⟩ =>
      show cc0_transform_1 (grid0.coords t) 0 * 1 + 0 = (seqOf (tokenOf t y)).val
      rw [mod_word, coord0, hr]; omega
    | ⟨1, _⟩ => show 0 * 6 + o.val = o.val; omega
    | ⟨2, _⟩ => show 0 * 1024 + d.val = d.val; omega
  · rw [V_main_v97]
    refine shapeCast_apply (modArg m c) _ _ _ ?_
    rw [Shape.rowMajor_val_two, Shape.rowMajor_val_three]
    generalize seqOf (tokenOf t y) = b
    show b.val * 6144 + (o.val * 1024 + d.val) = (b.val * 6 + o.val) * 1024 + d.val
    omega

theorem scale_read (c : Dev nD) (t : Fin cfg0.N) (d : Fin 1024) :
    (iblk m c 2 t : S1x1024.Idx → EReal) (ix2 (0 : Fin 1) d) = scaleArg m c (ix1 d) := by
  unfold iblk
  rw [View.read_apply]
  refine Eq.trans (b := (V m c main_v98 : S1x1024.Idx → EReal) (ix2 (0 : Fin 1) d)) (congrArg (V m c main_v98) ?_) ?_
  · funext a
    apply Fin.ext
    refine (Pipeline.Window.rect_emb_val (cfg0.win 2) t (ix2 (0 : Fin 1) d) a).trans ?_
    match a with
    | ⟨0, _⟩ => rfl
    | ⟨1, _⟩ => show 0 * 1024 + d.val = d.val; omega
  · rw [V_main_v98]
    refine shapeCast_apply (scaleArg m c) _ _ _ ?_
    rw [Shape.rowMajor_val_two, Shape.rowMajor_val_one]
    show d.val = 0 * 1024 + d.val
    omega

theorem wall_read (c : Dev nD) (t : Fin cfg0.N) (d : Fin 1024) (n : Fin 768) :
    (iblk m c 3 t : S1024x2432.Idx → EReal) (ix2 d (wide n))
      = if n.val < 256 then matArg m c (ix2 d (colOf n)) * eighth else matArg m c (ix2 d (colOf n)) := by
  unfold iblk
  rw [View.read_apply]
  refine Eq.trans (b := (V m c main_v31 : S1024x2432.Idx → EReal) (ix2 d (wide n))) (congrArg (V m c main_v31) ?_) (wall_apply m c d n)
  funext a
  apply Fin.ext
  refine (Pipeline.Window.rect_emb_val (cfg0.win 3) t (ix2 d (wide n)) a).trans ?_
  match a with
  | ⟨0, _⟩ => show 0 * 1024 + d.val = d.val; omega
  | ⟨1, _⟩ => show 0 * 2432 + n.val = n.val; omega

/-! ## What a body leaves -/

theorem zero2 : (![0, 0] : Fin 2 → ℕ) = fun _ => 0 := by decide

/-- A load of a whole staged block reads the block. -/
theorem load_whole {s : Shape} {e : EltTy} {M : Memref sig .tc .vmem s e} (h : M.IsWhole) (X : s.Idx → Elt Ideal e) {off : Fin s.rank → ℕ}
    (hz : off = fun _ => 0) (inb : ∀ a, off a + s.size a ≤ s.size a) :
    View.readAt (Elt Ideal) M.view (Rect.unit off s.size inb).toLoadRect (h.unread X) = X := by
  refine (View.readAt_eq_ld M.view _ _).trans ?_
  rw [h.read_unread]
  exact View.ld_unit_zero hz inb X

/-- A load of one row of the staged modulation. -/
theorem load_row {M : Memref sig .tc .vmem S1x6x1024 .f32} (h : M.IsWhole) (X : S1x6x1024.Idx → EReal) (o : Fin 6) (n : ℕ) (hn : n = o.val)
    (inb : ∀ a, (![0, n, 0] : Fin 3 → ℕ) a + (![1, 1, 1024] : Fin 3 → ℕ) a ≤ S1x6x1024.size a) (d : Fin 1024) :
    View.readAt (Elt Ideal) M.view (Rect.unit (s := S1x6x1024) ![0, n, 0] ![1, 1, 1024] inb).toLoadRect (h.unread (Val := Elt Ideal) X) (ix3 (0 : Fin 1) (0 : Fin 1) d)
      = X (ix3 (0 : Fin 1) o d) := by
  subst hn
  refine (congrFun (View.readAt_eq_ld M.view _ _) _).trans ?_
  rw [h.read_unread]
  refine congrArg X ?_
  funext a
  apply Fin.ext
  match a with
  | ⟨0, _⟩ => rfl
  | ⟨1, _⟩ => show o.val + 1 * 0 = o.val; omega
  | ⟨2, _⟩ => show 0 + 1 * d.val = d.val; omega

/-- A load of the leading columns of the staged matrix. -/
theorem load_cols {M : Memref sig .tc .vmem S1024x2432 .bf16} (h : M.IsWhole) (X : S1024x2432.Idx → EReal)
    (inb : ∀ a, (![0, 0] : Fin 2 → ℕ) a + (![1024, 768] : Fin 2 → ℕ) a ≤ S1024x2432.size a) (d : Fin 1024) (n : Fin 768) :
    (View.readAt (Elt Ideal) M.view (Rect.unit (s := S1024x2432) ![0, 0] ![1024, 768] inb).toLoadRect (h.unread (Val := Elt Ideal) X) : S1024x768.Idx → EReal) (ix2 d n)
      = X (ix2 d (wide n)) := by
  refine (congrFun (View.readAt_eq_ld M.view _ _) _).trans ?_
  rw [h.read_unread]
  refine congrArg X ?_
  funext a
  apply Fin.ext
  match a with
  | ⟨0, _⟩ => show 0 + 1 * d.val = d.val; omega
  | ⟨1, _⟩ => show 0 + 1 * n.val = n.val; omega

/-- The projection of a point's block, as the body computes it from what it loads. -/
def projBlk (c : Dev nD) (t : Fin cfg0.N) : FVec Ideal S1024x768 .f32 :=
  k0_pay6 (F := Ideal) (View.readAt (Elt Ideal) (ms0_0 t).view (Rect.unit (s := S1024x1024) ![0, 0] ![1024, 1024] inb_S1024x1024_S1024x1024_0_0).toLoadRect ((hs0_0 t).unread (iblk m c 0 t)))
      (View.readAt (Elt Ideal) (ms0_2 t).view (Rect.unit (s := S1x1024) ![0, 0] ![1, 1024] inb_S1x1024_S1x1024_0_0).toLoadRect ((hs0_2 t).unread (iblk m c 2 t)))
      (View.readAt (Elt Ideal) (ms0_1 t).view (Rect.unit (s := S1x6x1024) ![0, 1, 0] ![1, 1, 1024] inb_S1x6x1024_S1x1x1024_0_1_0).toLoadRect ((hs0_1 t).unread (iblk m c 1 t)))
      (View.readAt (Elt Ideal) (ms0_1 t).view (Rect.unit (s := S1x6x1024) ![0, 0, 0] ![1, 1, 1024] inb_S1x6x1024_S1x1x1024_0_0_0).toLoadRect ((hs0_1 t).unread (iblk m c 1 t)))
      (View.readAt (Elt Ideal) (ms0_3 t).view (Rect.unit (s := S1024x2432) ![0, 0] ![1024, 768] inb_S1024x2432_S1024x768_0_0).toLoadRect ((hs0_3 t).unread (iblk m c 3 t)))

/-- The queries' columns of it, scaled. -/
def queryBlk (c : Dev nD) (t : Fin cfg0.N) : S1024x256.Idx → EReal :=
  k0_pay7 (F := Ideal) (View.readAt (Elt Ideal) (ms0_0 t).view (Rect.unit (s := S1024x1024) ![0, 0] ![1024, 1024] inb_S1024x1024_S1024x1024_0_0).toLoadRect ((hs0_0 t).unread (iblk m c 0 t)))
      (View.readAt (Elt Ideal) (ms0_2 t).view (Rect.unit (s := S1x1024) ![0, 0] ![1, 1024] inb_S1x1024_S1x1024_0_0).toLoadRect ((hs0_2 t).unread (iblk m c 2 t)))
      (View.readAt (Elt Ideal) (ms0_1 t).view (Rect.unit (s := S1x6x1024) ![0, 1, 0] ![1, 1, 1024] inb_S1x6x1024_S1x1x1024_0_1_0).toLoadRect ((hs0_1 t).unread (iblk m c 1 t)))
      (View.readAt (Elt Ideal) (ms0_1 t).view (Rect.unit (s := S1x6x1024) ![0, 0, 0] ![1, 1, 1024] inb_S1x6x1024_S1x1x1024_0_0_0).toLoadRect ((hs0_1 t).unread (iblk m c 1 t)))
      (View.readAt (Elt Ideal) (ms0_3 t).view (Rect.unit (s := S1024x2432) ![0, 0] ![1024, 768] inb_S1024x2432_S1024x768_0_0).toLoadRect ((hs0_3 t).unread (iblk m c 3 t)))

theorem projBlk_apply (c : Dev nD) (t : Fin cfg0.N) (y : Fin 1024) (n : Fin 768) :
    projBlk m c t (ix2 y n) = if n.val < 256 then projAt (streamArg m c) (modArg m c) (scaleArg m c) (matArg m c) (tokenOf t y) (colOf n) * eighth
      else projAt (streamArg m c) (modArg m c) (scaleArg m c) (matArg m c) (tokenOf t y) (colOf n) := by
  unfold projBlk
  refine (proj_at _ _ _ _ _ y n).trans ?_
  refine Eq.trans (b := ∑ d : Fin 1024, hiddenAt (streamArg m c) (modArg m c) (scaleArg m c) (tokenOf t y) d
    * (if n.val < 256 then matArg m c (ix2 d (colOf n)) * eighth else matArg m c (ix2 d (colOf n)))) ?_ ?_
  · refine Finset.sum_congr rfl fun d _ => congrArg₂ (fun p q : EReal => p * q) ?_ ((load_cols (hs0_3 t) _ _ d n).trans (wall_read m c t d n))
    have hg : (View.readAt (Elt Ideal) (ms0_2 t).view (Rect.unit (s := S1x1024) ![0, 0] ![1, 1024] inb_S1x1024_S1x1024_0_0).toLoadRect ((hs0_2 t).unread (iblk m c 2 t)) : S1x1024.Idx → EReal)
        (ix2 (0 : Fin 1) d) = scaleArg m c (ix1 d) := by
      rw [load_whole (hs0_2 t) _ zero2]
      exact scale_read m c t d
    refine (hidden_at _ _ _ _ (scaleArg m c) y d hg).trans ?_
    rw [load_row (hs0_1 t) _ 1 1 rfl, load_row (hs0_1 t) _ 0 0 rfl, load_whole (hs0_0 t) _ zero2, mod_read m c t y 1 d, mod_read m c t y 0 d]
    unfold hiddenAt
    refine congrArg (fun f => normAt (scaleArg m c) f d * (1 + modArg m c (ix2 (seqOf (tokenOf t y)) (partCol 1 d)))
      + modArg m c (ix2 (seqOf (tokenOf t y)) (partCol 0 d))) (funext fun k => stream_read m c t y k)
  · unfold projAt
    by_cases h1 : n.val < 256
    · simp only [if_pos h1]
      exact sum_scaled _ _ eighth eighth_nonneg eighth_ne_top
    · simp only [if_neg h1]

theorem queryBlk_apply (c : Dev nD) (t : Fin cfg0.N) (y : Fin 1024) (n : Fin 256) :
    queryBlk m c t (ix2 y n) = headsArr m c (ix2 (tokenOf t y) (early n)) := by
  refine (query_at _ _ _ _ _ y n).trans ?_
  refine (congrArg (fun p : EReal => p * log2e) (projBlk_apply m c t y (early n))).trans ?_
  show _ = headsAt (streamArg m c) (modArg m c) (scaleArg m c) (matArg m c) (tokenOf t y) (early n)
  unfold headsAt
  have h1 : (early n).val < 256 := n.isLt
  rw [if_pos h1, if_pos h1]

theorem restBlk_apply (c : Dev nD) (t : Fin cfg0.N) (y : Fin 1024) (n : Fin 512) :
    (k0_pay8 (F := Ideal) (projBlk m c t) : S1024x512.Idx → EReal) (ix2 y n) = headsArr m c (ix2 (tokenOf t y) (late n)) := by
  refine (rest_at _ y n).trans ?_
  refine (projBlk_apply m c t y (late n)).trans ?_
  show _ = headsAt (streamArg m c) (modArg m c) (scaleArg m c) (matArg m c) (tokenOf t y) (late n)
  unfold headsAt
  have h1 : ¬ (late n).val < 256 := by show ¬ 256 + n.val < 256; omega
  rw [if_neg h1, if_neg h1]

/-- The stores of a body's run into the first output, of what it loads: the keys' and values' columns last. -/
theorem run_heads (c : Dev nD) (i : grid0.Coords)
    (arg1 : Memref sig .tc .vmem S1024x1024 .f32) (harg1 : arg1.IsWhole)
    (arg2 : Memref sig .tc .vmem S1x6x1024 .f32) (harg2 : arg2.IsWhole)
    (arg3 : Memref sig .tc .vmem S1x1024 .f32) (harg3 : arg3.IsWhole)
    (arg4 : Memref sig .tc .vmem S1024x2432 .bf16) (harg4 : arg4.IsWhole)
    (arg5 : Memref sig .tc .vmem S256x512 .bf16) (harg5 : arg5.IsWhole)
    (arg6 : Memref sig .tc .vmem S256x768 .bf16) (harg6 : arg6.IsWhole)
    (arg7 : Memref sig .tc .vmem S1x256 .f32) (harg7 : arg7.IsWhole)
    (arg8 : Memref sig .tc .vmem S1x128 .f32) (harg8 : arg8.IsWhole)
    (arg9 : Memref sig .tc .vmem S4x1024x128 .f32) (harg9 : arg9.IsWhole)
    (arg10 : Memref sig .tc .vmem S1024x768 .bf16) (harg10 : arg10.IsWhole)
    (arg11 : Memref sig .tc .vmem S1024x768 .bf16) (harg11 : arg11.IsWhole)
    (arg12 : Memref sig .tc .vmem S1024x896 .bf16) (harg12 : arg12.IsWhole)
    (arg13 : Memref sig .tc .vmem S1024x128 .f32) (harg13 : arg13.IsWhole)
    (arg14 : Memref sig .tc .vmem S1024x512 .bf16) (harg14 : arg14.IsWhole)
    (arg15 : Memref sig .tc .vmem S1024x512 .bf16) (harg15 : arg15.IsWhole)
    (arg16 : Memref sig .tc .vmem S1024x256 .bf16) (harg16 : arg16.IsWhole)
    (x0 : Vec Ideal S1024x1024 .f32) (x1 : Vec Ideal S1x6x1024 .f32) (x2 : Vec Ideal S1x1024 .f32) (x3 : Vec Ideal S1024x2432 .bf16) (x4 : Vec Ideal S256x512 .bf16) (x5 : Vec Ideal S256x768 .bf16) (x6 : Vec Ideal S1x256 .f32) (x7 : Vec Ideal S1x128 .f32) (x8 : Vec Ideal S4x1024x128 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8).1
      = [⟨Rect.unit (s := S1024x768) ![0, 256] ![1024, 512] inb_S1024x768_S1024x512_0_256, k0_pay8 (F := Ideal) (k0_pay6 (F := Ideal) (View.readAt (Elt Ideal) arg1.view (Rect.unit (s := S1024x1024) ![0, 0] ![1024, 1024] inb_S1024x1024_S1024x1024_0_0).toLoadRect (harg1.unread x0))
      (View.readAt (Elt Ideal) arg3.view (Rect.unit (s := S1x1024) ![0, 0] ![1, 1024] inb_S1x1024_S1x1024_0_0).toLoadRect (harg3.unread x2))
      (View.readAt (Elt Ideal) arg2.view (Rect.unit (s := S1x6x1024) ![0, 1, 0] ![1, 1, 1024] inb_S1x6x1024_S1x1x1024_0_1_0).toLoadRect (harg2.unread x1))
      (View.readAt (Elt Ideal) arg2.view (Rect.unit (s := S1x6x1024) ![0, 0, 0] ![1, 1, 1024] inb_S1x6x1024_S1x1x1024_0_0_0).toLoadRect (harg2.unread x1))
      (View.readAt (Elt Ideal) arg4.view (Rect.unit (s := S1024x2432) ![0, 0] ![1024, 768] inb_S1024x2432_S1024x768_0_0).toLoadRect (harg4.unread x3)))⟩,
      ⟨Rect.unit (s := S1024x768) ![0, 0] ![1024, 256] inb_S1024x768_S1024x256_0_0, k0_pay7 (F := Ideal) (View.readAt (Elt Ideal) arg1.view (Rect.unit (s := S1024x1024) ![0, 0] ![1024, 1024] inb_S1024x1024_S1024x1024_0_0).toLoadRect (harg1.unread x0))
      (View.readAt (Elt Ideal) arg3.view (Rect.unit (s := S1x1024) ![0, 0] ![1, 1024] inb_S1x1024_S1x1024_0_0).toLoadRect (harg3.unread x2))
      (View.readAt (Elt Ideal) arg2.view (Rect.unit (s := S1x6x1024) ![0, 1, 0] ![1, 1, 1024] inb_S1x6x1024_S1x1x1024_0_1_0).toLoadRect (harg2.unread x1))
      (View.readAt (Elt Ideal) arg2.view (Rect.unit (s := S1x6x1024) ![0, 0, 0] ![1, 1, 1024] inb_S1x6x1024_S1x1x1024_0_0_0).toLoadRect (harg2.unread x1))
      (View.readAt (Elt Ideal) arg4.view (Rect.unit (s := S1024x2432) ![0, 0] ![1024, 768] inb_S1024x2432_S1024x768_0_0).toLoadRect (harg4.unread x3))⟩] := by
  unfold kernelRun0_A
  rfl

/-- What the body's stores leave in the first output's block. -/
theorem stores_heads (c : Dev nD) (t : Fin cfg0.N) : (outsAt0 m c t).1 = VO0_9.read (Elt Ideal) (VO0_9.writes (Elt Ideal) VO0_9.junk
    [⟨Rect.unit (s := S1024x768) ![0, 256] ![1024, 512] inb_S1024x768_S1024x512_0_256, k0_pay8 (F := Ideal) (projBlk m c t)⟩,
      ⟨Rect.unit (s := S1024x768) ![0, 0] ![1024, 256] inb_S1024x768_S1024x256_0_0, queryBlk m c t⟩]) := by
  unfold outsAt0 out0_A_9
  dsimp only
  rw [run_heads]
  rfl

/-- A store at the leading columns, last, is what those columns are read back as. -/
theorem read_leading {κ : Kind} {sp : Space} {A B C : ℕ} {Val : EltTy → Type} {e : EltTy} (v : View sig κ sp ⟨2, ![A, C]⟩ e) (f : v.ty.Contents Val)
    (inb : ∀ a, (![0, 0] : Fin 2 → ℕ) a + (![A, B] : Fin 2 → ℕ) a ≤ (⟨2, ![A, C]⟩ : Shape).size a) (w : (⟨2, ![A, B]⟩ : Shape).Idx → Val e)
    (L : List (View.Piece Val ⟨2, ![A, C]⟩ e)) (y : Fin A) (j : Fin B) (k : Fin C) (hk : k.val = j.val) :
    v.read Val (v.writes Val f (⟨Rect.unit (s := ⟨2, ![A, C]⟩) ![0, 0] ![A, B] inb, w⟩ :: L)) (ix2 y k) = w (ix2 y j) :=
  View.read_writes_cons_unit_of_mem v f inb w L (ix2 y k) (ix2 y j) rfl (fun a => by
    match a with
    | ⟨0, _⟩ => exact (Nat.zero_add _).symm
    | ⟨1, _⟩ => exact hk.trans (Nat.zero_add _).symm)

/-- A store at the columns after them does not change it. -/
theorem read_past {κ : Kind} {sp : Space} {A B C D : ℕ} {Val : EltTy → Type} {e : EltTy} (v : View sig κ sp ⟨2, ![A, C]⟩ e) (f : v.ty.Contents Val)
    (inb : ∀ a, (![0, B] : Fin 2 → ℕ) a + (![A, D] : Fin 2 → ℕ) a ≤ (⟨2, ![A, C]⟩ : Shape).size a) (u : (⟨2, ![A, D]⟩ : Shape).Idx → Val e)
    (L : List (View.Piece Val ⟨2, ![A, C]⟩ e)) (y : Fin A) (k : Fin C) (hk : k.val < B) :
    v.read Val (v.writes Val f (⟨Rect.unit (s := ⟨2, ![A, C]⟩) ![0, B] ![A, D] inb, u⟩ :: L)) (ix2 y k) = v.read Val (v.writes Val f L) (ix2 y k) :=
  View.read_writes_cons_unit_of_not_mem v f inb u L (ix2 y k) rfl (1 : Fin 2) (Or.inl hk)

/-- A store at the later columns, last, is what those columns are read back as. -/
theorem read_later {κ : Kind} {sp : Space} {A B C D : ℕ} {Val : EltTy → Type} {e : EltTy} (v : View sig κ sp ⟨2, ![A, C]⟩ e) (f : v.ty.Contents Val)
    (inb : ∀ a, (![0, B] : Fin 2 → ℕ) a + (![A, D] : Fin 2 → ℕ) a ≤ (⟨2, ![A, C]⟩ : Shape).size a) (u : (⟨2, ![A, D]⟩ : Shape).Idx → Val e)
    (L : List (View.Piece Val ⟨2, ![A, C]⟩ e)) (y : Fin A) (j : Fin D) (k : Fin C) (hk : k.val = B + j.val) :
    v.read Val (v.writes Val f (⟨Rect.unit (s := ⟨2, ![A, C]⟩) ![0, B] ![A, D] inb, u⟩ :: L)) (ix2 y k) = u (ix2 y j) :=
  View.read_writes_cons_unit_of_mem v f inb u L (ix2 y k) (ix2 y j) rfl (fun a => by
    match a with
    | ⟨0, _⟩ => exact (Nat.zero_add _).symm
    | ⟨1, _⟩ => exact hk)

/-- The two stores, read back through any view: the queries' columns, -/
theorem early_read (v : View sig .tc .vmem S1024x768 .bf16) (f : v.ty.Contents (Elt Ideal)) (u : S1024x512.Idx → EReal) (w : S1024x256.Idx → EReal)
    (y : Fin 1024) (n : Fin 256) :
    v.read (Elt Ideal) (v.writes (Elt Ideal) f [⟨Rect.unit (s := S1024x768) ![0, 256] ![1024, 512] inb_S1024x768_S1024x512_0_256, u⟩,
      ⟨Rect.unit (s := S1024x768) ![0, 0] ![1024, 256] inb_S1024x768_S1024x256_0_0, w⟩]) (ix2 y (early n)) = w (ix2 y n) :=
  (read_past v f inb_S1024x768_S1024x512_0_256 u _ y (early n) n.isLt).trans
    (read_leading v f inb_S1024x768_S1024x256_0_0 w [] y n (early n) rfl)

/-- and the rest. -/
theorem late_read (v : View sig .tc .vmem S1024x768 .bf16) (f : v.ty.Contents (Elt Ideal)) (u : S1024x512.Idx → EReal) (w : S1024x256.Idx → EReal)
    (y : Fin 1024) (n : Fin 512) :
    v.read (Elt Ideal) (v.writes (Elt Ideal) f [⟨Rect.unit (s := S1024x768) ![0, 256] ![1024, 512] inb_S1024x768_S1024x512_0_256, u⟩,
      ⟨Rect.unit (s := S1024x768) ![0, 0] ![1024, 256] inb_S1024x768_S1024x256_0_0, w⟩]) (ix2 y (late n)) = u (ix2 y n) :=
  read_later v f inb_S1024x768_S1024x512_0_256 u _ y n (late n) rfl

/-- The first output's block. -/
theorem heads_at (c : Dev nD) (t : Fin cfg0.N) (y : Fin 1024) (n : Fin 768) :
    ((outsAt0 m c t).1 : S1024x768.Idx → EReal) (ix2 y n) = headsArr m c (ix2 (tokenOf t y) n) := by
  rw [stores_heads m c t]
  have hn := n.isLt
  by_cases h1 : n.val < 256
  · have e : n = early ⟨n.val, h1⟩ := rfl
    rw [e, ← queryBlk_apply m c t y ⟨n.val, h1⟩]
    generalize queryBlk m c t = w
    generalize (k0_pay8 (F := Ideal) (projBlk m c t) : S1024x512.Idx → EReal) = u
    exact early_read VO0_9 VO0_9.junk u w y ⟨n.val, h1⟩
  · have e : n = late ⟨n.val - 256, by omega⟩ := Fin.ext (by show n.val = 256 + (n.val - 256); omega)
    rw [e, ← restBlk_apply m c t y]
    generalize queryBlk m c t = w
    generalize (k0_pay8 (F := Ideal) (projBlk m c t) : S1024x512.Idx → EReal) = u
    exact late_read VO0_9 VO0_9.junk u w y _

theorem heads_block (c : Dev nD) (t : Fin cfg0.N) (y : Fin 1024) (n : Fin 768) :
    ((dats m 0 c).after 9 t : S1024x768.Idx → EReal) (ix2 y n) = headsArr m c (ix2 (tokenOf t y) n) := by
  rw [after0_9 m c t]
  exact heads_at m c t y n

/-! ## The whole array -/

theorem nblk_heads (b : Fin 2) : (cfg0.win (9 : Fin 16)).nblk b = (![64, 1] : Fin 2 → ℕ) b := by
  match b with
  | ⟨0, _⟩ => show (65536 + 1024 - 1) / 1024 = 64; decide
  | ⟨1, _⟩ => show (768 + 768 - 1) / 768 = 1; decide

/-- The output's blocks cover its array. -/
theorem covers_heads : (cfg0.win (9 : Fin 16)).Covers :=
  (cfg0.win (9 : Fin 16)).covers_of_indexMap_surj rfl
    (fun b => by
      match b with
      | ⟨0, _⟩ => show 0 < 1024; decide
      | ⟨1, _⟩ => show 0 < 768; decide)
    fun β => ⟨point ⟨(β (0 : Fin 2)).val, lt_of_lt_of_eq (β (0 : Fin 2)).isLt (nblk_heads 0)⟩, fun b => by
      match b with
      | ⟨0, _⟩ =>
        show (BitVec.ofNat 32 (β (0 : Fin 2)).val).toNat = (β (0 : Fin 2)).val
        rw [BitVec.toNat_ofNat]
        have : (β (0 : Fin 2)).val < 64 := lt_of_lt_of_eq (β (0 : Fin 2)).isLt (nblk_heads 0)
        omega
      | ⟨1, _⟩ =>
        have : (β (1 : Fin 2)).val < 1 := lt_of_lt_of_eq (β (1 : Fin 2)).isLt (nblk_heads 1)
        show 0 = (β (1 : Fin 2)).val
        omega⟩

theorem arr_heads (c : Dev nD) : (dats m 0 c).arrAt (9 : Fin 16) cfg0.N = headsArr m c := by
  refine (dats m 0 c).arrAt_eq_of_covers (9 : Fin 16) _ covers_heads fun t hf y => ?_
  have hy : y = ix2 (y (0 : Fin 2)) (y (1 : Fin 2)) := eq_ix2 y
  refine (congrArg ((dats m 0 c).after 9 t : S1024x768.Idx → EReal) hy).trans ?_
  refine (heads_block m c t _ _).trans (congrArg (headsArr m c) ?_)
  funext b
  apply Fin.ext
  refine Eq.trans ?_ (Pipeline.Window.rect_emb_val (cfg0.win (9 : Fin 16)) t y b).symm
  match b with
  | ⟨0, _⟩ =>
    show t.val * 1024 + (y (0 : Fin 2)).val = (BitVec.ofNat 32 (grid0.coords t 0).val).toNat * 1024 + (y (0 : Fin 2)).val
    exact congrArg (fun n => n * 1024 + (y (0 : Fin 2)).val) (word_coord0 t).symm
  | ⟨1, _⟩ =>
    show (y (1 : Fin 2)).val = 0 * 768 + (y (1 : Fin 2)).val
    rw [Nat.zero_mul, Nat.zero_add]

/-- The kernel's run leaves the array. -/
theorem run_front (ρ : Dev nD → PrngReg) :
    θ_run (defs (F := Ideal)) (onTc (τ := τ) (main (F := Ideal))) ⟨m, fun _ => 0, ρ⟩ (fun r => ∀ c : Dev nD,
      r.2.mem ((c.tc : Thread nD τ).loc main_v142_0) = headsArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun _ q c => ⟨((q.2 c).1 (9 : Fin 16)).trans (arr_heads m c), q.1 c⟩)
    (θ_run_and (unchanged m ρ) (run_main m ρ))

end

theorem frame_reference6Ideal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Over the extended reals the kernel's array and the reference's are the same. -/
theorem algebraic_front : Cert.algebraic_Kernel6Ideal_Reference6Ideal := fun m ρ m' ρ' _ ha =>
  ⟨fun c => headsArr m c, run_front m ρ,
    (θ_run Cert.Reference6Ideal.defs _ _).mono (fun _ h c => ⟨(h c).1.trans (funext fun (i : S65536x768.Idx) => by
        have hi : i = ix2 (i (0 : Fin 2)) (i (1 : Fin 2)) := eq_ix2 i
        rw [hi]
        exact Cert.Reference6Ideal.Front.res_apply m' c (streamArg m c) (modArg m c) (scaleArg m c) (matArg m c)
          (ha c).1 (ha c).2.1 (ha c).2.2.1 (ha c).2.2.2.1 (i (0 : Fin 2)) (i (1 : Fin 2))), (h c).2⟩)
      (Cert.Reference6Ideal.Value.run (F := Ideal) m' ρ')⟩

end Cert.Kernel6Ideal.Front

end
-- ==== Proof.lean ====
/-
  The claim: the row sort's frames, and its equality with the reference's scatter, at the bits and over the reals; the
  experts' frames, and their equality with the reference's sum over all experts, over the reals; the gather's frames, and its
  equality with the reference's residual and norm, over the reals; the modulation's, the output projection's and the input
  projection's frames, and their equality with their references, over the reals.
-/
module

public import proofs.«01_k».proof.Defs
public import proofs.«01_k».proof.Proof.Gen.Kernel
public import proofs.«01_k».proof.Proof.Gen.Kernel.Launch
public import proofs.«01_k».proof.Proof.Gen.Kernel.Frame
public import proofs.«01_k».proof.Proof.Gen.KernelIdeal.Frame
public import proofs.«01_k».proof.Proof.Gen.ReferenceIdeal.Run
public import proofs.«01_k».proof.Proof.Gen.Reference.Run
public import proofs.«01_k».proof.Proof.Gen.Pre_rows_in_range_and_apart
public import proofs.«01_k».proof.Proof.Gen.Kernel2
public import proofs.«01_k».proof.Proof.Gen.Kernel2Ideal.Flash
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Pre_two_experts
public import proofs.«01_k».proof.Proof.Gen.Kernel3
public import proofs.«01_k».proof.Proof.Gen.Kernel3Ideal.Frame
public import proofs.«01_k».proof.Proof.Gen.Kernel3Ideal.Launch
public import proofs.«01_k».proof.Proof.Gen.Kernel3Ideal.Skeleton
public import proofs.«01_k».proof.Proof.Gen.Kernel3Ideal.Loops
public import proofs.«01_k».proof.Proof.Gen.Reference3Ideal.Run
public import proofs.«01_k».proof.Proof.Gen.Pre_rows_in_range
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Launch
public import proofs.«01_k».proof.Proof.Gen.Kernel4Ideal.Skeleton
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Launch
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Launch
public import proofs.«01_k».proof.Proof.Gen.Kernel6Ideal.Skeleton
public import proofs.«01_k».proof.Proof.Gen.Reference6Ideal
public import proofs.«01_k».proof.Proof.Gen.Reference6Ideal.Run
public import proofs.«01_k».proof.Proof.Sort.Value
public import proofs.«01_k».proof.Proof.Moe.Frames
public import proofs.«01_k».proof.Proof.Moe.Value
public import proofs.«01_k».proof.Proof.Back.Frames
public import proofs.«01_k».proof.Proof.Back.Value
public import proofs.«01_k».proof.Proof.Ada.Value
public import proofs.«01_k».proof.Proof.Out.Value
public import proofs.«01_k».proof.Proof.Front.Value

@[expose] public section

set_option maxRecDepth 16384

namespace Cert.Proof

open Idealize.ShloMosaic Idealize.ShloMosaic.TcCoe Idealize.SL.Sem
open Cert.KernelIdeal.Sort

/-! ## The row sort -/

theorem frame_sort {F : FTy → Type} [FloatOps F] (m : (ℓ : Loc Cert.KernelIdeal.nD Cert.KernelIdeal.τ Cert.KernelIdeal.sig) → Buf (Elt F) ℓ)
    (ρ : Dev Cert.KernelIdeal.nD → PrngReg)
    (h : ∀ c, Cert.Pre_rows_in_range_and_apart.fn (F := F) (posArg m c) (rowArg m c) (initArg m c) = fun _ => 1#1) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => ⟨(h.1 c).1, (h.1 c).2.1, (h.1 c).2.2.1⟩, h.2⟩) (run_main m ρ (preOK_of m h))

/-- The two printed programs run the same body. -/
theorem body_eq : Cert.Kernel.defs₀ (F := Bits) = Cert.KernelIdeal.defs₀ (F := Bits) := by
  funext p l a
  cases p with
  | tc => match l, a with
    | ⟨0, _⟩, (t, s) => rfl
  | _ => rfl
theorem defs_eq : Cert.Kernel.defs (F := Bits) = Cert.KernelIdeal.defs (F := Bits) :=
  congrArg (fun d => Pipeline.defs (Cert.KernelIdeal.pcfgs (F := Bits)) d) body_eq

theorem frame_kernel : Cert.quiescent_Kernel := fun m ρ hp => by
  have h := frame_sort (F := Bits) m ρ hp
  rw [← defs_eq] at h
  exact h

theorem frame_kernelIdeal : Cert.quiescent_KernelIdeal := fun m ρ hp => frame_sort (F := Ideal) m ρ hp

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_referenceIdeal_pre : Cert.quiescent_ReferenceIdeal_pre_rows_in_range_and_apart := fun m ρ _ =>
  frame_referenceIdeal m ρ trivial

theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The kernel's run at the reference's value. -/
theorem run_scattered {F : FTy → Type} [FloatOps F] (m : (ℓ : Loc Cert.KernelIdeal.nD Cert.KernelIdeal.τ Cert.KernelIdeal.sig) → Buf (Elt F) ℓ)
    (ρ : Dev Cert.KernelIdeal.nD → PrngReg)
    (h : ∀ c, Cert.Pre_rows_in_range_and_apart.fn (F := F) (posArg m c) (rowArg m c) (initArg m c) = fun _ => 1#1) :
    θ_run (Cert.KernelIdeal.defs (F := F)) (onTc (τ := Cert.KernelIdeal.τ) (Cert.KernelIdeal.main (F := F))) ⟨m, fun _ => 0, ρ⟩ (fun r => ∀ c : Dev Cert.KernelIdeal.nD,
      r.2.mem ((c.tc : Thread Cert.KernelIdeal.nD Cert.KernelIdeal.τ).loc Cert.KernelIdeal.main_v0) = scattered (posArg m c) (rowArg m c) (initArg m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ q c => ⟨(q.1 c).2.2.2.trans (rowsAfter_eq m c (range_of_pre _ _ _ (h c)) (preOK_of m h)),
      (q.1 c).1, (q.1 c).2.1, (q.1 c).2.2.1⟩) (run_main m ρ (preOK_of m h))

theorem bitexact_sort : Cert.bitexact_Kernel_Reference := fun m ρ m' ρ' hp ha =>
  ⟨fun c => scattered (F := Bits) (posArg m c) (rowArg m c) (initArg m c), by
      have h := run_scattered (F := Bits) m ρ hp
      rw [← defs_eq] at h
      exact h,
    (θ_run Cert.Reference.defs _ _).mono (fun _ h c => ⟨(h c).1.trans (by
        rw [(ha c).1, (ha c).2.1, (ha c).2.2]; rfl), (h c).2⟩) (Cert.Reference.Value.run (F := Bits) m' ρ')⟩

theorem algebraic_sort : Cert.algebraic_KernelIdeal_ReferenceIdeal := fun m ρ m' ρ' hp ha =>
  ⟨fun c => scattered (F := Ideal) (posArg m c) (rowArg m c) (initArg m c), run_scattered (F := Ideal) m ρ hp,
    (θ_run Cert.ReferenceIdeal.defs _ _).mono (fun _ h c => ⟨(h c).1.trans (by
        rw [(ha c).1, (ha c).2.1, (ha c).2.2]; rfl), (h c).2⟩) (Cert.ReferenceIdeal.Value.run (F := Ideal) m' ρ')⟩

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_rows_in_range_and_apart.Gen.facts, Cert.Pre_two_experts.Gen.facts, Cert.Pre_rows_in_range.Gen.facts,
    frame_kernel, frame_kernelIdeal, frame_referenceIdeal, frame_referenceIdeal_pre, frame_reference,
    Cert.Kernel2Ideal.Moe.frame_kernel2, Cert.Kernel2Ideal.Moe.frame_kernel2Ideal,
    Cert.Kernel2Ideal.Moe.frame_reference2Ideal, Cert.Kernel2Ideal.Moe.frame_reference2Ideal_pre,
    Cert.Kernel3Ideal.Back.frame_kernel3, Cert.Kernel3Ideal.Back.frame_kernel3Ideal,
    Cert.Kernel3Ideal.Back.frame_reference3Ideal, Cert.Kernel3Ideal.Back.frame_reference3Ideal_pre,
    fun m ρ _ => Cert.Kernel4.Gen.frame m ρ, fun m ρ _ => Cert.Kernel4Ideal.Gen.frame m ρ, Cert.Kernel4Ideal.Ada.frame_reference4Ideal,
    fun m ρ _ => Cert.Kernel5.Gen.frame m ρ, fun m ρ _ => Cert.Kernel5Ideal.Gen.frame m ρ, Cert.Kernel5Ideal.Out.frame_reference5Ideal,
    fun m ρ _ => Cert.Kernel6.Gen.frame m ρ, fun m ρ _ => Cert.Kernel6Ideal.Gen.frame m ρ, Cert.Kernel6Ideal.Front.frame_reference6Ideal,
    trivial, bitexact_sort, algebraic_sort, trivial, Cert.Kernel2Ideal.Moe.algebraic_moe,
    trivial, Cert.Kernel3Ideal.Back.algebraic_back,
    trivial, Cert.Kernel4Ideal.Ada.algebraic_ada, trivial, Cert.Kernel5Ideal.Out.algebraic_out,
    trivial, Cert.Kernel6Ideal.Front.algebraic_front⟩

end Cert.Proof
